-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v20)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v20) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v57) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v27_0)) (v1 : (c : Dev Cert.MixIdeal.nD) → Buf (Elt Ideal) ((c.tc : Thread Cert.MixIdeal.nD Cert.MixIdeal.τ).loc Cert.MixIdeal.main_v27_1)) (v2 : (c : Dev Cert.MixIdeal.nD) → Buf (Elt Ideal) ((c.tc : Thread Cert.MixIdeal.nD Cert.MixIdeal.τ).loc Cert.MixIdeal.main_v27_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v27_0) = v0 c
          ∧ r.2.mem ((c.tc : Thread Cert.MixIdeal.nD Cert.MixIdeal.τ).loc Cert.MixIdeal.main_v27_1) = v1 c
          ∧ r.2.mem ((c.tc : Thread Cert.MixIdeal.nD Cert.MixIdeal.τ).loc Cert.MixIdeal.main_v27_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v190) = v0 c
          ∧ r.2.mem ((c.tc : Thread Cert.MixRefIdeal.nD Cert.MixRefIdeal.τ).loc Cert.MixRefIdeal.main_v134) = v1 c
          ∧ r.2.mem ((c.tc : Thread Cert.MixRefIdeal.nD Cert.MixRefIdeal.τ).loc Cert.MixRefIdeal.main_v135) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_Qkv_QkvIdeal : Prop :=
  IdealRules.named_const.Statement Cert.QkvIdeal.κ "score" .f32 0x3E38AA3B#32 (((8 * (Real.log 2))⁻¹ : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v12)) (v1 : (c : Dev Cert.QkvIdeal.nD) → Buf (Elt Ideal) ((c.tc : Thread Cert.QkvIdeal.nD Cert.QkvIdeal.τ).loc Cert.QkvIdeal.main_v14)) (v2 : (c : Dev Cert.QkvIdeal.nD) → Buf (Elt Ideal) ((c.tc : Thread Cert.QkvIdeal.nD Cert.QkvIdeal.τ).loc Cert.QkvIdeal.main_v15)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v12) = v0 c
          ∧ r.2.mem ((c.tc : Thread Cert.QkvIdeal.nD Cert.QkvIdeal.τ).loc Cert.QkvIdeal.main_v14) = v1 c
          ∧ r.2.mem ((c.tc : Thread Cert.QkvIdeal.nD Cert.QkvIdeal.τ).loc Cert.QkvIdeal.main_v15) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v96) = v0 c
          ∧ r.2.mem ((c.tc : Thread Cert.QkvRefIdeal.nD Cert.QkvRefIdeal.τ).loc Cert.QkvRefIdeal.main_v91) = v1 c
          ∧ r.2.mem ((c.tc : Thread Cert.QkvRefIdeal.nD Cert.QkvRefIdeal.τ).loc Cert.QkvRefIdeal.main_v23) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def Claim : Prop :=
  ∃ (hKernel : Cert.Kernel.Facts) (hKernelIdeal : Cert.KernelIdeal.Facts) (hReferenceIdeal : Cert.ReferenceIdeal.Facts) (hOut : Cert.Out.Facts) (hOutIdeal : Cert.OutIdeal.Facts) (hOutRefIdeal : Cert.OutRefIdeal.Facts) (hMix : Cert.Mix.Facts) (hMixIdeal : Cert.MixIdeal.Facts) (hMixRefIdeal : Cert.MixRefIdeal.Facts) (hQkv : Cert.Qkv.Facts) (hQkvIdeal : Cert.QkvIdeal.Facts) (hQkvRefIdeal : Cert.QkvRefIdeal.Facts) (hPre_inputs_finite : Cert.Pre_inputs_finite.Facts) (hPre_mix_finite : Cert.Pre_mix_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Out (hOut := hOut)
    ∧ quiescent_OutIdeal (hOutIdeal := hOutIdeal)
    ∧ quiescent_OutRefIdeal (hOutRefIdeal := hOutRefIdeal)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Qkv (hQkv := hQkv)
    ∧ quiescent_QkvIdeal (hQkvIdeal := hQkvIdeal)
    ∧ quiescent_QkvRefIdeal (hQkvRefIdeal := hQkvRefIdeal)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Out_OutIdeal
    ∧ algebraic_OutIdeal_OutRefIdeal (hOutIdeal := hOutIdeal) (hOutRefIdeal := hOutRefIdeal)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Qkv_QkvIdeal
    ∧ algebraic_QkvIdeal_QkvRefIdeal (hQkvIdeal := hQkvIdeal) (hQkvRefIdeal := hQkvRefIdeal)
-- ==== Pre_inputs_finite.lean ====
abbrev S4x8192x8x2x64 : Shape := ⟨5, ![4, 8192, 8, 2, 64]⟩
abbrev S4x8192x8x128 : Shape := ⟨4, ![4, 8192, 8, 128]⟩
abbrev S1x4x64 : Shape := ⟨3, ![1, 4, 64]⟩
abbrev S1x128 : Shape := ⟨2, ![1, 128]⟩
abbrev S_ : Shape := ⟨0, ![]⟩

class Facts : Prop where
  bcast_S_S4x8192x8x2x64 : S_.BroadcastsInDim S4x8192x8x2x64 (![] : Fin 0 → Fin S4x8192x8x2x64.rank)
  reducesTo_S4x8192x8x2x64_S_d0_1_2_3_4 : S4x8192x8x2x64.ReducesTo [0, 1, 2, 3, 4] S_
  h_S_ : 0 < S_.numel
  bcast_S_S4x8192x8x128 : S_.BroadcastsInDim S4x8192x8x128 (![] : Fin 0 → Fin S4x8192x8x128.rank)
  reducesTo_S4x8192x8x128_S_d0_1_2_3 : S4x8192x8x128.ReducesTo [0, 1, 2, 3] S_
  bcast_S_S1x4x64 : S_.BroadcastsInDim S1x4x64 (![] : Fin 0 → Fin S1x4x64.rank)
  reducesTo_S1x4x64_S_d0_1_2 : S1x4x64.ReducesTo [0, 1, 2] S_

variable [Facts]

def fn_part1 {F : FTy → Type} [FloatOps F] (main_v13 : IVec S_ 1) (main_v16 : IVec S1x4x64 1) : IVec S_ 1 :=
  let main_c_5 : IVec S_ 1 := constantI S_ 1 1#1
  let main_v17 : IVec S_ 1 := (fun x v => Host.reduce IntOp.andi x v reducesTo_S1x4x64_S_d0_1_2 h_S_) main_v16 main_c_5
  let main_v18 : IVec S_ 1 := andi main_v13 main_v17
  main_v18

def fn {F : FTy → Type} [FloatOps F] (main_arg0 : FVec F S4x8192x8x2x64 .f32) (main_arg1 : FVec F S4x8192x8x2x64 .f32) (main_arg2 : FVec F S4x8192x8x128 .f32) (main_arg3 : FVec F S1x4x64 .f32) (main_arg4 : FVec F S1x128 .f32) : IVec S_ 1 :=
  let main_v0 : FVec F S4x8192x8x2x64 .f32 := Host.absf main_arg0
  let main_cst : FVec F S_ .f32 := constant S_ .f32 0x7F800000#32
  let main_v1 : FVec F S4x8192x8x2x64 .f32 := broadcastInDim S4x8192x8x2x64 ![] bcast_S_S4x8192x8x2x64 main_cst
  let main_v2 : IVec S4x8192x8x2x64 1 := cmpf .olt main_v0 main_v1
  let main_c : IVec S_ 1 := constantI S_ 1 1#1
  let main_v3 : IVec S_ 1 := (fun x v => Host.reduce IntOp.andi x v reducesTo_S4x8192x8x2x64_S_d0_1_2_3_4 h_S_) main_v2 main_c
  let main_v4 : FVec F S4x8192x8x2x64 .f32 := Host.absf main_arg1
  let main_cst_0 : FVec F S_ .f32 := constant S_ .f32 0x7F800000#32
  let main_v5 : FVec F S4x8192x8x2x64 .f32 := broadcastInDim S4x8192x8x2x64 ![] bcast_S_S4x8192x8x2x64 main_cst_0
  let main_v6 : IVec S4x8192x8x2x64 1 := cmpf .olt main_v4 main_v5
  let main_c_1 : IVec S_ 1 := constantI S_ 1 1#1
  let main_v7 : IVec S_ 1 := (fun x v => Host.reduce IntOp.andi x v reducesTo_S4x8192x8x2x64_S_d0_1_2_3_4 h_S_) main_v6 main_c_1
  let main_v8 : IVec S_ 1 := andi main_v3 main_v7
  let main_v9 : FVec F S4x8192x8x128 .f32 := Host.absf main_arg2
  let main_cst_2 : FVec F S_ .f32 := constant S_ .f32 0x7F800000#32
  let main_v10 : FVec F S4x8192x8x128 .f32 := broadcastInDim S4x8192x8x128 ![] bcast_S_S4x8192x8x128 main_cst_2
  let main_v11 : IVec S4x8192x8x128 1 := cmpf .olt main_v9 main_v10
  let main_c_3 : IVec S_ 1 := constantI S_ 1 1#1
  let main_v12 : IVec S_ 1 := (fun x v => Host.reduce IntOp.andi x v reducesTo_S4x8192x8x128_S_d0_1_2_3 h_S_) main_v11 main_c_3
  let main_v13 : IVec S_ 1 := andi main_v8 main_v12
  let main_v14 : FVec F S1x4x64 .f32 := Host.absf main_arg3
  let main_cst_4 : FVec F S_ .f32 := constant S_ .f32 0x7F800000#32
  let main_v15 : FVec F S1x4x64 .f32 := broadcastInDim S1x4x64 ![] bcast_S_S1x4x64 main_cst_4
  let main_v16 : IVec S1x4x64 1 := cmpf .olt main_v14 main_v15
  fn_part1 (F := F) main_v13 main_v16
-- ==== Pre_mix_finite.lean ====
abbrev S4x8192x1024 : Shape := ⟨3, ![4, 8192, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn {F : FTy → Type} [FloatOps F] (main_arg0 : FVec F S4x8192x1024 .f32) (main_arg1 : FVec F S2x1024 .f32) (main_arg2 : FVec F S2x1024 .f32) (main_arg3 : FVec F S2x1024 .f32) (main_arg4 : FVec F S2x1024 .f32) (main_arg5 : FVec F S2x1024x4096 .f32) (main_arg6 : FVec F S2x4096x1024 .f32) (main_arg7 : FVec F S1x1024x2048 .f32) (main_arg8 : FVec F S1x3x512 .f32) (main_arg9 : FVec F S1x4x128x128 .f32) (main_arg10 : FVec F S1x512 .f32) (main_arg11 : FVec F S1x1024x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S1x1024x2048 .f32 := Host.absf main_arg7
  let main_cst_2 : FVec F S_ .f32 := constant S_ .f32 0x7F800000#32
  let main_v10 : FVec F S1x1024x2048 .f32 := broadcastInDim S1x1024x2048 ![] bcast_S_S1x1024x2048 main_cst_2
  let main_v11 : IVec S1x1024x2048 1 := cmpf .olt main_v9 main_v10
  let main_c_3 : IVec S_ 1 := constantI S_ 1 1#1
  let main_v12 : IVec S_ 1 := (fun x v => Host.reduce IntOp.andi x v reducesTo_S1x1024x2048_S_d0_1_2 h_S_) main_v11 main_c_3
  let main_v13 : IVec S_ 1 := andi main_v8 main_v12
  main_v13
-- ==== Kernel.lean ====
abbrev S4x8192x8x2x64 : Shape := ⟨5, ![4, 8192, 8, 2, 64]⟩
abbrev S4x8192x8x128 : Shape := ⟨4, ![4, 8192, 8, 128]⟩
abbrev S1x4x64 : Shape := ⟨3, ![1, 4, 64]⟩
abbrev S1x128 : Shape := ⟨2, ![1, 128]⟩
abbrev S4x64 : Shape := ⟨2, ![4, 64]⟩
abbrev S128 : Shape := ⟨1, ![128]⟩
abbrev S4x8192x1024 : Shape := ⟨3, ![4, 8192, 1024]⟩
abbrev S4x1024x8192 : Shape := ⟨3, ![4, 1024, 8192]⟩
abbrev S_ : Shape := ⟨0, ![]⟩
abbrev S128x1 : Shape := ⟨2, ![128, 1]⟩
abbrev S1x128x2048 : Shape := ⟨3, ![1, 128, 2048]⟩
abbrev S1x8192x128 : Shape := ⟨3, ![1, 8192, 128]⟩
abbrev S1x128x8192 : Shape := ⟨3, ![1, 128, 8192]⟩
abbrev S1x2048x128 : Shape := ⟨3, ![1, 2048, 128]⟩
abbrev S128x2048 : Shape := ⟨2, ![128, 2048]⟩
abbrev S1x8x128 : Shape := ⟨3, ![1, 8, 128]⟩
abbrev S8x128 : Shape := ⟨2, ![8, 128]⟩
abbrev S8x2048 : Shape := ⟨2, ![8, 2048]⟩
abbrev S1x2048 : Shape := ⟨2, ![1, 2048]⟩
abbrev S144x2048 : Shape := ⟨2, ![144, 2048]⟩
abbrev S1x512x128 : Shape := ⟨3, ![1, 512, 128]⟩
abbrev S512x128 : Shape := ⟨2, ![512, 128]⟩
abbrev S512x2048 : Shape := ⟨2, ![512, 2048]⟩
abbrev S2048 : Shape := ⟨1, ![2048]⟩
abbrev S1x128x512 : Shape := ⟨3, ![1, 128, 512]⟩
abbrev S128x512 : Shape := ⟨2, ![128, 512]⟩
abbrev S16x512 : Shape := ⟨2, ![16, 512]⟩
abbrev S144x512 : Shape := ⟨2, ![144, 512]⟩
abbrev S1x256x128 : Shape := ⟨3, ![1, 256, 128]⟩
abbrev S256x128 : Shape := ⟨2, ![256, 128]⟩
abbrev S256x2048 : Shape := ⟨2, ![256, 2048]⟩
abbrev S128x1792 : Shape := ⟨2, ![128, 1792]⟩
abbrev S256x1792 : Shape := ⟨2, ![256, 1792]⟩
abbrev S1x128x256 : Shape := ⟨3, ![1, 128, 256]⟩
abbrev S128x256 : Shape := ⟨2, ![128, 256]⟩
abbrev S16x256 : Shape := ⟨2, ![16, 256]⟩
abbrev S144x256 : Shape := ⟨2, ![144, 256]⟩
abbrev S1792 : Shape := ⟨1, ![1792]⟩
abbrev S1x1792 : Shape := ⟨2, ![1, 1792]⟩
abbrev S1x256 : Shape := ⟨2, ![1, 256]⟩
abbrev S128x1536 : Shape := ⟨2, ![128, 1536]⟩
abbrev S256x1536 : Shape := ⟨2, ![256, 1536]⟩
abbrev S144x1792 : Shape := ⟨2, ![144, 1792]⟩
abbrev S1536 : Shape := ⟨1, ![1536]⟩
abbrev S1x1536 : Shape := ⟨2, ![1, 1536]⟩
abbrev S1x512 : Shape := ⟨2, ![1, 512]⟩
abbrev S128x1280 : Shape := ⟨2, ![128, 1280]⟩
abbrev S256x1280 : Shape := ⟨2, ![256, 1280]⟩
abbrev S144x1536 : Shape := ⟨2, ![144, 1536]⟩
abbrev S1280 : Shape := ⟨1, ![1280]⟩
abbrev S1x1280 : Shape := ⟨2, ![1, 1280]⟩
abbrev S1x768 : Shape := ⟨2, ![1, 768]⟩
abbrev S128x1024 : Shape := ⟨2, ![128, 1024]⟩
abbrev S256x1024 : Shape := ⟨2, ![256, 1024]⟩
abbrev S144x1280 : Shape := ⟨2, ![144, 1280]⟩
abbrev S144x768 : Shape := ⟨2, ![144, 768]⟩
abbrev S1024 : Shape := ⟨1, ![1024]⟩
abbrev S1x1024 : Shape := ⟨2, ![1, 1024]⟩
abbrev S128x768 : Shape := ⟨2, ![128, 768]⟩
abbrev S256x768 : Shape := ⟨2, ![256, 768]⟩
abbrev S144x1024 : Shape := ⟨2, ![144, 1024]⟩
abbrev S768 : Shape := ⟨1, ![768]⟩
abbrev S256x512 : Shape := ⟨2, ![256, 512]⟩
abbrev S512 : Shape := ⟨1, ![512]⟩
abbrev S256x256 : Shape := ⟨2, ![256, 256]⟩
abbrev S256 : Shape := ⟨1, ![256]⟩
abbrev S1x1x2048 : Shape := ⟨3, ![1, 1, 2048]⟩
abbrev S1 : Shape := ⟨1, ![1]⟩
abbrev S1x1x1 : Shape := ⟨3, ![1, 1, 1]⟩
abbrev S1x64 : Shape := ⟨2, ![1, 64]⟩
abbrev S1x1 : Shape := ⟨2, ![1, 1]⟩
abbrev S2048x128 : Shape := ⟨2, ![2048, 128]⟩

abbrev nBuf : Space → Nat
  | .hbm => 24
  | .vmem => 10
  | .smem => 0
  | _ => 0

abbrev bufTy : (tb : Table) → Fin (tcTables nBuf tb) → BufTy
  | .hbm, ⟨0, _⟩ => ⟨S4x8192x8x2x64, .f32⟩
  | .hbm, ⟨1, _⟩ => ⟨S4x8192x8x2x64, .f32⟩
  | .hbm, ⟨2, _⟩ => ⟨S4x8192x8x128, .f32⟩
  | .hbm, ⟨3, _⟩ => ⟨S1x4x64, .f32⟩
  | .hbm, ⟨4, _⟩ => ⟨S1x128, .f32⟩
  | .hbm, ⟨5, _⟩ => ⟨S4x64, .f32⟩
  | .hbm, ⟨6, _⟩ => ⟨S128, .f32⟩
  | .hbm, ⟨7, _⟩ => ⟨S1x128, .f32⟩
  | .hbm, ⟨8, _⟩ => ⟨S4x8192x1024, .f32⟩
  | .hbm, ⟨9, _⟩ => ⟨S4x1024x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x1024x8192, .f32⟩
  | .hbm, ⟨15, _⟩ => ⟨S4x1024x8192, .f32⟩
  | .hbm, ⟨16, _⟩ => ⟨S4x1024x8192, .bf16⟩
  | .hbm, ⟨17, _⟩ => ⟨S4x8192x1024, .f32⟩
  | .hbm, ⟨18, _⟩ => ⟨S4x8192x1024, .bf16⟩
  | .hbm, ⟨19, _⟩ => ⟨S4x8192x1024, .f32⟩
  | .hbm, ⟨20, _⟩ => ⟨S4x1024x8192, .f32⟩
  | .hbm, ⟨21, _⟩ => ⟨S4x1024x8192, .bf16⟩
  | .hbm, ⟨22, _⟩ => ⟨S128x1, .f32⟩
  | .hbm, ⟨23, _⟩ => ⟨S4x8192x1024, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S4x64, .f32⟩
  | .local _ .vmem, ⟨7, _⟩ => ⟨S128x1, .f32⟩
  | .local _ .vmem, ⟨8, _⟩ => ⟨S1x2048x128, .bf16⟩
  | .local _ .vmem, ⟨9, _⟩ => ⟨S1x2048x128, .bf16⟩
  | _, _ => ⟨S4x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32_27 : BitVec 32 := 0#32
  let arg2 : BitVec 32 := BitVec.ofNat 32 (i 2).val
  let c2048_i32 : BitVec 32 := 2048#32
  let v46 : BitVec 32 := Scalar.muli arg2 c2048_i32
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c2048_i32_20 : BitVec 32 := 2048#32
  let c0_i32_23 : BitVec 32 := 0#32
  let v53 : BitVec 1 := Scalar.cmpi .sgt c2048_i32_20 c0_i32_23
  let v54 : BitVec 32 := Scalar.extui v53
  let c0_i32_24 : BitVec 32 := 0#32
  let v55 : BitVec 1 := Scalar.cmpi .slt c2048_i32_20 c0_i32_24
  let v56 : BitVec 32 := Scalar.extui v55
  let v57 : BitVec 32 := Scalar.subi v54 v56
  let v58 : BitVec 1 := Scalar.cmpi .ne v52 v57
  let v59 : BitVec 32 := Scalar.remsi v46 c2048_i32_20
  let c0_i32_25 : BitVec 32 := 0#32
  let v60 : BitVec 1 := Scalar.cmpi .ne v59 c0_i32_25
  let v61 : BitVec 1 := Scalar.andi v58 v60
  let v47 : BitVec 32 := Scalar.divsi v46 c2048_i32_20
  let c1_i32_26 : BitVec 32 := 1#32
  let v62 : BitVec 32 := Scalar.subi v47 c1_i32_26
  let v63 : BitVec 32 := Scalar.select v61 v62 v47
  let v64 : BitVec 32 := Scalar.subi v63 c0_i32_27
  let c1_i32_28 : BitVec 32 := 1#32
  let v66 : BitVec 32 := Scalar.divsi v64 c1_i32_28
  let v67 : BitVec 32 := Scalar.muli v66 c1_i32_28
  let v68 : BitVec 32 := Scalar.addi c0_i32_27 v67
  let c1_i32_29 : BitVec 32 := 1#32
  ⟨c0_i32_27, v68, c1_i32_29⟩
def k0_mult1 (i : grid0.Coords) (k0_t1 : Fin (k0_t1_loop i).trips) : BitVec 32 :=
  let c0_i32_27 : BitVec 32 := 0#32
  let c1_i32_29 : BitVec 32 := 1#32
  let arg9 : BitVec 32 := Scf.iv c0_i32_27 c1_i32_29 k0_t1
  let c2048_i32_218 : BitVec 32 := 2048#32
  let v654 : BitVec 32 := Scalar.muli arg9 c2048_i32_218
  v654
def k0_off1 (i : grid0.Coords) (k0_t1 : Fin (k0_t1_loop i).trips) (c0_i32_219 : BitVec 32) : Fin 3 → Nat :=
  let c0_220 : Index := 0#32
  let c0_i32_27 : BitVec 32 := 0#32
  let c1_i32_29 : BitVec 32 := 1#32
  let arg9 : BitVec 32 := Scf.iv c0_i32_27 c1_i32_29 k0_t1
  let c2048_i32_218 : BitVec 32 := 2048#32
  let v654 : BitVec 32 := Scalar.muli arg9 c2048_i32_218
  let v655 : BitVec 32 := v654
  let v656 : BitVec 32 := Scalar.addi v655 c0_i32_219
  let v657 : Index := Scalar.indexCast v656
  let c0_221 : Index := 0#32
  ![0, v657.toNat, 0]
def k0_off2 (i : grid0.Coords) (k0_t1 : Fin (k0_t1_loop i).trips) (c0_i32_233 : BitVec 32) : Fin 3 → Nat :=
  let c0_234 : Index := 0#32
  let c0_235 : Index := 0#32
  let c0_i32_27 : BitVec 32 := 0#32
  let c1_i32_29 : BitVec 32 := 1#32
  let arg9 : BitVec 32 := Scf.iv c0_i32_27 c1_i32_29 k0_t1
  let c2048_i32_218 : BitVec 32 := 2048#32
  let v654 : BitVec 32 := Scalar.muli arg9 c2048_i32_218
  let v655 : BitVec 32 := v654
  let v685 : BitVec 32 := Scalar.addi v655 c0_i32_233
  let v686 : Index := Scalar.indexCast v685
  ![0, 0, v686.toNat]
@[reducible] def k0_t2_loop (i : grid0.Coords) : Scf.Loop 32 :=
  let c0_i32_27 : BitVec 32 := 0#32
  let arg2 : BitVec 32 := BitVec.ofNat 32 (i 2).val
  let c2048_i32 : BitVec 32 := 2048#32
  let v46 : BitVec 32 := Scalar.muli arg2 c2048_i32
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c2048_i32_20 : BitVec 32 := 2048#32
  let c0_i32_23 : BitVec 32 := 0#32
  let v53 : BitVec 1 := Scalar.cmpi .sgt c2048_i32_20 c0_i32_23
  let v54 : BitVec 32 := Scalar.extui v53
  let c0_i32_24 : BitVec 32 := 0#32
  let v55 : BitVec 1 := Scalar.cmpi .slt c2048_i32_20 c0_i32_24
  let v56 : BitVec 32 := Scalar.extui v55
  let v57 : BitVec 32 := Scalar.subi v54 v56
  let v58 : BitVec 1 := Scalar.cmpi .ne v52 v57
  let v59 : BitVec 32 := Scalar.remsi v46 c2048_i32_20
  let c0_i32_25 : BitVec 32 := 0#32
  let v60 : BitVec 1 := Scalar.cmpi .ne v59 c0_i32_25
  let v61 : BitVec 1 := Scalar.andi v58 v60
  let v47 : BitVec 32 := Scalar.divsi v46 c2048_i32_20
  let c1_i32_26 : BitVec 32 := 1#32
  let v62 : BitVec 32 := Scalar.subi v47 c1_i32_26
  let v63 : BitVec 32 := Scalar.select v61 v62 v47
  let v64 : BitVec 32 := Scalar.subi v63 c0_i32_27
  let c1_i32_28 : BitVec 32 := 1#32
  let v66 : BitVec 32 := Scalar.divsi v64 c1_i32_28
  let v67 : BitVec 32 := Scalar.muli v66 c1_i32_28
  let v68 : BitVec 32 := Scalar.addi c0_i32_27 v67
  let v65 : BitVec 32 := Scalar.addi c0_i32_27 v64
  let c1_i32_30 : BitVec 32 := 1#32
  ⟨v68, v65, c1_i32_30⟩
def k0_mult2 (i : grid0.Coords) (k0_t2 : Fin (k0_t2_loop i).trips) : BitVec 32 :=
  let c0_i32_27 : BitVec 32 := 0#32
  let arg2 : BitVec 32 := BitVec.ofNat 32 (i 2).val
  let c2048_i32 : BitVec 32 := 2048#32
  let v46 : BitVec 32 := Scalar.muli arg2 c2048_i32
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c2048_i32_20 : BitVec 32 := 2048#32
  let c0_i32_23 : BitVec 32 := 0#32
  let v53 : BitVec 1 := Scalar.cmpi .sgt c2048_i32_20 c0_i32_23
  let v54 : BitVec 32 := Scalar.extui v53
  let c0_i32_24 : BitVec 32 := 0#32
  let v55 : BitVec 1 := Scalar.cmpi .slt c2048_i32_20 c0_i32_24
  let v56 : BitVec 32 := Scalar.extui v55
  let v57 : BitVec 32 := Scalar.subi v54 v56
  let v58 : BitVec 1 := Scalar.cmpi .ne v52 v57
  let v59 : BitVec 32 := Scalar.remsi v46 c2048_i32_20
  let c0_i32_25 : BitVec 32 := 0#32
  let v60 : BitVec 1 := Scalar.cmpi .ne v59 c0_i32_25
  let v61 : BitVec 1 := Scalar.andi v58 v60
  let v47 : BitVec 32 := Scalar.divsi v46 c2048_i32_20
  let c1_i32_26 : BitVec 32 := 1#32
  let v62 : BitVec 32 := Scalar.subi v47 c1_i32_26
  let v63 : BitVec 32 := Scalar.select v61 v62 v47
  let v64 : BitVec 32 := Scalar.subi v63 c0_i32_27
  let c1_i32_28 : BitVec 32 := 1#32
  let v66 : BitVec 32 := Scalar.divsi v64 c1_i32_28
  let v67 : BitVec 32 := Scalar.muli v66 c1_i32_28
  let v68 : BitVec 32 := Scalar.addi c0_i32_27 v67
  let c1_i32_30 : BitVec 32 := 1#32
  let arg9 : BitVec 32 := Scf.iv v68 c1_i32_30 k0_t2
  let c2048_i32_218 : BitVec 32 := 2048#32
  let v654 : BitVec 32 := Scalar.muli arg9 c2048_i32_218
  v654
def k0_off3 (i : grid0.Coords) (k0_t2 : Fin (k0_t2_loop i).trips) (c0_i32_219 : BitVec 32) : Fin 3 → Nat :=
  let c0_220 : Index := 0#32
  let c0_i32_27 : BitVec 32 := 0#32
  let arg2 : BitVec 32 := BitVec.ofNat 32 (i 2).val
  let c2048_i32 : BitVec 32 := 2048#32
  let v46 : BitVec 32 := Scalar.muli arg2 c2048_i32
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c2048_i32_20 : BitVec 32 := 2048#32
  let c0_i32_23 : BitVec 32 := 0#32
  let v53 : BitVec 1 := Scalar.cmpi .sgt c2048_i32_20 c0_i32_23
  let v54 : BitVec 32 := Scalar.extui v53
  let c0_i32_24 : BitVec 32 := 0#32
  let v55 : BitVec 1 := Scalar.cmpi .slt c2048_i32_20 c0_i32_24
  let v56 : BitVec 32 := Scalar.extui v55
  let v57 : BitVec 32 := Scalar.subi v54 v56
  let v58 : BitVec 1 := Scalar.cmpi .ne v52 v57
  let v59 : BitVec 32 := Scalar.remsi v46 c2048_i32_20
  let c0_i32_25 : BitVec 32 := 0#32
  let v60 : BitVec 1 := Scalar.cmpi .ne v59 c0_i32_25
  let v61 : BitVec 1 := Scalar.andi v58 v60
  let v47 : BitVec 32 := Scalar.divsi v46 c2048_i32_20
  let c1_i32_26 : BitVec 32 := 1#32
  let v62 : BitVec 32 := Scalar.subi v47 c1_i32_26
  let v63 : BitVec 32 := Scalar.select v61 v62 v47
  let v64 : BitVec 32 := Scalar.subi v63 c0_i32_27
  let c1_i32_28 : BitVec 32 := 1#32
  let v66 : BitVec 32 := Scalar.divsi v64 c1_i32_28
  let v67 : BitVec 32 := Scalar.muli v66 c1_i32_28
  let v68 : BitVec 32 := Scalar.addi c0_i32_27 v67
  let c1_i32_30 : BitVec 32 := 1#32
  let arg9 : BitVec 32 := Scf.iv v68 c1_i32_30 k0_t2
  let c2048_i32_218 : BitVec 32 := 2048#32
  let v654 : BitVec 32 := Scalar.muli arg9 c2048_i32_218
  let v655 : BitVec 32 := v654
  let v656 : BitVec 32 := Scalar.addi v655 c0_i32_219
  let v657 : Index := Scalar.indexCast v656
  let c0_221 : Index := 0#32
  ![0, v657.toNat, 0]
def k0_off4 (i : grid0.Coords) (k0_t2 : Fin (k0_t2_loop i).trips) (c0_i32_233 : BitVec 32) : Fin 3 → Nat :=
  let c0_234 : Index := 0#32
  let c0_235 : Index := 0#32
  let c0_i32_27 : BitVec 32 := 0#32
  let arg2 : BitVec 32 := BitVec.ofNat 32 (i 2).val
  let c2048_i32 : BitVec 32 := 2048#32
  let v46 : BitVec 32 := Scalar.muli arg2 c2048_i32
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c2048_i32_20 : BitVec 32 := 2048#32
  let c0_i32_23 : BitVec 32 := 0#32
  let v53 : BitVec 1 := Scalar.cmpi .sgt c2048_i32_20 c0_i32_23
  let v54 : BitVec 32 := Scalar.extui v53
  let c0_i32_24 : BitVec 32 := 0#32
  let v55 : BitVec 1 := Scalar.cmpi .slt c2048_i32_20 c0_i32_24
  let v56 : BitVec 32 := Scalar.extui v55
  let v57 : BitVec 32 := Scalar.subi v54 v56
  let v58 : BitVec 1 := Scalar.cmpi .ne v52 v57
  let v59 : BitVec 32 := Scalar.remsi v46 c2048_i32_20
  let c0_i32_25 : BitVec 32 := 0#32
  let v60 : BitVec 1 := Scalar.cmpi .ne v59 c0_i32_25
  let v61 : BitVec 1 := Scalar.andi v58 v60
  let v47 : BitVec 32 := Scalar.divsi v46 c2048_i32_20
  let c1_i32_26 : BitVec 32 := 1#32
  let v62 : BitVec 32 := Scalar.subi v47 c1_i32_26
  let v63 : BitVec 32 := Scalar.select v61 v62 v47
  let v64 : BitVec 32 := Scalar.subi v63 c0_i32_27
  let c1_i32_28 : BitVec 32 := 1#32
  let v66 : BitVec 32 := Scalar.divsi v64 c1_i32_28
  let v67 : BitVec 32 := Scalar.muli v66 c1_i32_28
  let v68 : BitVec 32 := Scalar.addi c0_i32_27 v67
  let c1_i32_30 : BitVec 32 := 1#32
  let arg9 : BitVec 32 := Scf.iv v68 c1_i32_30 k0_t2
  let c2048_i32_218 : BitVec 32 := 2048#32
  let v654 : BitVec 32 := Scalar.muli arg9 c2048_i32_218
  let v655 : BitVec 32 := v654
  let v685 : BitVec 32 := Scalar.addi v655 c0_i32_233
  let v686 : Index := Scalar.indexCast v685
  ![0, 0, v686.toNat]
def k0_mult3 (i : grid0.Coords) : BitVec 32 :=
  let arg2 : BitVec 32 := BitVec.ofNat 32 (i 2).val
  let c2048_i32_31 : BitVec 32 := 2048#32
  let v71 : BitVec 32 := Scalar.muli arg2 c2048_i32_31
  v71
def k0_off5 (i : grid0.Coords) (c0_i32_32 : BitVec 32) : Fin 3 → Nat :=
  let c0_33 : Index := 0#32
  let arg2 : BitVec 32 := BitVec.ofNat 32 (i 2).val
  let c2048_i32_31 : BitVec 32 := 2048#32
  let v71 : BitVec 32 := Scalar.muli arg2 c2048_i32_31
  let v72 : BitVec 32 := v71
  let v73 : BitVec 32 := Scalar.addi v72 c0_i32_32
  let v74 : Index := Scalar.indexCast v73
  let c0_34 : Index := 0#32
  ![0, v74.toNat, 0]
def k0_off6 (i : grid0.Coords) (c0_i32_48 : BitVec 32) : Fin 3 → Nat :=
  let c0_49 : Index := 0#32
  let c0_50 : Index := 0#32
  let arg2 : BitVec 32 := BitVec.ofNat 32 (i 2).val
  let c2048_i32_31 : BitVec 32 := 2048#32
  let v71 : BitVec 32 := Scalar.muli arg2 c2048_i32_31
  let v72 : BitVec 32 := v71
  let v118 : BitVec 32 := Scalar.addi v72 c0_i32_48
  let v119 : Index := Scalar.indexCast v118
  ![0, 0, v119.toNat]
@[reducible] def k0_t3_loop (i : grid0.Coords) : Scf.Loop 32 :=
  let c0_i32_236 : BitVec 32 := 0#32
  let arg2 : BitVec 32 := BitVec.ofNat 32 (i 2).val
  let c2048_i32_228 : BitVec 32 := 2048#32
  let v664 : BitVec 32 := Scalar.muli arg2 c2048_i32_228
  let c0_i32_230 : BitVec 32 := 0#32
  let v666 : BitVec 1 := Scalar.cmpi .sgt v664 c0_i32_230
  let v667 : BitVec 32 := Scalar.extui v666
  let c0_i32_231 : BitVec 32 := 0#32
  let v668 : BitVec 1 := Scalar.cmpi .slt v664 c0_i32_231
  let v669 : BitVec 32 := Scalar.extui v668
  let v670 : BitVec 32 := Scalar.subi v667 v669
  let c2048_i32_229 : BitVec 32 := 2048#32
  let c0_i32_232 : BitVec 32 := 0#32
  let v671 : BitVec 1 := Scalar.cmpi .sgt c2048_i32_229 c0_i32_232
  let v672 : BitVec 32 := Scalar.extui v671
  let c0_i32_233 : BitVec 32 := 0#32
  let v673 : BitVec 1 := Scalar.cmpi .slt c2048_i32_229 c0_i32_233
  let v674 : BitVec 32 := Scalar.extui v673
  let v675 : BitVec 32 := Scalar.subi v672 v674
  let v676 : BitVec 1 := Scalar.cmpi .ne v670 v675
  let v677 : BitVec 32 := Scalar.remsi v664 c2048_i32_229
  let c0_i32_234 : BitVec 32 := 0#32
  let v678 : BitVec 1 := Scalar.cmpi .ne v677 c0_i32_234
  let v679 : BitVec 1 := Scalar.andi v676 v678
  let v665 : BitVec 32 := Scalar.divsi v664 c2048_i32_229
  let c1_i32_235 : BitVec 32 := 1#32
  let v680 : BitVec 32 := Scalar.subi v665 c1_i32_235
  let v681 : BitVec 32 := Scalar.select v679 v680 v665
  let v682 : BitVec 32 := Scalar.subi v681 c0_i32_236
  let c1_i32_237 : BitVec 32 := 1#32
  let v684 : BitVec 32 := Scalar.divsi v682 c1_i32_237
  let v685 : BitVec 32 := Scalar.muli v684 c1_i32_237
  let v686 : BitVec 32 := Scalar.addi c0_i32_236 v685
  let c1_i32_238 : BitVec 32 := 1#32
  ⟨c0_i32_236, v686, c1_i32_238⟩
def k0_mult4 (i : grid0.Coords) (k0_t3 : Fin (k0_t3_loop i).trips) : BitVec 32 :=
  let c0_i32_236 : BitVec 32 := 0#32
  let c1_i32_238 : BitVec 32 := 1#32
  let arg9 : BitVec 32 := Scf.iv c0_i32_236 c1_i32_238 k0_t3
  let c2048_i32_417 : BitVec 32 := 2048#32
  let v1263 : BitVec 32 := Scalar.muli arg9 c2048_i32_417
  v1263
def k0_off7 (i : grid0.Coords) (k0_t3 : Fin (k0_t3_loop i).trips) (c0_i32_418 : BitVec 32) : Fin 3 → Nat :=
  let c0_419 : Index := 0#32
  let c0_i32_236 : BitVec 32 := 0#32
  let c1_i32_238 : BitVec 32 := 1#32
  let arg9 : BitVec 32 := Scf.iv c0_i32_236 c1_i32_238 k0_t3
  let c2048_i32_417 : BitVec 32 := 2048#32
  let v1263 : BitVec 32 := Scalar.muli arg9 c2048_i32_417
  let v1264 : BitVec 32 := v1263
  let v1265 : BitVec 32 := Scalar.addi v1264 c0_i32_418
  let v1266 : Index := Scalar.indexCast v1265
  let c0_420 : Index := 0#32
  ![0, v1266.toNat, 0]
def k0_off8 (i : grid0.Coords) (k0_t3 : Fin (k0_t3_loop i).trips) (c0_i32_432 : BitVec 32) : Fin 3 → Nat :=
  let c0_433 : Index := 0#32
  let c0_434 : Index := 0#32
  let c0_i32_236 : BitVec 32 := 0#32
  let c1_i32_238 : BitVec 32 := 1#32
  let arg9 : BitVec 32 := Scf.iv c0_i32_236 c1_i32_238 k0_t3
  let c2048_i32_417 : BitVec 32 := 2048#32
  let v1263 : BitVec 32 := Scalar.muli arg9 c2048_i32_417
  let v1264 : BitVec 32 := v1263
  let v1298 : BitVec 32 := Scalar.addi v1264 c0_i32_432
  let v1299 : Index := Scalar.indexCast v1298
  ![0, 0, v1299.toNat]
@[reducible] def k0_t4_loop (i : grid0.Coords) : Scf.Loop 32 :=
  let c0_i32_236 : BitVec 32 := 0#32
  let arg2 : BitVec 32 := BitVec.ofNat 32 (i 2).val
  let c2048_i32_228 : BitVec 32 := 2048#32
  let v664 : BitVec 32 := Scalar.muli arg2 c2048_i32_228
  let c0_i32_230 : BitVec 32 := 0#32
  let v666 : BitVec 1 := Scalar.cmpi .sgt v664 c0_i32_230
  let v667 : BitVec 32 := Scalar.extui v666
  let c0_i32_231 : BitVec 32 := 0#32
  let v668 : BitVec 1 := Scalar.cmpi .slt v664 c0_i32_231
  let v669 : BitVec 32 := Scalar.extui v668
  let v670 : BitVec 32 := Scalar.subi v667 v669
  let c2048_i32_229 : BitVec 32 := 2048#32
  let c0_i32_232 : BitVec 32 := 0#32
  let v671 : BitVec 1 := Scalar.cmpi .sgt c2048_i32_229 c0_i32_232
  let v672 : BitVec 32 := Scalar.extui v671
  let c0_i32_233 : BitVec 32 := 0#32
  let v673 : BitVec 1 := Scalar.cmpi .slt c2048_i32_229 c0_i32_233
  let v674 : BitVec 32 := Scalar.extui v673
  let v675 : BitVec 32 := Scalar.subi v672 v674
  let v676 : BitVec 1 := Scalar.cmpi .ne v670 v675
  let v677 : BitVec 32 := Scalar.remsi v664 c2048_i32_229
  let c0_i32_234 : BitVec 32 := 0#32
  let v678 : BitVec 1 := Scalar.cmpi .ne v677 c0_i32_234
  let v679 : BitVec 1 := Scalar.andi v676 v678
  let v665 : BitVec 32 := Scalar.divsi v664 c2048_i32_229
  let c1_i32_235 : BitVec 32 := 1#32
  let v680 : BitVec 32 := Scalar.subi v665 c1_i32_235
  let v681 : BitVec 32 := Scalar.select v679 v680 v665
  let v682 : BitVec 32 := Scalar.subi v681 c0_i32_236
  let c1_i32_237 : BitVec 32 := 1#32
  let v684 : BitVec 32 := Scalar.divsi v682 c1_i32_237
  let v685 : BitVec 32 := Scalar.muli v684 c1_i32_237
  let v686 : BitVec 32 := Scalar.addi c0_i32_236 v685
  let v683 : BitVec 32 := Scalar.addi c0_i32_236 v682
  let c1_i32_239 : BitVec 32 := 1#32
  ⟨v686, v683, c1_i32_239⟩
def k0_mult5 (i : grid0.Coords) (k0_t4 : Fin (k0_t4_loop i).trips) : BitVec 32 :=
  let c0_i32_236 : BitVec 32 := 0#32
  let arg2 : BitVec 32 := BitVec.ofNat 32 (i 2).val
  let c2048_i32_228 : BitVec 32 := 2048#32
  let v664 : BitVec 32 := Scalar.muli arg2 c2048_i32_228
  let c0_i32_230 : BitVec 32 := 0#32
  let v666 : BitVec 1 := Scalar.cmpi .sgt v664 c0_i32_230
  let v667 : BitVec 32 := Scalar.extui v666
  let c0_i32_231 : BitVec 32 := 0#32
  let v668 : BitVec 1 := Scalar.cmpi .slt v664 c0_i32_231
  let v669 : BitVec 32 := Scalar.extui v668
  let v670 : BitVec 32 := Scalar.subi v667 v669
  let c2048_i32_229 : BitVec 32 := 2048#32
  let c0_i32_232 : BitVec 32 := 0#32
  let v671 : BitVec 1 := Scalar.cmpi .sgt c2048_i32_229 c0_i32_232
  let v672 : BitVec 32 := Scalar.extui v671
  let c0_i32_233 : BitVec 32 := 0#32
  let v673 : BitVec 1 := Scalar.cmpi .slt c2048_i32_229 c0_i32_233
  let v674 : BitVec 32 := Scalar.extui v673
  let v675 : BitVec 32 := Scalar.subi v672 v674
  let v676 : BitVec 1 := Scalar.cmpi .ne v670 v675
  let v677 : BitVec 32 := Scalar.remsi v664 c2048_i32_229
  let c0_i32_234 : BitVec 32 := 0#32
  let v678 : BitVec 1 := Scalar.cmpi .ne v677 c0_i32_234
  let v679 : BitVec 1 := Scalar.andi v676 v678
  let v665 : BitVec 32 := Scalar.divsi v664 c2048_i32_229
  let c1_i32_235 : BitVec 32 := 1#32
  let v680 : BitVec 32 := Scalar.subi v665 c1_i32_235
  let v681 : BitVec 32 := Scalar.select v679 v680 v665
  let v682 : BitVec 32 := Scalar.subi v681 c0_i32_236
  let c1_i32_237 : BitVec 32 := 1#32
  let v684 : BitVec 32 := Scalar.divsi v682 c1_i32_237
  let v685 : BitVec 32 := Scalar.muli v684 c1_i32_237
  let v686 : BitVec 32 := Scalar.addi c0_i32_236 v685
  let c1_i32_239 : BitVec 32 := 1#32
  let arg9 : BitVec 32 := Scf.iv v686 c1_i32_239 k0_t4
  let c2048_i32_417 : BitVec 32 := 2048#32
  let v1263 : BitVec 32 := Scalar.muli arg9 c2048_i32_417
  v1263
def k0_off9 (i : grid0.Coords) (k0_t4 : Fin (k0_t4_loop i).trips) (c0_i32_418 : BitVec 32) : Fin 3 → Nat :=
  let c0_419 : Index := 0#32
  let c0_i32_236 : BitVec 32 := 0#32
  let arg2 : BitVec 32 := BitVec.ofNat 32 (i 2).val
  let c2048_i32_228 : BitVec 32 := 2048#32
  let v664 : BitVec 32 := Scalar.muli arg2 c2048_i32_228
  let c0_i32_230 : BitVec 32 := 0#32
  let v666 : BitVec 1 := Scalar.cmpi .sgt v664 c0_i32_230
  let v667 : BitVec 32 := Scalar.extui v666
  let c0_i32_231 : BitVec 32 := 0#32
  let v668 : BitVec 1 := Scalar.cmpi .slt v664 c0_i32_231
  let v669 : BitVec 32 := Scalar.extui v668
  let v670 : BitVec 32 := Scalar.subi v667 v669
  let c2048_i32_229 : BitVec 32 := 2048#32
  let c0_i32_232 : BitVec 32 := 0#32
  let v671 : BitVec 1 := Scalar.cmpi .sgt c2048_i32_229 c0_i32_232
  let v672 : BitVec 32 := Scalar.extui v671
  let c0_i32_233 : BitVec 32 := 0#32
  let v673 : BitVec 1 := Scalar.cmpi .slt c2048_i32_229 c0_i32_233
  let v674 : BitVec 32 := Scalar.extui v673
  let v675 : BitVec 32 := Scalar.subi v672 v674
  let v676 : BitVec 1 := Scalar.cmpi .ne v670 v675
  let v677 : BitVec 32 := Scalar.remsi v664 c2048_i32_229
  let c0_i32_234 : BitVec 32 := 0#32
  let v678 : BitVec 1 := Scalar.cmpi .ne v677 c0_i32_234
  let v679 : BitVec 1 := Scalar.andi v676 v678
  let v665 : BitVec 32 := Scalar.divsi v664 c2048_i32_229
  let c1_i32_235 : BitVec 32 := 1#32
  let v680 : BitVec 32 := Scalar.subi v665 c1_i32_235
  let v681 : BitVec 32 := Scalar.select v679 v680 v665
  let v682 : BitVec 32 := Scalar.subi v681 c0_i32_236
  let c1_i32_237 : BitVec 32 := 1#32
  let v684 : BitVec 32 := Scalar.divsi v682 c1_i32_237
  let v685 : BitVec 32 := Scalar.muli v684 c1_i32_237
  let v686 : BitVec 32 := Scalar.addi c0_i32_236 v685
  let c1_i32_239 : BitVec 32 := 1#32
  let arg9 : BitVec 32 := Scf.iv v686 c1_i32_239 k0_t4
  let c2048_i32_417 : BitVec 32 := 2048#32
  let v1263 : BitVec 32 := Scalar.muli arg9 c2048_i32_417
  let v1264 : BitVec 32 := v1263
  let v1265 : BitVec 32 := Scalar.addi v1264 c0_i32_418
  let v1266 : Index := Scalar.indexCast v1265
  let c0_420 : Index := 0#32
  ![0, v1266.toNat, 0]
def k0_off10 (i : grid0.Coords) (k0_t4 : Fin (k0_t4_loop i).trips) (c0_i32_432 : BitVec 32) : Fin 3 → Nat :=
  let c0_433 : Index := 0#32
  let c0_434 : Index := 0#32
  let c0_i32_236 : BitVec 32 := 0#32
  let arg2 : BitVec 32 := BitVec.ofNat 32 (i 2).val
  let c2048_i32_228 : BitVec 32 := 2048#32
  let v664 : BitVec 32 := Scalar.muli arg2 c2048_i32_228
  let c0_i32_230 : BitVec 32 := 0#32
  let v666 : BitVec 1 := Scalar.cmpi .sgt v664 c0_i32_230
  let v667 : BitVec 32 := Scalar.extui v666
  let c0_i32_231 : BitVec 32 := 0#32
  let v668 : BitVec 1 := Scalar.cmpi .slt v664 c0_i32_231
  let v669 : BitVec 32 := Scalar.extui v668
  let v670 : BitVec 32 := Scalar.subi v667 v669
  let c2048_i32_229 : BitVec 32 := 2048#32
  let c0_i32_232 : BitVec 32 := 0#32
  let v671 : BitVec 1 := Scalar.cmpi .sgt c2048_i32_229 c0_i32_232
  let v672 : BitVec 32 := Scalar.extui v671
  let c0_i32_233 : BitVec 32 := 0#32
  let v673 : BitVec 1 := Scalar.cmpi .slt c2048_i32_229 c0_i32_233
  let v674 : BitVec 32 := Scalar.extui v673
  let v675 : BitVec 32 := Scalar.subi v672 v674
  let v676 : BitVec 1 := Scalar.cmpi .ne v670 v675
  let v677 : BitVec 32 := Scalar.remsi v664 c2048_i32_229
  let c0_i32_234 : BitVec 32 := 0#32
  let v678 : BitVec 1 := Scalar.cmpi .ne v677 c0_i32_234
  let v679 : BitVec 1 := Scalar.andi v676 v678
  let v665 : BitVec 32 := Scalar.divsi v664 c2048_i32_229
  let c1_i32_235 : BitVec 32 := 1#32
  let v680 : BitVec 32 := Scalar.subi v665 c1_i32_235
  let v681 : BitVec 32 := Scalar.select v679 v680 v665
  let v682 : BitVec 32 := Scalar.subi v681 c0_i32_236
  let c1_i32_237 : BitVec 32 := 1#32
  let v684 : BitVec 32 := Scalar.divsi v682 c1_i32_237
  let v685 : BitVec 32 := Scalar.muli v684 c1_i32_237
  let v686 : BitVec 32 := Scalar.addi c0_i32_236 v685
  let c1_i32_239 : BitVec 32 := 1#32
  let arg9 : BitVec 32 := Scf.iv v686 c1_i32_239 k0_t4
  let c2048_i32_417 : BitVec 32 := 2048#32
  let v1263 : BitVec 32 := Scalar.muli arg9 c2048_i32_417
  let v1264 : BitVec 32 := v1263
  let v1298 : BitVec 32 := Scalar.addi v1264 c0_i32_432
  let v1299 : Index := Scalar.indexCast v1298
  ![0, 0, v1299.toNat]
def k0_mult6 (i : grid0.Coords) : BitVec 32 :=
  let arg2 : BitVec 32 := BitVec.ofNat 32 (i 2).val
  let c2048_i32_240 : BitVec 32 := 2048#32
  let v689 : BitVec 32 := Scalar.muli arg2 c2048_i32_240
  v689
def k0_off11 (i : grid0.Coords) (c0_i32_241 : BitVec 32) : Fin 3 → Nat :=
  let c0_242 : Index := 0#32
  let arg2 : BitVec 32 := BitVec.ofNat 32 (i 2).val
  let c2048_i32_240 : BitVec 32 := 2048#32
  let v689 : BitVec 32 := Scalar.muli arg2 c2048_i32_240
  let v690 : BitVec 32 := v689
  let v691 : BitVec 32 := Scalar.addi v690 c0_i32_241
  let v692 : Index := Scalar.indexCast v691
  let c0_243 : Index := 0#32
  ![0, v692.toNat, 0]
def k0_off12 (i : grid0.Coords) (c0_i32_258 : BitVec 32) : Fin 3 → Nat :=
  let c0_259 : Index := 0#32
  let c0_260 : Index := 0#32
  let arg2 : BitVec 32 := BitVec.ofNat 32 (i 2).val
  let c2048_i32_240 : BitVec 32 := 2048#32
  let v689 : BitVec 32 := Scalar.muli arg2 c2048_i32_240
  let v690 : BitVec 32 := v689
  let v740 : BitVec 32 := Scalar.addi v690 c0_i32_258
  let v741 : Index := Scalar.indexCast v740
  ![0, 0, v741.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x8x2x64 : Shape := ⟨5, ![4, 8192, 8, 2, 64]⟩
abbrev S4x8192x8x128 : Shape := ⟨4, ![4, 8192, 8, 128]⟩
abbrev S1x4x64 : Shape := ⟨3, ![1, 4, 64]⟩
abbrev S1x128 : Shape := ⟨2, ![1, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x2x8192x8192 : Shape := ⟨5, ![4, 8, 2, 8192, 8192]⟩
abbrev S4x8x2x8192 : Shape := ⟨4, ![4, 8, 2, 8192]⟩
abbrev S4x8x2x8192x1 : Shape := ⟨5, ![4, 8, 2, 8192, 1]⟩
abbrev S4x8x1x8192x8192 : Shape := ⟨5, ![4, 8, 1, 8192, 8192]⟩
abbrev S4x8x8192x8192 : Shape := ⟨4, ![4, 8, 8192, 8192]⟩
abbrev S4x8x128x8192 : Shape := ⟨4, ![4, 8, 128, 8192]⟩
abbrev S128 : Shape := ⟨1, ![128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x8192x1024 : Shape := ⟨3, ![4, 8192, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4x8192x8x2x64, .f32⟩
  | .hbm, ⟨1, _⟩ => ⟨S4x8192x8x2x64, .f32⟩
  | .hbm, ⟨2, _⟩ => ⟨S4x8192x8x128, .f32⟩
  | .hbm, ⟨3, _⟩ => ⟨S1x4x64, .f32⟩
  | .hbm, ⟨4, _⟩ => ⟨S1x128, .f32⟩
  | .hbm, ⟨5, _⟩ => ⟨S4x64, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .i32⟩
  | .hbm, ⟨26, _⟩ => ⟨S1x8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S4x8x2x8192x8192, .f32⟩
  | .hbm, ⟨32, _⟩ => ⟨S_, .f32⟩
  | .hbm, ⟨33, _⟩ => ⟨S4x8x2x8192x8192, .f32⟩
  | .hbm, ⟨34, _⟩ => ⟨S4x8x2x8192x8192, .f32⟩
  | .hbm, ⟨35, _⟩ => ⟨S_, .f32⟩
  | .hbm, ⟨36, _⟩ => ⟨S_, .f32⟩
  | .hbm, ⟨37, _⟩ => ⟨S4x8x2x8192x8192, .i1⟩
  | .hbm, ⟨38, _⟩ => ⟨S4x8x2x8192x8192, .f32⟩
  | .hbm, ⟨39, _⟩ => ⟨S4x8x2x8192x8192, .f32⟩
  | .hbm, ⟨40, _⟩ => ⟨S_, .f32⟩
  | .hbm, ⟨41, _⟩ => ⟨S4x8x2x8192, .f32⟩
  | .hbm, ⟨42, _⟩ => ⟨S_, .f32⟩
  | .hbm, ⟨43, _⟩ => ⟨S4x8x2x8192, .f32⟩
  | .hbm, ⟨44, _⟩ => ⟨S4x8x2x8192, .f32⟩
  | .hbm, ⟨45, _⟩ => ⟨S4x8x2x8192x1, .f32⟩
  | .hbm, ⟨46, _⟩ => ⟨S4x8x2x8192x8192, .f32⟩
  | .hbm, ⟨47, _⟩ => ⟨S4x8x2x8192x8192, .f32⟩
  | .hbm, ⟨48, _⟩ => ⟨S4x8x2x8192x8192, .f32⟩
  | .hbm, ⟨49, _⟩ => ⟨S_, .f32⟩
  | .hbm, ⟨50, _⟩ => ⟨S4x8x2x8192, .f32⟩
  | .hbm, ⟨51, _⟩ => ⟨S4x8x2x8192x1, .f32⟩
  | .hbm, ⟨52, _⟩ => ⟨S4x8x2x8192x8192, .f32⟩
  | .hbm, ⟨53, _⟩ => ⟨S4x8x2x8192x8192, .f32⟩
  | .hbm, ⟨54, _⟩ => ⟨S4x8x1x8192x8192, .f32⟩
  | .hbm, ⟨55, _⟩ => ⟨S4x8x8192x8192, .f32⟩
  | .hbm, ⟨56, _⟩ => ⟨S4x8x1x8192x8192, .f32⟩
  | .hbm, ⟨57, _⟩ => ⟨S4x8x8192x8192, .f32⟩
  | .hbm, ⟨58, _⟩ => ⟨S4x8x8192x8192, .f32⟩
  | .hbm, ⟨59, _⟩ => ⟨S4x8x8192x8192, .f32⟩
  | .hbm, ⟨60, _⟩ => ⟨S4x8x8192x8192, .f32⟩
  | .hbm, ⟨61, _⟩ => ⟨S4x8x128x8192, .f32⟩
  | .hbm, ⟨62, _⟩ => ⟨S4x8192x8x128, .f32⟩
  | .hbm, ⟨63, _⟩ => ⟨S128, .f32⟩
  | .hbm, ⟨64, _⟩ => ⟨S4x8192x8x128, .f32⟩
  | .hbm, ⟨65, _⟩ => ⟨S_, .f32⟩
  | .hbm, ⟨66, _⟩ => ⟨S4x8192x8, .f32⟩
  | .hbm, ⟨67, _⟩ => ⟨S4x8192x8x1, .f32⟩
  | .hbm, ⟨68, _⟩ => ⟨S_, .f32⟩
  | .hbm, ⟨69, _⟩ => ⟨S4x8192x8x1, .f32⟩
  | .hbm, ⟨70, _⟩ => ⟨S4x8192x8x1, .f32⟩
  | .hbm, ⟨71, _⟩ => ⟨S_, .f32⟩
  | .hbm, ⟨72, _⟩ => ⟨S4x8192x8x1, .f32⟩
  | .hbm, ⟨73, _⟩ => ⟨S4x8192x8x1, .f32⟩
  | .hbm, ⟨74, _⟩ => ⟨S4x8192x8x1, .f32⟩
  | .hbm, ⟨75, _⟩ => ⟨S4x8192x8x128, .f32⟩
  | .hbm, ⟨76, _⟩ => ⟨S4x8192x8x128, .f32⟩
  | .hbm, ⟨77, _⟩ => ⟨S1x1x1x128, .f32⟩
  | .hbm, ⟨78, _⟩ => ⟨S4x8192x8x128, .f32⟩
  | .hbm, ⟨79, _⟩ => ⟨S4x8192x8x128, .f32⟩
  | .hbm, ⟨80, _⟩ => ⟨S_, .f32⟩
  | .hbm, ⟨81, _⟩ => ⟨S4x8192x8x128, .f32⟩
  | .hbm, ⟨82, _⟩ => ⟨S4x8192x8x128, .f32⟩
  | .hbm, ⟨83, _⟩ => ⟨S4x8192x1024, .f32⟩
  | .hbm, ⟨84, _⟩ => ⟨S4x8192x1024, .bf16⟩
  | _, _ => ⟨S4x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Out.lean ====
abbrev S4x8192x1024 : Shape := ⟨3, ![4, 8192, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32768x1024 : Shape := ⟨2, ![32768, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 29
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1x1024x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024x4096, .f32⟩
  | .hbm, ⟨20, _⟩ => ⟨S1024x4096, .f32⟩
  | .hbm, ⟨21, _⟩ => ⟨S1024x4096, .bf16⟩
  | .hbm, ⟨22, _⟩ => ⟨S1x4096x1024, .f32⟩
  | .hbm, ⟨23, _⟩ => ⟨S4096x1024, .f32⟩
  | .hbm, ⟨24, _⟩ => ⟨S4096x1024, .bf16⟩
  | .hbm, ⟨25, _⟩ => ⟨S32768x1024, .f32⟩
  | .hbm, ⟨26, _⟩ => ⟨S4x8192x1024, .bf16⟩
  | .hbm, ⟨27, _⟩ => ⟨S32768x1024, .bf16⟩
  | .hbm, ⟨28, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S4x8192x1024 : Shape := ⟨3, ![4, 8192, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x8192x4096 : Shape := ⟨3, ![4, 8192, 4096]⟩
abbrev S32768x1024 : Shape := ⟨2, ![32768, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1x1024x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S1024x1024, .f32⟩
  | .hbm, ⟨9, _⟩ => ⟨S4x8192x1024, .f32⟩
  | .hbm, ⟨10, _⟩ => ⟨S1x1024, .f32⟩
  | .hbm, ⟨11, _⟩ => ⟨S1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S1x1024, .f32⟩
  | .hbm, ⟨30, _⟩ => ⟨S1024, .f32⟩
  | .hbm, ⟨31, _⟩ => ⟨S4x8192x1024, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1, .f32⟩
  | .hbm, ⟨42, _⟩ => ⟨S4x8192x1024, .f32⟩
  | .hbm, ⟨43, _⟩ => ⟨S4x8192x1024, .f32⟩
  | .hbm, ⟨44, _⟩ => ⟨S1x1x1024, .f32⟩
  | .hbm, ⟨45, _⟩ => ⟨S4x8192x1024, .f32⟩
  | .hbm, ⟨46, _⟩ => ⟨S4x8192x1024, .f32⟩
  | .hbm, ⟨47, _⟩ => ⟨S1x1024x4096, .f32⟩
  | .hbm, ⟨48, _⟩ => ⟨S1024x4096, .f32⟩
  | .hbm, ⟨49, _⟩ => ⟨S1x4096x1024, .f32⟩
  | .hbm, ⟨50, _⟩ => ⟨S4096x1024, .f32⟩
  | .hbm, ⟨51, _⟩ => ⟨S4x8192x4096, .f32⟩
  | .hbm, ⟨52, _⟩ => ⟨S_, .f32⟩
  | .hbm, ⟨53, _⟩ => ⟨S4x8192x4096, .f32⟩
  | .hbm, ⟨54, _⟩ => ⟨S4x8192x4096, .f32⟩
  | .hbm, ⟨55, _⟩ => ⟨S4x8192x4096, .f32⟩
  | .hbm, ⟨56, _⟩ => ⟨S4x8192x1024, .f32⟩
  | .hbm, ⟨57, _⟩ => ⟨S1x1024, .f32⟩
  | .hbm, ⟨58, _⟩ => ⟨S1024, .f32⟩
  | .hbm, ⟨59, _⟩ => ⟨S4x8192x1024, .f32⟩
  | .hbm, ⟨60, _⟩ => ⟨S_, .f32⟩
  | .hbm, ⟨61, _⟩ => ⟨S4x8192, .f32⟩
  | .hbm, ⟨62, _⟩ => ⟨S4x8192x1, .f32⟩
  | .hbm, ⟨63, _⟩ => ⟨S_, .f32⟩
  | .hbm, ⟨64, _⟩ => ⟨S4x8192x1, .f32⟩
  | .hbm, ⟨65, _⟩ => ⟨S4x8192x1, .f32⟩
  | .hbm, ⟨66, _⟩ => ⟨S_, .f32⟩
  | .hbm, ⟨67, _⟩ => ⟨S4x8192x1, .f32⟩
  | .hbm, ⟨68, _⟩ => ⟨S4x8192x1, .f32⟩
  | .hbm, ⟨69, _⟩ => ⟨S4x8192x1, .f32⟩
  | .hbm, ⟨70, _⟩ => ⟨S4x8192x1024, .f32⟩
  | .hbm, ⟨71, _⟩ => ⟨S4x8192x1024, .f32⟩
  | .hbm, ⟨72, _⟩ => ⟨S1x1x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Mix.lean ====
abbrev S4x8192x1024 : Shape := ⟨3, ![4, 8192, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x2x512 : Shape := ⟨3, ![4, 2, 512]⟩
abbrev S4x15x512 : Shape := ⟨3, ![4, 15, 512]⟩
abbrev S1x512x1024 : Shape := ⟨3, ![1, 512, 1024]⟩
abbrev S1x2x512 : Shape := ⟨3, ![1, 2, 512]⟩
abbrev S1x15x512 : Shape := ⟨3, ![1, 15, 512]⟩
abbrev S520x512 : Shape := ⟨2, ![520, 512]⟩
abbrev S528x512 : Shape := ⟨2, ![528, 512]⟩
abbrev S8x512 : Shape := ⟨2, ![8, 512]⟩
abbrev S16x512 : Shape := ⟨2, ![16, 512]⟩
abbrev S512x1024 : Shape := ⟨2, ![512, 1024]⟩
abbrev S512x1 : Shape := ⟨2, ![512, 1]⟩
abbrev S512x2048 : Shape := ⟨2, ![512, 2048]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S512x4096 : Shape := ⟨2, ![512, 4096]⟩
abbrev S2x512 : Shape := ⟨2, ![2, 512]⟩
abbrev S15x512 : Shape := ⟨2, ![15, 512]⟩

abbrev nBuf : Space → Nat
  | .hbm => 42
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1x1024x2048, .f32⟩
  | .hbm, ⟨8, _⟩ => ⟨S1x3x512, .f32⟩
  | .hbm, ⟨9, _⟩ => ⟨S1x4x128x128, .f32⟩
  | .hbm, ⟨10, _⟩ => ⟨S1x512, .f32⟩
  | .hbm, ⟨11, _⟩ => ⟨S1x1024x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024x2048, .f32⟩
  | .hbm, ⟨19, _⟩ => ⟨S1024x2048, .bf16⟩
  | .hbm, ⟨20, _⟩ => ⟨S3x512, .f32⟩
  | .hbm, ⟨21, _⟩ => ⟨S4x128x128, .f32⟩
  | .hbm, ⟨22, _⟩ => ⟨S4x128x128, .bf16⟩
  | .hbm, ⟨23, _⟩ => ⟨S512, .f32⟩
  | .hbm, ⟨24, _⟩ => ⟨S1x512, .f32⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1x1024x4096, .f32⟩
  | .hbm, ⟨34, _⟩ => ⟨S1024x4096, .f32⟩
  | .hbm, ⟨35, _⟩ => ⟨S1024x4096, .bf16⟩
  | .hbm, ⟨36, _⟩ => ⟨S1x4096x1024, .f32⟩
  | .hbm, ⟨37, _⟩ => ⟨S4096x1024, .f32⟩
  | .hbm, ⟨38, _⟩ => ⟨S4096x1024, .bf16⟩
  | .hbm, ⟨39, _⟩ => ⟨S4x8192x1024, .f32⟩
  | .hbm, ⟨40, _⟩ => ⟨S4x2x512, .f32⟩
  | .hbm, ⟨41, _⟩ => ⟨S4x15x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S3x512, .f32⟩
  | .local _ .vmem, ⟨6, _⟩ => ⟨S4x128x128, .bf16⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x512x1024, .f32⟩
  | .local _ .vmem, ⟨14, _⟩ => ⟨S1x512x1024, .f32⟩
  | .local _ .vmem, ⟨15, _⟩ => ⟨S1x2x512, .f32⟩
  | .local _ .vmem, ⟨16, _⟩ => ⟨S1x2x512, .f32⟩
  | .local _ .vmem, ⟨17, _⟩ => ⟨S1x15x512, .f32⟩
  | .local _ .vmem, ⟨18, _⟩ => ⟨S1x15x512, .f32⟩
  | .local _ .vmem, ⟨19, _⟩ => ⟨S520x512, .f32⟩
  | .local _ .vmem, ⟨20, _⟩ => ⟨S528x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v230 : BitVec 1 := Scalar.cmpi .eq arg1 c15_i32
  let v231 : BitVec 32 := Scalar.extui v230
  let c0_i32_102 : BitVec 32 := 0#32
  let v232 : BitVec 1 := Scalar.cmpi .ne v231 c0_i32_102
  v232

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x15x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== MixRefIdeal.lean ====
abbrev S4x8192x1024 : Shape := ⟨3, ![4, 8192, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S8192 : Shape := ⟨1, ![8192]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x2x512 : Shape := ⟨3, ![4, 2, 512]⟩
abbrev S4x15x512 : Shape := ⟨3, ![4, 15, 512]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S4x8192x2048 : Shape := ⟨3, ![4, 8192, 2048]⟩
abbrev S4x8192x512 : Shape := ⟨3, ![4, 8192, 512]⟩
abbrev S4x8194x512 : Shape := ⟨3, ![4, 8194, 512]⟩
abbrev S1x1x512 : Shape := ⟨3, ![1, 1, 512]⟩
abbrev S4x8207x512 : Shape := ⟨3, ![4, 8207, 512]⟩
abbrev S4x8207x4x128 : Shape := ⟨4, ![4, 8207, 4, 128]⟩
abbrev S4x1x4x128 : Shape := ⟨4, ![4, 1, 4, 128]⟩
abbrev S4x8208x4x128 : Shape := ⟨4, ![4, 8208, 4, 128]⟩
abbrev S4x8192x4x128 : Shape := ⟨4, ![4, 8192, 4, 128]⟩
abbrev S4x8192x1x128 : Shape := ⟨4, ![4, 8192, 1, 128]⟩
abbrev S4x8192x128 : Shape := ⟨3, ![4, 8192, 128]⟩
abbrev S1x8192x1 : Shape := ⟨3, ![1, 8192, 1]⟩
abbrev S4x128x4x8192 : Shape := ⟨4, ![4, 128, 4, 8192]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x8192x4096 : Shape := ⟨3, ![4, 8192, 4096]⟩

abbrev nBuf : Space → Nat
  | .hbm => 230
  | .vmem => 0
  | .smem => 0
  | _ => 0

abbrev hbmTy0_0 (i : Nat) : BufTy := match i % 128 with
  | 0 => ⟨S4x8192x1024, .f32⟩
  | 1 => ⟨S2x1024, .f32⟩
  | 2 => ⟨S2x1024, .f32⟩
  | 3 => ⟨S2x1024, .f32⟩
  | 4 => ⟨S2x1024, .f32⟩
  | 5 => ⟨S2x1024x4096, .f32⟩
  | 6 => ⟨S2x4096x1024, .f32⟩
  | 7 => ⟨S1x1024x2048, .f32⟩
  | 8 => ⟨S1x3x512, .f32⟩
  | 9 => ⟨S1x4x128x128, .f32⟩
  | 10 => ⟨S1x512, .f32⟩
  | 11 => ⟨S1x1024x1024, .f32⟩
  | 12 => ⟨S8192, .i32⟩
  | 13 => ⟨S1x1024, .f32⟩
  | 14 => ⟨S1024, .f32⟩
  | 15 => ⟨S4x8192x1024, .f32⟩
  | 16 => ⟨S_, .f32⟩
  | 17 => ⟨S4x8192, .f32⟩
  | 18 => ⟨S4x8192x1, .f32⟩
  | 19 => ⟨S_, .f32⟩
  | 20 => ⟨S4x8192x1, .f32⟩
  | 21 => ⟨S4x8192x1, .f32⟩
  | 22 => ⟨S_, .f32⟩
  | 23 => ⟨S4x8192x1, .f32⟩
  | 24 => ⟨S4x8192x1, .f32⟩
  | 25 => ⟨S4x8192x1, .f32⟩
  | 26 => ⟨S4x8192x1024, .f32⟩
  | 27 => ⟨S4x8192x1024, .f32⟩
  | 28 => ⟨S1x1x1024, .f32⟩
  | 29 => ⟨S4x8192x1024, .f32⟩
  | 30 => ⟨S4x8192x1024, .f32⟩
  | 31 => ⟨S_, .f32⟩
  | 32 => ⟨S4x2x512, .f32⟩
  | 33 => ⟨S_, .f32⟩
  | 34 => ⟨S4x15x512, .f32⟩
  | 35 => ⟨S1024x2048, .f32⟩
  | 36 => ⟨S3x512, .f32⟩
  | 37 => ⟨S4x128x128, .f32⟩
  | 38 => ⟨S512, .f32⟩
  | 39 => ⟨S1024x1024, .f32⟩
  | 40 => ⟨S4x8192x2048, .f32⟩
  | 41 => ⟨S4x8192x512, .f32⟩
  | 42 => ⟨S4x8192x512, .f32⟩
  | 43 => ⟨S4x8192x512, .f32⟩
  | 44 => ⟨S4x8192x512, .f32⟩
  | 45 => ⟨S4x8192x512, .f32⟩
  | 46 => ⟨S4x8194x512, .f32⟩
  | 47 => ⟨S1x512, .f32⟩
  | 48 => ⟨S512, .f32⟩
  | 49 => ⟨S4x8192x512, .f32⟩
  | 50 => ⟨S1x1x512, .f32⟩
  | 51 => ⟨S4x8192x512, .f32⟩
  | 52 => ⟨S4x8192x512, .f32⟩
  | 53 => ⟨S1x512, .f32⟩
  | 54 => ⟨S512, .f32⟩
  | 55 => ⟨S4x8192x512, .f32⟩
  | 56 => ⟨S1x1x512, .f32⟩
  | 57 => ⟨S4x8192x512, .f32⟩
  | 58 => ⟨S4x8192x512, .f32⟩
  | 59 => ⟨S4x8192x512, .f32⟩
  | 60 => ⟨S1x512, .f32⟩
  | 61 => ⟨S512, .f32⟩
  | 62 => ⟨S4x8192x512, .f32⟩
  | 63 => ⟨S1x1x512, .f32⟩
  | 64 => ⟨S4x8192x512, .f32⟩
  | 65 => ⟨S4x8192x512, .f32⟩
  | 66 => ⟨S4x8192x512, .f32⟩
  | 67 => ⟨S4x8192x512, .f32⟩
  | 68 => ⟨S4x8207x512, .f32⟩
  | 69 => ⟨S4x8207x4x128, .f32⟩
  | 70 => ⟨S_, .f32⟩
  | 71 => ⟨S4x1x4x128, .f32⟩
  | 72 => ⟨S_, .f32⟩
  | 73 => ⟨S_, .f32⟩
  | 74 => ⟨S4x8207x4x128, .f32⟩
  | 75 => ⟨S4x8208x4x128, .f32⟩
  | 76 => ⟨S4x8192x4x128, .f32⟩
  | 77 => ⟨S4x8192x1x128, .f32⟩
  | 78 => ⟨S4x8192x128, .f32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S8192, .f32⟩
  | 86 => ⟨S1x8192x1, .f32⟩
  | 87 => ⟨S4x8192x1x128, .f32⟩
  | 88 => ⟨S4x8192x128, .f32⟩
  | 89 => ⟨S4x8192x128, .f32⟩
  | 90 => ⟨S4x8192x128, .f32⟩
  | 91 => ⟨S4x8192x128, .f32⟩
  | 92 => ⟨S4x8192x1x128, .f32⟩
  | 93 => ⟨S4x8192x128, .f32⟩
  | 94 => ⟨S4x8192x128, .f32⟩
  | 95 => ⟨S4x8192x1x128, .f32⟩
  | 96 => ⟨S4x8192x128, .f32⟩
  | 97 => ⟨S_, .i32⟩
  | 98 => ⟨S8192, .i32⟩
  | 99 => ⟨S8192, .i32⟩
  | 100 => ⟨S_, .i32⟩
  | 101 => ⟨S8192, .i32⟩
  | 102 => ⟨S8192, .i32⟩
  | 103 => ⟨S8192, .f32⟩
  | 104 => ⟨S1x8192x1, .f32⟩
  | 105 => ⟨S4x8192x1x128, .f32⟩
  | 106 => ⟨S4x8192x128, .f32⟩
  | 107 => ⟨S4x8192x128, .f32⟩
  | 108 => ⟨S4x8192x128, .f32⟩
  | 109 => ⟨S4x8192x128, .f32⟩
  | 110 => ⟨S4x8192x1x128, .f32⟩
  | 111 => ⟨S4x8192x128, .f32⟩
  | 112 => ⟨S4x8192x128, .f32⟩
  | 113 => ⟨S4x8192x1x128, .f32⟩
  | 114 => ⟨S4x8192x128, .f32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S8192, .f32⟩
  | 122 => ⟨S1x8192x1, .f32⟩
  | 123 => ⟨S4x8192x1x128, .f32⟩
  | 124 => ⟨S4x8192x128, .f32⟩
  | 125 => ⟨S4x8192x128, .f32⟩
  | 126 => ⟨S4x8192x128, .f32⟩
  | 127 => ⟨S4x8192x128, .f32⟩
  | _ => ⟨S4x8192x1024, .f32⟩

abbrev hbmTy0_1 (i : Nat) : BufTy := match i % 128 with
  | 0 => ⟨S4x8192x1x128, .f32⟩
  | 1 => ⟨S4x8192x128, .f32⟩
  | 2 => ⟨S4x8192x128, .f32⟩
  | 3 => ⟨S4x8192x1x128, .f32⟩
  | 4 => ⟨S4x8192x128, .f32⟩
  | 5 => ⟨S_, .i32⟩
  | 6 => ⟨S8192, .i32⟩
  | 7 => ⟨S8192, .i32⟩
  | 8 => ⟨S_, .i32⟩
  | 9 => ⟨S8192, .i32⟩
  | 10 => ⟨S8192, .i32⟩
  | 11 => ⟨S8192, .f32⟩
  | 12 => ⟨S1x8192x1, .f32⟩
  | 13 => ⟨S4x8192x1x128, .f32⟩
  | 14 => ⟨S4x8192x128, .f32⟩
  | 15 => ⟨S4x8192x128, .f32⟩
  | 16 => ⟨S4x8192x128, .f32⟩
  | 17 => ⟨S4x8192x128, .f32⟩
  | 18 => ⟨S4x8192x1x128, .f32⟩
  | 19 => ⟨S4x8192x128, .f32⟩
  | 20 => ⟨S4x8192x128, .f32⟩
  | 21 => ⟨S4x8192x1x128, .f32⟩
  | 22 => ⟨S4x8192x1x128, .f32⟩
  | 23 => ⟨S4x8192x1x128, .f32⟩
  | 24 => ⟨S4x8192x1x128, .f32⟩
  | 25 => ⟨S4x8192x4x128, .f32⟩
  | 26 => ⟨S4x128x4x8192, .f32⟩
  | 27 => ⟨S4x8192x4x128, .f32⟩
  | 28 => ⟨S4x8192x512, .f32⟩
  | 29 => ⟨S1x1x512, .f32⟩
  | 30 => ⟨S4x8192x512, .f32⟩
  | 31 => ⟨S4x8192x512, .f32⟩
  | 32 => ⟨S4x8192x1024, .f32⟩
  | 33 => ⟨S4x8192x1024, .f32⟩
  | 34 => ⟨S4x2x512, .f32⟩
  | 35 => ⟨S4x15x512, .f32⟩
  | 36 => ⟨S1x1024, .f32⟩
  | 37 => ⟨S1024, .f32⟩
  | 38 => ⟨S4x8192x1024, .f32⟩
  | 39 => ⟨S_, .f32⟩
  | 40 => ⟨S4x8192, .f32⟩
  | 41 => ⟨S4x8192x1, .f32⟩
  | 42 => ⟨S_, .f32⟩
  | 43 => ⟨S4x8192x1, .f32⟩
  | 44 => ⟨S4x8192x1, .f32⟩
  | 45 => ⟨S_, .f32⟩
  | 46 => ⟨S4x8192x1, .f32⟩
  | 47 => ⟨S4x8192x1, .f32⟩
  | 48 => ⟨S4x8192x1, .f32⟩
  | 49 => ⟨S4x8192x1024, .f32⟩
  | 50 => ⟨S4x8192x1024, .f32⟩
  | 51 => ⟨S1x1x1024, .f32⟩
  | 52 => ⟨S4x8192x1024, .f32⟩
  | 53 => ⟨S4x8192x1024, .f32⟩
  | 54 => ⟨S4x8192x1024, .f32⟩
  | 55 => ⟨S1x1024, .f32⟩
  | 56 => ⟨S1024, .f32⟩
  | 57 => ⟨S4x8192x1024, .f32⟩
  | 58 => ⟨S_, .f32⟩
  | 59 => ⟨S4x8192, .f32⟩
  | 60 => ⟨S4x8192x1, .f32⟩
  | 61 => ⟨S_, .f32⟩
  | 62 => ⟨S4x8192x1, .f32⟩
  | 63 => ⟨S4x8192x1, .f32⟩
  | 64 => ⟨S_, .f32⟩
  | 65 => ⟨S4x8192x1, .f32⟩
  | 66 => ⟨S4x8192x1, .f32⟩
  | 67 => ⟨S4x8192x1, .f32⟩
  | 68 => ⟨S4x8192x1024, .f32⟩
  | 69 => ⟨S4x8192x1024, .f32⟩
  | 70 => ⟨S1x1x1024, .f32⟩
  | 71 => ⟨S4x8192x1024, .f32⟩
  | 72 => ⟨S4x8192x1024, .f32⟩
  | 73 => ⟨S1x1024x4096, .f32⟩
  | 74 => ⟨S1024x4096, .f32⟩
  | 75 => ⟨S1x4096x1024, .f32⟩
  | 76 => ⟨S4096x1024, .f32⟩
  | 77 => ⟨S4x8192x4096, .f32⟩
  | 78 => ⟨S_, .f32⟩
  | 79 => ⟨S4x8192x4096, .f32⟩
  | 80 => ⟨S4x8192x4096, .f32⟩
  | 81 => ⟨S4x8192x4096, .f32⟩
  | 82 => ⟨S4x8192x1024, .f32⟩
  | 83 => ⟨S1x1024, .f32⟩
  | 84 => ⟨S1024, .f32⟩
  | 85 => ⟨S4x8192x1024, .f32⟩
  | 86 => ⟨S_, .f32⟩
  | 87 => ⟨S4x8192, .f32⟩
  | 88 => ⟨S4x8192x1, .f32⟩
  | 89 => ⟨S_, .f32⟩
  | 90 => ⟨S4x8192x1, .f32⟩
  | 91 => ⟨S4x8192x1, .f32⟩
  | 92 => ⟨S_, .f32⟩
  | 93 => ⟨S4x8192x1, .f32⟩
  | 94 => ⟨S4x8192x1, .f32⟩
  | 95 => ⟨S4x8192x1, .f32⟩
  | 96 => ⟨S4x8192x1024, .f32⟩
  | 97 => ⟨S4x8192x1024, .f32⟩
  | 98 => ⟨S1x1x1024, .f32⟩
  | 99 => ⟨S4x8192x1024, .f32⟩
  | 100 => ⟨S4x8192x1024, .f32⟩
  | 101 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_4 : Ref sig .tc := ⟨.hbm, 70, rfl⟩
abbrev main_v53 : Ref sig .tc := ⟨.hbm, 71, rfl⟩
abbrev main_call0_call0_cst : Ref sig .tc := ⟨.hbm, 72, rfl⟩
abbrev main_call0_call0_v0 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c : Ref sig .tc := ⟨.hbm, 79, rfl⟩
abbrev main_v59 : Ref sig .tc := ⟨.hbm, 80, rfl⟩
abbrev main_v60 : Ref sig .tc := ⟨.hbm, 81, rfl⟩
abbrev main_c_5 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_6 : Ref sig .tc := ⟨.hbm, 97, rfl⟩
abbrev main_v75 : Ref sig .tc := ⟨.hbm, 98, rfl⟩
abbrev main_v76 : Ref sig .tc := ⟨.hbm, 99, rfl⟩
abbrev main_c_7 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_c_8 : Ref sig .tc := ⟨.hbm, 115, rfl⟩
abbrev main_v91 : Ref sig .tc := ⟨.hbm, 116, rfl⟩
abbrev main_v92 : Ref sig .tc := ⟨.hbm, 117, rfl⟩
abbrev main_c_9 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_c_10 : Ref sig .tc := ⟨.hbm, 133, rfl⟩
abbrev main_v107 : Ref sig .tc := ⟨.hbm, 134, rfl⟩
abbrev main_v108 : Ref sig .tc := ⟨.hbm, 135, rfl⟩
abbrev main_c_11 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_cst_12 : Ref sig .tc := ⟨.hbm, 167, rfl⟩
abbrev main_v139 : Ref sig .tc := ⟨.hbm, 168, rfl⟩
abbrev main_v140 : Ref sig .tc := ⟨.hbm, 169, rfl⟩
abbrev main_cst_13 : Ref sig .tc := ⟨.hbm, 170, rfl⟩
abbrev main_v141 : Ref sig .tc := ⟨.hbm, 171, rfl⟩
abbrev main_v142 : Ref sig .tc := ⟨.hbm, 172, rfl⟩
abbrev main_cst_14 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_15 : Ref sig .tc := ⟨.hbm, 186, rfl⟩
abbrev main_v155 : Ref sig .tc := ⟨.hbm, 187, rfl⟩
abbrev main_v156 : Ref sig .tc := ⟨.hbm, 188, rfl⟩
abbrev main_cst_16 : Ref sig .tc := ⟨.hbm, 189, rfl⟩
abbrev main_v157 : Ref sig .tc := ⟨.hbm, 190, rfl⟩
abbrev main_v158 : Ref sig .tc := ⟨.hbm, 191, rfl⟩
abbrev main_cst_17 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_call1_cst : Ref sig .tc := ⟨.hbm, 206, rfl⟩
abbrev main_call1_v0 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_cst_18 : Ref sig .tc := ⟨.hbm, 214, rfl⟩
abbrev main_v178 : Ref sig .tc := ⟨.hbm, 215, rfl⟩
abbrev main_v179 : Ref sig .tc := ⟨.hbm, 216, rfl⟩
abbrev main_cst_19 : Ref sig .tc := ⟨.hbm, 217, rfl⟩
abbrev main_v180 : Ref sig .tc := ⟨.hbm, 218, rfl⟩
abbrev main_v181 : Ref sig .tc := ⟨.hbm, 219, rfl⟩
abbrev main_cst_20 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩

abbrev nD : Nat := 1
abbrev τ : Topo := Topo.v7x

variable {F : FTy → Type} [FloatOps F]
-- ==== Qkv.lean ====
abbrev S4x8192x1024 : Shape := ⟨3, ![4, 8192, 1024]⟩
abbrev S2x1024 : Shape := ⟨2, ![2, 1024]⟩
abbrev S1x1024x3072 : Shape := ⟨3, ![1, 1024, 3072]⟩
abbrev S1024x3072 : Shape := ⟨2, ![1024, 3072]⟩
abbrev S1024x1024 : Shape := ⟨2, ![1024, 1024]⟩
abbrev S1x1024 : Shape := ⟨2, ![1, 1024]⟩
abbrev S1024 : Shape := ⟨1, ![1024]⟩
abbrev S4x1024x8192 : Shape := ⟨3, ![4, 1024, 8192]⟩
abbrev S1x512x1024 : Shape := ⟨3, ![1, 512, 1024]⟩
abbrev S1x1024x512 : Shape := ⟨3, ![1, 1024, 512]⟩
abbrev S32x512 : Shape := ⟨2, ![32, 512]⟩
abbrev S32x1 : Shape := ⟨2, ![32, 1]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S4x8x2x64x8192 : Shape := ⟨5, ![4, 8, 2, 64, 8192]⟩
abbrev S4x8192x8x2x64 : Shape := ⟨5, ![4, 8192, 8, 2, 64]⟩
abbrev S4x8192x8x128 : Shape := ⟨4, ![4, 8192, 8, 128]⟩

abbrev nBuf : Space → Nat
  | .hbm => 23
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S1x1024x3072, .f32⟩
  | .hbm, ⟨3, _⟩ => ⟨S1024x3072, .f32⟩
  | .hbm, ⟨4, _⟩ => ⟨S1024x3072, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024x1024, .bf16⟩
  | .hbm, ⟨12, _⟩ => ⟨S1024x1024, .bf16⟩
  | .hbm, ⟨13, _⟩ => ⟨S4x1024x8192, .bf16⟩
  | .hbm, ⟨14, _⟩ => ⟨S4x1024x8192, .f32⟩
  | .hbm, ⟨15, _⟩ => ⟨S4x8192x1024, .bf16⟩
  | .hbm, ⟨16, _⟩ => ⟨S4x8192x1024, .f32⟩
  | .hbm, ⟨17, _⟩ => ⟨S4x1024x8192, .bf16⟩
  | .hbm, ⟨18, _⟩ => ⟨S4x8x2x64x8192, .bf16⟩
  | .hbm, ⟨19, _⟩ => ⟨S4x8192x8x2x64, .bf16⟩
  | .hbm, ⟨20, _⟩ => ⟨S4x8x2x64x8192, .f32⟩
  | .hbm, ⟨21, _⟩ => ⟨S4x8192x8x2x64, .f32⟩
  | .hbm, ⟨22, _⟩ => ⟨S4x8192x8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .f32⟩
  | .local _ .vmem, ⟨9, _⟩ => ⟨S1x1024x512, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x1024x512, .bf16⟩
  | .local _ .vmem, ⟨15, _⟩ => ⟨S1x1024x512, .bf16⟩
  | .local _ .vmem, ⟨16, _⟩ => ⟨S32x512, .f32⟩
  | .local _ .vmem, ⟨17, _⟩ => ⟨S32x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v10_2 : Ref sig .tc := ⟨.hbm, 15, rfl⟩
abbrev main_v10_3 : Ref sig .tc := ⟨.hbm, 16, rfl⟩
abbrev main_v10_4 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== QkvIdeal.lean ====
variable {F : FTy → Type} [FloatOps F] [Named F]
def κ : String → Option EReal := fun
  | "score" => some (((8 * (Real.log 2))⁻¹ : ℝ) : EReal)
  | _ => none
-- ==== QkvRefIdeal.lean ====
abbrev S4x8192x1024 : Shape := ⟨3, ![4, 8192, 1024]⟩
abbrev S2x1024 : Shape := ⟨2, ![2, 1024]⟩
abbrev S1x1024x3072 : Shape := ⟨3, ![1, 1024, 3072]⟩
abbrev S8192 : Shape := ⟨1, ![8192]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x3072 : Shape := ⟨2, ![1024, 3072]⟩
abbrev S4x8192x3072 : Shape := ⟨3, ![4, 8192, 3072]⟩
abbrev S4x8192x8x2x64 : Shape := ⟨5, ![4, 8192, 8, 2, 64]⟩
abbrev S4x8192x8x128 : Shape := ⟨4, ![4, 8192, 8, 128]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x1x32 : Shape := ⟨4, ![8192, 1, 1, 32]⟩
abbrev S4x8192x8x2x32 : Shape := ⟨5, ![4, 8192, 8, 2, 32]⟩
abbrev S1x8192x1x1x32 : Shape := ⟨5, ![1, 8192, 1, 1, 32]⟩

abbrev nBuf : Space → Nat
  | .hbm => 111
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S1x1024x3072, .f32⟩
  | .hbm, ⟨3, _⟩ => ⟨S8192, .i32⟩
  | .hbm, ⟨4, _⟩ => ⟨S1x1024, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S1024x3072, .f32⟩
  | .hbm, ⟨23, _⟩ => ⟨S4x8192x3072, .f32⟩
  | .hbm, ⟨24, _⟩ => ⟨S4x8192x1024, .f32⟩
  | .hbm, ⟨25, _⟩ => ⟨S4x8192x8x2x64, .f32⟩
  | .hbm, ⟨26, _⟩ => ⟨S4x8192x1024, .f32⟩
  | .hbm, ⟨27, _⟩ => ⟨S4x8192x8x2x64, .f32⟩
  | .hbm, ⟨28, _⟩ => ⟨S4x8192x1024, .f32⟩
  | .hbm, ⟨29, _⟩ => ⟨S4x8192x8x128, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S8192, .f32⟩
  | .hbm, ⟨41, _⟩ => ⟨S8192x1, .f32⟩
  | .hbm, ⟨42, _⟩ => ⟨S1x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S8192x1x1x32, .f32⟩
  | .hbm, ⟨48, _⟩ => ⟨S8192x32, .f32⟩
  | .hbm, ⟨49, _⟩ => ⟨S8192x1x1x32, .f32⟩
  | .hbm, ⟨50, _⟩ => ⟨S4x8192x8x2x32, .f32⟩
  | .hbm, ⟨51, _⟩ => ⟨S4x8192x8x2x32, .f32⟩
  | .hbm, ⟨52, _⟩ => ⟨S1x8192x1x1x32, .f32⟩
  | .hbm, ⟨53, _⟩ => ⟨S4x8192x8x2x32, .f32⟩
  | .hbm, ⟨54, _⟩ => ⟨S4x8192x8x2x32, .f32⟩
  | .hbm, ⟨55, _⟩ => ⟨S1x8192x1x1x32, .f32⟩
  | .hbm, ⟨56, _⟩ => ⟨S4x8192x8x2x32, .f32⟩
  | .hbm, ⟨57, _⟩ => ⟨S4x8192x8x2x32, .f32⟩
  | .hbm, ⟨58, _⟩ => ⟨S4x8192x8x2x32, .f32⟩
  | .hbm, ⟨59, _⟩ => ⟨S1x8192x1x1x32, .f32⟩
  | .hbm, ⟨60, _⟩ => ⟨S4x8192x8x2x32, .f32⟩
  | .hbm, ⟨61, _⟩ => ⟨S4x8192x8x2x32, .f32⟩
  | .hbm, ⟨62, _⟩ => ⟨S1x8192x1x1x32, .f32⟩
  | .hbm, ⟨63, _⟩ => ⟨S4x8192x8x2x32, .f32⟩
  | .hbm, ⟨64, _⟩ => ⟨S4x8192x8x2x32, .f32⟩
  | .hbm, ⟨65, _⟩ => ⟨S4x8192x8x2x32, .f32⟩
  | .hbm, ⟨66, _⟩ => ⟨S4x8192x8x2x64, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S8192, .f32⟩
  | .hbm, ⟨78, _⟩ => ⟨S8192x1, .f32⟩
  | .hbm, ⟨79, _⟩ => ⟨S1x32, .f32⟩
  | .hbm, ⟨80, _⟩ => ⟨S8192x32, .f32⟩
  | .hbm, ⟨81, _⟩ => ⟨S8192x32, .f32⟩
  | .hbm, ⟨82, _⟩ => ⟨S8192x32, .f32⟩
  | .hbm, ⟨83, _⟩ => ⟨S8192x32, .f32⟩
  | .hbm, ⟨84, _⟩ => ⟨S8192x1x1x32, .f32⟩
  | .hbm, ⟨85, _⟩ => ⟨S8192x32, .f32⟩
  | .hbm, ⟨86, _⟩ => ⟨S8192x1x1x32, .f32⟩
  | .hbm, ⟨87, _⟩ => ⟨S4x8192x8x2x32, .f32⟩
  | .hbm, ⟨88, _⟩ => ⟨S4x8192x8x2x32, .f32⟩
  | .hbm, ⟨89, _⟩ => ⟨S1x8192x1x1x32, .f32⟩
  | .hbm, ⟨90, _⟩ => ⟨S4x8192x8x2x32, .f32⟩
  | .hbm, ⟨91, _⟩ => ⟨S4x8192x8x2x32, .f32⟩
  | .hbm, ⟨92, _⟩ => ⟨S1x8192x1x1x32, .f32⟩
  | .hbm, ⟨93, _⟩ => ⟨S4x8192x8x2x32, .f32⟩
  | .hbm, ⟨94, _⟩ => ⟨S4x8192x8x2x32, .f32⟩
  | .hbm, ⟨95, _⟩ => ⟨S4x8192x8x2x32, .f32⟩
  | .hbm, ⟨96, _⟩ => ⟨S1x8192x1x1x32, .f32⟩
  | .hbm, ⟨97, _⟩ => ⟨S4x8192x8x2x32, .f32⟩
  | .hbm, ⟨98, _⟩ => ⟨S4x8192x8x2x32, .f32⟩
  | .hbm, ⟨99, _⟩ => ⟨S1x8192x1x1x32, .f32⟩
  | .hbm, ⟨100, _⟩ => ⟨S4x8192x8x2x32, .f32⟩
  | .hbm, ⟨101, _⟩ => ⟨S4x8192x8x2x32, .f32⟩
  | .hbm, ⟨102, _⟩ => ⟨S4x8192x8x2x32, .f32⟩
  | .hbm, ⟨103, _⟩ => ⟨S4x8192x8x2x64, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S4x8192x8x2x64, .f32⟩
  | .hbm, ⟨109, _⟩ => ⟨S4x8192x8x2x64, .f32⟩
  | .hbm, ⟨110, _⟩ => ⟨S4x8192x8x2x64, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_cst_6 : Ref sig .tc := ⟨.hbm, 71, rfl⟩
abbrev main_v61 : Ref sig .tc := ⟨.hbm, 72, rfl⟩
abbrev main_v62 : Ref sig .tc := ⟨.hbm, 73, rfl⟩
abbrev main_cst_7 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_8 : Ref sig .tc := ⟨.hbm, 104, rfl⟩
abbrev main_v92 : Ref sig .tc := ⟨.hbm, 105, rfl⟩
abbrev main_cst_9 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩

abbrev nD : Nat := 1
abbrev τ : Topo := Topo.v7x

variable {F : FTy → Type} [FloatOps F]
-- ==== Proof.Ret.lean ====
/- Programs that read what they own and return one value: composition of such runs. -/
module

public import Idealize.ShloMosaic.Lib.Exec
public import Idealize.ShloMosaic.Lib.Tactic
public import Idealize.ShloMosaic.Lib.Pipeline.Kit

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {M : Type} [URA M] {Mask : Type} {Ef : Type → Type}
variable (Fr : Mask → sProp M) (W : Mask → ∀ ⦃β : Type⦄, Ef β → sWPT M β)
  [∀ (E : Mask) ⦃β : Type⦄ (e : Ef β), sWPT.Frameable (W E e)]

/-- The program `p`, run from the resources `O`, gives `O` back and returns `v`. -/
def Ret (O : sProp M) {α : Type} (p : Prog Ef α) (v : α) : Prop :=
  ∀ (E : Mask) (Q : α → sProp M), iprop(O ∗ (O -∗ Q v)) ⊢ wp Fr W E p Q

variable {Fr W}

/-- A returned value is returned. -/
theorem Ret.pure {O : sProp M} {α : Type} (v : α) : Ret Fr W O (Pure.pure v : Prog Ef α) v := by
  intro E Q
  iintro ⟨HO, HK⟩
  iapply (le_wp_ret Fr W E)
  iapply HK
  iexact HO

/-- Two runs in sequence. -/
theorem Ret.bind {O : sProp M} {α β : Type} {p : Prog Ef α} {k : α → Prog Ef β} {v : α} {w : β}
    (hp : Ret Fr W O p v) (hk : Ret Fr W O (k v) w) : Ret Fr W O (p >>= k) w := by
  intro E Q
  rw [wp_bind]
  iintro ⟨HO, HK⟩
  iapply (hp E (fun a => wp Fr W E (k a) Q))
  isplitl [HO]
  · iexact HO
  · iintro HO
    iapply (hk E Q)
    isplitl [HO]
    · iexact HO
    · iexact HK

/-- A conditional of two runs. -/
theorem Ret.ite {O : sProp M} {α : Type} {C : Prop} [Decidable C] {p q : Prog Ef α} {v w : α}
    (hp : Ret Fr W O p v) (hq : Ret Fr W O q w) : Ret Fr W O (if C then p else q) (if C then v else w) := by
  split
  · exact hp
  · exact hq

/-- A conditional whose condition holds. -/
theorem Ret.ite_pos {O : sProp M} {α : Type} {C : Prop} [Decidable C] {p q : Prog Ef α} {v : α} (h : C)
    (hp : Ret Fr W O p v) : Ret Fr W O (if C then p else q) v := by
  rw [if_pos h]; exact hp

/-- A conditional whose condition fails. -/
theorem Ret.ite_neg {O : sProp M} {α : Type} {C : Prop} [Decidable C] {p q : Prog Ef α} {v : α} (h : ¬C)
    (hq : Ret Fr W O q v) : Ret Fr W O (if C then p else q) v := by
  rw [if_neg h]; exact hq

/-- A returned value, by an equal one. -/
theorem Ret.pure_of_eq {O : sProp M} {α : Type} {v w : α} (h : v = w) : Ret Fr W O (Pure.pure v : Prog Ef α) w := by
  subst h; exact Ret.pure v

theorem Ret.forFrom {O : sProp M} {n : Nat} {σ : Type} (body : Fin n → σ → Prog Ef σ) (g : Fin n → σ → σ)
    (h : ∀ k acc, Ret Fr W O (body k acc) (g k acc)) :
    ∀ (ks : List (Fin n)) (acc : σ), Ret Fr W O (Scf.forFrom body ks acc) (ks.foldl (fun acc k => g k acc) acc)
  | [], acc => Ret.pure acc
  | k :: ks, acc => by
    rw [Scf.forFrom_cons, List.foldl_cons]
    exact Ret.bind (h k acc) (Ret.forFrom body g h ks _)

/-- A counted loop whose trips are such runs folds their results. -/
theorem Ret.loop {O : sProp M} {w : Nat} {σ : Type} (l : Scf.Loop w) (hok : l.OK) (init : σ)
    (body : Fin l.trips → σ → Prog Ef σ) (g : Fin l.trips → σ → σ)
    (h : ∀ k acc, Ret Fr W O (body k acc) (g k acc)) :
    Ret Fr W O (Scf.Loop.for l hok init body) (Scf.fold g init) := by
  change Ret Fr W O (Scf.for l.lb l.ub l.st hok init body) _
  rw [Scf.fold_eq, Scf.for_eq]
  exact Ret.forFrom body g h _ init

/-- A counted loop of no trips returns what it starts from. -/
theorem Ret.loop_none {O : sProp M} {w : Nat} {σ : Type} (l : Scf.Loop w) (hok : l.OK) (init : σ)
    (body : Fin l.trips → σ → Prog Ef σ) (h : l.trips = 0) :
    Ret Fr W O (Scf.Loop.for l hok init body) init := by
  have key : ∀ (n : Nat) (hn : n = 0) (b : Fin n → σ → Prog Ef σ),
      Ret Fr W O (Scf.forFrom b (List.finRange n) init) init := by
    intro n hn b; subst hn; exact Ret.pure init
  change Ret Fr W O (Scf.for l.lb l.ub l.st hok init body) _
  rw [Scf.for_eq]
  exact key _ h body

/-- A fact of the state before each trip of a fold, kept by every trip, holds after the last. -/
theorem fold_inv {n : Nat} {σ : Type} (g : Fin n → σ → σ) (init : σ) (P : Nat → σ → Prop) (h0 : P 0 init)
    (hs : ∀ (k : Fin n) (acc : σ), P k.val acc → P (k.val + 1) (g k acc)) : P n (Scf.fold g init) := by
  rw [Scf.fold_eq]
  induction n with
  | zero => exact h0
  | succ n ih =>
    rw [List.finRange_succ_last, List.foldl_append, List.foldl_map]
    exact hs (Fin.last n) _ (ih (fun k acc => g k.castSucc acc) (fun k acc hk => hs k.castSucc acc hk))

end Cert.Attn

end
-- ==== Proof.KernelIdealParts.lean ====
/- What each part of the attention body returns, as a function of the blocks that it reads and of its arguments. -/
module

public import proofs.«01_k».proof.Proof.Gen.KernelIdeal.Skeleton
public import Idealize.ShloMosaic.Lib.Pipeline.FrameBody

@[expose] public section

set_option maxRecDepth 16384

noncomputable section

namespace Cert.KernelIdeal.Body

open Idealize.ShloMosaic Cert.KernelIdeal Cert.KernelIdeal.Gen

variable {F : FTy → Type} [FloatOps F] [Named F]

/-- The value `v`, passed on to `g`. -/
def next {α β : Type} (v : α) (g : α → β) : β := g v

/-- The five blocks that the body finds in its input buffers. -/
structure Blocks (F : FTy → Type) where
  x3 : Vec F S1x128x2048 .bf16
  x4 : Vec F S1x8192x128 .bf16
  x5 : Vec F S1x128x8192 .bf16
  x6 : Vec F S4x64 .f32
  x7 : Vec F S128x1 .f32

/-- What the body's part1 returns. -/
@[irreducible] def part1 (i : grid0.Coords) (X : Blocks F) (v30 : FVec F S128x2048 .bf16) (v34 : FVec F S128x2048 .bf16) (c0_i32_27 : BitVec 32) (c1_i32_29 : BitVec 32) (k0_t1 : Fin (k0_t1_loop i).trips) (arg10 : FVec F S1x2048 .f32) (arg11 : FVec F S144x2048 .f32) (arg12 : FVec F S1x2048 .f32) :
    (Σ' (v655 : BitVec 32) (v668 : FVec F S1x2048 .f32) (v677 : FVec F S512x2048 .f32) (v680 : FVec F S1x2048 .f32) (v684 : FVec F S512x2048 .bf16), FVec F S144x2048 .f32) :=
  let arg9 : BitVec 32 := Scf.iv c0_i32_27 c1_i32_29 k0_t1
  let v654 : BitVec 32 := Scalar.muli arg9 2048#32
  let v655 : BitVec 32 := v654
  let v658 : Vec F S1x512x128 .bf16 := View.ld X.x4 (Rect.unit (s := S1x8192x128) (k0_off1 i k0_t1 0#32) S1x512x128.size (k0_off1_inb i k0_t1 0))
  let v663 : Vec F S1x512x128 .bf16 := View.ld X.x4 (Rect.unit (s := S1x8192x128) (k0_off1 i k0_t1 0#32) S1x512x128.size (k0_off1_inb i k0_t1 0))
  let v675 : Vec F S1x512x128 .bf16 := View.ld X.x4 (Rect.unit (s := S1x8192x128) (k0_off1 i k0_t1 512#32) S1x512x128.size (k0_off1_inb i k0_t1 1))
  let v687 : Vec F S1x128x512 .bf16 := View.ld X.x5 (Rect.unit (s := S1x128x8192) (k0_off2 i k0_t1 0#32) S1x128x512.size (k0_off2_inb i k0_t1 0))
  ⟨v655, k0_pay4 v30 arg10 v658, k0_pay5 v30 v675, k0_pay6 v34 arg12 v663, k0_pay7 v34 arg12 v663, k0_pay8 v30 arg10 arg11 v658 v687⟩

/-- What the body's part2 returns. -/
@[irreducible] def part2 (i : grid0.Coords) (X : Blocks F) (v30 : FVec F S128x2048 .bf16) (v34 : FVec F S128x2048 .bf16) (k0_t1 : Fin (k0_t1_loop i).trips) (arg10 : FVec F S1x2048 .f32) (arg12 : FVec F S1x2048 .f32) (arg13 : FVec F S144x2048 .f32) (v655 : BitVec 32) (v668 : FVec F S1x2048 .f32) (v677 : FVec F S512x2048 .f32) (v680 : FVec F S1x2048 .f32) (v684 : FVec F S512x2048 .bf16) (v692 : FVec F S144x2048 .f32) :
    (Σ' (v700 : FVec F S1x2048 .f32) (v712 : FVec F S144x2048 .f32) (v717 : FVec F S512x2048 .f32) (v720 : FVec F S1x2048 .f32) (v724 : FVec F S512x2048 .bf16), FVec F S144x2048 .f32) :=
  let v695 : Vec F S1x512x128 .bf16 := View.ld X.x4 (Rect.unit (s := S1x8192x128) (k0_off1 i k0_t1 512#32) S1x512x128.size (k0_off1_inb i k0_t1 1))
  let v707 : Vec F S1x128x512 .bf16 := View.ld X.x5 (Rect.unit (s := S1x128x8192) (k0_off2 i k0_t1 0#32) S1x128x512.size (k0_off2_inb i k0_t1 0))
  let v715 : Vec F S1x512x128 .bf16 := View.ld X.x4 (Rect.unit (s := S1x8192x128) (k0_off1 i k0_t1 1024#32) S1x512x128.size (k0_off1_inb i k0_t1 2))
  let v727 : Vec F S1x128x512 .bf16 := View.ld X.x5 (Rect.unit (s := S1x128x8192) (k0_off2 i k0_t1 512#32) S1x128x512.size (k0_off2_inb i k0_t1 1))
  ⟨k0_pay10 v668 v677, k0_pay11 arg13 v684 v707, k0_pay12 v30 v715, k0_pay13 v34 v680 v695, k0_pay14 v34 arg12 v695, k0_pay15 arg10 v677 v692 v727⟩

/-- What the body's part3 returns. -/
@[irreducible] def part3 (i : grid0.Coords) (X : Blocks F) (v30 : FVec F S128x2048 .bf16) (v34 : FVec F S128x2048 .bf16) (k0_t1 : Fin (k0_t1_loop i).trips) (arg10 : FVec F S1x2048 .f32) (arg12 : FVec F S1x2048 .f32) (v655 : BitVec 32) (v700 : FVec F S1x2048 .f32) (v712 : FVec F S144x2048 .f32) (v717 : FVec F S512x2048 .f32) (v720 : FVec F S1x2048 .f32) (v724 : FVec F S512x2048 .bf16) (v732 : FVec F S144x2048 .f32) :
    (Σ' (v740 : FVec F S1x2048 .f32) (v752 : FVec F S144x2048 .f32) (v757 : FVec F S512x2048 .f32) (v760 : FVec F S1x2048 .f32) (v764 : FVec F S512x2048 .bf16), FVec F S144x2048 .f32) :=
  let v735 : Vec F S1x512x128 .bf16 := View.ld X.x4 (Rect.unit (s := S1x8192x128) (k0_off1 i k0_t1 1024#32) S1x512x128.size (k0_off1_inb i k0_t1 2))
  let v747 : Vec F S1x128x512 .bf16 := View.ld X.x5 (Rect.unit (s := S1x128x8192) (k0_off2 i k0_t1 512#32) S1x128x512.size (k0_off2_inb i k0_t1 1))
  let v755 : Vec F S1x512x128 .bf16 := View.ld X.x4 (Rect.unit (s := S1x8192x128) (k0_off1 i k0_t1 1536#32) S1x512x128.size (k0_off1_inb i k0_t1 3))
  let v767 : Vec F S1x128x512 .bf16 := View.ld X.x5 (Rect.unit (s := S1x128x8192) (k0_off2 i k0_t1 1024#32) S1x128x512.size (k0_off2_inb i k0_t1 2))
  ⟨k0_pay17 v700 v717, k0_pay18 v712 v724 v747, k0_pay19 v30 v755, k0_pay20 v34 v720 v735, k0_pay21 v34 arg12 v735, k0_pay22 arg10 v717 v732 v767⟩

/-- What the body's part4 returns. -/
@[irreducible] def part4 (i : grid0.Coords) (X : Blocks F) (v34 : FVec F S128x2048 .bf16) (k0_t1 : Fin (k0_t1_loop i).trips) (arg10 : FVec F S1x2048 .f32) (arg12 : FVec F S1x2048 .f32) (v655 : BitVec 32) (v740 : FVec F S1x2048 .f32) (v752 : FVec F S144x2048 .f32) (v757 : FVec F S512x2048 .f32) (v760 : FVec F S1x2048 .f32) (v764 : FVec F S512x2048 .bf16) (v772 : FVec F S144x2048 .f32) :
    (Σ' (v780 : FVec F S1x2048 .f32) (v792 : FVec F S144x2048 .f32) (v795 : FVec F S1x2048 .f32) (v799 : FVec F S512x2048 .bf16) (v807 : FVec F S144x2048 .f32) (v811 : FVec F S128x512 .bf16), FVec F S16x512 .bf16) :=
  let v775 : Vec F S1x512x128 .bf16 := View.ld X.x4 (Rect.unit (s := S1x8192x128) (k0_off1 i k0_t1 1536#32) S1x512x128.size (k0_off1_inb i k0_t1 3))
  let v787 : Vec F S1x128x512 .bf16 := View.ld X.x5 (Rect.unit (s := S1x128x8192) (k0_off2 i k0_t1 1024#32) S1x128x512.size (k0_off2_inb i k0_t1 2))
  let v802 : Vec F S1x128x512 .bf16 := View.ld X.x5 (Rect.unit (s := S1x128x8192) (k0_off2 i k0_t1 1536#32) S1x128x512.size (k0_off2_inb i k0_t1 3))
  let v810 : Vec F S1x128x512 .bf16 := View.ld X.x5 (Rect.unit (s := S1x128x8192) (k0_off2 i k0_t1 1536#32) S1x128x512.size (k0_off2_inb i k0_t1 3))
  ⟨k0_pay24 v740 v757, k0_pay25 v752 v764 v787, k0_pay26 v34 v760 v775, k0_pay27 v34 arg12 v775, k0_pay28 arg10 v757 v772 v802, k0_pay29 v810, k0_pay30 (F := F)⟩

/-- What the body's part9 returns. -/
@[irreducible] def part9 (i : grid0.Coords) (X : Blocks F) (v30 : FVec F S128x2048 .bf16) (v34 : FVec F S128x2048 .bf16) (c0_i32_236 : BitVec 32) (c1_i32_238 : BitVec 32) (k0_t3 : Fin (k0_t3_loop i).trips) (arg10 : FVec F S1x2048 .f32) (arg12 : FVec F S1x2048 .f32) :
    (Σ' (v1264 : BitVec 32) (v1277 : FVec F S1x2048 .f32) (v1279 : FVec F S1x2048 .f32) (v1283 : FVec F S512x2048 .bf16) (v1288 : FVec F S512x2048 .f32) (v1291 : FVec F S1x2048 .f32) (v1293 : FVec F S1x2048 .f32) (v1297 : FVec F S512x2048 .bf16) (v1301 : FVec F S128x512 .bf16), FVec F S16x512 .bf16) :=
  let arg9 : BitVec 32 := Scf.iv c0_i32_236 c1_i32_238 k0_t3
  let v1263 : BitVec 32 := Scalar.muli arg9 2048#32
  let v1264 : BitVec 32 := v1263
  let v1267 : Vec F S1x512x128 .bf16 := View.ld X.x4 (Rect.unit (s := S1x8192x128) (k0_off7 i k0_t3 0#32) S1x512x128.size (k0_off7_inb i k0_t3 0))
  let v1272 : Vec F S1x512x128 .bf16 := View.ld X.x4 (Rect.unit (s := S1x8192x128) (k0_off7 i k0_t3 0#32) S1x512x128.size (k0_off7_inb i k0_t3 0))
  let v1286 : Vec F S1x512x128 .bf16 := View.ld X.x4 (Rect.unit (s := S1x8192x128) (k0_off7 i k0_t3 512#32) S1x512x128.size (k0_off7_inb i k0_t3 1))
  let v1300 : Vec F S1x128x512 .bf16 := View.ld X.x5 (Rect.unit (s := S1x128x8192) (k0_off8 i k0_t3 0#32) S1x128x512.size (k0_off8_inb i k0_t3 0))
  ⟨v1264, k0_pay62 v30 arg10 v1267, k0_pay63 v30 arg10 v1267, k0_pay64 v30 arg10 v1267, k0_pay65 v30 v1286, k0_pay66 v34 arg12 v1272, k0_pay67 v34 arg12 v1272, k0_pay68 v34 arg12 v1272, k0_pay69 v1300, k0_pay70 (F := F)⟩

/-- What the body's part10 returns. -/
@[irreducible] def part10 (i : grid0.Coords) (X : Blocks F) (v30 : FVec F S128x2048 .bf16) (v34 : FVec F S128x2048 .bf16) (k0_t3 : Fin (k0_t3_loop i).trips) (arg11 : FVec F S144x2048 .f32) (arg13 : FVec F S144x2048 .f32) (v1264 : BitVec 32) (v1277 : FVec F S1x2048 .f32) (v1279 : FVec F S1x2048 .f32) (v1283 : FVec F S512x2048 .bf16) (v1288 : FVec F S512x2048 .f32) (v1291 : FVec F S1x2048 .f32) (v1293 : FVec F S1x2048 .f32) (v1297 : FVec F S512x2048 .bf16) (v1301 : FVec F S128x512 .bf16) (v1302 : FVec F S16x512 .bf16) :
    (Σ' (v1307 : FVec F S144x2048 .f32) (v1315 : FVec F S1x2048 .f32) (v1317 : FVec F S1x2048 .f32) (v1321 : FVec F S512x2048 .bf16) (v1331 : FVec F S144x2048 .f32) (v1336 : FVec F S512x2048 .f32) (v1339 : FVec F S1x2048 .f32) (v1341 : FVec F S1x2048 .f32) (v1345 : FVec F S512x2048 .bf16), BitVec 32) :=
  let v1310 : Vec F S1x512x128 .bf16 := View.ld X.x4 (Rect.unit (s := S1x8192x128) (k0_off7 i k0_t3 512#32) S1x512x128.size (k0_off7_inb i k0_t3 1))
  let v1324 : Vec F S1x128x512 .bf16 := View.ld X.x5 (Rect.unit (s := S1x128x8192) (k0_off8 i k0_t3 0#32) S1x128x512.size (k0_off8_inb i k0_t3 0))
  let v1334 : Vec F S1x512x128 .bf16 := View.ld X.x4 (Rect.unit (s := S1x8192x128) (k0_off7 i k0_t3 1024#32) S1x512x128.size (k0_off7_inb i k0_t3 2))
  ⟨k0_pay71 arg11 v1279 v1283 v1301 v1302, k0_pay73 v1277 v1288, k0_pay74 v1277 v1288, k0_pay75 v1277 v1288, k0_pay76 arg13 v1293 v1297 v1324, k0_pay77 v30 v1334, k0_pay78 v34 v1291 v1310, k0_pay79 v34 v1291 v1310, k0_pay80 v34 v1291 v1310, 512#32⟩

/-- What the body's part11 returns. -/
@[irreducible] def part11 (i : grid0.Coords) (X : Blocks F) (v30 : FVec F S128x2048 .bf16) (v34 : FVec F S128x2048 .bf16) (k0_t3 : Fin (k0_t3_loop i).trips) (v1264 : BitVec 32) (v1307 : FVec F S144x2048 .f32) (v1315 : FVec F S1x2048 .f32) (v1317 : FVec F S1x2048 .f32) (v1321 : FVec F S512x2048 .bf16) (v1331 : FVec F S144x2048 .f32) (v1336 : FVec F S512x2048 .f32) (v1341 : FVec F S1x2048 .f32) (v1345 : FVec F S512x2048 .bf16) (c512_i32_452 : BitVec 32) :
    (Σ' (v1355 : FVec F S144x2048 .f32) (v1360 : FVec F S512x2048 .f32) (v1363 : FVec F S1x2048 .f32) (v1365 : FVec F S1x2048 .f32) (v1369 : FVec F S512x2048 .bf16) (v1379 : FVec F S144x2048 .f32) (v1384 : FVec F S512x2048 .f32), FVec F S1x2048 .f32) :=
  let v1348 : Vec F S1x128x512 .bf16 := View.ld X.x5 (Rect.unit (s := S1x128x8192) (k0_off8 i k0_t3 512#32) S1x128x512.size (k0_off8_inb i k0_t3 1))
  let v1358 : Vec F S1x512x128 .bf16 := View.ld X.x4 (Rect.unit (s := S1x8192x128) (k0_off7 i k0_t3 1024#32) S1x512x128.size (k0_off7_inb i k0_t3 2))
  let v1372 : Vec F S1x128x512 .bf16 := View.ld X.x5 (Rect.unit (s := S1x128x8192) (k0_off8 i k0_t3 512#32) S1x128x512.size (k0_off8_inb i k0_t3 1))
  let v1382 : Vec F S1x512x128 .bf16 := View.ld X.x4 (Rect.unit (s := S1x8192x128) (k0_off7 i k0_t3 1536#32) S1x512x128.size (k0_off7_inb i k0_t3 3))
  ⟨k0_pay81 v1307 v1317 v1321 v1348, k0_pay82 v34 v1358, k0_pay83 v1315 v1336, k0_pay84 v1315 v1336, k0_pay85 v1315 v1336, k0_pay86 v1331 v1341 v1345 v1372, k0_pay87 v30 v1382, k0_pay88 v34 v1358⟩

/-- What the body's part12 returns. -/
@[irreducible] def part12 (i : grid0.Coords) (X : Blocks F) (v34 : FVec F S128x2048 .bf16) (k0_t3 : Fin (k0_t3_loop i).trips) (v1264 : BitVec 32) (v1339 : FVec F S1x2048 .f32) (v1355 : FVec F S144x2048 .f32) (v1360 : FVec F S512x2048 .f32) (v1363 : FVec F S1x2048 .f32) (v1365 : FVec F S1x2048 .f32) (v1369 : FVec F S512x2048 .bf16) (v1379 : FVec F S144x2048 .f32) (v1384 : FVec F S512x2048 .f32) (v1386 : FVec F S1x2048 .f32) :
    (Σ' (v1387 : FVec F S1x2048 .f32) (v1403 : FVec F S144x2048 .f32) (v1408 : FVec F S512x2048 .f32) (v1411 : FVec F S1x2048 .f32) (v1413 : FVec F S1x2048 .f32) (v1417 : FVec F S512x2048 .bf16) (v1427 : FVec F S144x2048 .f32), FVec F S1x2048 .f32) :=
  let v1396 : Vec F S1x128x512 .bf16 := View.ld X.x5 (Rect.unit (s := S1x128x8192) (k0_off8 i k0_t3 1024#32) S1x128x512.size (k0_off8_inb i k0_t3 2))
  let v1406 : Vec F S1x512x128 .bf16 := View.ld X.x4 (Rect.unit (s := S1x8192x128) (k0_off7 i k0_t3 1536#32) S1x512x128.size (k0_off7_inb i k0_t3 3))
  let v1420 : Vec F S1x128x512 .bf16 := View.ld X.x5 (Rect.unit (s := S1x128x8192) (k0_off8 i k0_t3 1024#32) S1x128x512.size (k0_off8_inb i k0_t3 2))
  ⟨k0_pay89 v1339 v1386, k0_pay90 v1355 v1365 v1369 v1396, k0_pay91 v34 v1406, k0_pay92 v1363 v1384, k0_pay93 v1363 v1384, k0_pay94 v1363 v1384, k0_pay95 v1339 v1360 v1379 v1386 v1420, k0_pay96 v34 v1339 v1386 v1406⟩

/-- What one trip of the body's loop 3 returns. -/
def trip3 (i : grid0.Coords) (X : Blocks F) (arg2 : BitVec 32) (v30 : FVec F S128x2048 .bf16) (v34 : FVec F S128x2048 .bf16) :
    Fin (k0_t3_loop i).trips → FVec F S1x2048 .f32 × FVec F S144x2048 .f32 × FVec F S1x2048 .f32 × FVec F S144x2048 .f32 → (FVec F S1x2048 .f32 × FVec F S144x2048 .f32 × FVec F S1x2048 .f32 × FVec F S144x2048 .f32) :=
  fun k0_t3 acc =>
    next (part9 (F := F) i X v30 v34 0#32 1#32 k0_t3 acc.1 acc.2.2.1) fun p9 =>
    next (part10 (F := F) i X v30 v34 k0_t3 acc.2.1 acc.2.2.2 p9.1 p9.2.1 p9.2.2.1 p9.2.2.2.1 p9.2.2.2.2.1 p9.2.2.2.2.2.1 p9.2.2.2.2.2.2.1 p9.2.2.2.2.2.2.2.1 p9.2.2.2.2.2.2.2.2.1 p9.2.2.2.2.2.2.2.2.2) fun p10 =>
    next (part11 (F := F) i X v30 v34 k0_t3 p9.1 p10.1 p10.2.1 p10.2.2.1 p10.2.2.2.1 p10.2.2.2.2.1 p10.2.2.2.2.2.1 p10.2.2.2.2.2.2.2.1 p10.2.2.2.2.2.2.2.2.1 p10.2.2.2.2.2.2.2.2.2) fun p11 =>
    next (part12 (F := F) i X v34 k0_t3 p9.1 p10.2.2.2.2.2.2.1 p11.1 p11.2.1 p11.2.2.1 p11.2.2.2.1 p11.2.2.2.2.1 p11.2.2.2.2.2.1 p11.2.2.2.2.2.2.1 p11.2.2.2.2.2.2.2) fun p12 =>
    next (View.ld X.x5 (Rect.unit (s := S1x128x8192) (k0_off8 i k0_t3 1536#32) S1x128x512.size (k0_off8_inb i k0_t3 3))) fun v1439 =>
    next (View.ld X.x5 (Rect.unit (s := S1x128x8192) (k0_off8 i k0_t3 1536#32) S1x128x512.size (k0_off8_inb i k0_t3 3))) fun v1449 =>
    (p12.2.2.2.1, k0_pay138 p12.2.1 p12.2.2.2.2.1 p12.2.2.2.2.2.1 v1439, p12.2.2.2.2.2.2.2, k0_pay139 p12.1 p12.2.2.1 p12.2.2.2.2.2.2.1 p12.2.2.2.2.2.2.2 v1449)

/-- What the body's part17 returns. -/
@[irreducible] def part17 (i : grid0.Coords) (X : Blocks F) (arg2 : BitVec 32) (v30 : FVec F S128x2048 .bf16) (v34 : FVec F S128x2048 .bf16) :
    (Σ' (v688_0 : FVec F S1x2048 .f32) (v688_1 : FVec F S144x2048 .f32) (v688_2 : FVec F S1x2048 .f32) (v688_3 : FVec F S144x2048 .f32), BitVec 32) :=
  let v654 : Vec F S1x8x128 .bf16 := View.ld X.x4 (Rect.unit (s := S1x8192x128) ![0, 0, 0] S1x8x128.size inb_S1x8192x128_S1x8x128_0_0_0)
  let v659 : Vec F S1x8x128 .bf16 := View.ld X.x4 (Rect.unit (s := S1x8192x128) ![0, 0, 0] S1x8x128.size inb_S1x8192x128_S1x8x128_0_0_0)
  let v664 : BitVec 32 := Scalar.muli arg2 2048#32
  let v665 : BitVec 32 := Scalar.divsi v664 2048#32
  let v666 : BitVec 1 := Scalar.cmpi .sgt v664 0#32
  let v667 : BitVec 32 := Scalar.extui v666
  let v668 : BitVec 1 := Scalar.cmpi .slt v664 0#32
  let v669 : BitVec 32 := Scalar.extui v668
  let v670 : BitVec 32 := Scalar.subi v667 v669
  let v671 : BitVec 1 := Scalar.cmpi .sgt 2048#32 0#32
  let v672 : BitVec 32 := Scalar.extui v671
  let v673 : BitVec 1 := Scalar.cmpi .slt 2048#32 0#32
  let v674 : BitVec 32 := Scalar.extui v673
  let v675 : BitVec 32 := Scalar.subi v672 v674
  let v676 : BitVec 1 := Scalar.cmpi .ne v670 v675
  let v677 : BitVec 32 := Scalar.remsi v664 2048#32
  let v678 : BitVec 1 := Scalar.cmpi .ne v677 0#32
  let v679 : BitVec 1 := Scalar.andi v676 v678
  let v680 : BitVec 32 := Scalar.subi v665 1#32
  let v681 : BitVec 32 := Scalar.select v679 v680 v665
  let v682 : BitVec 32 := Scalar.subi v681 0#32
  let v684 : BitVec 32 := Scalar.divsi v682 1#32
  let v685 : BitVec 32 := Scalar.muli v684 1#32
  let v686 : BitVec 32 := Scalar.addi 0#32 v685
  let (v687_0, v687_1, v687_2, v687_3) := Scf.fold (trip3 (F := F) i X arg2 v30 v34) (k0_pay134 v30 v654, k0_pay135 (F := F), k0_pay136 v34 v659, k0_pay137 (F := F))
  let (v688_0, v688_1, v688_2, v688_3) := (v687_0, v687_1, v687_2, v687_3)
  let v689 : BitVec 32 := Scalar.muli arg2 2048#32
  let v690 : BitVec 32 := v689
  ⟨v688_0, v688_1, v688_2, v688_3, v690⟩

/-- What the body's part18 returns. -/
@[irreducible] def part18 (i : grid0.Coords) (X : Blocks F) (v30 : FVec F S128x2048 .bf16) (v34 : FVec F S128x2048 .bf16) (v688_0 : FVec F S1x2048 .f32) (v688_2 : FVec F S1x2048 .f32) (v690 : BitVec 32) :
    (Σ' (v710 : FVec F S256x2048 .f32) (v713 : FVec F S1x2048 .f32) (v715 : FVec F S1x2048 .f32) (v719 : FVec F S256x2048 .bf16) (v730 : FVec F S256x1792 .f32), FVec F S1x2048 .f32) :=
  let v693 : Vec F S1x256x128 .bf16 := View.ld X.x4 (Rect.unit (s := S1x8192x128) (k0_off11 i 0#32) S1x256x128.size (k0_off11_inb i 0))
  let v703 : Vec F S1x256x128 .bf16 := View.ld X.x4 (Rect.unit (s := S1x8192x128) (k0_off11 i 0#32) S1x256x128.size (k0_off11_inb i 0))
  let v722 : Vec F S1x256x128 .bf16 := View.ld X.x4 (Rect.unit (s := S1x8192x128) (k0_off11 i 256#32) S1x256x128.size (k0_off11_inb i 1))
  ⟨k0_pay143 v34 v703, k0_pay144 v30 v688_0 v693, k0_pay145 v30 v688_0 v693, k0_pay146 v30 v688_0 v693, k0_pay147 v30 v722, k0_pay148 v34 v688_2 v703⟩

/-- What the body's part19 returns. -/
@[irreducible] def part19 (i : grid0.Coords) (X : Blocks F) (v34 : FVec F S128x2048 .bf16) (v688_1 : FVec F S144x2048 .f32) (v688_2 : FVec F S1x2048 .f32) (v690 : BitVec 32) (v710 : FVec F S256x2048 .f32) (v713 : FVec F S1x2048 .f32) (v715 : FVec F S1x2048 .f32) (v719 : FVec F S256x2048 .bf16) (v730 : FVec F S256x1792 .f32) (v733 : FVec F S1x2048 .f32) :
    (Σ' (v735 : FVec F S1x2048 .f32) (v739 : FVec F S256x2048 .bf16) (v749 : FVec F S144x2048 .f32) (v760 : FVec F S256x1792 .f32) (v766 : FVec F S1x2048 .f32) (v769 : FVec F S1x1792 .f32) (v773 : FVec F S256x1792 .bf16) (v777 : FVec F S128x256 .bf16), FVec F S16x256 .bf16) :=
  let v742 : Vec F S1x128x256 .bf16 := View.ld X.x5 (Rect.unit (s := S1x128x8192) (k0_off12 i 0#32) S1x128x256.size (k0_off12_inb i 0))
  let v752 : Vec F S1x256x128 .bf16 := View.ld X.x4 (Rect.unit (s := S1x8192x128) (k0_off11 i 256#32) S1x256x128.size (k0_off11_inb i 1))
  let v776 : Vec F S1x128x256 .bf16 := View.ld X.x5 (Rect.unit (s := S1x128x8192) (k0_off12 i 0#32) S1x128x256.size (k0_off12_inb i 0))
  ⟨k0_pay149 v688_2 v733, k0_pay150 v710 v733, k0_pay151 v688_1 v715 v719 v742, k0_pay152 v34 v752, k0_pay154 v713 v730, k0_pay155 v713 v730, k0_pay156 v713 v730, k0_pay157 v776, k0_pay158 (F := F)⟩

/-- What the body's part20 returns. -/
@[irreducible] def part20 (i : grid0.Coords) (X : Blocks F) (v30 : FVec F S128x2048 .bf16) (v688_3 : FVec F S144x2048 .f32) (v690 : BitVec 32) (v733 : FVec F S1x2048 .f32) (v735 : FVec F S1x2048 .f32) (v739 : FVec F S256x2048 .bf16) (v749 : FVec F S144x2048 .f32) (v760 : FVec F S256x1792 .f32) (v769 : FVec F S1x1792 .f32) (v773 : FVec F S256x1792 .bf16) (v777 : FVec F S128x256 .bf16) (v778 : FVec F S16x256 .bf16) :
    (Σ' (v783 : FVec F S144x2048 .f32) (v794 : FVec F S256x1536 .f32) (v800 : FVec F S1x2048 .f32) (v803 : FVec F S1x1792 .f32) (v807 : FVec F S256x1792 .bf16) (v820 : FVec F S144x2048 .f32), Vec F S1x256x128 .bf16) :=
  let v786 : Vec F S1x256x128 .bf16 := View.ld X.x4 (Rect.unit (s := S1x8192x128) (k0_off11 i 512#32) S1x256x128.size (k0_off11_inb i 2))
  let v810 : Vec F S1x128x256 .bf16 := View.ld X.x5 (Rect.unit (s := S1x128x8192) (k0_off12 i 256#32) S1x128x256.size (k0_off12_inb i 1))
  let v823 : Vec F S1x256x128 .bf16 := View.ld X.x4 (Rect.unit (s := S1x8192x128) (k0_off11 i 512#32) S1x256x128.size (k0_off11_inb i 2))
  ⟨k0_pay159 v688_3 v735 v739 v777 v778, k0_pay160 v30 v786, k0_pay162 v733 v760, k0_pay163 v733 v760, k0_pay164 v733 v760, k0_pay165 v749 v769 v773 v810, v823⟩

/-- What the body's part21 returns. -/
@[irreducible] def part21 (i : grid0.Coords) (X : Blocks F) (v30 : FVec F S128x2048 .bf16) (v34 : FVec F S128x2048 .bf16) (v690 : BitVec 32) (v766 : FVec F S1x2048 .f32) (v783 : FVec F S144x2048 .f32) (v794 : FVec F S256x1536 .f32) (v803 : FVec F S1x1792 .f32) (v807 : FVec F S256x1792 .bf16) (v823 : Vec F S1x256x128 .bf16) :
    (Σ' (v831 : FVec F S256x1536 .f32) (v837 : FVec F S1x2048 .f32) (v840 : FVec F S1x1536 .f32) (v844 : FVec F S256x1536 .bf16) (v857 : FVec F S144x2048 .f32) (v868 : FVec F S256x1280 .f32), FVec F S1536 .f32) :=
  let v847 : Vec F S1x128x256 .bf16 := View.ld X.x5 (Rect.unit (s := S1x128x8192) (k0_off12 i 256#32) S1x128x256.size (k0_off12_inb i 1))
  let v860 : Vec F S1x256x128 .bf16 := View.ld X.x4 (Rect.unit (s := S1x8192x128) (k0_off11 i 768#32) S1x256x128.size (k0_off11_inb i 3))
  ⟨k0_pay166 v34 v823, k0_pay168 v766 v794, k0_pay169 v766 v794, k0_pay170 v766 v794, k0_pay171 v783 v803 v807 v847, k0_pay172 v30 v860, k0_pay173 v34 v823⟩

/-- What the body's part22 returns. -/
@[irreducible] def part22 (i : grid0.Coords) (X : Blocks F) (v34 : FVec F S128x2048 .bf16) (v690 : BitVec 32) (v800 : FVec F S1x2048 .f32) (v820 : FVec F S144x2048 .f32) (v831 : FVec F S256x1536 .f32) (v837 : FVec F S1x2048 .f32) (v840 : FVec F S1x1536 .f32) (v844 : FVec F S256x1536 .bf16) (v868 : FVec F S256x1280 .f32) (v869 : FVec F S1536 .f32) :
    (Σ' (v874 : FVec F S1x2048 .f32) (v877 : FVec F S1x1536 .f32) (v881 : FVec F S256x1536 .bf16) (v894 : FVec F S144x2048 .f32) (v905 : FVec F S256x1280 .f32) (v911 : FVec F S1x2048 .f32) (v914 : FVec F S1x1280 .f32), FVec F S256x1280 .bf16) :=
  let v884 : Vec F S1x128x256 .bf16 := View.ld X.x5 (Rect.unit (s := S1x128x8192) (k0_off12 i 512#32) S1x128x256.size (k0_off12_inb i 2))
  let v897 : Vec F S1x256x128 .bf16 := View.ld X.x4 (Rect.unit (s := S1x8192x128) (k0_off11 i 768#32) S1x256x128.size (k0_off11_inb i 3))
  ⟨k0_pay175 v800 v869, k0_pay176 v800 v869, k0_pay177 v800 v831 v869, k0_pay178 v820 v840 v844 v884, k0_pay179 v34 v897, k0_pay181 v837 v868, k0_pay182 v837 v868, k0_pay183 v837 v868⟩

/-- What the body's part23 returns. -/
@[irreducible] def part23 (i : grid0.Coords) (X : Blocks F) (v30 : FVec F S128x2048 .bf16) (v690 : BitVec 32) (v857 : FVec F S144x2048 .f32) (v874 : FVec F S1x2048 .f32) (v877 : FVec F S1x1536 .f32) (v881 : FVec F S256x1536 .bf16) (v894 : FVec F S144x2048 .f32) (v905 : FVec F S256x1280 .f32) (v914 : FVec F S1x1280 .f32) :
    (Σ' (v931 : FVec F S144x2048 .f32) (v942 : FVec F S256x1024 .f32) (v948 : FVec F S1x2048 .f32) (v951 : FVec F S1x1280 .f32) (v955 : FVec F S256x1280 .bf16) (v961 : FVec F S144x256 .bf16) (v962 : FVec F S144x1280 .f32), FVec F S144x1280 .f32) :=
  let v921 : Vec F S1x128x256 .bf16 := View.ld X.x5 (Rect.unit (s := S1x128x8192) (k0_off12 i 512#32) S1x128x256.size (k0_off12_inb i 2))
  let v934 : Vec F S1x256x128 .bf16 := View.ld X.x4 (Rect.unit (s := S1x8192x128) (k0_off11 i 1024#32) S1x256x128.size (k0_off11_inb i 4))
  let v958 : Vec F S1x128x256 .bf16 := View.ld X.x5 (Rect.unit (s := S1x128x8192) (k0_off12 i 768#32) S1x128x256.size (k0_off12_inb i 3))
  ⟨k0_pay184 v857 v877 v881 v921, k0_pay185 v30 v934, k0_pay187 v874 v905, k0_pay188 v874 v905, k0_pay189 v874 v905, k0_pay190 v958, k0_pay191 v894, k0_pay192 v914⟩

/-- What the body's part24 returns. -/
@[irreducible] def part24 (i : grid0.Coords) (X : Blocks F) (v34 : FVec F S128x2048 .bf16) (v690 : BitVec 32) (v894 : FVec F S144x2048 .f32) (v911 : FVec F S1x2048 .f32) (v918 : FVec F S256x1280 .bf16) (v931 : FVec F S144x2048 .f32) (v942 : FVec F S256x1024 .f32) (v951 : FVec F S1x1280 .f32) (v955 : FVec F S256x1280 .bf16) (v961 : FVec F S144x256 .bf16) (v962 : FVec F S144x1280 .f32) (v963 : FVec F S144x1280 .f32) :
    (Σ' (v968 : FVec F S144x2048 .f32) (v979 : FVec F S256x1024 .f32) (v985 : FVec F S1x2048 .f32) (v988 : FVec F S1x1024 .f32) (v992 : FVec F S256x1024 .bf16) (v1005 : FVec F S144x2048 .f32), Vec F S1x256x128 .bf16) :=
  let v971 : Vec F S1x256x128 .bf16 := View.ld X.x4 (Rect.unit (s := S1x8192x128) (k0_off11 i 1024#32) S1x256x128.size (k0_off11_inb i 4))
  let v995 : Vec F S1x128x256 .bf16 := View.ld X.x5 (Rect.unit (s := S1x128x8192) (k0_off12 i 768#32) S1x128x256.size (k0_off12_inb i 3))
  let v1008 : Vec F S1x256x128 .bf16 := View.ld X.x4 (Rect.unit (s := S1x8192x128) (k0_off11 i 1280#32) S1x256x128.size (k0_off11_inb i 5))
  ⟨k0_pay193 v894 v918 v961 v962 v963, k0_pay194 v34 v971, k0_pay196 v911 v942, k0_pay197 v911 v942, k0_pay198 v911 v942, k0_pay199 v931 v951 v955 v995, v1008⟩

/-- What the body's part25 returns. -/
@[irreducible] def part25 (i : grid0.Coords) (X : Blocks F) (v30 : FVec F S128x2048 .bf16) (v34 : FVec F S128x2048 .bf16) (v690 : BitVec 32) (v948 : FVec F S1x2048 .f32) (v968 : FVec F S144x2048 .f32) (v979 : FVec F S256x1024 .f32) (v988 : FVec F S1x1024 .f32) (v992 : FVec F S256x1024 .bf16) (v1008 : Vec F S1x256x128 .bf16) :
    (Σ' (v1016 : FVec F S256x768 .f32) (v1022 : FVec F S1x2048 .f32) (v1025 : FVec F S1x1024 .f32) (v1029 : FVec F S256x1024 .bf16) (v1042 : FVec F S144x2048 .f32) (v1053 : FVec F S256x768 .f32), FVec F S768 .f32) :=
  let v1032 : Vec F S1x128x256 .bf16 := View.ld X.x5 (Rect.unit (s := S1x128x8192) (k0_off12 i 1024#32) S1x128x256.size (k0_off12_inb i 4))
  let v1045 : Vec F S1x256x128 .bf16 := View.ld X.x4 (Rect.unit (s := S1x8192x128) (k0_off11 i 1280#32) S1x256x128.size (k0_off11_inb i 5))
  ⟨k0_pay200 v30 v1008, k0_pay202 v948 v979, k0_pay203 v948 v979, k0_pay204 v948 v979, k0_pay205 v968 v988 v992 v1032, k0_pay206 v34 v1045, k0_pay207 v30 v1008⟩

/-- What the body's part26 returns. -/
@[irreducible] def part26 (i : grid0.Coords) (X : Blocks F) (v30 : FVec F S128x2048 .bf16) (v690 : BitVec 32) (v985 : FVec F S1x2048 .f32) (v1005 : FVec F S144x2048 .f32) (v1016 : FVec F S256x768 .f32) (v1022 : FVec F S1x2048 .f32) (v1025 : FVec F S1x1024 .f32) (v1029 : FVec F S256x1024 .bf16) (v1053 : FVec F S256x768 .f32) (v1054 : FVec F S768 .f32) :
    (Σ' (v1059 : FVec F S1x2048 .f32) (v1062 : FVec F S1x768 .f32) (v1066 : FVec F S256x768 .bf16) (v1079 : FVec F S144x2048 .f32) (v1090 : FVec F S256x512 .f32) (v1096 : FVec F S1x2048 .f32) (v1099 : FVec F S1x768 .f32), FVec F S256x768 .bf16) :=
  let v1069 : Vec F S1x128x256 .bf16 := View.ld X.x5 (Rect.unit (s := S1x128x8192) (k0_off12 i 1024#32) S1x128x256.size (k0_off12_inb i 4))
  let v1082 : Vec F S1x256x128 .bf16 := View.ld X.x4 (Rect.unit (s := S1x8192x128) (k0_off11 i 1536#32) S1x256x128.size (k0_off11_inb i 6))
  ⟨k0_pay209 v985 v1054, k0_pay210 v985 v1054, k0_pay211 v985 v1016 v1054, k0_pay212 v1005 v1025 v1029 v1069, k0_pay213 v30 v1082, k0_pay215 v1022 v1053, k0_pay216 v1022 v1053, k0_pay217 v1022 v1053⟩

/-- What the body's part27 returns. -/
@[irreducible] def part27 (i : grid0.Coords) (X : Blocks F) (v34 : FVec F S128x2048 .bf16) (v690 : BitVec 32) (v1042 : FVec F S144x2048 .f32) (v1059 : FVec F S1x2048 .f32) (v1062 : FVec F S1x768 .f32) (v1066 : FVec F S256x768 .bf16) (v1079 : FVec F S144x2048 .f32) (v1090 : FVec F S256x512 .f32) (v1099 : FVec F S1x768 .f32) :
    (Σ' (v1116 : FVec F S144x2048 .f32) (v1127 : FVec F S256x512 .f32) (v1133 : FVec F S1x2048 .f32) (v1136 : FVec F S1x512 .f32) (v1140 : FVec F S256x512 .bf16) (v1146 : FVec F S144x256 .bf16) (v1147 : FVec F S144x768 .f32), FVec F S144x768 .f32) :=
  let v1106 : Vec F S1x128x256 .bf16 := View.ld X.x5 (Rect.unit (s := S1x128x8192) (k0_off12 i 1280#32) S1x128x256.size (k0_off12_inb i 5))
  let v1119 : Vec F S1x256x128 .bf16 := View.ld X.x4 (Rect.unit (s := S1x8192x128) (k0_off11 i 1536#32) S1x256x128.size (k0_off11_inb i 6))
  let v1143 : Vec F S1x128x256 .bf16 := View.ld X.x5 (Rect.unit (s := S1x128x8192) (k0_off12 i 1280#32) S1x128x256.size (k0_off12_inb i 5))
  ⟨k0_pay218 v1042 v1062 v1066 v1106, k0_pay219 v34 v1119, k0_pay221 v1059 v1090, k0_pay222 v1059 v1090, k0_pay223 v1059 v1090, k0_pay224 v1143, k0_pay225 v1079, k0_pay226 v1099⟩

/-- What the body's part28 returns. -/
@[irreducible] def part28 (i : grid0.Coords) (X : Blocks F) (v30 : FVec F S128x2048 .bf16) (v690 : BitVec 32) (v1079 : FVec F S144x2048 .f32) (v1096 : FVec F S1x2048 .f32) (v1103 : FVec F S256x768 .bf16) (v1116 : FVec F S144x2048 .f32) (v1127 : FVec F S256x512 .f32) (v1136 : FVec F S1x512 .f32) (v1140 : FVec F S256x512 .bf16) (v1146 : FVec F S144x256 .bf16) (v1147 : FVec F S144x768 .f32) (v1148 : FVec F S144x768 .f32) :
    (Σ' (v1153 : FVec F S144x2048 .f32) (v1164 : FVec F S256x256 .f32) (v1170 : FVec F S1x2048 .f32) (v1173 : FVec F S1x512 .f32) (v1177 : FVec F S256x512 .bf16) (v1190 : FVec F S144x2048 .f32), Vec F S1x256x128 .bf16) :=
  let v1156 : Vec F S1x256x128 .bf16 := View.ld X.x4 (Rect.unit (s := S1x8192x128) (k0_off11 i 1792#32) S1x256x128.size (k0_off11_inb i 7))
  let v1180 : Vec F S1x128x256 .bf16 := View.ld X.x5 (Rect.unit (s := S1x128x8192) (k0_off12 i 1536#32) S1x128x256.size (k0_off12_inb i 6))
  let v1193 : Vec F S1x256x128 .bf16 := View.ld X.x4 (Rect.unit (s := S1x8192x128) (k0_off11 i 1792#32) S1x256x128.size (k0_off11_inb i 7))
  ⟨k0_pay227 v1079 v1103 v1146 v1147 v1148, k0_pay228 v30 v1156, k0_pay230 v1096 v1127, k0_pay231 v1096 v1127, k0_pay232 v1096 v1127, k0_pay233 v1116 v1136 v1140 v1180, v1193⟩

/-- What the body's part29 returns. -/
@[irreducible] def part29 (i : grid0.Coords) (X : Blocks F) (v34 : FVec F S128x2048 .bf16) (v690 : BitVec 32) (v1133 : FVec F S1x2048 .f32) (v1153 : FVec F S144x2048 .f32) (v1164 : FVec F S256x256 .f32) (v1170 : FVec F S1x2048 .f32) (v1173 : FVec F S1x512 .f32) (v1177 : FVec F S256x512 .bf16) (v1193 : Vec F S1x256x128 .bf16) :
    (Σ' (v1208 : FVec F S1x256 .f32) (v1212 : FVec F S256x256 .bf16) (v1225 : FVec F S144x2048 .f32) (v1232 : FVec F S1x256 .f32) (v1236 : FVec F S256x256 .bf16) (v1240 : FVec F S128x256 .bf16), F .bf16) :=
  let v1215 : Vec F S1x128x256 .bf16 := View.ld X.x5 (Rect.unit (s := S1x128x8192) (k0_off12 i 1536#32) S1x128x256.size (k0_off12_inb i 6))
  let v1239 : Vec F S1x128x256 .bf16 := View.ld X.x5 (Rect.unit (s := S1x128x8192) (k0_off12 i 1792#32) S1x128x256.size (k0_off12_inb i 7))
  have cst_410 : F .bf16 := Scalar.ofBits .bf16 0x3F80#16
  ⟨k0_pay236 v1133 v1164, k0_pay237 v1133 v1164, k0_pay238 v1153 v1173 v1177 v1215, k0_pay240 v34 v1170 v1193, k0_pay241 v34 v1170 v1193, k0_pay242 v1239, cst_410⟩

/-- What the body's part30 returns. -/
@[irreducible] def part30 (i : grid0.Coords) (X : Blocks F)  :
    (Σ' (arg2 : BitVec 32) (v30 : FVec F S128x2048 .bf16) (v34 : FVec F S128x2048 .bf16), FVec F S1x2048 .f32) :=
  let arg2 : BitVec 32 := BitVec.ofNat 32 (i 2).val
  let v0 : Vec F S1x128x2048 .bf16 := View.ld X.x3 (Rect.unit (s := S1x128x2048) ![0, 0, 0] S1x128x2048.size inb_S1x128x2048_S1x128x2048_0_0_0)
  let v35 : Vec F S1x8x128 .bf16 := View.ld X.x4 (Rect.unit (s := S1x8192x128) ![0, 0, 0] S1x8x128.size inb_S1x8192x128_S1x8x128_0_0_0)
  ⟨arg2, k0_pay245 v0, k0_pay246 v0, k0_pay247 v0 v35⟩

/-- What one trip of the body's loop 1 returns. -/
def trip1 (i : grid0.Coords) (X : Blocks F) (arg2 : BitVec 32) (v30 : FVec F S128x2048 .bf16) (v34 : FVec F S128x2048 .bf16) (v38 : FVec F S1x2048 .f32) :
    Fin (k0_t1_loop i).trips → FVec F S1x2048 .f32 × FVec F S144x2048 .f32 × FVec F S1x2048 .f32 × FVec F S144x2048 .f32 × FVec F S1x2048 .f32 → (FVec F S1x2048 .f32 × FVec F S144x2048 .f32 × FVec F S1x2048 .f32 × FVec F S144x2048 .f32 × FVec F S1x2048 .f32) :=
  fun k0_t1 acc =>
    next (part1 (F := F) i X v30 v34 0#32 1#32 k0_t1 acc.1 acc.2.1 acc.2.2.1) fun p1 =>
    next (part2 (F := F) i X v30 v34 k0_t1 acc.1 acc.2.2.1 acc.2.2.2.1 p1.1 p1.2.1 p1.2.2.1 p1.2.2.2.1 p1.2.2.2.2.1 p1.2.2.2.2.2) fun p2 =>
    next (part3 (F := F) i X v30 v34 k0_t1 acc.1 acc.2.2.1 p1.1 p2.1 p2.2.1 p2.2.2.1 p2.2.2.2.1 p2.2.2.2.2.1 p2.2.2.2.2.2) fun p3 =>
    next (part4 (F := F) i X v34 k0_t1 acc.1 acc.2.2.1 p1.1 p3.1 p3.2.1 p3.2.2.1 p3.2.2.2.1 p3.2.2.2.2.1 p3.2.2.2.2.2) fun p4 =>
    (p4.1, k0_pay253 acc.1 p4.1 p4.2.2.2.2.1, p4.2.2.1, k0_pay254 acc.2.2.1 p4.2.1 p4.2.2.1 p4.2.2.2.1 p4.2.2.2.2.2.1 p4.2.2.2.2.2.2, k0_pay252 acc.1 acc.2.2.1 acc.2.2.2.2 p4.1 p4.2.2.1)

/-- What the body's part31 returns. -/
@[irreducible] def part31 (i : grid0.Coords) (X : Blocks F) (arg2 : BitVec 32) (v30 : FVec F S128x2048 .bf16) (v34 : FVec F S128x2048 .bf16) (v38 : FVec F S1x2048 .f32) :
    (Σ' (v70_0 : FVec F S1x2048 .f32) (v70_1 : FVec F S144x2048 .f32) (v70_2 : FVec F S1x2048 .f32) (v70_3 : FVec F S144x2048 .f32) (v70_4 : FVec F S1x2048 .f32) (v72 : BitVec 32), Vec F S1x256x128 .bf16) :=
  let v40 : Vec F S1x8x128 .bf16 := View.ld X.x4 (Rect.unit (s := S1x8192x128) ![0, 0, 0] S1x8x128.size inb_S1x8192x128_S1x8x128_0_0_0)
  let v46 : BitVec 32 := Scalar.muli arg2 2048#32
  let v47 : BitVec 32 := Scalar.divsi v46 2048#32
  let v48 : BitVec 1 := Scalar.cmpi .sgt v46 0#32
  let v49 : BitVec 32 := Scalar.extui v48
  let v50 : BitVec 1 := Scalar.cmpi .slt v46 0#32
  let v51 : BitVec 32 := Scalar.extui v50
  let v52 : BitVec 32 := Scalar.subi v49 v51
  let v53 : BitVec 1 := Scalar.cmpi .sgt 2048#32 0#32
  let v54 : BitVec 32 := Scalar.extui v53
  let v55 : BitVec 1 := Scalar.cmpi .slt 2048#32 0#32
  let v56 : BitVec 32 := Scalar.extui v55
  let v57 : BitVec 32 := Scalar.subi v54 v56
  let v58 : BitVec 1 := Scalar.cmpi .ne v52 v57
  let v59 : BitVec 32 := Scalar.remsi v46 2048#32
  let v60 : BitVec 1 := Scalar.cmpi .ne v59 0#32
  let v61 : BitVec 1 := Scalar.andi v58 v60
  let v62 : BitVec 32 := Scalar.subi v47 1#32
  let v63 : BitVec 32 := Scalar.select v61 v62 v47
  let v64 : BitVec 32 := Scalar.subi v63 0#32
  let v66 : BitVec 32 := Scalar.divsi v64 1#32
  let v67 : BitVec 32 := Scalar.muli v66 1#32
  let v68 : BitVec 32 := Scalar.addi 0#32 v67
  let (v69_0, v69_1, v69_2, v69_3, v69_4) := Scf.fold (trip1 (F := F) i X arg2 v30 v34 v38) (v38, k0_pay248 (F := F), k0_pay249 v34 v40, k0_pay250 (F := F), k0_pay251 (F := F))
  let (v70_0, v70_1, v70_2, v70_3, v70_4) := (v69_0, v69_1, v69_2, v69_3, v69_4)
  let v71 : BitVec 32 := Scalar.muli arg2 2048#32
  let v72 : BitVec 32 := v71
  let v75 : Vec F S1x256x128 .bf16 := View.ld X.x4 (Rect.unit (s := S1x8192x128) (k0_off5 i 0#32) S1x256x128.size (k0_off5_inb i 0))
  ⟨v70_0, v70_1, v70_2, v70_3, v70_4, v72, v75⟩

/-- What the body's part32 returns. -/
@[irreducible] def part32 (i : grid0.Coords) (X : Blocks F) (v30 : FVec F S128x2048 .bf16) (v34 : FVec F S128x2048 .bf16) (v70_0 : FVec F S1x2048 .f32) (v70_2 : FVec F S1x2048 .f32) (v72 : BitVec 32) (v75 : Vec F S1x256x128 .bf16) :
    (Σ' (v95 : FVec F S1x2048 .f32) (v99 : FVec F S256x2048 .bf16) (v110 : FVec F S256x1792 .f32) (v113 : FVec F S1x2048 .f32) (v117 : FVec F S256x2048 .bf16), BitVec 32) :=
  let v85 : Vec F S1x256x128 .bf16 := View.ld X.x4 (Rect.unit (s := S1x8192x128) (k0_off5 i 0#32) S1x256x128.size (k0_off5_inb i 0))
  let v102 : Vec F S1x256x128 .bf16 := View.ld X.x4 (Rect.unit (s := S1x8192x128) (k0_off5 i 256#32) S1x256x128.size (k0_off5_inb i 1))
  let v118 : BitVec 32 := Scalar.addi v72 0#32
  ⟨k0_pay260 v30 v70_0 v75, k0_pay261 v30 v70_0 v75, k0_pay262 v30 v102, k0_pay263 v34 v70_2 v85, k0_pay264 v34 v70_2 v85, v118⟩

/-- What the body's part33 returns. -/
@[irreducible] def part33 (i : grid0.Coords) (X : Blocks F) (v30 : FVec F S128x2048 .bf16) (v34 : FVec F S128x2048 .bf16) (v70_0 : FVec F S1x2048 .f32) (v70_1 : FVec F S144x2048 .f32) (v70_3 : FVec F S144x2048 .f32) (v72 : BitVec 32) (v95 : FVec F S1x2048 .f32) (v99 : FVec F S256x2048 .bf16) (v110 : FVec F S256x1792 .f32) (v117 : FVec F S256x2048 .bf16) (v118 : BitVec 32) :
    (Σ' (v125 : FVec F S144x2048 .f32) (v136 : FVec F S256x1792 .f32) (v142 : FVec F S1x2048 .f32) (v147 : FVec F S256x1792 .bf16) (v155 : FVec F S144x2048 .f32), FVec F S256x1536 .f32) :=
  let v120 : Vec F S1x128x256 .bf16 := View.ld X.x5 (Rect.unit (s := S1x128x8192) (k0_off6 i 0#32) S1x128x256.size (k0_off6_inb i 0))
  let v128 : Vec F S1x256x128 .bf16 := View.ld X.x4 (Rect.unit (s := S1x8192x128) (k0_off5 i 256#32) S1x256x128.size (k0_off5_inb i 1))
  let v150 : Vec F S1x128x256 .bf16 := View.ld X.x5 (Rect.unit (s := S1x128x8192) (k0_off6 i 0#32) S1x128x256.size (k0_off6_inb i 0))
  let v158 : Vec F S1x256x128 .bf16 := View.ld X.x4 (Rect.unit (s := S1x8192x128) (k0_off5 i 512#32) S1x256x128.size (k0_off5_inb i 2))
  ⟨k0_pay265 v70_1 v99 v120, k0_pay266 v34 v128, k0_pay267 v95 v110, k0_pay268 v70_0 v110, k0_pay269 v70_3 v117 v150, k0_pay270 v30 v158⟩

/-- What the body's part34 returns. -/
@[irreducible] def part34 (i : grid0.Coords) (X : Blocks F) (v34 : FVec F S128x2048 .bf16) (v70_0 : FVec F S1x2048 .f32) (v70_2 : FVec F S1x2048 .f32) (v72 : BitVec 32) (v113 : FVec F S1x2048 .f32) (v125 : FVec F S144x2048 .f32) (v136 : FVec F S256x1792 .f32) (v142 : FVec F S1x2048 .f32) (v147 : FVec F S256x1792 .bf16) (v161 : FVec F S256x1536 .f32) :
    (Σ' (v172 : FVec F S1x2048 .f32) (v177 : FVec F S256x1792 .bf16) (v188 : FVec F S144x2048 .f32) (v199 : FVec F S256x1536 .f32) (v205 : FVec F S1x2048 .f32), FVec F S256x1536 .f32) :=
  let v180 : Vec F S1x128x256 .bf16 := View.ld X.x5 (Rect.unit (s := S1x128x8192) (k0_off6 i 256#32) S1x128x256.size (k0_off6_inb i 1))
  let v191 : Vec F S1x256x128 .bf16 := View.ld X.x4 (Rect.unit (s := S1x8192x128) (k0_off5 i 512#32) S1x256x128.size (k0_off5_inb i 2))
  ⟨k0_pay272 v113 v136, k0_pay273 v70_2 v136, k0_pay274 v125 v147 v180, k0_pay275 v34 v191, k0_pay276 v142 v161, k0_pay277 v70_0 v161⟩

/-- What the body's part35 returns. -/
@[irreducible] def part35 (i : grid0.Coords) (X : Blocks F) (v30 : FVec F S128x2048 .bf16) (v70_2 : FVec F S1x2048 .f32) (v72 : BitVec 32) (v155 : FVec F S144x2048 .f32) (v172 : FVec F S1x2048 .f32) (v177 : FVec F S256x1792 .bf16) (v188 : FVec F S144x2048 .f32) (v199 : FVec F S256x1536 .f32) (v208 : FVec F S256x1536 .f32) :
    (Σ' (v221 : FVec F S144x2048 .f32) (v232 : FVec F S256x1280 .f32) (v238 : FVec F S1x2048 .f32) (v243 : FVec F S256x1536 .bf16), FVec F S144x1536 .f32) :=
  let v213 : Vec F S1x128x256 .bf16 := View.ld X.x5 (Rect.unit (s := S1x128x8192) (k0_off6 i 256#32) S1x128x256.size (k0_off6_inb i 1))
  let v224 : Vec F S1x256x128 .bf16 := View.ld X.x4 (Rect.unit (s := S1x8192x128) (k0_off5 i 768#32) S1x256x128.size (k0_off5_inb i 3))
  let v246 : Vec F S1x128x256 .bf16 := View.ld X.x5 (Rect.unit (s := S1x128x8192) (k0_off6 i 512#32) S1x128x256.size (k0_off6_inb i 2))
  ⟨k0_pay278 v155 v177 v213, k0_pay279 v30 v224, k0_pay280 v172 v199, k0_pay281 v70_2 v199, k0_pay282 v188 v208 v246⟩

/-- What the body's part36 returns. -/
@[irreducible] def part36 (i : grid0.Coords) (X : Blocks F) (v30 : FVec F S128x2048 .bf16) (v34 : FVec F S128x2048 .bf16) (v70_0 : FVec F S1x2048 .f32) (v72 : BitVec 32) (v188 : FVec F S144x2048 .f32) (v205 : FVec F S1x2048 .f32) (v221 : FVec F S144x2048 .f32) (v232 : FVec F S256x1280 .f32) (v243 : FVec F S256x1536 .bf16) (v252 : FVec F S144x1536 .f32) :
    (Σ' (v254 : FVec F S144x2048 .f32) (v265 : FVec F S256x1280 .f32) (v271 : FVec F S1x2048 .f32) (v276 : FVec F S256x1280 .bf16) (v287 : FVec F S144x2048 .f32) (v293 : FVec F S256x1024 .f32) (v296 : IVec S256x1024 1), F .f32) :=
  let v257 : Vec F S1x256x128 .bf16 := View.ld X.x4 (Rect.unit (s := S1x8192x128) (k0_off5 i 768#32) S1x256x128.size (k0_off5_inb i 3))
  let v279 : Vec F S1x128x256 .bf16 := View.ld X.x5 (Rect.unit (s := S1x128x8192) (k0_off6 i 512#32) S1x128x256.size (k0_off6_inb i 2))
  let v290 : Vec F S1x256x128 .bf16 := View.ld X.x4 (Rect.unit (s := S1x8192x128) (k0_off5 i 1024#32) S1x256x128.size (k0_off5_inb i 4))
  have cst_109 : F .f32 := Named.named κ "mask" 0xF149F2CA#32
  ⟨k0_pay283 v188 v252, k0_pay284 v34 v257, k0_pay285 v205 v232, k0_pay286 v70_0 v232, k0_pay287 v221 v243 v279, k0_pay288 v30 v290, k0_pay289, cst_109⟩

/-- What the body's part37 returns. -/
@[irreducible] def part37 (i : grid0.Coords) (X : Blocks F) (v34 : FVec F S128x2048 .bf16) (v70_0 : FVec F S1x2048 .f32) (v70_2 : FVec F S1x2048 .f32) (v72 : BitVec 32) (v238 : FVec F S1x2048 .f32) (v254 : FVec F S144x2048 .f32) (v265 : FVec F S256x1280 .f32) (v271 : FVec F S1x2048 .f32) (v276 : FVec F S256x1280 .bf16) (v293 : FVec F S256x1024 .f32) (v296 : IVec S256x1024 1) (cst_109 : F .f32) :
    (Σ' (v304 : FVec F S1x2048 .f32) (v309 : FVec F S256x1280 .bf16) (v320 : FVec F S144x2048 .f32) (v331 : FVec F S256x1024 .f32) (v337 : FVec F S1x2048 .f32) (v342 : FVec F S256x1024 .bf16), BitVec 32) :=
  let v312 : Vec F S1x128x256 .bf16 := View.ld X.x5 (Rect.unit (s := S1x128x8192) (k0_off6 i 768#32) S1x128x256.size (k0_off6_inb i 3))
  let v323 : Vec F S1x256x128 .bf16 := View.ld X.x4 (Rect.unit (s := S1x8192x128) (k0_off5 i 1024#32) S1x256x128.size (k0_off5_inb i 4))
  let v343 : BitVec 32 := Scalar.addi v72 768#32
  ⟨k0_pay291 v238 v265, k0_pay292 v70_2 v265, k0_pay293 v254 v276 v312, k0_pay294 v34 v323, k0_pay295 v271 v293 v296 cst_109, k0_pay296 v70_0 v293 v296 cst_109, v343⟩

/-- What the body's part38 returns. -/
@[irreducible] def part38 (i : grid0.Coords) (X : Blocks F) (v30 : FVec F S128x2048 .bf16) (v70_2 : FVec F S1x2048 .f32) (v72 : BitVec 32) (v287 : FVec F S144x2048 .f32) (v304 : FVec F S1x2048 .f32) (v309 : FVec F S256x1280 .bf16) (v320 : FVec F S144x2048 .f32) (v331 : FVec F S256x1024 .f32) (v342 : FVec F S256x1024 .bf16) (v343 : BitVec 32) :
    (Σ' (v353 : FVec F S144x2048 .f32) (v364 : FVec F S256x768 .f32) (v370 : FVec F S1x2048 .f32) (v375 : FVec F S256x1024 .bf16) (v386 : FVec F S144x2048 .f32), BitVec 32) :=
  let v345 : Vec F S1x128x256 .bf16 := View.ld X.x5 (Rect.unit (s := S1x128x8192) (k0_off6 i 768#32) S1x128x256.size (k0_off6_inb i 3))
  let v356 : Vec F S1x256x128 .bf16 := View.ld X.x4 (Rect.unit (s := S1x8192x128) (k0_off5 i 1280#32) S1x256x128.size (k0_off5_inb i 5))
  let v378 : Vec F S1x128x256 .bf16 := View.ld X.x5 (Rect.unit (s := S1x128x8192) (k0_off6 i 1024#32) S1x128x256.size (k0_off6_inb i 4))
  let v387 : BitVec 32 := Scalar.addi v72 1280#32
  ⟨k0_pay297 v287 v309 v345, k0_pay298 v30 v356, k0_pay299 v304 v331, k0_pay300 v70_2 v331, k0_pay301 v320 v342 v378, v387⟩

/-- What the body's part39 returns. -/
@[irreducible] def part39 (i : grid0.Coords) (X : Blocks F) (v30 : FVec F S128x2048 .bf16) (v34 : FVec F S128x2048 .bf16) (v70_0 : FVec F S1x2048 .f32) (v72 : BitVec 32) (v337 : FVec F S1x2048 .f32) (v353 : FVec F S144x2048 .f32) (v364 : FVec F S256x768 .f32) (v375 : FVec F S256x1024 .bf16) (v387 : BitVec 32) :
    (Σ' (v397 : FVec F S256x768 .f32) (v403 : FVec F S1x2048 .f32) (v408 : FVec F S256x768 .bf16) (v419 : FVec F S144x2048 .f32) (v430 : FVec F S256x512 .f32), FVec F S768 .f32) :=
  let v389 : Vec F S1x256x128 .bf16 := View.ld X.x4 (Rect.unit (s := S1x8192x128) (k0_off5 i 1280#32) S1x256x128.size (k0_off5_inb i 5))
  let v411 : Vec F S1x128x256 .bf16 := View.ld X.x5 (Rect.unit (s := S1x128x8192) (k0_off6 i 1024#32) S1x128x256.size (k0_off6_inb i 4))
  let v422 : Vec F S1x256x128 .bf16 := View.ld X.x4 (Rect.unit (s := S1x8192x128) (k0_off5 i 1536#32) S1x256x128.size (k0_off5_inb i 6))
  ⟨k0_pay302 v34 v389, k0_pay303 v337 v364, k0_pay304 v70_0 v364, k0_pay305 v353 v375 v411, k0_pay306 v30 v422, k0_pay307 v34 v389⟩

/-- What the body's part40 returns. -/
@[irreducible] def part40 (i : grid0.Coords) (X : Blocks F) (v34 : FVec F S128x2048 .bf16) (v70_0 : FVec F S1x2048 .f32) (v70_2 : FVec F S1x2048 .f32) (v72 : BitVec 32) (v370 : FVec F S1x2048 .f32) (v386 : FVec F S144x2048 .f32) (v397 : FVec F S256x768 .f32) (v403 : FVec F S1x2048 .f32) (v408 : FVec F S256x768 .bf16) (v430 : FVec F S256x512 .f32) (v431 : FVec F S768 .f32) :
    (Σ' (v436 : FVec F S1x2048 .f32) (v441 : FVec F S256x768 .bf16) (v452 : FVec F S144x2048 .f32) (v463 : FVec F S256x512 .f32) (v469 : FVec F S1x2048 .f32) (v474 : FVec F S256x512 .bf16), Vec F S1x128x256 .bf16) :=
  let v444 : Vec F S1x128x256 .bf16 := View.ld X.x5 (Rect.unit (s := S1x128x8192) (k0_off6 i 1280#32) S1x128x256.size (k0_off6_inb i 5))
  let v455 : Vec F S1x256x128 .bf16 := View.ld X.x4 (Rect.unit (s := S1x8192x128) (k0_off5 i 1536#32) S1x256x128.size (k0_off5_inb i 6))
  let v477 : Vec F S1x128x256 .bf16 := View.ld X.x5 (Rect.unit (s := S1x128x8192) (k0_off6 i 1280#32) S1x128x256.size (k0_off6_inb i 5))
  ⟨k0_pay308 v370 v431, k0_pay309 v70_2 v397, k0_pay310 v386 v408 v444, k0_pay311 v34 v455, k0_pay312 v403 v430, k0_pay313 v70_0 v430, v477⟩

/-- What the body's part41 returns. -/
@[irreducible] def part41 (i : grid0.Coords) (X : Blocks F) (v30 : FVec F S128x2048 .bf16) (v70_2 : FVec F S1x2048 .f32) (v72 : BitVec 32) (v419 : FVec F S144x2048 .f32) (v436 : FVec F S1x2048 .f32) (v441 : FVec F S256x768 .bf16) (v452 : FVec F S144x2048 .f32) (v463 : FVec F S256x512 .f32) (v474 : FVec F S256x512 .bf16) (v477 : Vec F S1x128x256 .bf16) :
    (Σ' (v485 : FVec F S144x2048 .f32) (v496 : FVec F S256x256 .f32) (v502 : FVec F S1x2048 .f32) (v507 : FVec F S256x512 .bf16) (v518 : FVec F S144x2048 .f32), Vec F S1x256x128 .bf16) :=
  let v488 : Vec F S1x256x128 .bf16 := View.ld X.x4 (Rect.unit (s := S1x8192x128) (k0_off5 i 1792#32) S1x256x128.size (k0_off5_inb i 7))
  let v510 : Vec F S1x128x256 .bf16 := View.ld X.x5 (Rect.unit (s := S1x128x8192) (k0_off6 i 1536#32) S1x128x256.size (k0_off6_inb i 6))
  let v521 : Vec F S1x256x128 .bf16 := View.ld X.x4 (Rect.unit (s := S1x8192x128) (k0_off5 i 1792#32) S1x256x128.size (k0_off5_inb i 7))
  ⟨k0_pay314 v419 v441 v477, k0_pay315 v30 v488, k0_pay316 v436 v463, k0_pay317 v70_2 v463, k0_pay318 v452 v474 v510, v521⟩

/-- What the body's part42 returns. -/
@[irreducible] def part42 (i : grid0.Coords) (X : Blocks F) (v34 : FVec F S128x2048 .bf16) (v70_0 : FVec F S1x2048 .f32) (v70_2 : FVec F S1x2048 .f32) (v72 : BitVec 32) (v469 : FVec F S1x2048 .f32) (v485 : FVec F S144x2048 .f32) (v496 : FVec F S256x256 .f32) (v502 : FVec F S1x2048 .f32) (v507 : FVec F S256x512 .bf16) (v521 : Vec F S1x256x128 .bf16) :
    (Σ' (v535 : FVec F S1x2048 .f32) (v540 : FVec F S256x256 .bf16) (v551 : FVec F S144x2048 .f32) (v557 : FVec F S1x2048 .f32) (v562 : FVec F S256x256 .bf16), FVec F S144x256 .bf16) :=
  let v543 : Vec F S1x128x256 .bf16 := View.ld X.x5 (Rect.unit (s := S1x128x8192) (k0_off6 i 1536#32) S1x128x256.size (k0_off6_inb i 6))
  let v565 : Vec F S1x128x256 .bf16 := View.ld X.x5 (Rect.unit (s := S1x128x8192) (k0_off6 i 1792#32) S1x128x256.size (k0_off6_inb i 7))
  ⟨k0_pay320 v469 v496, k0_pay321 v70_0 v496, k0_pay322 v485 v507 v543, k0_pay323 v34 v502 v521, k0_pay324 v34 v70_2 v521, k0_pay325 v565⟩

/-- What the body's run without the fixed reference returns. -/
@[irreducible] def nonlazy {β : Type} (i : grid0.Coords) (X : Blocks F) (arg2 : BitVec 32) (v30 : FVec F S128x2048 .bf16) (v34 : FVec F S128x2048 .bf16) (k : FVec F S144x2048 .f32 × FVec F S144x2048 .f32 → β) : β :=
  next (part17 (F := F) i X arg2 v30 v34) fun p17 =>
  next (part18 (F := F) i X v30 v34 p17.1 p17.2.2.1 p17.2.2.2.2) fun p18 =>
  next (part19 (F := F) i X v34 p17.2.1 p17.2.2.1 p17.2.2.2.2 p18.1 p18.2.1 p18.2.2.1 p18.2.2.2.1 p18.2.2.2.2.1 p18.2.2.2.2.2) fun p19 =>
  next (part20 (F := F) i X v30 p17.2.2.2.1 p17.2.2.2.2 p18.2.2.2.2.2 p19.1 p19.2.1 p19.2.2.1 p19.2.2.2.1 p19.2.2.2.2.2.1 p19.2.2.2.2.2.2.1 p19.2.2.2.2.2.2.2.1 p19.2.2.2.2.2.2.2.2) fun p20 =>
  next (part21 (F := F) i X v30 v34 p17.2.2.2.2 p19.2.2.2.2.1 p20.1 p20.2.1 p20.2.2.2.1 p20.2.2.2.2.1 p20.2.2.2.2.2.2) fun p21 =>
  next (part22 (F := F) i X v34 p17.2.2.2.2 p20.2.2.1 p20.2.2.2.2.2.1 p21.1 p21.2.1 p21.2.2.1 p21.2.2.2.1 p21.2.2.2.2.2.1 p21.2.2.2.2.2.2) fun p22 =>
  next (part23 (F := F) i X v30 p17.2.2.2.2 p21.2.2.2.2.1 p22.1 p22.2.1 p22.2.2.1 p22.2.2.2.1 p22.2.2.2.2.1 p22.2.2.2.2.2.2.1) fun p23 =>
  next (part24 (F := F) i X v34 p17.2.2.2.2 p22.2.2.2.1 p22.2.2.2.2.2.1 p22.2.2.2.2.2.2.2 p23.1 p23.2.1 p23.2.2.2.1 p23.2.2.2.2.1 p23.2.2.2.2.2.1 p23.2.2.2.2.2.2.1 p23.2.2.2.2.2.2.2) fun p24 =>
  next (part25 (F := F) i X v30 v34 p17.2.2.2.2 p23.2.2.1 p24.1 p24.2.1 p24.2.2.2.1 p24.2.2.2.2.1 p24.2.2.2.2.2.2) fun p25 =>
  next (part26 (F := F) i X v30 p17.2.2.2.2 p24.2.2.1 p24.2.2.2.2.2.1 p25.1 p25.2.1 p25.2.2.1 p25.2.2.2.1 p25.2.2.2.2.2.1 p25.2.2.2.2.2.2) fun p26 =>
  next (part27 (F := F) i X v34 p17.2.2.2.2 p25.2.2.2.2.1 p26.1 p26.2.1 p26.2.2.1 p26.2.2.2.1 p26.2.2.2.2.1 p26.2.2.2.2.2.2.1) fun p27 =>
  next (part28 (F := F) i X v30 p17.2.2.2.2 p26.2.2.2.1 p26.2.2.2.2.2.1 p26.2.2.2.2.2.2.2 p27.1 p27.2.1 p27.2.2.2.1 p27.2.2.2.2.1 p27.2.2.2.2.2.1 p27.2.2.2.2.2.2.1 p27.2.2.2.2.2.2.2) fun p28 =>
  next (part29 (F := F) i X v34 p17.2.2.2.2 p27.2.2.1 p28.1 p28.2.1 p28.2.2.1 p28.2.2.2.1 p28.2.2.2.2.1 p28.2.2.2.2.2.2) fun p29 =>
  next (View.ld X.x5 (Rect.unit (s := S1x128x8192) (k0_off12 i 1792#32) S1x128x256.size (k0_off12_inb i 7))) fun v1252 =>
  k (k0_pay329 p28.2.2.2.2.2.1 p29.1 p29.2.1 p29.2.2.2.2.2.1 p29.2.2.2.2.2.2, k0_pay330 p29.2.2.1 p29.2.2.2.1 p29.2.2.2.2.1 v1252)

/-- What the body's part43 returns for the two sums that its conditional yields. -/
def tail43 (X : Blocks F) (r : FVec F S144x2048 .f32 × FVec F S144x2048 .f32) :
    Σ' (v604_0 : FVec F S144x2048 .f32) (v604_1 : FVec F S144x2048 .f32) (v611 : FVec F S1x1 .f32), FVec F S1 .f32 :=
  next (View.ld X.x6 (Rect.unit (s := S4x64) ![0, 0] S4x64.size inb_S4x64_S4x64_0_0)) fun v605 =>
  ⟨r.1, r.2, k0_pay332 v605, k0_pay333 v605⟩

/-- What the body's part43 returns. -/
@[irreducible] def part43 (i : grid0.Coords) (X : Blocks F) (arg2 : BitVec 32) (v30 : FVec F S128x2048 .bf16) (v34 : FVec F S128x2048 .bf16) (v70_0 : FVec F S1x2048 .f32) (v70_2 : FVec F S1x2048 .f32) (v70_4 : FVec F S1x2048 .f32) (v72 : BitVec 32) (v518 : FVec F S144x2048 .f32) (v535 : FVec F S1x2048 .f32) (v540 : FVec F S256x256 .bf16) (v551 : FVec F S144x2048 .f32) (v557 : FVec F S1x2048 .f32) (v562 : FVec F S256x256 .bf16) (v568 : FVec F S144x256 .bf16) :
    (Σ' (v604_0 : FVec F S144x2048 .f32) (v604_1 : FVec F S144x2048 .f32) (v611 : FVec F S1x1 .f32), FVec F S1 .f32) :=
  next (View.ld X.x5 (Rect.unit (s := S1x128x8192) (k0_off6 i 1792#32) S1x128x256.size (k0_off6_inb i 7))) fun v576 =>
  if (Scalar.cmpi .ne (Scalar.extui (Scalar.cmpf .ole (k0_pay328 v70_0 v70_2 v70_4 v535 v557) (Scalar.ofBits .f32 0x42700000#32)) : BitVec 32) 0#32 : BitVec 1) = 1#1 then
    tail43 X (k0_pay326 v70_0 v518 v535 v540 v568, k0_pay327 v70_2 v551 v557 v562 v576)
  else nonlazy i X arg2 v30 v34 (tail43 X)

/-- What the body's part44 returns. -/
@[irreducible] def part44 (i : grid0.Coords) (X : Blocks F) (x8 : Vec F S1x2048x128 .bf16)  :
    (Σ' (v650 : FVec F S2048x128 .bf16), Vec F S1x2048x128 .bf16) :=
  next (part30 (F := F) i X) fun p30 =>
  next (part31 (F := F) i X p30.1 p30.2.1 p30.2.2.1 p30.2.2.2) fun p31 =>
  next (part32 (F := F) i X p30.2.1 p30.2.2.1 p31.1 p31.2.2.1 p31.2.2.2.2.2.1 p31.2.2.2.2.2.2) fun p32 =>
  next (part33 (F := F) i X p30.2.1 p30.2.2.1 p31.1 p31.2.1 p31.2.2.2.1 p31.2.2.2.2.2.1 p32.1 p32.2.1 p32.2.2.1 p32.2.2.2.2.1 p32.2.2.2.2.2) fun p33 =>
  next (part34 (F := F) i X p30.2.2.1 p31.1 p31.2.2.1 p31.2.2.2.2.2.1 p32.2.2.2.1 p33.1 p33.2.1 p33.2.2.1 p33.2.2.2.1 p33.2.2.2.2.2) fun p34 =>
  next (part35 (F := F) i X p30.2.1 p31.2.2.1 p31.2.2.2.2.2.1 p33.2.2.2.2.1 p34.1 p34.2.1 p34.2.2.1 p34.2.2.2.1 p34.2.2.2.2.2) fun p35 =>
  next (part36 (F := F) i X p30.2.1 p30.2.2.1 p31.1 p31.2.2.2.2.2.1 p34.2.2.1 p34.2.2.2.2.1 p35.1 p35.2.1 p35.2.2.2.1 p35.2.2.2.2) fun p36 =>
  next (part37 (F := F) i X p30.2.2.1 p31.1 p31.2.2.1 p31.2.2.2.2.2.1 p35.2.2.1 p36.1 p36.2.1 p36.2.2.1 p36.2.2.2.1 p36.2.2.2.2.2.1 p36.2.2.2.2.2.2.1 p36.2.2.2.2.2.2.2) fun p37 =>
  next (part38 (F := F) i X p30.2.1 p31.2.2.1 p31.2.2.2.2.2.1 p36.2.2.2.2.1 p37.1 p37.2.1 p37.2.2.1 p37.2.2.2.1 p37.2.2.2.2.2.1 p37.2.2.2.2.2.2) fun p38 =>
  next (part39 (F := F) i X p30.2.1 p30.2.2.1 p31.1 p31.2.2.2.2.2.1 p37.2.2.2.2.1 p38.1 p38.2.1 p38.2.2.2.1 p38.2.2.2.2.2) fun p39 =>
  next (part40 (F := F) i X p30.2.2.1 p31.1 p31.2.2.1 p31.2.2.2.2.2.1 p38.2.2.1 p38.2.2.2.2.1 p39.1 p39.2.1 p39.2.2.1 p39.2.2.2.2.1 p39.2.2.2.2.2) fun p40 =>
  next (part41 (F := F) i X p30.2.1 p31.2.2.1 p31.2.2.2.2.2.1 p39.2.2.2.1 p40.1 p40.2.1 p40.2.2.1 p40.2.2.2.1 p40.2.2.2.2.2.1 p40.2.2.2.2.2.2) fun p41 =>
  next (part42 (F := F) i X p30.2.2.1 p31.1 p31.2.2.1 p31.2.2.2.2.2.1 p40.2.2.2.2.1 p41.1 p41.2.1 p41.2.2.1 p41.2.2.2.1 p41.2.2.2.2.2) fun p42 =>
  next (part43 (F := F) i X p30.1 p30.2.1 p30.2.2.1 p31.1 p31.2.2.1 p31.2.2.2.2.1 p31.2.2.2.2.2.1 p41.2.2.2.2.1 p42.1 p42.2.1 p42.2.2.1 p42.2.2.2.1 p42.2.2.2.2.1 p42.2.2.2.2.2) fun p43 =>
  next (View.ld X.x7 (Rect.unit (s := S128x1) ![0, 0] S128x1.size inb_S128x1_S128x1_0_0)) fun v643 =>
  next (View.ld x8 (Rect.unit (s := S1x2048x128) ![0, 0, 0] S1x2048x128.size inb_S1x2048x128_S1x2048x128_0_0_0)) fun v651 =>
  ⟨k0_pay334 p43.1 p43.2.1 p43.2.2.1 p43.2.2.2 v643, v651⟩

end Cert.KernelIdeal.Body

end
-- ==== Proof.KernelIdealRuns.lean ====
/- Each part of the attention body, run on the buffers that it owns, returns its value. -/
module

public import proofs.«01_k».proof.Proof.KernelIdealParts
public import proofs.«01_k».proof.Proof.Ret
public import Idealize.ShloMosaic.Lib.Ring
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Attn

variable {F : FTy → Type} [FloatOps F] [Named F]

local notation "𝕄" => MT nD τ sig Unit (Elt F) ℕ (UR sig nD τ) ℕ

variable (c : Dev nD) (i : grid0.Coords) (arg3 : Memref sig .tc .vmem S1x128x2048 .bf16) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x2048x128 .bf16) (harg8 : arg8.IsWhole) (X : Blocks F) (x8 : Vec F S1x2048x128 .bf16)

/-- The six buffers, holding the blocks. -/
def Own : sProp 𝕄 :=
  iprop(owns (c : Thread nD τ) arg3 fullShare X.x3 ∗ owns (c : Thread nD τ) arg4 fullShare X.x4 ∗ owns (c : Thread nD τ) arg5 fullShare X.x5
    ∗ owns (c : Thread nD τ) arg6 fullShare X.x6 ∗ owns (c : Thread nD τ) arg7 fullShare X.x7 ∗ owns (c : Thread nD τ) arg8 fullShare x8)

/-- A program that reads the six buffers and returns a value. -/
abbrev Runs {α : Type} (p : Prog (TpuEff nD τ sig (Elt F) Λ₀ .tc) α) (v : α) : Prop :=
  Ret (frame (sig := sig) (Ix := Unit) (Val := Elt F) (Name := ℕ) (U := UR sig nD τ) (Lvl := ℕ)) (wpE (defs₀ (F := F)) Variants.none (c : Thread nD τ) none) (Own c arg3 arg4 arg5 arg6 arg7 arg8 X x8) p v

variable {c i arg3 arg4 arg5 arg6 arg7 arg8 X x8} in
/-- A run whose value is passed on. -/
theorem run_next {α β : Type} {p : Prog (TpuEff nD τ sig (Elt F) Λ₀ .tc) α} {k : α → Prog (TpuEff nD τ sig (Elt F) Λ₀ .tc) β} {v : α} {g : α → β}
    (hp : Runs c arg3 arg4 arg5 arg6 arg7 arg8 X x8 p v) (hk : ∀ a, Runs c arg3 arg4 arg5 arg6 arg7 arg8 X x8 (k a) (g a)) :
    Runs c arg3 arg4 arg5 arg6 arg7 arg8 X x8 (p >>= k) (next v g) := Ret.bind hp (hk v)

/-- A load of the buffer that holds `x3`. -/
theorem load3 (r : Rect S1x128x2048) (hl : arg3.view.LoadsAt r.toLoadRect) :
    Runs c arg3 arg4 arg5 arg6 arg7 arg8 X x8 (Prog.lift (.load arg3 r.toLoadRect hl)) (View.ld X.x3 r) := by
  intro E Q
  unfold Own owns
  iintro ⟨⟨⟨%f3, %h3, H3⟩, ⟨%f4, %h4, H4⟩, ⟨%f5, %h5, H5⟩, ⟨%f6, %h6, H6⟩, ⟨%f7, %h7, H7⟩, ⟨%f8, %h8, H8⟩⟩, HK⟩
  sl_exec
  sl_step
  rw [show View.ld X.x3 r = arg3.view.readAt (Elt F) r.toLoadRect f3 from by rw [← h3, View.readAt_eq_ld]]
  iapply HK
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  iexists f8; isplitr; · ipureintro; exact h8
  iexact H8

/-- A load of the buffer that holds `x4`. -/
theorem load4 (r : Rect S1x8192x128) (hl : arg4.view.LoadsAt r.toLoadRect) :
    Runs c arg3 arg4 arg5 arg6 arg7 arg8 X x8 (Prog.lift (.load arg4 r.toLoadRect hl)) (View.ld X.x4 r) := by
  intro E Q
  unfold Own owns
  iintro ⟨⟨⟨%f3, %h3, H3⟩, ⟨%f4, %h4, H4⟩, ⟨%f5, %h5, H5⟩, ⟨%f6, %h6, H6⟩, ⟨%f7, %h7, H7⟩, ⟨%f8, %h8, H8⟩⟩, HK⟩
  sl_exec
  sl_step
  rw [show View.ld X.x4 r = arg4.view.readAt (Elt F) r.toLoadRect f4 from by rw [← h4, View.readAt_eq_ld]]
  iapply HK
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  iexists f8; isplitr; · ipureintro; exact h8
  iexact H8

/-- A load of the buffer that holds `x5`. -/
theorem load5 (r : Rect S1x128x8192) (hl : arg5.view.LoadsAt r.toLoadRect) :
    Runs c arg3 arg4 arg5 arg6 arg7 arg8 X x8 (Prog.lift (.load arg5 r.toLoadRect hl)) (View.ld X.x5 r) := by
  intro E Q
  unfold Own owns
  iintro ⟨⟨⟨%f3, %h3, H3⟩, ⟨%f4, %h4, H4⟩, ⟨%f5, %h5, H5⟩, ⟨%f6, %h6, H6⟩, ⟨%f7, %h7, H7⟩, ⟨%f8, %h8, H8⟩⟩, HK⟩
  sl_exec
  sl_step
  rw [show View.ld X.x5 r = arg5.view.readAt (Elt F) r.toLoadRect f5 from by rw [← h5, View.readAt_eq_ld]]
  iapply HK
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  iexists f8; isplitr; · ipureintro; exact h8
  iexact H8

/-- A load of the buffer that holds `x6`. -/
theorem load6 (r : Rect S4x64) (hl : arg6.view.LoadsAt r.toLoadRect) :
    Runs c arg3 arg4 arg5 arg6 arg7 arg8 X x8 (Prog.lift (.load arg6 r.toLoadRect hl)) (View.ld X.x6 r) := by
  intro E Q
  unfold Own owns
  iintro ⟨⟨⟨%f3, %h3, H3⟩, ⟨%f4, %h4, H4⟩, ⟨%f5, %h5, H5⟩, ⟨%f6, %h6, H6⟩, ⟨%f7, %h7, H7⟩, ⟨%f8, %h8, H8⟩⟩, HK⟩
  sl_exec
  sl_step
  rw [show View.ld X.x6 r = arg6.view.readAt (Elt F) r.toLoadRect f6 from by rw [← h6, View.readAt_eq_ld]]
  iapply HK
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  iexists f8; isplitr; · ipureintro; exact h8
  iexact H8

/-- A load of the buffer that holds `x7`. -/
theorem load7 (r : Rect S128x1) (hl : arg7.view.LoadsAt r.toLoadRect) :
    Runs c arg3 arg4 arg5 arg6 arg7 arg8 X x8 (Prog.lift (.load arg7 r.toLoadRect hl)) (View.ld X.x7 r) := by
  intro E Q
  unfold Own owns
  iintro ⟨⟨⟨%f3, %h3, H3⟩, ⟨%f4, %h4, H4⟩, ⟨%f5, %h5, H5⟩, ⟨%f6, %h6, H6⟩, ⟨%f7, %h7, H7⟩, ⟨%f8, %h8, H8⟩⟩, HK⟩
  sl_exec
  sl_step
  rw [show View.ld X.x7 r = arg7.view.readAt (Elt F) r.toLoadRect f7 from by rw [← h7, View.readAt_eq_ld]]
  iapply HK
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  iexists f8; isplitr; · ipureintro; exact h8
  iexact H8

/-- A load of the buffer that holds `x8`. -/
theorem load8 (r : Rect S1x2048x128) (hl : arg8.view.LoadsAt r.toLoadRect) :
    Runs c arg3 arg4 arg5 arg6 arg7 arg8 X x8 (Prog.lift (.load arg8 r.toLoadRect hl)) (View.ld x8 r) := by
  intro E Q
  unfold Own owns
  iintro ⟨⟨⟨%f3, %h3, H3⟩, ⟨%f4, %h4, H4⟩, ⟨%f5, %h5, H5⟩, ⟨%f6, %h6, H6⟩, ⟨%f7, %h7, H7⟩, ⟨%f8, %h8, H8⟩⟩, HK⟩
  sl_exec
  sl_step
  rw [show View.ld x8 r = arg8.view.readAt (Elt F) r.toLoadRect f8 from by rw [← h8, View.readAt_eq_ld]]
  iapply HK
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  iexists f8; isplitr; · ipureintro; exact h8
  iexact H8

/-- The loop behind loop 1 has no trips. -/
theorem trips2 : ∀ i : grid0.Coords, (k0_t2_loop i).trips = 0 := by decide +kernel

/-- The loop behind loop 3 has no trips. -/
theorem trips4 : ∀ i : grid0.Coords, (k0_t4_loop i).trips = 0 := by decide +kernel

/-- The body's part1. -/
theorem part1_runs (v30 : FVec F S128x2048 .bf16) (v34 : FVec F S128x2048 .bf16) (c0_i32_27 : BitVec 32) (c1_i32_29 : BitVec 32) (k0_t1 : Fin (k0_t1_loop i).trips) (arg10 : FVec F S1x2048 .f32) (arg11 : FVec F S144x2048 .f32) (arg12 : FVec F S1x2048 .f32) :
    Runs c arg3 arg4 arg5 arg6 arg7 arg8 X x8 (k0_part1 (F := F) i arg3 harg3 arg4 harg4 arg5 harg5 arg6 harg6 arg7 harg7 arg8 harg8 v30 v34 c0_i32_27 c1_i32_29 k0_t1 arg10 arg11 arg12) (part1 i X v30 v34 c0_i32_27 c1_i32_29 k0_t1 arg10 arg11 arg12) := by
  rw [k0_part1_eq_skeleton]
  unfold k0_part1_skel
  refine Ret.bind (load4 c arg3 arg4 arg5 arg6 arg7 arg8 X x8 _ _) ?_
  refine Ret.bind (load4 c arg3 arg4 arg5 arg6 arg7 arg8 X x8 _ _) ?_
  refine Ret.bind (load4 c arg3 arg4 arg5 arg6 arg7 arg8 X x8 _ _) ?_
  refine Ret.bind (load5 c arg3 arg4 arg5 arg6 arg7 arg8 X x8 _ _) ?_
  refine Ret.pure_of_eq ?_
  unfold part1
  rfl

/-- The body's part2. -/
theorem part2_runs (v30 : FVec F S128x2048 .bf16) (v34 : FVec F S128x2048 .bf16) (k0_t1 : Fin (k0_t1_loop i).trips) (arg10 : FVec F S1x2048 .f32) (arg12 : FVec F S1x2048 .f32) (arg13 : FVec F S144x2048 .f32) (v655 : BitVec 32) (v668 : FVec F S1x2048 .f32) (v677 : FVec F S512x2048 .f32) (v680 : FVec F S1x2048 .f32) (v684 : FVec F S512x2048 .bf16) (v692 : FVec F S144x2048 .f32) :
    Runs c arg3 arg4 arg5 arg6 arg7 arg8 X x8 (k0_part2 (F := F) i arg3 harg3 arg4 harg4 arg5 harg5 arg6 harg6 arg7 harg7 arg8 harg8 v30 v34 k0_t1 arg10 arg12 arg13 v655 v668 v677 v680 v684 v692) (part2 i X v30 v34 k0_t1 arg10 arg12 arg13 v655 v668 v677 v680 v684 v692) := by
  rw [k0_part2_eq_skeleton]
  unfold k0_part2_skel
  refine Ret.bind (load4 c arg3 arg4 arg5 arg6 arg7 arg8 X x8 _ _) ?_
  refine Ret.bind (load5 c arg3 arg4 arg5 arg6 arg7 arg8 X x8 _ _) ?_
  refine Ret.bind (load4 c arg3 arg4 arg5 arg6 arg7 arg8 X x8 _ _) ?_
  refine Ret.bind (load5 c arg3 arg4 arg5 arg6 arg7 arg8 X x8 _ _) ?_
  refine Ret.pure_of_eq ?_
  unfold part2
  rfl

/-- The body's part3. -/
theorem part3_runs (v30 : FVec F S128x2048 .bf16) (v34 : FVec F S128x2048 .bf16) (k0_t1 : Fin (k0_t1_loop i).trips) (arg10 : FVec F S1x2048 .f32) (arg12 : FVec F S1x2048 .f32) (v655 : BitVec 32) (v700 : FVec F S1x2048 .f32) (v712 : FVec F S144x2048 .f32) (v717 : FVec F S512x2048 .f32) (v720 : FVec F S1x2048 .f32) (v724 : FVec F S512x2048 .bf16) (v732 : FVec F S144x2048 .f32) :
    Runs c arg3 arg4 arg5 arg6 arg7 arg8 X x8 (k0_part3 (F := F) i arg3 harg3 arg4 harg4 arg5 harg5 arg6 harg6 arg7 harg7 arg8 harg8 v30 v34 k0_t1 arg10 arg12 v655 v700 v712 v717 v720 v724 v732) (part3 i X v30 v34 k0_t1 arg10 arg12 v655 v700 v712 v717 v720 v724 v732) := by
  rw [k0_part3_eq_skeleton]
  unfold k0_part3_skel
  refine Ret.bind (load4 c arg3 arg4 arg5 arg6 arg7 arg8 X x8 _ _) ?_
  refine Ret.bind (load5 c arg3 arg4 arg5 arg6 arg7 arg8 X x8 _ _) ?_
  refine Ret.bind (load4 c arg3 arg4 arg5 arg6 arg7 arg8 X x8 _ _) ?_
  refine Ret.bind (load5 c arg3 arg4 arg5 arg6 arg7 arg8 X x8 _ _) ?_
  refine Ret.pure_of_eq ?_
  unfold part3
  rfl

/-- The body's part4. -/
theorem part4_runs (v34 : FVec F S128x2048 .bf16) (k0_t1 : Fin (k0_t1_loop i).trips) (arg10 : FVec F S1x2048 .f32) (arg12 : FVec F S1x2048 .f32) (v655 : BitVec 32) (v740 : FVec F S1x2048 .f32) (v752 : FVec F S144x2048 .f32) (v757 : FVec F S512x2048 .f32) (v760 : FVec F S1x2048 .f32) (v764 : FVec F S512x2048 .bf16) (v772 : FVec F S144x2048 .f32) :
    Runs c arg3 arg4 arg5 arg6 arg7 arg8 X x8 (k0_part4 (F := F) i arg3 harg3 arg4 harg4 arg5 harg5 arg6 harg6 arg7 harg7 arg8 harg8 v34 k0_t1 arg10 arg12 v655 v740 v752 v757 v760 v764 v772) (part4 i X v34 k0_t1 arg10 arg12 v655 v740 v752 v757 v760 v764 v772) := by
  rw [k0_part4_eq_skeleton]
  unfold k0_part4_skel
  refine Ret.bind (load4 c arg3 arg4 arg5 arg6 arg7 arg8 X x8 _ _) ?_
  refine Ret.bind (load5 c arg3 arg4 arg5 arg6 arg7 arg8 X x8 _ _) ?_
  refine Ret.bind (load5 c arg3 arg4 arg5 arg6 arg7 arg8 X x8 _ _) ?_
  refine Ret.bind (load5 c arg3 arg4 arg5 arg6 arg7 arg8 X x8 _ _) ?_
  refine Ret.pure_of_eq ?_
  unfold part4
  rfl

/-- The body's part9. -/
theorem part9_runs (v30 : FVec F S128x2048 .bf16) (v34 : FVec F S128x2048 .bf16) (c0_i32_236 : BitVec 32) (c1_i32_238 : BitVec 32) (k0_t3 : Fin (k0_t3_loop i).trips) (arg10 : FVec F S1x2048 .f32) (arg12 : FVec F S1x2048 .f32) :
    Runs c arg3 arg4 arg5 arg6 arg7 arg8 X x8 (k0_part9 (F := F) i arg3 harg3 arg4 harg4 arg5 harg5 arg6 harg6 arg7 harg7 arg8 harg8 v30 v34 c0_i32_236 c1_i32_238 k0_t3 arg10 arg12) (part9 i X v30 v34 c0_i32_236 c1_i32_238 k0_t3 arg10 arg12) := by
  rw [k0_part9_eq_skeleton]
  unfold k0_part9_skel
  refine Ret.bind (load4 c arg3 arg4 arg5 arg6 arg7 arg8 X x8 _ _) ?_
  refine Ret.bind (load4 c arg3 arg4 arg5 arg6 arg7 arg8 X x8 _ _) ?_
  refine Ret.bind (load4 c arg3 arg4 arg5 arg6 arg7 arg8 X x8 _ _) ?_
  refine Ret.bind (load5 c arg3 arg4 arg5 arg6 arg7 arg8 X x8 _ _) ?_
  refine Ret.pure_of_eq ?_
  unfold part9
  rfl

/-- The body's part10. -/
theorem part10_runs (v30 : FVec F S128x2048 .bf16) (v34 : FVec F S128x2048 .bf16) (k0_t3 : Fin (k0_t3_loop i).trips) (arg11 : FVec F S144x2048 .f32) (arg13 : FVec F S144x2048 .f32) (v1264 : BitVec 32) (v1277 : FVec F S1x2048 .f32) (v1279 : FVec F S1x2048 .f32) (v1283 : FVec F S512x2048 .bf16) (v1288 : FVec F S512x2048 .f32) (v1291 : FVec F S1x2048 .f32) (v1293 : FVec F S1x2048 .f32) (v1297 : FVec F S512x2048 .bf16) (v1301 : FVec F S128x512 .bf16) (v1302 : FVec F S16x512 .bf16) :
    Runs c arg3 arg4 arg5 arg6 arg7 arg8 X x8 (k0_part10 (F := F) i arg3 harg3 arg4 harg4 arg5 harg5 arg6 harg6 arg7 harg7 arg8 harg8 v30 v34 k0_t3 arg11 arg13 v1264 v1277 v1279 v1283 v1288 v1291 v1293 v1297 v1301 v1302) (part10 i X v30 v34 k0_t3 arg11 arg13 v1264 v1277 v1279 v1283 v1288 v1291 v1293 v1297 v1301 v1302) := by
  rw [k0_part10_eq_skeleton]
  unfold k0_part10_skel
  refine Ret.bind (load4 c arg3 arg4 arg5 arg6 arg7 arg8 X x8 _ _) ?_
  refine Ret.bind (load5 c arg3 arg4 arg5 arg6 arg7 arg8 X x8 _ _) ?_
  refine Ret.bind (load4 c arg3 arg4 arg5 arg6 arg7 arg8 X x8 _ _) ?_
  refine Ret.pure_of_eq ?_
  unfold part10
  rfl

/-- The body's part11. -/
theorem part11_runs (v30 : FVec F S128x2048 .bf16) (v34 : FVec F S128x2048 .bf16) (k0_t3 : Fin (k0_t3_loop i).trips) (v1264 : BitVec 32) (v1307 : FVec F S144x2048 .f32) (v1315 : FVec F S1x2048 .f32) (v1317 : FVec F S1x2048 .f32) (v1321 : FVec F S512x2048 .bf16) (v1331 : FVec F S144x2048 .f32) (v1336 : FVec F S512x2048 .f32) (v1341 : FVec F S1x2048 .f32) (v1345 : FVec F S512x2048 .bf16) (c512_i32_452 : BitVec 32) :
    Runs c arg3 arg4 arg5 arg6 arg7 arg8 X x8 (k0_part11 (F := F) i arg3 harg3 arg4 harg4 arg5 harg5 arg6 harg6 arg7 harg7 arg8 harg8 v30 v34 k0_t3 v1264 v1307 v1315 v1317 v1321 v1331 v1336 v1341 v1345 c512_i32_452) (part11 i X v30 v34 k0_t3 v1264 v1307 v1315 v1317 v1321 v1331 v1336 v1341 v1345 c512_i32_452) := by
  rw [k0_part11_eq_skeleton]
  unfold k0_part11_skel
  refine Ret.bind (load5 c arg3 arg4 arg5 arg6 arg7 arg8 X x8 _ _) ?_
  refine Ret.bind (load4 c arg3 arg4 arg5 arg6 arg7 arg8 X x8 _ _) ?_
  refine Ret.bind (load5 c arg3 arg4 arg5 arg6 arg7 arg8 X x8 _ _) ?_
  refine Ret.bind (load4 c arg3 arg4 arg5 arg6 arg7 arg8 X x8 _ _) ?_
  refine Ret.pure_of_eq ?_
  unfold part11
  rfl

/-- The body's part12. -/
theorem part12_runs (v34 : FVec F S128x2048 .bf16) (k0_t3 : Fin (k0_t3_loop i).trips) (v1264 : BitVec 32) (v1339 : FVec F S1x2048 .f32) (v1355 : FVec F S144x2048 .f32) (v1360 : FVec F S512x2048 .f32) (v1363 : FVec F S1x2048 .f32) (v1365 : FVec F S1x2048 .f32) (v1369 : FVec F S512x2048 .bf16) (v1379 : FVec F S144x2048 .f32) (v1384 : FVec F S512x2048 .f32) (v1386 : FVec F S1x2048 .f32) :
    Runs c arg3 arg4 arg5 arg6 arg7 arg8 X x8 (k0_part12 (F := F) i arg3 harg3 arg4 harg4 arg5 harg5 arg6 harg6 arg7 harg7 arg8 harg8 v34 k0_t3 v1264 v1339 v1355 v1360 v1363 v1365 v1369 v1379 v1384 v1386) (part12 i X v34 k0_t3 v1264 v1339 v1355 v1360 v1363 v1365 v1369 v1379 v1384 v1386) := by
  rw [k0_part12_eq_skeleton]
  unfold k0_part12_skel
  refine Ret.bind (load5 c arg3 arg4 arg5 arg6 arg7 arg8 X x8 _ _) ?_
  refine Ret.bind (load4 c arg3 arg4 arg5 arg6 arg7 arg8 X x8 _ _) ?_
  refine Ret.bind (load5 c arg3 arg4 arg5 arg6 arg7 arg8 X x8 _ _) ?_
  refine Ret.pure_of_eq ?_
  unfold part12
  rfl

/-- One trip of loop 3. -/
theorem trip3_runs (arg2 : BitVec 32) (v30 : FVec F S128x2048 .bf16) (v34 : FVec F S128x2048 .bf16) (k0_t3 : Fin (k0_t3_loop i).trips) (acc) :
    Runs c arg3 arg4 arg5 arg6 arg7 arg8 X x8 (k0_t3_body (F := F) i arg3 harg3 arg4 harg4 arg5 harg5 arg6 harg6 arg7 harg7 arg8 harg8 arg2 v30 v34 k0_t3 acc) (trip3 i X arg2 v30 v34 k0_t3 acc) := by
  unfold k0_t3_body
  unfold trip3
  refine run_next (part9_runs c i arg3 harg3 arg4 harg4 arg5 harg5 arg6 harg6 arg7 harg7 arg8 harg8 X x8 _ _ _ _ _ _ _) fun p9 => ?_
  refine run_next (part10_runs c i arg3 harg3 arg4 harg4 arg5 harg5 arg6 harg6 arg7 harg7 arg8 harg8 X x8 _ _ _ _ _ _ _ _ _ _ _ _ _ _ _) fun p10 => ?_
  refine run_next (part11_runs c i arg3 harg3 arg4 harg4 arg5 harg5 arg6 harg6 arg7 harg7 arg8 harg8 X x8 _ _ _ _ _ _ _ _ _ _ _ _ _) fun p11 => ?_
  refine run_next (part12_runs c i arg3 harg3 arg4 harg4 arg5 harg5 arg6 harg6 arg7 harg7 arg8 harg8 X x8 _ _ _ _ _ _ _ _ _ _ _ _) fun p12 => ?_
  refine Ret.bind (load5 c arg3 arg4 arg5 arg6 arg7 arg8 X x8 _ _) ?_
  refine Ret.bind (load5 c arg3 arg4 arg5 arg6 arg7 arg8 X x8 _ _) ?_
  refine Ret.pure_of_eq ?_
  rfl

/-- The body's part17. -/
theorem part17_runs (arg2 : BitVec 32) (v30 : FVec F S128x2048 .bf16) (v34 : FVec F S128x2048 .bf16) :
    Runs c arg3 arg4 arg5 arg6 arg7 arg8 X x8 (k0_part17 (F := F) i arg3 harg3 arg4 harg4 arg5 harg5 arg6 harg6 arg7 harg7 arg8 harg8 arg2 v30 v34) (part17 i X arg2 v30 v34) := by
  rw [k0_part17_eq_skeleton]
  unfold k0_part17_skel
  refine Ret.bind (load4 c arg3 arg4 arg5 arg6 arg7 arg8 X x8 _ _) ?_
  refine Ret.bind (load4 c arg3 arg4 arg5 arg6 arg7 arg8 X x8 _ _) ?_
  refine Ret.bind (Ret.loop _ _ _ _ _ (trip3_runs c i arg3 harg3 arg4 harg4 arg5 harg5 arg6 harg6 arg7 harg7 arg8 harg8 X x8 _ _ _)) ?_
  refine Ret.bind (Ret.loop_none _ _ _ _ (trips4 _)) ?_
  refine Ret.pure_of_eq ?_
  unfold part17
  rfl

/-- The body's part18. -/
theorem part18_runs (v30 : FVec F S128x2048 .bf16) (v34 : FVec F S128x2048 .bf16) (v688_0 : FVec F S1x2048 .f32) (v688_2 : FVec F S1x2048 .f32) (v690 : BitVec 32) :
    Runs c arg3 arg4 arg5 arg6 arg7 arg8 X x8 (k0_part18 (F := F) i arg3 harg3 arg4 harg4 arg5 harg5 arg6 harg6 arg7 harg7 arg8 harg8 v30 v34 v688_0 v688_2 v690) (part18 i X v30 v34 v688_0 v688_2 v690) := by
  rw [k0_part18_eq_skeleton]
  unfold k0_part18_skel
  refine Ret.bind (load4 c arg3 arg4 arg5 arg6 arg7 arg8 X x8 _ _) ?_
  refine Ret.bind (load4 c arg3 arg4 arg5 arg6 arg7 arg8 X x8 _ _) ?_
  refine Ret.bind (load4 c arg3 arg4 arg5 arg6 arg7 arg8 X x8 _ _) ?_
  refine Ret.pure_of_eq ?_
  unfold part18
  rfl

/-- The body's part19. -/
theorem part19_runs (v34 : FVec F S128x2048 .bf16) (v688_1 : FVec F S144x2048 .f32) (v688_2 : FVec F S1x2048 .f32) (v690 : BitVec 32) (v710 : FVec F S256x2048 .f32) (v713 : FVec F S1x2048 .f32) (v715 : FVec F S1x2048 .f32) (v719 : FVec F S256x2048 .bf16) (v730 : FVec F S256x1792 .f32) (v733 : FVec F S1x2048 .f32) :
    Runs c arg3 arg4 arg5 arg6 arg7 arg8 X x8 (k0_part19 (F := F) i arg3 harg3 arg4 harg4 arg5 harg5 arg6 harg6 arg7 harg7 arg8 harg8 v34 v688_1 v688_2 v690 v710 v713 v715 v719 v730 v733) (part19 i X v34 v688_1 v688_2 v690 v710 v713 v715 v719 v730 v733) := by
  rw [k0_part19_eq_skeleton]
  unfold k0_part19_skel
  refine Ret.bind (load5 c arg3 arg4 arg5 arg6 arg7 arg8 X x8 _ _) ?_
  refine Ret.bind (load4 c arg3 arg4 arg5 arg6 arg7 arg8 X x8 _ _) ?_
  refine Ret.bind (load5 c arg3 arg4 arg5 arg6 arg7 arg8 X x8 _ _) ?_
  refine Ret.pure_of_eq ?_
  unfold part19
  rfl

/-- The body's part20. -/
theorem part20_runs (v30 : FVec F S128x2048 .bf16) (v688_3 : FVec F S144x2048 .f32) (v690 : BitVec 32) (v733 : FVec F S1x2048 .f32) (v735 : FVec F S1x2048 .f32) (v739 : FVec F S256x2048 .bf16) (v749 : FVec F S144x2048 .f32) (v760 : FVec F S256x1792 .f32) (v769 : FVec F S1x1792 .f32) (v773 : FVec F S256x1792 .bf16) (v777 : FVec F S128x256 .bf16) (v778 : FVec F S16x256 .bf16) :
    Runs c arg3 arg4 arg5 arg6 arg7 arg8 X x8 (k0_part20 (F := F) i arg3 harg3 arg4 harg4 arg5 harg5 arg6 harg6 arg7 harg7 arg8 harg8 v30 v688_3 v690 v733 v735 v739 v749 v760 v769 v773 v777 v778) (part20 i X v30 v688_3 v690 v733 v735 v739 v749 v760 v769 v773 v777 v778) := by
  rw [k0_part20_eq_skeleton]
  unfold k0_part20_skel
  refine Ret.bind (load4 c arg3 arg4 arg5 arg6 arg7 arg8 X x8 _ _) ?_
  refine Ret.bind (load5 c arg3 arg4 arg5 arg6 arg7 arg8 X x8 _ _) ?_
  refine Ret.bind (load4 c arg3 arg4 arg5 arg6 arg7 arg8 X x8 _ _) ?_
  refine Ret.pure_of_eq ?_
  unfold part20
  rfl

/-- The body's part21. -/
theorem part21_runs (v30 : FVec F S128x2048 .bf16) (v34 : FVec F S128x2048 .bf16) (v690 : BitVec 32) (v766 : FVec F S1x2048 .f32) (v783 : FVec F S144x2048 .f32) (v794 : FVec F S256x1536 .f32) (v803 : FVec F S1x1792 .f32) (v807 : FVec F S256x1792 .bf16) (v823 : Vec F S1x256x128 .bf16) :
    Runs c arg3 arg4 arg5 arg6 arg7 arg8 X x8 (k0_part21 (F := F) i arg3 harg3 arg4 harg4 arg5 harg5 arg6 harg6 arg7 harg7 arg8 harg8 v30 v34 v690 v766 v783 v794 v803 v807 v823) (part21 i X v30 v34 v690 v766 v783 v794 v803 v807 v823) := by
  rw [k0_part21_eq_skeleton]
  unfold k0_part21_skel
  refine Ret.bind (load5 c arg3 arg4 arg5 arg6 arg7 arg8 X x8 _ _) ?_
  refine Ret.bind (load4 c arg3 arg4 arg5 arg6 arg7 arg8 X x8 _ _) ?_
  refine Ret.pure_of_eq ?_
  unfold part21
  rfl

/-- The body's part22. -/
theorem part22_runs (v34 : FVec F S128x2048 .bf16) (v690 : BitVec 32) (v800 : FVec F S1x2048 .f32) (v820 : FVec F S144x2048 .f32) (v831 : FVec F S256x1536 .f32) (v837 : FVec F S1x2048 .f32) (v840 : FVec F S1x1536 .f32) (v844 : FVec F S256x1536 .bf16) (v868 : FVec F S256x1280 .f32) (v869 : FVec F S1536 .f32) :
    Runs c arg3 arg4 arg5 arg6 arg7 arg8 X x8 (k0_part22 (F := F) i arg3 harg3 arg4 harg4 arg5 harg5 arg6 harg6 arg7 harg7 arg8 harg8 v34 v690 v800 v820 v831 v837 v840 v844 v868 v869) (part22 i X v34 v690 v800 v820 v831 v837 v840 v844 v868 v869) := by
  rw [k0_part22_eq_skeleton]
  unfold k0_part22_skel
  refine Ret.bind (load5 c arg3 arg4 arg5 arg6 arg7 arg8 X x8 _ _) ?_
  refine Ret.bind (load4 c arg3 arg4 arg5 arg6 arg7 arg8 X x8 _ _) ?_
  refine Ret.pure_of_eq ?_
  unfold part22
  rfl

/-- The body's part23. -/
theorem part23_runs (v30 : FVec F S128x2048 .bf16) (v690 : BitVec 32) (v857 : FVec F S144x2048 .f32) (v874 : FVec F S1x2048 .f32) (v877 : FVec F S1x1536 .f32) (v881 : FVec F S256x1536 .bf16) (v894 : FVec F S144x2048 .f32) (v905 : FVec F S256x1280 .f32) (v914 : FVec F S1x1280 .f32) :
    Runs c arg3 arg4 arg5 arg6 arg7 arg8 X x8 (k0_part23 (F := F) i arg3 harg3 arg4 harg4 arg5 harg5 arg6 harg6 arg7 harg7 arg8 harg8 v30 v690 v857 v874 v877 v881 v894 v905 v914) (part23 i X v30 v690 v857 v874 v877 v881 v894 v905 v914) := by
  rw [k0_part23_eq_skeleton]
  unfold k0_part23_skel
  refine Ret.bind (load5 c arg3 arg4 arg5 arg6 arg7 arg8 X x8 _ _) ?_
  refine Ret.bind (load4 c arg3 arg4 arg5 arg6 arg7 arg8 X x8 _ _) ?_
  refine Ret.bind (load5 c arg3 arg4 arg5 arg6 arg7 arg8 X x8 _ _) ?_
  refine Ret.pure_of_eq ?_
  unfold part23
  rfl

/-- The body's part24. -/
theorem part24_runs (v34 : FVec F S128x2048 .bf16) (v690 : BitVec 32) (v894 : FVec F S144x2048 .f32) (v911 : FVec F S1x2048 .f32) (v918 : FVec F S256x1280 .bf16) (v931 : FVec F S144x2048 .f32) (v942 : FVec F S256x1024 .f32) (v951 : FVec F S1x1280 .f32) (v955 : FVec F S256x1280 .bf16) (v961 : FVec F S144x256 .bf16) (v962 : FVec F S144x1280 .f32) (v963 : FVec F S144x1280 .f32) :
    Runs c arg3 arg4 arg5 arg6 arg7 arg8 X x8 (k0_part24 (F := F) i arg3 harg3 arg4 harg4 arg5 harg5 arg6 harg6 arg7 harg7 arg8 harg8 v34 v690 v894 v911 v918 v931 v942 v951 v955 v961 v962 v963) (part24 i X v34 v690 v894 v911 v918 v931 v942 v951 v955 v961 v962 v963) := by
  rw [k0_part24_eq_skeleton]
  unfold k0_part24_skel
  refine Ret.bind (load4 c arg3 arg4 arg5 arg6 arg7 arg8 X x8 _ _) ?_
  refine Ret.bind (load5 c arg3 arg4 arg5 arg6 arg7 arg8 X x8 _ _) ?_
  refine Ret.bind (load4 c arg3 arg4 arg5 arg6 arg7 arg8 X x8 _ _) ?_
  refine Ret.pure_of_eq ?_
  unfold part24
  rfl

/-- The body's part25. -/
theorem part25_runs (v30 : FVec F S128x2048 .bf16) (v34 : FVec F S128x2048 .bf16) (v690 : BitVec 32) (v948 : FVec F S1x2048 .f32) (v968 : FVec F S144x2048 .f32) (v979 : FVec F S256x1024 .f32) (v988 : FVec F S1x1024 .f32) (v992 : FVec F S256x1024 .bf16) (v1008 : Vec F S1x256x128 .bf16) :
    Runs c arg3 arg4 arg5 arg6 arg7 arg8 X x8 (k0_part25 (F := F) i arg3 harg3 arg4 harg4 arg5 harg5 arg6 harg6 arg7 harg7 arg8 harg8 v30 v34 v690 v948 v968 v979 v988 v992 v1008) (part25 i X v30 v34 v690 v948 v968 v979 v988 v992 v1008) := by
  rw [k0_part25_eq_skeleton]
  unfold k0_part25_skel
  refine Ret.bind (load5 c arg3 arg4 arg5 arg6 arg7 arg8 X x8 _ _) ?_
  refine Ret.bind (load4 c arg3 arg4 arg5 arg6 arg7 arg8 X x8 _ _) ?_
  refine Ret.pure_of_eq ?_
  unfold part25
  rfl

/-- The body's part26. -/
theorem part26_runs (v30 : FVec F S128x2048 .bf16) (v690 : BitVec 32) (v985 : FVec F S1x2048 .f32) (v1005 : FVec F S144x2048 .f32) (v1016 : FVec F S256x768 .f32) (v1022 : FVec F S1x2048 .f32) (v1025 : FVec F S1x1024 .f32) (v1029 : FVec F S256x1024 .bf16) (v1053 : FVec F S256x768 .f32) (v1054 : FVec F S768 .f32) :
    Runs c arg3 arg4 arg5 arg6 arg7 arg8 X x8 (k0_part26 (F := F) i arg3 harg3 arg4 harg4 arg5 harg5 arg6 harg6 arg7 harg7 arg8 harg8 v30 v690 v985 v1005 v1016 v1022 v1025 v1029 v1053 v1054) (part26 i X v30 v690 v985 v1005 v1016 v1022 v1025 v1029 v1053 v1054) := by
  rw [k0_part26_eq_skeleton]
  unfold k0_part26_skel
  refine Ret.bind (load5 c arg3 arg4 arg5 arg6 arg7 arg8 X x8 _ _) ?_
  refine Ret.bind (load4 c arg3 arg4 arg5 arg6 arg7 arg8 X x8 _ _) ?_
  refine Ret.pure_of_eq ?_
  unfold part26
  rfl

/-- The body's part27. -/
theorem part27_runs (v34 : FVec F S128x2048 .bf16) (v690 : BitVec 32) (v1042 : FVec F S144x2048 .f32) (v1059 : FVec F S1x2048 .f32) (v1062 : FVec F S1x768 .f32) (v1066 : FVec F S256x768 .bf16) (v1079 : FVec F S144x2048 .f32) (v1090 : FVec F S256x512 .f32) (v1099 : FVec F S1x768 .f32) :
    Runs c arg3 arg4 arg5 arg6 arg7 arg8 X x8 (k0_part27 (F := F) i arg3 harg3 arg4 harg4 arg5 harg5 arg6 harg6 arg7 harg7 arg8 harg8 v34 v690 v1042 v1059 v1062 v1066 v1079 v1090 v1099) (part27 i X v34 v690 v1042 v1059 v1062 v1066 v1079 v1090 v1099) := by
  rw [k0_part27_eq_skeleton]
  unfold k0_part27_skel
  refine Ret.bind (load5 c arg3 arg4 arg5 arg6 arg7 arg8 X x8 _ _) ?_
  refine Ret.bind (load4 c arg3 arg4 arg5 arg6 arg7 arg8 X x8 _ _) ?_
  refine Ret.bind (load5 c arg3 arg4 arg5 arg6 arg7 arg8 X x8 _ _) ?_
  refine Ret.pure_of_eq ?_
  unfold part27
  rfl

/-- The body's part28. -/
theorem part28_runs (v30 : FVec F S128x2048 .bf16) (v690 : BitVec 32) (v1079 : FVec F S144x2048 .f32) (v1096 : FVec F S1x2048 .f32) (v1103 : FVec F S256x768 .bf16) (v1116 : FVec F S144x2048 .f32) (v1127 : FVec F S256x512 .f32) (v1136 : FVec F S1x512 .f32) (v1140 : FVec F S256x512 .bf16) (v1146 : FVec F S144x256 .bf16) (v1147 : FVec F S144x768 .f32) (v1148 : FVec F S144x768 .f32) :
    Runs c arg3 arg4 arg5 arg6 arg7 arg8 X x8 (k0_part28 (F := F) i arg3 harg3 arg4 harg4 arg5 harg5 arg6 harg6 arg7 harg7 arg8 harg8 v30 v690 v1079 v1096 v1103 v1116 v1127 v1136 v1140 v1146 v1147 v1148) (part28 i X v30 v690 v1079 v1096 v1103 v1116 v1127 v1136 v1140 v1146 v1147 v1148) := by
  rw [k0_part28_eq_skeleton]
  unfold k0_part28_skel
  refine Ret.bind (load4 c arg3 arg4 arg5 arg6 arg7 arg8 X x8 _ _) ?_
  refine Ret.bind (load5 c arg3 arg4 arg5 arg6 arg7 arg8 X x8 _ _) ?_
  refine Ret.bind (load4 c arg3 arg4 arg5 arg6 arg7 arg8 X x8 _ _) ?_
  refine Ret.pure_of_eq ?_
  unfold part28
  rfl

/-- The body's part29. -/
theorem part29_runs (v34 : FVec F S128x2048 .bf16) (v690 : BitVec 32) (v1133 : FVec F S1x2048 .f32) (v1153 : FVec F S144x2048 .f32) (v1164 : FVec F S256x256 .f32) (v1170 : FVec F S1x2048 .f32) (v1173 : FVec F S1x512 .f32) (v1177 : FVec F S256x512 .bf16) (v1193 : Vec F S1x256x128 .bf16) :
    Runs c arg3 arg4 arg5 arg6 arg7 arg8 X x8 (k0_part29 (F := F) i arg3 harg3 arg4 harg4 arg5 harg5 arg6 harg6 arg7 harg7 arg8 harg8 v34 v690 v1133 v1153 v1164 v1170 v1173 v1177 v1193) (part29 i X v34 v690 v1133 v1153 v1164 v1170 v1173 v1177 v1193) := by
  rw [k0_part29_eq_skeleton]
  unfold k0_part29_skel
  refine Ret.bind (load5 c arg3 arg4 arg5 arg6 arg7 arg8 X x8 _ _) ?_
  refine Ret.bind (load5 c arg3 arg4 arg5 arg6 arg7 arg8 X x8 _ _) ?_
  refine Ret.pure_of_eq ?_
  unfold part29
  rfl

/-- The body's part30. -/
theorem part30_runs  :
    Runs c arg3 arg4 arg5 arg6 arg7 arg8 X x8 (k0_part30 (F := F) i arg3 harg3 arg4 harg4 arg5 harg5 arg6 harg6 arg7 harg7 arg8 harg8 ) (part30 i X ) := by
  rw [k0_part30_eq_skeleton]
  unfold k0_part30_skel
  refine Ret.bind (load3 c arg3 arg4 arg5 arg6 arg7 arg8 X x8 _ _) ?_
  refine Ret.bind (load4 c arg3 arg4 arg5 arg6 arg7 arg8 X x8 _ _) ?_
  refine Ret.pure_of_eq ?_
  unfold part30
  rfl

/-- One trip of loop 1. -/
theorem trip1_runs (arg2 : BitVec 32) (v30 : FVec F S128x2048 .bf16) (v34 : FVec F S128x2048 .bf16) (v38 : FVec F S1x2048 .f32) (k0_t1 : Fin (k0_t1_loop i).trips) (acc) :
    Runs c arg3 arg4 arg5 arg6 arg7 arg8 X x8 (k0_t1_body (F := F) i arg3 harg3 arg4 harg4 arg5 harg5 arg6 harg6 arg7 harg7 arg8 harg8 arg2 v30 v34 v38 k0_t1 acc) (trip1 i X arg2 v30 v34 v38 k0_t1 acc) := by
  unfold k0_t1_body
  unfold trip1
  refine run_next (part1_runs c i arg3 harg3 arg4 harg4 arg5 harg5 arg6 harg6 arg7 harg7 arg8 harg8 X x8 _ _ _ _ _ _ _ _) fun p1 => ?_
  refine run_next (part2_runs c i arg3 harg3 arg4 harg4 arg5 harg5 arg6 harg6 arg7 harg7 arg8 harg8 X x8 _ _ _ _ _ _ _ _ _ _ _ _) fun p2 => ?_
  refine run_next (part3_runs c i arg3 harg3 arg4 harg4 arg5 harg5 arg6 harg6 arg7 harg7 arg8 harg8 X x8 _ _ _ _ _ _ _ _ _ _ _ _) fun p3 => ?_
  refine run_next (part4_runs c i arg3 harg3 arg4 harg4 arg5 harg5 arg6 harg6 arg7 harg7 arg8 harg8 X x8 _ _ _ _ _ _ _ _ _ _ _) fun p4 => ?_
  refine Ret.pure_of_eq ?_
  rfl

/-- The body's part31. -/
theorem part31_runs (arg2 : BitVec 32) (v30 : FVec F S128x2048 .bf16) (v34 : FVec F S128x2048 .bf16) (v38 : FVec F S1x2048 .f32) :
    Runs c arg3 arg4 arg5 arg6 arg7 arg8 X x8 (k0_part31 (F := F) i arg3 harg3 arg4 harg4 arg5 harg5 arg6 harg6 arg7 harg7 arg8 harg8 arg2 v30 v34 v38) (part31 i X arg2 v30 v34 v38) := by
  rw [k0_part31_eq_skeleton]
  unfold k0_part31_skel
  refine Ret.bind (load4 c arg3 arg4 arg5 arg6 arg7 arg8 X x8 _ _) ?_
  refine Ret.bind (Ret.loop _ _ _ _ _ (trip1_runs c i arg3 harg3 arg4 harg4 arg5 harg5 arg6 harg6 arg7 harg7 arg8 harg8 X x8 _ _ _ _)) ?_
  refine Ret.bind (Ret.loop_none _ _ _ _ (trips2 _)) ?_
  refine Ret.bind (load4 c arg3 arg4 arg5 arg6 arg7 arg8 X x8 _ _) ?_
  refine Ret.pure_of_eq ?_
  unfold part31
  rfl

/-- The body's part32. -/
theorem part32_runs (v30 : FVec F S128x2048 .bf16) (v34 : FVec F S128x2048 .bf16) (v70_0 : FVec F S1x2048 .f32) (v70_2 : FVec F S1x2048 .f32) (v72 : BitVec 32) (v75 : Vec F S1x256x128 .bf16) :
    Runs c arg3 arg4 arg5 arg6 arg7 arg8 X x8 (k0_part32 (F := F) i arg3 harg3 arg4 harg4 arg5 harg5 arg6 harg6 arg7 harg7 arg8 harg8 v30 v34 v70_0 v70_2 v72 v75) (part32 i X v30 v34 v70_0 v70_2 v72 v75) := by
  rw [k0_part32_eq_skeleton]
  unfold k0_part32_skel
  refine Ret.bind (load4 c arg3 arg4 arg5 arg6 arg7 arg8 X x8 _ _) ?_
  refine Ret.bind (load4 c arg3 arg4 arg5 arg6 arg7 arg8 X x8 _ _) ?_
  refine Ret.pure_of_eq ?_
  unfold part32
  rfl

/-- The body's part33. -/
theorem part33_runs (v30 : FVec F S128x2048 .bf16) (v34 : FVec F S128x2048 .bf16) (v70_0 : FVec F S1x2048 .f32) (v70_1 : FVec F S144x2048 .f32) (v70_3 : FVec F S144x2048 .f32) (v72 : BitVec 32) (v95 : FVec F S1x2048 .f32) (v99 : FVec F S256x2048 .bf16) (v110 : FVec F S256x1792 .f32) (v117 : FVec F S256x2048 .bf16) (v118 : BitVec 32) :
    Runs c arg3 arg4 arg5 arg6 arg7 arg8 X x8 (k0_part33 (F := F) i arg3 harg3 arg4 harg4 arg5 harg5 arg6 harg6 arg7 harg7 arg8 harg8 v30 v34 v70_0 v70_1 v70_3 v72 v95 v99 v110 v117 v118) (part33 i X v30 v34 v70_0 v70_1 v70_3 v72 v95 v99 v110 v117 v118) := by
  rw [k0_part33_eq_skeleton]
  unfold k0_part33_skel
  refine Ret.bind (load5 c arg3 arg4 arg5 arg6 arg7 arg8 X x8 _ _) ?_
  refine Ret.bind (load4 c arg3 arg4 arg5 arg6 arg7 arg8 X x8 _ _) ?_
  refine Ret.bind (load5 c arg3 arg4 arg5 arg6 arg7 arg8 X x8 _ _) ?_
  refine Ret.bind (load4 c arg3 arg4 arg5 arg6 arg7 arg8 X x8 _ _) ?_
  refine Ret.pure_of_eq ?_
  unfold part33
  rfl

/-- The body's part34. -/
theorem part34_runs (v34 : FVec F S128x2048 .bf16) (v70_0 : FVec F S1x2048 .f32) (v70_2 : FVec F S1x2048 .f32) (v72 : BitVec 32) (v113 : FVec F S1x2048 .f32) (v125 : FVec F S144x2048 .f32) (v136 : FVec F S256x1792 .f32) (v142 : FVec F S1x2048 .f32) (v147 : FVec F S256x1792 .bf16) (v161 : FVec F S256x1536 .f32) :
    Runs c arg3 arg4 arg5 arg6 arg7 arg8 X x8 (k0_part34 (F := F) i arg3 harg3 arg4 harg4 arg5 harg5 arg6 harg6 arg7 harg7 arg8 harg8 v34 v70_0 v70_2 v72 v113 v125 v136 v142 v147 v161) (part34 i X v34 v70_0 v70_2 v72 v113 v125 v136 v142 v147 v161) := by
  rw [k0_part34_eq_skeleton]
  unfold k0_part34_skel
  refine Ret.bind (load5 c arg3 arg4 arg5 arg6 arg7 arg8 X x8 _ _) ?_
  refine Ret.bind (load4 c arg3 arg4 arg5 arg6 arg7 arg8 X x8 _ _) ?_
  refine Ret.pure_of_eq ?_
  unfold part34
  rfl

/-- The body's part35. -/
theorem part35_runs (v30 : FVec F S128x2048 .bf16) (v70_2 : FVec F S1x2048 .f32) (v72 : BitVec 32) (v155 : FVec F S144x2048 .f32) (v172 : FVec F S1x2048 .f32) (v177 : FVec F S256x1792 .bf16) (v188 : FVec F S144x2048 .f32) (v199 : FVec F S256x1536 .f32) (v208 : FVec F S256x1536 .f32) :
    Runs c arg3 arg4 arg5 arg6 arg7 arg8 X x8 (k0_part35 (F := F) i arg3 harg3 arg4 harg4 arg5 harg5 arg6 harg6 arg7 harg7 arg8 harg8 v30 v70_2 v72 v155 v172 v177 v188 v199 v208) (part35 i X v30 v70_2 v72 v155 v172 v177 v188 v199 v208) := by
  rw [k0_part35_eq_skeleton]
  unfold k0_part35_skel
  refine Ret.bind (load5 c arg3 arg4 arg5 arg6 arg7 arg8 X x8 _ _) ?_
  refine Ret.bind (load4 c arg3 arg4 arg5 arg6 arg7 arg8 X x8 _ _) ?_
  refine Ret.bind (load5 c arg3 arg4 arg5 arg6 arg7 arg8 X x8 _ _) ?_
  refine Ret.pure_of_eq ?_
  unfold part35
  rfl

/-- The body's part36. -/
theorem part36_runs (v30 : FVec F S128x2048 .bf16) (v34 : FVec F S128x2048 .bf16) (v70_0 : FVec F S1x2048 .f32) (v72 : BitVec 32) (v188 : FVec F S144x2048 .f32) (v205 : FVec F S1x2048 .f32) (v221 : FVec F S144x2048 .f32) (v232 : FVec F S256x1280 .f32) (v243 : FVec F S256x1536 .bf16) (v252 : FVec F S144x1536 .f32) :
    Runs c arg3 arg4 arg5 arg6 arg7 arg8 X x8 (k0_part36 (F := F) i arg3 harg3 arg4 harg4 arg5 harg5 arg6 harg6 arg7 harg7 arg8 harg8 v30 v34 v70_0 v72 v188 v205 v221 v232 v243 v252) (part36 i X v30 v34 v70_0 v72 v188 v205 v221 v232 v243 v252) := by
  rw [k0_part36_eq_skeleton]
  unfold k0_part36_skel
  refine Ret.bind (load4 c arg3 arg4 arg5 arg6 arg7 arg8 X x8 _ _) ?_
  refine Ret.bind (load5 c arg3 arg4 arg5 arg6 arg7 arg8 X x8 _ _) ?_
  refine Ret.bind (load4 c arg3 arg4 arg5 arg6 arg7 arg8 X x8 _ _) ?_
  refine Ret.pure_of_eq ?_
  unfold part36
  rfl

/-- The body's part37. -/
theorem part37_runs (v34 : FVec F S128x2048 .bf16) (v70_0 : FVec F S1x2048 .f32) (v70_2 : FVec F S1x2048 .f32) (v72 : BitVec 32) (v238 : FVec F S1x2048 .f32) (v254 : FVec F S144x2048 .f32) (v265 : FVec F S256x1280 .f32) (v271 : FVec F S1x2048 .f32) (v276 : FVec F S256x1280 .bf16) (v293 : FVec F S256x1024 .f32) (v296 : IVec S256x1024 1) (cst_109 : F .f32) :
    Runs c arg3 arg4 arg5 arg6 arg7 arg8 X x8 (k0_part37 (F := F) i arg3 harg3 arg4 harg4 arg5 harg5 arg6 harg6 arg7 harg7 arg8 harg8 v34 v70_0 v70_2 v72 v238 v254 v265 v271 v276 v293 v296 cst_109) (part37 i X v34 v70_0 v70_2 v72 v238 v254 v265 v271 v276 v293 v296 cst_109) := by
  rw [k0_part37_eq_skeleton]
  unfold k0_part37_skel
  refine Ret.bind (load5 c arg3 arg4 arg5 arg6 arg7 arg8 X x8 _ _) ?_
  refine Ret.bind (load4 c arg3 arg4 arg5 arg6 arg7 arg8 X x8 _ _) ?_
  refine Ret.pure_of_eq ?_
  unfold part37
  rfl

/-- The body's part38. -/
theorem part38_runs (v30 : FVec F S128x2048 .bf16) (v70_2 : FVec F S1x2048 .f32) (v72 : BitVec 32) (v287 : FVec F S144x2048 .f32) (v304 : FVec F S1x2048 .f32) (v309 : FVec F S256x1280 .bf16) (v320 : FVec F S144x2048 .f32) (v331 : FVec F S256x1024 .f32) (v342 : FVec F S256x1024 .bf16) (v343 : BitVec 32) :
    Runs c arg3 arg4 arg5 arg6 arg7 arg8 X x8 (k0_part38 (F := F) i arg3 harg3 arg4 harg4 arg5 harg5 arg6 harg6 arg7 harg7 arg8 harg8 v30 v70_2 v72 v287 v304 v309 v320 v331 v342 v343) (part38 i X v30 v70_2 v72 v287 v304 v309 v320 v331 v342 v343) := by
  rw [k0_part38_eq_skeleton]
  unfold k0_part38_skel
  refine Ret.bind (load5 c arg3 arg4 arg5 arg6 arg7 arg8 X x8 _ _) ?_
  refine Ret.bind (load4 c arg3 arg4 arg5 arg6 arg7 arg8 X x8 _ _) ?_
  refine Ret.bind (load5 c arg3 arg4 arg5 arg6 arg7 arg8 X x8 _ _) ?_
  refine Ret.pure_of_eq ?_
  unfold part38
  rfl

/-- The body's part39. -/
theorem part39_runs (v30 : FVec F S128x2048 .bf16) (v34 : FVec F S128x2048 .bf16) (v70_0 : FVec F S1x2048 .f32) (v72 : BitVec 32) (v337 : FVec F S1x2048 .f32) (v353 : FVec F S144x2048 .f32) (v364 : FVec F S256x768 .f32) (v375 : FVec F S256x1024 .bf16) (v387 : BitVec 32) :
    Runs c arg3 arg4 arg5 arg6 arg7 arg8 X x8 (k0_part39 (F := F) i arg3 harg3 arg4 harg4 arg5 harg5 arg6 harg6 arg7 harg7 arg8 harg8 v30 v34 v70_0 v72 v337 v353 v364 v375 v387) (part39 i X v30 v34 v70_0 v72 v337 v353 v364 v375 v387) := by
  rw [k0_part39_eq_skeleton]
  unfold k0_part39_skel
  refine Ret.bind (load4 c arg3 arg4 arg5 arg6 arg7 arg8 X x8 _ _) ?_
  refine Ret.bind (load5 c arg3 arg4 arg5 arg6 arg7 arg8 X x8 _ _) ?_
  refine Ret.bind (load4 c arg3 arg4 arg5 arg6 arg7 arg8 X x8 _ _) ?_
  refine Ret.pure_of_eq ?_
  unfold part39
  rfl

/-- The body's part40. -/
theorem part40_runs (v34 : FVec F S128x2048 .bf16) (v70_0 : FVec F S1x2048 .f32) (v70_2 : FVec F S1x2048 .f32) (v72 : BitVec 32) (v370 : FVec F S1x2048 .f32) (v386 : FVec F S144x2048 .f32) (v397 : FVec F S256x768 .f32) (v403 : FVec F S1x2048 .f32) (v408 : FVec F S256x768 .bf16) (v430 : FVec F S256x512 .f32) (v431 : FVec F S768 .f32) :
    Runs c arg3 arg4 arg5 arg6 arg7 arg8 X x8 (k0_part40 (F := F) i arg3 harg3 arg4 harg4 arg5 harg5 arg6 harg6 arg7 harg7 arg8 harg8 v34 v70_0 v70_2 v72 v370 v386 v397 v403 v408 v430 v431) (part40 i X v34 v70_0 v70_2 v72 v370 v386 v397 v403 v408 v430 v431) := by
  rw [k0_part40_eq_skeleton]
  unfold k0_part40_skel
  refine Ret.bind (load5 c arg3 arg4 arg5 arg6 arg7 arg8 X x8 _ _) ?_
  refine Ret.bind (load4 c arg3 arg4 arg5 arg6 arg7 arg8 X x8 _ _) ?_
  refine Ret.bind (load5 c arg3 arg4 arg5 arg6 arg7 arg8 X x8 _ _) ?_
  refine Ret.pure_of_eq ?_
  unfold part40
  rfl

/-- The body's part41. -/
theorem part41_runs (v30 : FVec F S128x2048 .bf16) (v70_2 : FVec F S1x2048 .f32) (v72 : BitVec 32) (v419 : FVec F S144x2048 .f32) (v436 : FVec F S1x2048 .f32) (v441 : FVec F S256x768 .bf16) (v452 : FVec F S144x2048 .f32) (v463 : FVec F S256x512 .f32) (v474 : FVec F S256x512 .bf16) (v477 : Vec F S1x128x256 .bf16) :
    Runs c arg3 arg4 arg5 arg6 arg7 arg8 X x8 (k0_part41 (F := F) i arg3 harg3 arg4 harg4 arg5 harg5 arg6 harg6 arg7 harg7 arg8 harg8 v30 v70_2 v72 v419 v436 v441 v452 v463 v474 v477) (part41 i X v30 v70_2 v72 v419 v436 v441 v452 v463 v474 v477) := by
  rw [k0_part41_eq_skeleton]
  unfold k0_part41_skel
  refine Ret.bind (load4 c arg3 arg4 arg5 arg6 arg7 arg8 X x8 _ _) ?_
  refine Ret.bind (load5 c arg3 arg4 arg5 arg6 arg7 arg8 X x8 _ _) ?_
  refine Ret.bind (load4 c arg3 arg4 arg5 arg6 arg7 arg8 X x8 _ _) ?_
  refine Ret.pure_of_eq ?_
  unfold part41
  rfl

/-- The body's part42. -/
theorem part42_runs (v34 : FVec F S128x2048 .bf16) (v70_0 : FVec F S1x2048 .f32) (v70_2 : FVec F S1x2048 .f32) (v72 : BitVec 32) (v469 : FVec F S1x2048 .f32) (v485 : FVec F S144x2048 .f32) (v496 : FVec F S256x256 .f32) (v502 : FVec F S1x2048 .f32) (v507 : FVec F S256x512 .bf16) (v521 : Vec F S1x256x128 .bf16) :
    Runs c arg3 arg4 arg5 arg6 arg7 arg8 X x8 (k0_part42 (F := F) i arg3 harg3 arg4 harg4 arg5 harg5 arg6 harg6 arg7 harg7 arg8 harg8 v34 v70_0 v70_2 v72 v469 v485 v496 v502 v507 v521) (part42 i X v34 v70_0 v70_2 v72 v469 v485 v496 v502 v507 v521) := by
  rw [k0_part42_eq_skeleton]
  unfold k0_part42_skel
  refine Ret.bind (load5 c arg3 arg4 arg5 arg6 arg7 arg8 X x8 _ _) ?_
  refine Ret.bind (load5 c arg3 arg4 arg5 arg6 arg7 arg8 X x8 _ _) ?_
  refine Ret.pure_of_eq ?_
  unfold part42
  rfl

/-- The body's part43. -/
theorem part43_runs (arg2 : BitVec 32) (v30 : FVec F S128x2048 .bf16) (v34 : FVec F S128x2048 .bf16) (v70_0 : FVec F S1x2048 .f32) (v70_2 : FVec F S1x2048 .f32) (v70_4 : FVec F S1x2048 .f32) (v72 : BitVec 32) (v518 : FVec F S144x2048 .f32) (v535 : FVec F S1x2048 .f32) (v540 : FVec F S256x256 .bf16) (v551 : FVec F S144x2048 .f32) (v557 : FVec F S1x2048 .f32) (v562 : FVec F S256x256 .bf16) (v568 : FVec F S144x256 .bf16) :
    Runs c arg3 arg4 arg5 arg6 arg7 arg8 X x8 (k0_part43 (F := F) i arg3 harg3 arg4 harg4 arg5 harg5 arg6 harg6 arg7 harg7 arg8 harg8 arg2 v30 v34 v70_0 v70_2 v70_4 v72 v518 v535 v540 v551 v557 v562 v568) (part43 i X arg2 v30 v34 v70_0 v70_2 v70_4 v72 v518 v535 v540 v551 v557 v562 v568) := by
  rw [k0_part43_eq_skeleton]
  unfold k0_part43_skel
  unfold part43
  refine run_next (load5 c arg3 arg4 arg5 arg6 arg7 arg8 X x8 _ _) fun _ => ?_
  refine Ret.ite ?_ ?_
  · refine Ret.bind (Ret.pure _) ?_
    unfold tail43
    refine run_next (load6 c arg3 arg4 arg5 arg6 arg7 arg8 X x8 _ _) fun _ => ?_
    exact Ret.pure _
  · unfold nonlazy
    refine run_next (part17_runs c i arg3 harg3 arg4 harg4 arg5 harg5 arg6 harg6 arg7 harg7 arg8 harg8 X x8 _ _ _) fun p17 => ?_
    refine run_next (part18_runs c i arg3 harg3 arg4 harg4 arg5 harg5 arg6 harg6 arg7 harg7 arg8 harg8 X x8 _ _ _ _ _) fun p18 => ?_
    refine run_next (part19_runs c i arg3 harg3 arg4 harg4 arg5 harg5 arg6 harg6 arg7 harg7 arg8 harg8 X x8 _ _ _ _ _ _ _ _ _ _) fun p19 => ?_
    refine run_next (part20_runs c i arg3 harg3 arg4 harg4 arg5 harg5 arg6 harg6 arg7 harg7 arg8 harg8 X x8 _ _ _ _ _ _ _ _ _ _ _ _) fun p20 => ?_
    refine run_next (part21_runs c i arg3 harg3 arg4 harg4 arg5 harg5 arg6 harg6 arg7 harg7 arg8 harg8 X x8 _ _ _ _ _ _ _ _ _) fun p21 => ?_
    refine run_next (part22_runs c i arg3 harg3 arg4 harg4 arg5 harg5 arg6 harg6 arg7 harg7 arg8 harg8 X x8 _ _ _ _ _ _ _ _ _ _) fun p22 => ?_
    refine run_next (part23_runs c i arg3 harg3 arg4 harg4 arg5 harg5 arg6 harg6 arg7 harg7 arg8 harg8 X x8 _ _ _ _ _ _ _ _ _) fun p23 => ?_
    refine run_next (part24_runs c i arg3 harg3 arg4 harg4 arg5 harg5 arg6 harg6 arg7 harg7 arg8 harg8 X x8 _ _ _ _ _ _ _ _ _ _ _ _) fun p24 => ?_
    refine run_next (part25_runs c i arg3 harg3 arg4 harg4 arg5 harg5 arg6 harg6 arg7 harg7 arg8 harg8 X x8 _ _ _ _ _ _ _ _ _) fun p25 => ?_
    refine run_next (part26_runs c i arg3 harg3 arg4 harg4 arg5 harg5 arg6 harg6 arg7 harg7 arg8 harg8 X x8 _ _ _ _ _ _ _ _ _ _) fun p26 => ?_
    refine run_next (part27_runs c i arg3 harg3 arg4 harg4 arg5 harg5 arg6 harg6 arg7 harg7 arg8 harg8 X x8 _ _ _ _ _ _ _ _ _) fun p27 => ?_
    refine run_next (part28_runs c i arg3 harg3 arg4 harg4 arg5 harg5 arg6 harg6 arg7 harg7 arg8 harg8 X x8 _ _ _ _ _ _ _ _ _ _ _ _) fun p28 => ?_
    refine run_next (part29_runs c i arg3 harg3 arg4 harg4 arg5 harg5 arg6 harg6 arg7 harg7 arg8 harg8 X x8 _ _ _ _ _ _ _ _ _) fun p29 => ?_
    refine run_next (load5 c arg3 arg4 arg5 arg6 arg7 arg8 X x8 _ _) fun _ => ?_
    refine Ret.bind (Ret.pure _) ?_
    unfold tail43
    refine run_next (load6 c arg3 arg4 arg5 arg6 arg7 arg8 X x8 _ _) fun _ => ?_
    exact Ret.pure _

/-- The body's part44. -/
theorem part44_runs  :
    Runs c arg3 arg4 arg5 arg6 arg7 arg8 X x8 (k0_part44 (F := F) i arg3 harg3 arg4 harg4 arg5 harg5 arg6 harg6 arg7 harg7 arg8 harg8 ) (part44 i X x8) := by
  rw [k0_part44_eq_skeleton]
  unfold k0_part44_skel
  unfold part44
  refine run_next (part30_runs c i arg3 harg3 arg4 harg4 arg5 harg5 arg6 harg6 arg7 harg7 arg8 harg8 X x8) fun p30 => ?_
  refine run_next (part31_runs c i arg3 harg3 arg4 harg4 arg5 harg5 arg6 harg6 arg7 harg7 arg8 harg8 X x8 _ _ _ _) fun p31 => ?_
  refine run_next (part32_runs c i arg3 harg3 arg4 harg4 arg5 harg5 arg6 harg6 arg7 harg7 arg8 harg8 X x8 _ _ _ _ _ _) fun p32 => ?_
  refine run_next (part33_runs c i arg3 harg3 arg4 harg4 arg5 harg5 arg6 harg6 arg7 harg7 arg8 harg8 X x8 _ _ _ _ _ _ _ _ _ _ _) fun p33 => ?_
  refine run_next (part34_runs c i arg3 harg3 arg4 harg4 arg5 harg5 arg6 harg6 arg7 harg7 arg8 harg8 X x8 _ _ _ _ _ _ _ _ _ _) fun p34 => ?_
  refine run_next (part35_runs c i arg3 harg3 arg4 harg4 arg5 harg5 arg6 harg6 arg7 harg7 arg8 harg8 X x8 _ _ _ _ _ _ _ _ _) fun p35 => ?_
  refine run_next (part36_runs c i arg3 harg3 arg4 harg4 arg5 harg5 arg6 harg6 arg7 harg7 arg8 harg8 X x8 _ _ _ _ _ _ _ _ _ _) fun p36 => ?_
  refine run_next (part37_runs c i arg3 harg3 arg4 harg4 arg5 harg5 arg6 harg6 arg7 harg7 arg8 harg8 X x8 _ _ _ _ _ _ _ _ _ _ _ _) fun p37 => ?_
  refine run_next (part38_runs c i arg3 harg3 arg4 harg4 arg5 harg5 arg6 harg6 arg7 harg7 arg8 harg8 X x8 _ _ _ _ _ _ _ _ _ _) fun p38 => ?_
  refine run_next (part39_runs c i arg3 harg3 arg4 harg4 arg5 harg5 arg6 harg6 arg7 harg7 arg8 harg8 X x8 _ _ _ _ _ _ _ _ _) fun p39 => ?_
  refine run_next (part40_runs c i arg3 harg3 arg4 harg4 arg5 harg5 arg6 harg6 arg7 harg7 arg8 harg8 X x8 _ _ _ _ _ _ _ _ _ _ _) fun p40 => ?_
  refine run_next (part41_runs c i arg3 harg3 arg4 harg4 arg5 harg5 arg6 harg6 arg7 harg7 arg8 harg8 X x8 _ _ _ _ _ _ _ _ _ _) fun p41 => ?_
  refine run_next (part42_runs c i arg3 harg3 arg4 harg4 arg5 harg5 arg6 harg6 arg7 harg7 arg8 harg8 X x8 _ _ _ _ _ _ _ _ _ _) fun p42 => ?_
  refine run_next (part43_runs c i arg3 harg3 arg4 harg4 arg5 harg5 arg6 harg6 arg7 harg7 arg8 harg8 X x8 _ _ _ _ _ _ _ _ _ _ _ _ _ _) fun p43 => ?_
  refine Ret.bind (load7 c arg3 arg4 arg5 arg6 arg7 arg8 X x8 _ _) ?_
  refine Ret.bind (load8 c arg3 arg4 arg5 arg6 arg7 arg8 X x8 _ _) ?_
  refine Ret.pure_of_eq ?_
  rfl

end Cert.KernelIdeal.Body

end
-- ==== Proof.KernelIdealFrame.lean ====
/- The launch of the attention program: what the body leaves in its output buffer, the pipeline's data, the run and the frame. -/
module

public import proofs.«01_k».proof.Proof.KernelIdealRuns
public import proofs.«01_k».proof.Proof.Gen.KernelIdeal.Frame
public import Idealize.ShloMosaic.Lib.Pipeline.FrameBody
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Attn

variable {F : FTy → Type} [FloatOps F] [Named F]

local notation "𝕄" => MT nD τ sig Unit (Elt F) ℕ (UR sig nD τ) ℕ

/-- The rectangle that the body's store covers. -/
abbrev rOut : Rect S1x2048x128 := Rect.unit (s := S1x2048x128) ![0, 0, 0] S1x2048x128.size inb_S1x2048x128_S1x2048x128_0_0_0

/-- The last value of the body does not look at what the output buffer held. -/
theorem part44_fst (i : grid0.Coords) (X : Blocks F) (x8 y8 : Vec F S1x2048x128 .bf16) :
    (part44 i X x8).1 = (part44 i X y8).1 := by
  unfold part44 next
  rfl

/-- What the body leaves in the output buffer, from the input blocks. -/
def outBlock (i : grid0.Coords) (X : Blocks F) : Vec F S1x2048x128 .bf16 :=
  View.canon [⟨rOut, k0_pay1 (part44 i X (View.canon [])).1⟩]

/-- The store covers the output buffer. -/
theorem cover_out (p0 : Vec F S1x2048x128 .bf16) (y : S1x2048x128.Idx) :
    ∃ pc ∈ ([⟨rOut, p0⟩] : List (View.Piece (Elt F) S1x2048x128 .bf16)), y ∈ pc.1.set :=
  View.cover_of_tiled [⟨rOut, p0⟩] S1x2048x128.size (by rfl) y

set_option maxHeartbeats 1000000 in
/-- The body on whole buffers keeps its inputs and leaves `outBlock` of them in the output buffer. -/
theorem sound_kernel (c : Dev nD) (E : Set ℕ) (i : grid0.Coords) (arg3 : Memref sig .tc .vmem S1x128x2048 .bf16) (harg3 : arg3.IsWhole) (arg4 : Memref sig .tc .vmem S1x8192x128 .bf16) (harg4 : arg4.IsWhole) (arg5 : Memref sig .tc .vmem S1x128x8192 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x2048x128 .bf16) (harg8 : arg8.IsWhole) (X : Blocks F) (x8 : Vec F S1x2048x128 .bf16) (K : PUnit → sProp 𝕄) :
    iprop(Own c arg3 arg4 arg5 arg6 arg7 arg8 X x8 ∗ (iprop(Own c arg3 arg4 arg5 arg6 arg7 arg8 X (outBlock i X)) -∗ K ⟨⟩))
      ⊢ wp frame (wpE (defs₀ (F := F)) Variants.none (c : Thread nD τ) none) E (cc0_prompt_diff_attention i arg3 harg3 arg4 harg4 arg5 harg5 arg6 harg6 arg7 harg7 arg8 harg8) K := by
  simp only [cc0_prompt_diff_attention_eq_skeleton]
  unfold cc0_prompt_diff_attention_skel
  rw [wp_bind]
  iintro ⟨HO, HK⟩
  iapply (part44_runs c i arg3 harg3 arg4 harg4 arg5 harg5 arg6 harg6 arg7 harg7 arg8 harg8 X x8 E _)
  isplitl [HO]; · iexact HO
  iintro HO
  unfold outBlock
  rw [← part44_fst i X x8 (View.canon [])]
  generalize part44 i X x8 = p
  obtain ⟨v650, v651⟩ := p
  unfold Own owns
  icases HO with ⟨⟨%f3, %h3, H3⟩, ⟨%f4, %h4, H4⟩, ⟨%f5, %h5, H5⟩, ⟨%f6, %h6, H6⟩, ⟨%f7, %h7, H7⟩, ⟨%f8, %h8, H8⟩⟩
  sl_exec
  sl_step
  iapply HK
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  iexists _; isplitr
  swap; · iexact H8
  ipureintro
  exact View.read_writes_eq_canon _ _ _ (cover_out _)

variable (m : (ℓ : Loc nD τ sig) → Buf (Elt F) ℓ) (ρ : Dev nD → PrngReg)

/-- The input blocks at a point. -/
def blocks (c : Dev nD) (t : Fin cfg0.N) : Blocks F := ⟨iblk m c 0 t, iblk m c 1 t, iblk m c 2 t, iblk m c 3 t, iblk m c 4 t⟩

/-- The pipeline's data: each input buffer holds its block, and the output buffer `outBlock` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (grid0.coords t) (blocks m c t)
  Φ _ := Pipeline.ΦA spec0 c
  q _ := fullShare
  owed _ := 0

/-- The arrays as the region finds them. -/
theorem A_eq (c : Dev nD) (w : Fin cfg0.W) : (dats m 0 c).A w = V m c (Pipeline.arrRef spec0 w) := by
  dsimp only [dats]

/-- Input buffer 0 after the body. -/
theorem after0_0 (c : Dev nD) (t : Fin cfg0.N) : (dats m 0 c).after 0 t = iblk m c 0 t := by dsimp only [dats]
/-- Input buffer 0 before the body. -/
theorem before0_0 (c : Dev nD) (t : Fin cfg0.N) (d) : (dats m 0 c).before 0 t d = iblk m c 0 t :=
  before0_0_of m (dats m 0 c) (A_eq m c 0) (after0_0 m c) t d
/-- Input buffer 1 after the body. -/
theorem after0_1 (c : Dev nD) (t : Fin cfg0.N) : (dats m 0 c).after 1 t = iblk m c 1 t := by dsimp only [dats]
/-- Input buffer 1 before the body. -/
theorem before0_1 (c : Dev nD) (t : Fin cfg0.N) (d) : (dats m 0 c).before 1 t d = iblk m c 1 t :=
  before0_1_of m (dats m 0 c) (A_eq m c 1) (after0_1 m c) t d
/-- Input buffer 2 after the body. -/
theorem after0_2 (c : Dev nD) (t : Fin cfg0.N) : (dats m 0 c).after 2 t = iblk m c 2 t := by dsimp only [dats]
/-- Input buffer 2 before the body. -/
theorem before0_2 (c : Dev nD) (t : Fin cfg0.N) (d) : (dats m 0 c).before 2 t d = iblk m c 2 t :=
  before0_2_of m (dats m 0 c) (A_eq m c 2) (after0_2 m c) t d
/-- Input buffer 3 after the body. -/
theorem after0_3 (c : Dev nD) (t : Fin cfg0.N) : (dats m 0 c).after 3 t = iblk m c 3 t := by dsimp only [dats]
/-- Input buffer 3 before the body. -/
theorem before0_3 (c : Dev nD) (t : Fin cfg0.N) (d) : (dats m 0 c).before 3 t d = iblk m c 3 t :=
  before0_3_of m (dats m 0 c) (A_eq m c 3) (after0_3 m c) t d
/-- Input buffer 4 after the body. -/
theorem after0_4 (c : Dev nD) (t : Fin cfg0.N) : (dats m 0 c).after 4 t = iblk m c 4 t := by dsimp only [dats]
/-- Input buffer 4 before the body. -/
theorem before0_4 (c : Dev nD) (t : Fin cfg0.N) (d) : (dats m 0 c).before 4 t d = iblk m c 4 t :=
  before0_4_of m (dats m 0 c) (A_eq m c 4) (after0_4 m c) t d
/-- The output buffer after the body. -/
theorem after0_5 (c : Dev nD) (t : Fin cfg0.N) : (dats m 0 c).after 5 t = outBlock (grid0.coords t) (blocks m c t) := by dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (blocks m c t) _ _)
  unfold Own
  dsimp only [blocks]
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The table's row at a point is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch ends, with every array as the pipeline's data compute it and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, with every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Frames.lean ====
/- The programs run to the end, keep their arguments and leave every semaphore at zero; the idealization is sanctioned. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Out
public import proofs.«01_k».proof.Proof.Gen.OutIdeal
public import proofs.«01_k».proof.Proof.Gen.Out.Frame
public import proofs.«01_k».proof.Proof.Gen.OutIdeal.Frame
public import proofs.«01_k».proof.Proof.Gen.OutRefIdeal
public import proofs.«01_k».proof.Proof.Gen.OutRefIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.MixRefIdeal.Run
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvRefIdeal
public import proofs.«01_k».proof.Proof.Gen.QkvRefIdeal.Run
public import proofs.«01_k».proof.Proof.Gen.Pre_inputs_finite
public import proofs.«01_k».proof.Proof.Gen.Pre_mix_finite
public import proofs.«01_k».proof.Proof.KernelFrame
public import proofs.«01_k».proof.Proof.KernelIdealFrame
public import Idealize.ShloMosaic.Lib.Quiescent
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The facts that the attention program's text states. -/
instance : Cert.Kernel.Facts := Cert.Kernel.Gen.facts
/-- The facts that its idealization states. -/
instance : Cert.KernelIdeal.Facts := Cert.KernelIdeal.Gen.facts
/-- The facts that its reference states. -/
instance : Cert.ReferenceIdeal.Facts := Cert.ReferenceIdeal.Gen.facts
/-- The facts that the output program's text states. -/
instance : Cert.Out.Facts := Cert.Out.Gen.facts
/-- The facts that its idealization states. -/
instance : Cert.OutIdeal.Facts := Cert.OutIdeal.Gen.facts
/-- The facts that its reference states. -/
instance : Cert.OutRefIdeal.Facts := Cert.OutRefIdeal.Gen.facts
/-- The facts that the precondition's program states. -/
instance : Cert.Pre_inputs_finite.Facts := Cert.Pre_inputs_finite.Gen.facts

/-- The facts that the projection program's text states. -/
instance : Cert.Qkv.Facts := Cert.Qkv.Gen.facts
/-- The facts that its ideal copy's text states. -/
instance : Cert.QkvIdeal.Facts := Cert.QkvIdeal.Gen.facts
/-- The facts that its reference's text states. -/
instance : Cert.QkvRefIdeal.Facts := Cert.QkvRefIdeal.Gen.facts

/-- The facts that the mixer program's text states. -/
instance : Cert.Mix.Facts := Cert.Mix.Gen.facts
/-- The facts that its idealization states. -/
instance : Cert.MixIdeal.Facts := Cert.MixIdeal.Gen.facts
/-- The facts that its reference states. -/
instance : Cert.MixRefIdeal.Facts := Cert.MixRefIdeal.Gen.facts
/-- The facts that its precondition's program states. -/
instance : Cert.Pre_mix_finite.Facts := Cert.Pre_mix_finite.Gen.facts

/-- The attention program keeps its arguments. -/
theorem frame_kernel : Cert.quiescent_Kernel := fun m ρ _ => Cert.Kernel.Body.frame m ρ

/-- Its idealization keeps its arguments. -/
theorem frame_kernelIdeal : Cert.quiescent_KernelIdeal := fun m ρ _ => Cert.KernelIdeal.Body.frame m ρ

/-- Its idealization keeps its arguments under the precondition. -/
theorem frame_kernelIdeal_pre : Cert.quiescent_KernelIdeal_pre_inputs_finite := fun m ρ _ => Cert.KernelIdeal.Body.frame m ρ

/-- The reference keeps its arguments. -/
theorem frame_reference : Cert.quiescent_ReferenceIdeal := fun m ρ _ =>
  (θ_run Cert.ReferenceIdeal.defs _ _).mono (fun r h => And.intro (fun c => (h c).2) (sem_eq_zero_of_no_sems rfl r.2)) (Cert.ReferenceIdeal.Value.run (F := Ideal) m ρ)

/-- The reference keeps its arguments under the precondition. -/
theorem frame_reference_pre : Cert.quiescent_ReferenceIdeal_pre_inputs_finite := fun m ρ _ =>
  (θ_run Cert.ReferenceIdeal.defs _ _).mono (fun r h => And.intro (fun c => (h c).2) (sem_eq_zero_of_no_sems rfl r.2)) (Cert.ReferenceIdeal.Value.run (F := Ideal) m ρ)

/-- The output program keeps its arguments. -/
theorem frame_out : Cert.quiescent_Out := fun m ρ _ => Cert.Out.Gen.frame m ρ

/-- Its idealization keeps its arguments. -/
theorem frame_outIdeal : Cert.quiescent_OutIdeal := fun m ρ _ => Cert.OutIdeal.Gen.frame m ρ

/-- Its reference keeps its arguments. -/
theorem frame_outRef : Cert.quiescent_OutRefIdeal := fun m ρ _ =>
  (θ_run Cert.OutRefIdeal.defs _ _).mono (fun r h => And.intro (fun c => (h c).2) (sem_eq_zero_of_no_sems rfl r.2)) (Cert.OutRefIdeal.Value.run (F := Ideal) m ρ)

/-- The mixer program keeps its arguments. -/
theorem frame_mix : Cert.quiescent_Mix := fun m ρ _ => Cert.Mix.Gen.frame m ρ

/-- Its idealization keeps its arguments. -/
theorem frame_mixIdeal : Cert.quiescent_MixIdeal := fun m ρ _ => Cert.MixIdeal.Gen.frame m ρ

/-- Its idealization keeps its arguments under the precondition. -/
theorem frame_mixIdeal_pre : Cert.quiescent_MixIdeal_pre_mix_finite := fun m ρ _ => Cert.MixIdeal.Gen.frame m ρ

/-- Its reference keeps its arguments. -/
theorem frame_mixRef : Cert.quiescent_MixRefIdeal := fun m ρ _ =>
  (θ_run Cert.MixRefIdeal.defs _ _).mono (fun r h => And.intro (fun c => (h c).2.2.2) (sem_eq_zero_of_no_sems rfl r.2)) (Cert.MixRefIdeal.Value.run (F := Ideal) m ρ)

/-- Its reference keeps its arguments under the precondition. -/
theorem frame_mixRef_pre : Cert.quiescent_MixRefIdeal_pre_mix_finite := fun m ρ _ =>
  (θ_run Cert.MixRefIdeal.defs _ _).mono (fun r h => And.intro (fun c => (h c).2.2.2) (sem_eq_zero_of_no_sems rfl r.2)) (Cert.MixRefIdeal.Value.run (F := Ideal) m ρ)

/-- The one rewritten constant, the mask, stands for minus infinity. -/
theorem preserves_kernel : Cert.preserves_Kernel_KernelIdeal :=
  IdealRules.named_const.statement Cert.KernelIdeal.κ "mask" .f32 0xF149F2CA#32 ⊥ rfl

/-- The projection program keeps its arguments. -/
theorem frame_qkv : Cert.quiescent_Qkv := fun m ρ _ => Cert.Qkv.Gen.frame m ρ

/-- Its ideal copy keeps them. -/
theorem frame_qkvIdeal : Cert.quiescent_QkvIdeal := fun m ρ _ => Cert.QkvIdeal.Gen.frame m ρ

/-- Its reference keeps them. -/
theorem frame_qkvRef : Cert.quiescent_QkvRefIdeal := fun m ρ _ =>
  (θ_run Cert.QkvRefIdeal.defs _ _).mono (fun r h => And.intro (fun c => (h c).2.2.2) (sem_eq_zero_of_no_sems rfl r.2)) (Cert.QkvRefIdeal.Value.run (F := Ideal) m ρ)

/-- The scale's name is its word's value. -/
theorem preserves_qkv : Cert.preserves_Qkv_QkvIdeal := IdealRules.named_const.statement Cert.QkvIdeal.κ "score" .f32 0x3E38AA3B#32 _ rfl

end Cert.Proof

end
-- ==== Proof.OutMath.lean ====
/- The attention's output projection and the gated block after it, row by row, over the extended reals. -/
module

public import Idealize.ShloMosaic.Lib.Pointwise

@[expose] public section

noncomputable section

namespace Cert.OutMath

open Idealize.ShloMosaic

/-- A row times a matrix. -/
def lin {K N : Nat} (x : Fin K → EReal) (w : Fin K → Fin N → EReal) (n : Fin N) : EReal := ∑ k, x k * w k n

/-- A row over its root mean square, times the gains. -/
def rms (x g : Fin 1024 → EReal) (n : Fin 1024) : EReal :=
  x n * Ideal.rsqrt (Ideal.div (∑ k, x k * x k) (Ideal.ofBits FTy.f32 1149239296#32) + Ideal.ofBits FTy.f32 897988541#32) * g n

/-- The residual row after the output projection. -/
def mixRow (y o : Fin 1024 → EReal) (wo : Fin 1024 → Fin 1024 → EReal) (g1 : Fin 1024 → EReal) (n : Fin 1024) : EReal :=
  y n + rms (lin o wo) g1 n

/-- The squared positive part. -/
def sqRelu (a : EReal) : EReal := max a 0 * max a 0

/-- The residual row after the block. -/
def layerRow (y o : Fin 1024 → EReal) (wo : Fin 1024 → Fin 1024 → EReal) (g1 g2 g3 : Fin 1024 → EReal)
    (wu : Fin 1024 → Fin 4096 → EReal) (wd : Fin 4096 → Fin 1024 → EReal) (n : Fin 1024) : EReal :=
  mixRow y o wo g1 n + rms (lin (fun j => sqRelu (lin (rms (mixRow y o wo g1) g2) wu j)) wd) g3 n

/-- Equal arguments give equal rows. -/
theorem layerRow_congr {y y' o o' : Fin 1024 → EReal} {wo wo' : Fin 1024 → Fin 1024 → EReal} {g1 g1' g2 g2' g3 g3' : Fin 1024 → EReal}
    {wu wu' : Fin 1024 → Fin 4096 → EReal} {wd wd' : Fin 4096 → Fin 1024 → EReal} (n : Fin 1024)
    (h0 : y = y') (h1 : o = o') (h2 : wo = wo') (h3 : g1 = g1') (h4 : g2 = g2') (h5 : g3 = g3') (h6 : wu = wu') (h7 : wd = wd') :
    layerRow y o wo g1 g2 g3 wu wd n = layerRow y' o' wo' g1' g2' g3' wu' wd' n := by
  subst h0 h1 h2 h3 h4 h5 h6 h7; rfl

end Cert.OutMath

end
-- ==== Proof.OutKernel.lean ====
/- The output program's result, row by row. -/
module

public import proofs.«01_k».proof.Proof.OutMath
public import proofs.«01_k».proof.Proof.Gen.OutIdeal.Frame
public import Idealize.ShloMosaic.Lib.Pipeline.ValueKit

@[expose] public section

set_option maxRecDepth 16384

noncomputable section

namespace Cert.OutIdeal.RefValue

open Idealize.ShloMosaic Idealize.ShloMosaic.TcCoe Idealize.SL.Sem
open Idealize.ShloMosaic.Pipeline (Dat)
open Cert.OutIdeal Cert.OutIdeal.Gen Cert.OutMath

/-- The residual after the output projection, at an index. -/
theorem pay2_apply (v0 : Vec Ideal S512x1024 .f32) (v2 : Vec Ideal S512x1024 .bf16) (v4 : Vec Ideal S1024x1024 .bf16) (v7 : Vec Ideal S1x1024 .f32) (r : Fin 512) (n : Fin 1024) :
    k0_pay2 v0 v2 v4 v7 (ix2 r n) = mixRow (fun n => v0 (ix2 r n)) (fun n => v2 (ix2 r n)) (fun k n => v4 (ix2 k n)) (fun n => v7 (ix2 0 n)) n := by
  unfold k0_pay2 mixRow rms lin
  pointwise

/-- The normalised residual, at an index. -/
theorem pay4_apply (v0 : Vec Ideal S512x1024 .f32) (v2 : Vec Ideal S512x1024 .bf16) (v4 : Vec Ideal S1024x1024 .bf16) (v7 v22 : Vec Ideal S1x1024 .f32) (r : Fin 512) (n : Fin 1024) :
    k0_pay4 v0 v2 v4 v7 v22 (ix2 r n) = rms (fun n => k0_pay2 v0 v2 v4 v7 (ix2 r n)) (fun n => v22 (ix2 0 n)) n := by
  unfold k0_pay4 rms
  pointwise

/-- The last residual, at an index. -/
theorem pay1_apply (v21 : FVec Ideal S512x1024 .f32) (v24 : FVec Ideal S1x1024 .f32) (v38 : FVec Ideal S512x1024 .bf16) (v39 : Vec Ideal S1024x4096 .bf16) (v46 : Vec Ideal S4096x1024 .bf16) (r : Fin 512) (n : Fin 1024) :
    k0_pay1 v21 (k0_pay3 v24) v38 v39 v46 (ix2 r n) = v21 (ix2 r n) + rms (lin (fun j => sqRelu (lin (fun n => v38 (ix2 r n)) (fun k j => v39 (ix2 k j)) j)) (fun j n => v46 (ix2 j n))) (fun n => v24 (ix2 0 n)) n := by
  unfold k0_pay1 k0_pay3 rms lin sqRelu
  pointwise

variable (m : (ℓ : Loc nD τ sig) → Buf (Elt Ideal) ℓ) (ρ : Dev nD → PrngReg)

/-- A row of the result array. -/
def Grow (c : Dev nD) (r : Fin 32768) (n : Fin 1024) : EReal :=
  layerRow (fun n => V m c main_v17 (ix2 r n)) (fun n => V m c main_v19 (ix2 r n)) (fun k n => V m c main_v1 (ix2 k n))
    (fun n => V m c main_v4 (ix2 0 n)) (fun n => V m c main_v7 (ix2 0 n)) (fun n => V m c main_v10 (ix2 0 n))
    (fun k n => V m c main_v13 (ix2 k n)) (fun k n => V m c main_v16 (ix2 k n)) n

/-- The result array, row by row. -/
def G (c : Dev nD) : Buf (Elt Ideal) ((c : Thread nD τ).loc main_v20) := fun (i : S32768x1024.Idx) => Grow m c (i 0) (i 1)

/-- The result array at an index. -/
theorem G_apply (c : Dev nD) (r : Fin 32768) (n : Fin 1024) : G m c (ix2 r n) = Grow m c r n := rfl

/-- Where each window sits. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val, 0] := by
  decide +kernel

/-- A row of a point's block, as a row of the array. -/
def row (t : Fin cfg0.N) (r : Fin 512) : Fin 32768 := ⟨t.val * 512 + r.val, by have := t.isLt; have : cfg0.N = 64 := N_0; omega⟩

/-- Block 0 at an index. -/
theorem iblk0_apply (c : Dev nD) (t : Fin cfg0.N) (r : Fin 512) (n : Fin 1024) : iblk m c 0 t (ix2 r n) = V m c main_v17 (ix2 (row t r) n) := by
  obtain ⟨e0, e1, e2, e3, e4, e5, e6, e7, e8⟩ := idx t
  unfold iblk
  blk_ext [e0, row]

/-- Block 1 at an index. -/
theorem iblk1_apply (c : Dev nD) (t : Fin cfg0.N) (r : Fin 512) (n : Fin 1024) : iblk m c 1 t (ix2 r n) = V m c main_v19 (ix2 (row t r) n) := by
  obtain ⟨e0, e1, e2, e3, e4, e5, e6, e7, e8⟩ := idx t
  unfold iblk
  blk_ext [e1, row]

/-- Block 2 at an index. -/
theorem iblk2_apply (c : Dev nD) (t : Fin cfg0.N) (r : Fin 1024) (n : Fin 1024) : iblk m c 2 t (ix2 r n) = V m c main_v1 (ix2 r n) := by
  obtain ⟨e0, e1, e2, e3, e4, e5, e6, e7, e8⟩ := idx t
  unfold iblk
  blk_ext [e2]

/-- Block 3 at an index. -/
theorem iblk3_apply (c : Dev nD) (t : Fin cfg0.N) (r : Fin 1) (n : Fin 1024) : iblk m c 3 t (ix2 r n) = V m c main_v4 (ix2 r n) := by
  obtain ⟨e0, e1, e2, e3, e4, e5, e6, e7, e8⟩ := idx t
  unfold iblk
  blk_ext [e3]

/-- Block 4 at an index. -/
theorem iblk4_apply (c : Dev nD) (t : Fin cfg0.N) (r : Fin 1) (n : Fin 1024) : iblk m c 4 t (ix2 r n) = V m c main_v7 (ix2 r n) := by
  obtain ⟨e0, e1, e2, e3, e4, e5, e6, e7, e8⟩ := idx t
  unfold iblk
  blk_ext [e4]

/-- Block 5 at an index. -/
theorem iblk5_apply (c : Dev nD) (t : Fin cfg0.N) (r : Fin 1) (n : Fin 1024) : iblk m c 5 t (ix2 r n) = V m c main_v10 (ix2 r n) := by
  obtain ⟨e0, e1, e2, e3, e4, e5, e6, e7, e8⟩ := idx t
  unfold iblk
  blk_ext [e5]

/-- Block 6 at an index. -/
theorem iblk6_apply (c : Dev nD) (t : Fin cfg0.N) (r : Fin 1024) (n : Fin 4096) : iblk m c 6 t (ix2 r n) = V m c main_v13 (ix2 r n) := by
  obtain ⟨e0, e1, e2, e3, e4, e5, e6, e7, e8⟩ := idx t
  unfold iblk
  blk_ext [e6]

/-- Block 7 at an index. -/
theorem iblk7_apply (c : Dev nD) (t : Fin cfg0.N) (r : Fin 4096) (n : Fin 1024) : iblk m c 7 t (ix2 r n) = V m c main_v16 (ix2 r n) := by
  obtain ⟨e0, e1, e2, e3, e4, e5, e6, e7, e8⟩ := idx t
  unfold iblk
  blk_ext [e7]

/-- The launch leaves the rows in the result array. -/
theorem final (c : Dev nD) : (dats m 0 c).arrAt 8 cfg0.N = G m c := by
  refine (dats m 0 c).arrAt_eq_of_covers 8 _ (by decide +kernel) fun t hf y => ?_
  obtain ⟨e0, e1, e2, e3, e4, e5, e6, e7, e8⟩ := idx t
  blk_simp
  rw [after0_8]
  frame_out
  obtain ⟨r, n, rfl⟩ : ∃ (r : Fin 512) (n : Fin 1024), y = ix2 r n := ⟨y 0, y 1, eq_ix2 y⟩
  rw [show ((View.whole main_v20).slice (win0_8.rect t)).emb (ix2 r n) = ix2 (row t r) n from by blk_ext [e8, row]]
  rw [pay1_apply]
  simp only [pay4_apply, pay2_apply]
  simp only [iblk0_apply, iblk1_apply, iblk2_apply, iblk3_apply, iblk4_apply, iblk5_apply, iblk6_apply, iblk7_apply]
  rfl

end Cert.OutIdeal.RefValue

end
-- ==== Proof.OutClaim.lean ====
/- The output program and its reference end with equal results. -/
module

public import proofs.«01_k».proof.Proof.OutKernel
public import proofs.«01_k».proof.Proof.Frames

@[expose] public section

set_option maxRecDepth 16384

noncomputable section

namespace Cert.OutMath

open Idealize.ShloMosaic Idealize.ShloMosaic.TcCoe Idealize.SL.Sem

/-- The result, from the arguments. -/
def result (y o : (⟨3, ![4, 8192, 1024]⟩ : Shape).Idx → EReal) (wo : (⟨3, ![1, 1024, 1024]⟩ : Shape).Idx → EReal)
    (g1 g2 g3 : (⟨2, ![2, 1024]⟩ : Shape).Idx → EReal) (wu : (⟨3, ![2, 1024, 4096]⟩ : Shape).Idx → EReal) (wd : (⟨3, ![2, 4096, 1024]⟩ : Shape).Idx → EReal)
    (b : Fin 4) (s : Fin 8192) (n : Fin 1024) : EReal :=
  layerRow (fun n => y (ix3 b s n)) (fun n => o (ix3 b s n)) (fun k n => wo (ix3 0 k n)) (fun n => g1 (ix2 1 n)) (fun n => g2 (ix2 1 n)) (fun n => g3 (ix2 1 n))
    (fun k n => wu (ix3 1 k n)) (fun k n => wd (ix3 1 k n)) n

/-- The batch of a row of the result. -/
def bOf (r : Fin 32768) : Fin 4 := ⟨r.val / 8192, by omega⟩
/-- The position of a row of the result. -/
def sOf (r : Fin 32768) : Fin 8192 := ⟨r.val % 8192, by omega⟩

end Cert.OutMath

namespace Cert.OutIdeal.RefValue

open Idealize.ShloMosaic Idealize.ShloMosaic.TcCoe Idealize.SL.Sem
open Cert.OutIdeal Cert.OutIdeal.Gen Cert.OutMath

variable (m : (ℓ : Loc nD τ sig) → Buf (Elt Ideal) ℓ) (ρ : Dev nD → PrngReg)

/-- The array v17 as the launch finds it. -/
theorem V_v17 (c : Dev nD) (r : Fin 32768) (n : Fin 1024) : V m c main_v17 (ix2 r n) = m ((c : Thread nD τ).loc main_arg0) (ix3 (bOf r) (sOf r) n) := by
  entry_read
  unfold bOf sOf
  pointwise

/-- The array v19 as the launch finds it. -/
theorem V_v19 (c : Dev nD) (r : Fin 32768) (n : Fin 1024) : V m c main_v19 (ix2 r n) = m ((c : Thread nD τ).loc main_arg1) (ix3 (bOf r) (sOf r) n) := by
  entry_read
  unfold bOf sOf
  pointwise

/-- The array v1 as the launch finds it. -/
theorem V_v1 (c : Dev nD) (r : Fin 1024) (n : Fin 1024) : V m c main_v1 (ix2 r n) = m ((c : Thread nD τ).loc main_arg2) (ix3 0 r n) := by
  entry_read
  try dsimp only
  pointwise

/-- The array v4 as the launch finds it. -/
theorem V_v4 (c : Dev nD) (r : Fin 1) (n : Fin 1024) : V m c main_v4 (ix2 r n) = m ((c : Thread nD τ).loc main_arg3) (ix2 1 n) := by
  entry_read
  try dsimp only
  pointwise

/-- The array v7 as the launch finds it. -/
theorem V_v7 (c : Dev nD) (r : Fin 1) (n : Fin 1024) : V m c main_v7 (ix2 r n) = m ((c : Thread nD τ).loc main_arg4) (ix2 1 n) := by
  entry_read
  try dsimp only
  pointwise

/-- The array v10 as the launch finds it. -/
theorem V_v10 (c : Dev nD) (r : Fin 1) (n : Fin 1024) : V m c main_v10 (ix2 r n) = m ((c : Thread nD τ).loc main_arg5) (ix2 1 n) := by
  entry_read
  try dsimp only
  pointwise

/-- The array v13 as the launch finds it. -/
theorem V_v13 (c : Dev nD) (r : Fin 1024) (n : Fin 4096) : V m c main_v13 (ix2 r n) = m ((c : Thread nD τ).loc main_arg6) (ix3 1 r n) := by
  entry_read
  try dsimp only
  pointwise

/-- The array v16 as the launch finds it. -/
theorem V_v16 (c : Dev nD) (r : Fin 4096) (n : Fin 1024) : V m c main_v16 (ix2 r n) = m ((c : Thread nD τ).loc main_arg7) (ix3 1 r n) := by
  entry_read
  try dsimp only
  pointwise

/-- The launch's result is the rows of the arguments. -/
theorem G_eq (c : Dev nD) (r : Fin 32768) (n : Fin 1024) :
    G m c (ix2 r n) = result (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (bOf r) (sOf r) n := by
  rw [G_apply]
  exact layerRow_congr n (funext fun n => V_v17 m c r n) (funext fun n => V_v19 m c r n) (funext fun k => funext fun n => V_v1 m c k n)
    (funext fun n => V_v4 m c 0 n) (funext fun n => V_v7 m c 0 n) (funext fun n => V_v10 m c 0 n)
    (funext fun k => funext fun n => V_v13 m c k n) (funext fun k => funext fun n => V_v16 m c k n)

end Cert.OutIdeal.RefValue

namespace Cert.OutRefIdeal.RefValue

open Idealize.ShloMosaic Idealize.ShloMosaic.TcCoe Idealize.SL.Sem
open Cert.OutRefIdeal Cert.OutRefIdeal.Gen Cert.OutMath

/-- The reference's norm. -/
def normV (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

theorem normV_apply (x : FVec Ideal S4x8192x1024 .f32) (g : FVec Ideal S1024 .f32) (b : Fin 4) (s : Fin 8192) (n : Fin 1024) :
    normV x g (ix3 b s n) = rms (fun n => x (ix3 b s n)) (fun n => g (ix1 n)) n := by
  unfold normV rms
  pointwise

/-- The reference's residual after the output projection. -/
def mixV (y o : FVec Ideal S4x8192x1024 .f32) (wo : FVec Ideal S1024x1024 .f32) (g : FVec Ideal S1024 .f32) : FVec Ideal S4x8192x1024 .f32 :=
  addf y (normV (Host.dotGeneral dot_S4x8192x1024_S1024x1024_S4x8192x1024_2_0_01_1_n_n none o wo) g)

/-- It at an index. -/
theorem mixV_apply (y o : FVec Ideal S4x8192x1024 .f32) (wo : FVec Ideal S1024x1024 .f32) (g : FVec Ideal S1024 .f32) (b : Fin 4) (s : Fin 8192) (n : Fin 1024) :
    mixV y o wo g (ix3 b s n) = mixRow (fun n => y (ix3 b s n)) (fun n => o (ix3 b s n)) (fun k n => wo (ix2 k n)) (fun n => g (ix1 n)) n := by
  unfold mixV mixRow lin
  rw [show ∀ (a b : FVec Ideal S4x8192x1024 .f32) i, addf a b i = a i + b i from fun _ _ _ => rfl, normV_apply]
  pointwise

/-- The reference's block. -/
def mlpV (x : FVec Ideal S4x8192x1024 .f32) (wu : FVec Ideal S1024x4096 .f32) (wd : FVec Ideal S4096x1024 .f32) : FVec Ideal S4x8192x1024 .f32 :=
  Host.dotGeneral dot_S4x8192x4096_S4096x1024_S4x8192x1024_2_0_01_1_n_n none
    (mulf (maximumf (Host.dotGeneral dot_S4x8192x1024_S1024x4096_S4x8192x4096_2_0_01_1_n_n none x wu) (broadcastInDim S4x8192x4096 ![] bcast_S_S4x8192x4096 (constant S_ .f32 0x00000000#32)))
      (maximumf (Host.dotGeneral dot_S4x8192x1024_S1024x4096_S4x8192x4096_2_0_01_1_n_n none x wu) (broadcastInDim S4x8192x4096 ![] bcast_S_S4x8192x4096 (constant S_ .f32 0x00000000#32)))) wd

/-- It at an index. -/
theorem mlpV_apply (x : FVec Ideal S4x8192x1024 .f32) (wu : FVec Ideal S1024x4096 .f32) (wd : FVec Ideal S4096x1024 .f32) (b : Fin 4) (s : Fin 8192) (n : Fin 1024) :
    mlpV x wu wd (ix3 b s n) = lin (fun j => sqRelu (lin (fun n => x (ix3 b s n)) (fun k n => wu (ix2 k n)) j)) (fun k n => wd (ix2 k n)) n := by
  unfold mlpV lin sqRelu
  pointwise

variable (m : (ℓ : Loc nD τ sig) → Buf (Elt Ideal) ℓ)

/-- A gain vector of the second layer. -/
def gainV (g : FVec Ideal S2x1024 .f32) : FVec Ideal S1024 .f32 := shapeCast _ (extractStridedSlice S1x1024 ![1, 0] g slices_S2x1024_S1x1024_1_0) shapeCasts_S1x1024_S1024

/-- The reference's result as the composition of its steps. -/
theorem res_eq (c : Dev nD) : Cert.OutRefIdeal.Value.res_main_v57 m c =
    shapeCast S32768x1024 (addf (mixV (m ((c.tc : Thread nD τ).loc main_arg0)) (m ((c.tc : Thread nD τ).loc main_arg1)) (shapeCast _ (m ((c.tc : Thread nD τ).loc main_arg2)) shapeCasts_S1x1024x1024_S1024x1024) (gainV (m ((c.tc : Thread nD τ).loc main_arg3))))
      (normV (mlpV (normV (mixV (m ((c.tc : Thread nD τ).loc main_arg0)) (m ((c.tc : Thread nD τ).loc main_arg1)) (shapeCast _ (m ((c.tc : Thread nD τ).loc main_arg2)) shapeCasts_S1x1024x1024_S1024x1024) (gainV (m ((c.tc : Thread nD τ).loc main_arg3)))) (gainV (m ((c.tc : Thread nD τ).loc main_arg4))))
          (shapeCast _ (extractStridedSlice S1x1024x4096 ![1, 0, 0] (m ((c.tc : Thread nD τ).loc main_arg6)) slices_S2x1024x4096_S1x1024x4096_1_0_0) shapeCasts_S1x1024x4096_S1024x4096)
          (shapeCast _ (extractStridedSlice S1x4096x1024 ![1, 0, 0] (m ((c.tc : Thread nD τ).loc main_arg7)) slices_S2x4096x1024_S1x4096x1024_1_0_0) shapeCasts_S1x4096x1024_S4096x1024))
        (gainV (m ((c.tc : Thread nD τ).loc main_arg5))))) shapeCasts_S4x8192x1024_S32768x1024 := by
  unfold Cert.OutRefIdeal.Value.res_main_v57 mixV mlpV normV gainV
  rfl

/-- A gain at an index. -/
theorem gainV_apply (g : FVec Ideal S2x1024 .f32) (n : Fin 1024) : gainV g (ix1 n) = g (ix2 1 n) := by
  unfold gainV
  pointwise

/-- A reshaped array at an index. -/
theorem flatV_apply (x : FVec Ideal S4x8192x1024 .f32) (r : Fin 32768) (n : Fin 1024) : shapeCast S32768x1024 x shapeCasts_S4x8192x1024_S32768x1024 (ix2 r n) = x (ix3 (bOf r) (sOf r) n) := by unfold bOf sOf; pointwise

/-- A reshaped array at an index. -/
theorem woV_apply (wo : FVec Ideal S1x1024x1024 .f32) (k n : Fin 1024) : shapeCast S1024x1024 wo shapeCasts_S1x1024x1024_S1024x1024 (ix2 k n) = wo (ix3 0 k n) := by pointwise

/-- A reshaped array at an index. -/
theorem wuV_apply (wu : FVec Ideal S2x1024x4096 .f32) (k : Fin 1024) (n : Fin 4096) : shapeCast S1024x4096 (extractStridedSlice S1x1024x4096 ![1, 0, 0] wu slices_S2x1024x4096_S1x1024x4096_1_0_0) shapeCasts_S1x1024x4096_S1024x4096 (ix2 k n) = wu (ix3 1 k n) := by pointwise

/-- A reshaped array at an index. -/
theorem wdV_apply (wd : FVec Ideal S2x4096x1024 .f32) (k : Fin 4096) (n : Fin 1024) : shapeCast S4096x1024 (extractStridedSlice S1x4096x1024 ![1, 0, 0] wd slices_S2x4096x1024_S1x4096x1024_1_0_0) shapeCasts_S1x4096x1024_S4096x1024 (ix2 k n) = wd (ix3 1 k n) := by pointwise

/-- The composed steps are the rows. -/
theorem steps_apply (y o : FVec Ideal S4x8192x1024 .f32) (wo : FVec Ideal S1x1024x1024 .f32) (g1 g2 g3 : FVec Ideal S2x1024 .f32) (wu : FVec Ideal S2x1024x4096 .f32) (wd : FVec Ideal S2x4096x1024 .f32) (r : Fin 32768) (n : Fin 1024) :
    shapeCast S32768x1024 (addf (mixV y o (shapeCast _ wo shapeCasts_S1x1024x1024_S1024x1024) (gainV g1))
      (normV (mlpV (normV (mixV y o (shapeCast _ wo shapeCasts_S1x1024x1024_S1024x1024) (gainV g1)) (gainV g2))
          (shapeCast _ (extractStridedSlice S1x1024x4096 ![1, 0, 0] wu slices_S2x1024x4096_S1x1024x4096_1_0_0) shapeCasts_S1x1024x4096_S1024x4096)
          (shapeCast _ (extractStridedSlice S1x4096x1024 ![1, 0, 0] wd slices_S2x4096x1024_S1x4096x1024_1_0_0) shapeCasts_S1x4096x1024_S4096x1024))
        (gainV g3))) shapeCasts_S4x8192x1024_S32768x1024 (ix2 r n) = result y o wo g1 g2 g3 wu wd (bOf r) (sOf r) n := by
  rw [flatV_apply, show ∀ (a b : FVec Ideal S4x8192x1024 .f32) i, addf a b i = a i + b i from fun _ _ _ => rfl, normV_apply]
  simp only [mlpV_apply, normV_apply, mixV_apply, gainV_apply, woV_apply, wuV_apply, wdV_apply]
  rfl

/-- The reference's result is the rows of the arguments. -/
theorem res_apply (c : Dev nD) (r : Fin 32768) (n : Fin 1024) : Cert.OutRefIdeal.Value.res_main_v57 m c (ix2 r n) =
    result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (bOf r) (sOf r) n := by
  rw [res_eq]
  exact steps_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) r n

end Cert.OutRefIdeal.RefValue

namespace Cert.Proof

open Idealize.ShloMosaic Idealize.ShloMosaic.TcCoe Idealize.SL.Sem

/-- The output program and its reference end with equal results. -/
theorem algebraic_out : Cert.algebraic_OutIdeal_OutRefIdeal := by
  intro m ρ m' ρ' _ hagree
  refine ⟨fun c => Cert.OutIdeal.RefValue.G m c, ?_, ?_⟩
  · refine (θ_run Cert.OutIdeal.defs _ _).mono ?_ (θ_run_and (Cert.OutIdeal.Gen.run_main (F := Ideal) m ρ) (Cert.OutIdeal.Gen.unchanged (F := Ideal) m ρ))
    exact fun _ h c => ⟨((h.1 c).1 8).trans (Cert.OutIdeal.RefValue.final m c), h.2 c⟩
  · refine (θ_run Cert.OutRefIdeal.defs _ _).mono (fun _ h c => ⟨(h c).1.trans ?_, (h c).2⟩) (Cert.OutRefIdeal.Value.run (F := Ideal) m' ρ')
    funext i
    obtain ⟨r, n, rfl⟩ : ∃ (r : Fin 32768) (n : Fin 1024), i = ix2 r n := ⟨i 0, i 1, eq_ix2 i⟩
    obtain ⟨h0, h1, h2, h3, h4, h5, h6, h7⟩ := hagree c
    show _ = Cert.OutIdeal.RefValue.G m c (ix2 r n)
    rw [Cert.OutRefIdeal.RefValue.res_apply, Cert.OutIdeal.RefValue.G_eq, h0, h1, h2, h3, h4, h5, h6, h7]

end Cert.Proof

end
-- ==== Proof.MixMath.lean ====
/- The convolution-and-pooling mixer, row by row, over the extended reals. -/
module

public import proofs.«01_k».proof.Proof.OutMath

@[expose] public section

noncomputable section

namespace Cert.MixMath

open Idealize.ShloMosaic Cert.OutMath

/-- A row's two gates multiplied: what the convolution runs over. -/
def cvRow (p : Fin 2048 → EReal) (ch : Fin 512) : EReal := p ⟨512 + ch.val, by omega⟩ * p ⟨1024 + ch.val, by omega⟩

/-- The convolution's sequence with eight zero rows before it. -/
def cvp (P : Fin 8192 → Fin 2048 → EReal) (e : ℕ) (ch : Fin 512) : EReal :=
  if h : 8 ≤ e ∧ e - 8 < 8192 then cvRow (P ⟨e - 8, h.2⟩) ch else 0

/-- The pooled sequence with sixteen zero rows before it. -/
def up (P : Fin 8192 → Fin 2048 → EReal) (e : ℕ) (ch : Fin 512) : EReal :=
  if h : 16 ≤ e ∧ e - 16 < 8192 then P ⟨e - 16, h.2⟩ ⟨1536 + ch.val, by omega⟩ else 0

/-- The gated convolution of three rows. -/
def convOut (P : Fin 8192 → Fin 2048 → EReal) (w : Fin 3 → Fin 512 → EReal) (pos : Fin 8192) (ch : Fin 512) : EReal :=
  P pos ⟨ch.val, by omega⟩ * (w 2 ch * cvp P (pos.val + 8) ch + w 1 ch * cvp P (pos.val + 7) ch + w 0 ch * cvp P (pos.val + 6) ch)

/-- An entry and the `n` entries before it, summed. -/
def win (f : ℕ → EReal) (e : ℕ) : ℕ → EReal
  | 0 => f e
  | n + 1 => win f e n + f (e - (n + 1))

theorem win_1 (f : ℕ → EReal) (e : ℕ) : win f e 1 = f e + f (e - 1) := rfl

theorem win_3 (f : ℕ → EReal) (e : ℕ) : win f e 3 = f e + f (e - 1) + f (e - 2) + f (e - 3) := rfl

theorem win_7 (f : ℕ → EReal) (e : ℕ) : win f e 7 = f e + f (e - 1) + f (e - 2) + f (e - 3) + f (e - 4) + f (e - 5) + f (e - 6) + f (e - 7) := rfl

theorem win_15 (f : ℕ → EReal) (e : ℕ) : win f e 15 = f e + f (e - 1) + f (e - 2) + f (e - 3) + f (e - 4) + f (e - 5) + f (e - 6) + f (e - 7)
    + f (e - 8) + f (e - 9) + f (e - 10) + f (e - 11) + f (e - 12) + f (e - 13) + f (e - 14) + f (e - 15) := rfl

/-- How many rows a window of width `w` holds at the position of a word, as a number. -/
def cnt (c w : BitVec 32) : EReal := FloatOps.sitofp (F := Ideal) FTy.f32 (IntOp.minsi (IntOp.addi c 1#32) w)

/-- A window's mean less its last row. -/
def dRow (P : Fin 8192 → Fin 2048 → EReal) (pos : Fin 8192) (o n : ℕ) (w : BitVec 32) (i : Fin 128) (h : o + 128 ≤ 512) : EReal :=
  Ideal.div (win (fun e => up P e ⟨o + i.val, by omega⟩) (pos.val + 16) n) (cnt (BitVec.ofNat 32 pos.val) w) - P pos ⟨1536 + (o + i.val), by omega⟩

/-- The pooled row of each of the four groups. -/
def dGrp (P : Fin 8192 → Fin 2048 → EReal) (pos : Fin 8192) : Fin 4 → Fin 128 → EReal
  | 0, i => dRow P pos 0 1 2#32 i (by omega)
  | 1, i => dRow P pos 128 3 4#32 i (by omega)
  | 2, i => dRow P pos 256 7 8#32 i (by omega)
  | 3, i => dRow P pos 384 15 16#32 i (by omega)

/-- A group's pooled row, times its matrix and its scale. -/
def poolOut (P : Fin 8192 → Fin 2048 → EReal) (pw : Fin 4 → Fin 128 → Fin 128 → EReal) (ps : Fin 512 → EReal) (pos : Fin 8192) (g : Fin 4) (j : Fin 128) : EReal :=
  (∑ i, dGrp P pos g i * pw g i j) * ps ⟨g.val * 128 + j.val, by omega⟩

/-- The mixer's row: the gated convolution, then the four pooled groups. -/
def mixCat (P : Fin 8192 → Fin 2048 → EReal) (w : Fin 3 → Fin 512 → EReal) (pw : Fin 4 → Fin 128 → Fin 128 → EReal) (ps : Fin 512 → EReal)
    (pos : Fin 8192) (n : Fin 1024) : EReal :=
  if h : n.val < 512 then convOut P w pos ⟨n.val, h⟩
  else poolOut P pw ps pos ⟨(n.val - 512) / 128, by omega⟩ ⟨(n.val - 512) % 128, by omega⟩

/-- A column of the mixer's row is one of the convolution's or one of a group's. -/
theorem col_cases (n : Fin 1024) : (∃ ch : Fin 512, n = ⟨ch.val, by omega⟩) ∨ ∃ (g : Fin 4) (j : Fin 128), n = ⟨512 + (g.val * 128 + j.val), by omega⟩ := by
  by_cases h : n.val < 512
  · exact .inl ⟨⟨n.val, h⟩, rfl⟩
  · refine .inr ⟨⟨(n.val - 512) / 128, by omega⟩, ⟨(n.val - 512) % 128, by omega⟩, Fin.ext ?_⟩
    have := n.isLt
    dsimp only
    omega

theorem mixCat_conv (P : Fin 8192 → Fin 2048 → EReal) (w : Fin 3 → Fin 512 → EReal) (pw : Fin 4 → Fin 128 → Fin 128 → EReal) (ps : Fin 512 → EReal)
    (pos : Fin 8192) (ch : Fin 512) : mixCat P w pw ps pos ⟨ch.val, by omega⟩ = convOut P w pos ch := by
  unfold mixCat
  rw [dif_pos ch.isLt]

theorem mixCat_pool (P : Fin 8192 → Fin 2048 → EReal) (w : Fin 3 → Fin 512 → EReal) (pw : Fin 4 → Fin 128 → Fin 128 → EReal) (ps : Fin 512 → EReal)
    (pos : Fin 8192) (g : Fin 4) (j : Fin 128) : mixCat P w pw ps pos ⟨512 + (g.val * 128 + j.val), by omega⟩ = poolOut P pw ps pos g j := by
  unfold mixCat
  rw [dif_neg (by dsimp only; omega)]
  congr 1 <;> (apply Fin.ext; dsimp only; omega)

end Cert.MixMath

end
-- ==== Proof.MixPay.lean ====
/- The mixer program's payloads, at an index. -/
module

public import proofs.«01_k».proof.Proof.MixMath
public import proofs.«01_k».proof.Proof.Gen.MixIdeal.Skeleton
public import Idealize.ShloMosaic.Lib.Pipeline.ValueKit

@[expose] public section

set_option maxRecDepth 16384

noncomputable section

namespace Cert.MixIdeal.RefValue

open Idealize.ShloMosaic Idealize.ShloMosaic.TcCoe Idealize.SL.Sem
open Cert.MixIdeal Cert.MixIdeal.Gen Cert.OutMath Cert.MixMath

/-- The projection, at an index. -/
theorem pay9_apply (v3 : Vec Ideal S1x512x1024 .f32) (v5 : Vec Ideal S1x1024 .f32) (v20 : Vec Ideal S1024x2048 .bf16) (r : Fin 512) (n : Fin 2048) :
    k0_pay9 v3 v5 v20 (ix2 r n) = lin (rms (fun n => v3 (ix3 0 r n)) (fun n => v5 (ix2 0 n))) (fun k n => v20 (ix2 k n)) n := by
  unfold k0_pay9 k0_pay8 rms lin
  pointwise

/-- The positions' words, at an index. -/
theorem pay12_apply (i : grid0.Coords) (r : Fin 512) : k0_pay12 i (ix2 r 0) = BitVec.ofNat 32 ((i 1).val * 512 + r.val) := by
  unfold k0_pay12
  pointwise
  show BitVec.ofNat 32 ↑(i 1) * 512#32 + BitVec.ofNat 32 ↑r = _
  rw [BitVec.ofNat_add, BitVec.ofNat_mul]

/-- The gated convolution, at an index. -/
theorem pay15_apply (v22 : FVec Ideal S512x2048 .f32) (v37 : Vec Ideal S3x512 .f32) (v50 v55 : Vec Ideal S512x512 .f32) (r : Fin 512) (ch : Fin 512) :
    k0_pay15 v22 v37 v50 v55 (ix2 r ch) = v22 (ix2 r ⟨ch.val, by omega⟩) * (v37 (ix2 2 ch) * cvRow (fun n => v22 (ix2 r n)) ch + v37 (ix2 1 ch) * v50 (ix2 r ch) + v37 (ix2 0 ch) * v55 (ix2 r ch)) := by
  unfold k0_pay15 cvRow
  pointwise

/-- The first group's pooled rows times its matrix, at an index. -/
theorem pay16_apply (v22 : FVec Ideal S512x2048 .f32) (v36 : IVec S512x1 32) (v61 : Vec Ideal S512x128 .f32) (v72 : Vec Ideal S1x128x128 .bf16) (r : Fin 512) (j : Fin 128) :
    k0_pay16 v22 v36 v61 v72 (ix2 r j) = ∑ x : Fin 128, (Ideal.div (v22 (ix2 r ⟨1536 + x.val, by omega⟩) + v61 (ix2 r x)) (cnt (v36 (ix2 r 0)) 2#32) - v22 (ix2 r ⟨1536 + x.val, by omega⟩)) * v72 (ix3 0 x j) := by
  unfold k0_pay16 k0_pay14 cnt
  pointwise

/-- The second group's pooled rows times its matrix, at an index. -/
theorem pay19_apply (v22 : FVec Ideal S512x2048 .f32) (v36 : IVec S512x1 32) (a1 a2 a3 : Vec Ideal S512x128 .f32) (v91 : Vec Ideal S1x128x128 .bf16) (r : Fin 512) (j : Fin 128) :
    k0_pay19 v36 (k0_pay17 v22) (k0_pay18 v22 a1) a2 a3 v91 (ix2 r j) = ∑ x : Fin 128, (Ideal.div (v22 (ix2 r ⟨1536 + (128 + x.val), by omega⟩) + a1 (ix2 r x) + a2 (ix2 r x) + a3 (ix2 r x)) (cnt (v36 (ix2 r 0)) 4#32) - v22 (ix2 r ⟨1536 + (128 + x.val), by omega⟩)) * v91 (ix3 0 x j) := by
  unfold k0_pay19 k0_pay18 k0_pay17 k0_pay14 cnt
  pointwise

/-- The third group's pooled rows times its matrix, at an index. -/
theorem pay23_apply (v22 : FVec Ideal S512x2048 .f32) (v36 : IVec S512x1 32) (a1 a2 a3 a4 a5 a6 a7 : Vec Ideal S512x128 .f32) (v118 : Vec Ideal S1x128x128 .bf16) (r : Fin 512) (j : Fin 128) :
    k0_pay23 (k0_pay20 (k0_pay14 v22)) (k0_pay21 (k0_pay14 v22) a1 a2 a3 a4 a5 a6 a7) (k0_pay22 v36) v118 (ix2 r j) = ∑ x : Fin 128, (Ideal.div (v22 (ix2 r ⟨1536 + (256 + x.val), by omega⟩) + a1 (ix2 r x) + a2 (ix2 r x) + a3 (ix2 r x) + a4 (ix2 r x) + a5 (ix2 r x) + a6 (ix2 r x) + a7 (ix2 r x)) (cnt (v36 (ix2 r 0)) 8#32) - v22 (ix2 r ⟨1536 + (256 + x.val), by omega⟩)) * v118 (ix3 0 x j) := by
  unfold k0_pay23 k0_pay22 k0_pay21 k0_pay20 k0_pay14 cnt
  pointwise

/-- The fourth group's window sum up to its twelfth row, at an index. -/
theorem pay25_apply (v22 : FVec Ideal S512x2048 .f32) (a1 a2 a3 a4 a5 a6 a7 a8 a9 a10 a11 : Vec Ideal S512x128 .f32) (r : Fin 512) (x : Fin 128) :
    k0_pay25 (k0_pay14 v22) a1 a2 a3 a4 a5 a6 a7 a8 a9 a10 a11 (ix2 r x) = v22 (ix2 r ⟨1536 + (384 + x.val), by omega⟩) + a1 (ix2 r x) + a2 (ix2 r x) + a3 (ix2 r x) + a4 (ix2 r x) + a5 (ix2 r x) + a6 (ix2 r x) + a7 (ix2 r x) + a8 (ix2 r x) + a9 (ix2 r x) + a10 (ix2 r x) + a11 (ix2 r x) := by
  unfold k0_pay25 k0_pay24 k0_pay14
  pointwise

/-- The fourth group's last rows, at an index. -/
theorem pay24_apply (v22 : FVec Ideal S512x2048 .f32) (r : Fin 512) (x : Fin 128) :
    k0_pay24 (k0_pay14 v22) (ix2 r x) = v22 (ix2 r ⟨1536 + (384 + x.val), by omega⟩) := by
  unfold k0_pay24 k0_pay14
  pointwise

/-- The mixer's row of the step's parts, by column. -/
def catK (v36 : BitVec 32) (v40 : Fin 512 → EReal) (v59 : Fin 512 → EReal) (v74 v93 v120 v121 v143 a12 a13 a14 a15 : Fin 128 → EReal) (v161 : Fin 128 → Fin 128 → EReal) (k : Fin 1024) : EReal :=
  if h : k.val < 512 then v59 ⟨k.val, h⟩
  else (if h1 : k.val - 512 < 128 then v74 ⟨k.val - 512, h1⟩
    else if h2 : k.val - 512 - 128 < 128 then v93 ⟨k.val - 512 - 128, h2⟩
    else if h3 : k.val - 512 - 128 - 128 < 128 then v120 ⟨k.val - 512 - 128 - 128, h3⟩
    else ∑ x : Fin 128, (Ideal.div (v143 x + a12 x + a13 x + a14 x + a15 x) (cnt v36 16#32) - v121 x) * v161 x ⟨k.val - 512 - 128 - 128 - 128, by omega⟩)
    * v40 ⟨k.val - 512, by omega⟩

/-- The output projection's row over its root mean square, at an index. -/
theorem pay26_apply (v36 : IVec S512x1 32) (v40 : Vec Ideal S1x512 .f32) (v59 : FVec Ideal S512x512 .f32) (v74 v93 v120 v121 v143 a12 a13 a14 a15 : FVec Ideal S512x128 .f32) (v161 : Vec Ideal S1x128x128 .bf16) (v169 : Vec Ideal S1024x1024 .bf16) (g : Vec Ideal S1x1024 .f32) (r : Fin 512) (n : Fin 1024) :
    mulf (k0_pay26 v36 (k0_pay13 v40) v59 v74 v93 v120 v121 v143 a12 a13 a14 a15 v161 v169) (k0_pay27 g) (ix2 r n) =
      rms (lin (catK (v36 (ix2 r 0)) (fun n => v40 (ix2 0 n)) (fun n => v59 (ix2 r n)) (fun x => v74 (ix2 r x)) (fun x => v93 (ix2 r x)) (fun x => v120 (ix2 r x)) (fun x => v121 (ix2 r x)) (fun x => v143 (ix2 r x)) (fun x => a12 (ix2 r x)) (fun x => a13 (ix2 r x)) (fun x => a14 (ix2 r x)) (fun x => a15 (ix2 r x)) (fun x j => v161 (ix3 0 x j)))
        (fun k n => v169 (ix2 k n))) (fun n => g (ix2 0 n)) n := by
  unfold k0_pay26 k0_pay27 k0_pay13 rms lin catK cnt
  pointwise

/-- The last residual, at an index. -/
theorem pay28_apply (v3 : Vec Ideal S1x512x1024 .f32) (v183 v184 : FVec Ideal S512x1024 .f32) (v187 v189 : Vec Ideal S1x1024 .f32) (v204 : Vec Ideal S1024x4096 .bf16) (v211 : Vec Ideal S4096x1024 .bf16) (r : Fin 512) (n : Fin 1024)
    (M : Fin 1024 → EReal) (hM : ∀ n, mulf v183 v184 (ix2 r n) = M n) :
    k0_pay1 (k0_pay28 (k0_pay8 v3) v183 v184 v187 v189 v204 v211) (ix3 0 r n) =
      v3 (ix3 0 r n) + M n + rms (lin (fun j => sqRelu (lin (rms (fun n => v3 (ix3 0 r n) + M n) (fun n => v187 (ix2 0 n))) (fun k j => v204 (ix2 k j)) j)) (fun j n => v211 (ix2 j n))) (fun n => v189 (ix2 0 n)) n := by
  obtain rfl : M = fun n => mulf v183 v184 (ix2 r n) := funext fun n => (hM n).symm
  unfold k0_pay1 k0_pay28 k0_pay8 rms lin sqRelu
  pointwise

/-- An entry of the pooled sequence at a position. -/
theorem up_pos (P : Fin 8192 → Fin 2048 → EReal) (pos : Fin 8192) (ch : Fin 512) : up P (pos.val + 16) ch = P pos ⟨1536 + ch.val, by omega⟩ := by
  unfold up
  rw [dif_pos ⟨by omega, by omega⟩]
  rfl

/-- An entry of the convolved sequence at a position. -/
theorem cvp_pos (P : Fin 8192 → Fin 2048 → EReal) (pos : Fin 8192) (ch : Fin 512) : cvp P (pos.val + 8) ch = cvRow (P pos) ch := by
  unfold cvp
  rw [dif_pos ⟨by omega, by omega⟩]
  rfl

section

variable (P : Fin 8192 → Fin 2048 → EReal) (pw : Fin 4 → Fin 128 → Fin 128 → EReal) (pos : Fin 8192) (r : Fin 512)
  (v22 : FVec Ideal S512x2048 .f32) (h22 : ∀ n, v22 (ix2 r n) = P pos n) (v36 : IVec S512x1 32) (h36 : v36 (ix2 r 0) = BitVec.ofNat 32 pos.val)

include h22 h36

/-- The first group's row, from the rows it loads. -/
theorem grp0 (a1 : Vec Ideal S512x128 .f32) (q : Vec Ideal S1x128x128 .bf16) (hq : ∀ i j, q (ix3 0 i j) = pw 0 i j)
    (ha1 : ∀ x : Fin 128, a1 (ix2 r x) = up P (pos.val + 16 - 1) ⟨0 + x.val, by omega⟩) (j : Fin 128) :
    k0_pay16 v22 v36 a1 q (ix2 r j) = ∑ i, dGrp P pos 0 i * pw 0 i j := by
  rw [pay16_apply]
  refine Finset.sum_congr rfl fun i _ => ?_
  show _ = dRow P pos 0 1 2#32 i (by omega) * pw 0 i j
  unfold dRow
  rw [win_1, up_pos, h22, h36, hq, ha1]
  simp only [Nat.zero_add]

/-- The second group's row, from the rows it loads. -/
theorem grp1 (a1 a2 a3 : Vec Ideal S512x128 .f32) (q : Vec Ideal S1x128x128 .bf16) (hq : ∀ i j, q (ix3 0 i j) = pw 1 i j)
    (ha1 : ∀ x : Fin 128, a1 (ix2 r x) = up P (pos.val + 16 - 1) ⟨128 + x.val, by omega⟩) (ha2 : ∀ x : Fin 128, a2 (ix2 r x) = up P (pos.val + 16 - 2) ⟨128 + x.val, by omega⟩) (ha3 : ∀ x : Fin 128, a3 (ix2 r x) = up P (pos.val + 16 - 3) ⟨128 + x.val, by omega⟩) (j : Fin 128) :
    k0_pay19 v36 (k0_pay17 v22) (k0_pay18 v22 a1) a2 a3 q (ix2 r j) = ∑ i, dGrp P pos 1 i * pw 1 i j := by
  rw [pay19_apply]
  refine Finset.sum_congr rfl fun i _ => ?_
  show _ = dRow P pos 128 3 4#32 i (by omega) * pw 1 i j
  unfold dRow
  rw [win_3, up_pos, h22, h36, hq, ha1, ha2, ha3]

/-- The third group's row, from the rows it loads. -/
theorem grp2 (a1 a2 a3 a4 a5 a6 a7 : Vec Ideal S512x128 .f32) (q : Vec Ideal S1x128x128 .bf16) (hq : ∀ i j, q (ix3 0 i j) = pw 2 i j)
    (ha1 : ∀ x : Fin 128, a1 (ix2 r x) = up P (pos.val + 16 - 1) ⟨256 + x.val, by omega⟩) (ha2 : ∀ x : Fin 128, a2 (ix2 r x) = up P (pos.val + 16 - 2) ⟨256 + x.val, by omega⟩) (ha3 : ∀ x : Fin 128, a3 (ix2 r x) = up P (pos.val + 16 - 3) ⟨256 + x.val, by omega⟩) (ha4 : ∀ x : Fin 128, a4 (ix2 r x) = up P (pos.val + 16 - 4) ⟨256 + x.val, by omega⟩) (ha5 : ∀ x : Fin 128, a5 (ix2 r x) = up P (pos.val + 16 - 5) ⟨256 + x.val, by omega⟩) (ha6 : ∀ x : Fin 128, a6 (ix2 r x) = up P (pos.val + 16 - 6) ⟨256 + x.val, by omega⟩) (ha7 : ∀ x : Fin 128, a7 (ix2 r x) = up P (pos.val + 16 - 7) ⟨256 + x.val, by omega⟩) (j : Fin 128) :
    k0_pay23 (k0_pay20 (k0_pay14 v22)) (k0_pay21 (k0_pay14 v22) a1 a2 a3 a4 a5 a6 a7) (k0_pay22 v36) q (ix2 r j) = ∑ i, dGrp P pos 2 i * pw 2 i j := by
  rw [pay23_apply]
  refine Finset.sum_congr rfl fun i _ => ?_
  show _ = dRow P pos 256 7 8#32 i (by omega) * pw 2 i j
  unfold dRow
  rw [win_7, up_pos, h22, h36, hq, ha1, ha2, ha3, ha4, ha5, ha6, ha7]

/-- The fourth group's row, from the rows it loads. -/
theorem grp3 (a1 a2 a3 a4 a5 a6 a7 a8 a9 a10 a11 a12 a13 a14 a15 : Vec Ideal S512x128 .f32) (q : Vec Ideal S1x128x128 .bf16) (hq : ∀ i j, q (ix3 0 i j) = pw 3 i j)
    (ha1 : ∀ x : Fin 128, a1 (ix2 r x) = up P (pos.val + 16 - 1) ⟨384 + x.val, by omega⟩) (ha2 : ∀ x : Fin 128, a2 (ix2 r x) = up P (pos.val + 16 - 2) ⟨384 + x.val, by omega⟩) (ha3 : ∀ x : Fin 128, a3 (ix2 r x) = up P (pos.val + 16 - 3) ⟨384 + x.val, by omega⟩) (ha4 : ∀ x : Fin 128, a4 (ix2 r x) = up P (pos.val + 16 - 4) ⟨384 + x.val, by omega⟩) (ha5 : ∀ x : Fin 128, a5 (ix2 r x) = up P (pos.val + 16 - 5) ⟨384 + x.val, by omega⟩) (ha6 : ∀ x : Fin 128, a6 (ix2 r x) = up P (pos.val + 16 - 6) ⟨384 + x.val, by omega⟩) (ha7 : ∀ x : Fin 128, a7 (ix2 r x) = up P (pos.val + 16 - 7) ⟨384 + x.val, by omega⟩) (ha8 : ∀ x : Fin 128, a8 (ix2 r x) = up P (pos.val + 16 - 8) ⟨384 + x.val, by omega⟩) (ha9 : ∀ x : Fin 128, a9 (ix2 r x) = up P (pos.val + 16 - 9) ⟨384 + x.val, by omega⟩) (ha10 : ∀ x : Fin 128, a10 (ix2 r x) = up P (pos.val + 16 - 10) ⟨384 + x.val, by omega⟩) (ha11 : ∀ x : Fin 128, a11 (ix2 r x) = up P (pos.val + 16 - 11) ⟨384 + x.val, by omega⟩) (ha12 : ∀ x : Fin 128, a12 (ix2 r x) = up P (pos.val + 16 - 12) ⟨384 + x.val, by omega⟩) (ha13 : ∀ x : Fin 128, a13 (ix2 r x) = up P (pos.val + 16 - 13) ⟨384 + x.val, by omega⟩) (ha14 : ∀ x : Fin 128, a14 (ix2 r x) = up P (pos.val + 16 - 14) ⟨384 + x.val, by omega⟩) (ha15 : ∀ x : Fin 128, a15 (ix2 r x) = up P (pos.val + 16 - 15) ⟨384 + x.val, by omega⟩) (j : Fin 128) :
    ∑ x : Fin 128, (Ideal.div (k0_pay25 (k0_pay14 v22) a1 a2 a3 a4 a5 a6 a7 a8 a9 a10 a11 (ix2 r x) + a12 (ix2 r x) + a13 (ix2 r x) + a14 (ix2 r x) + a15 (ix2 r x)) (cnt (v36 (ix2 r 0)) 16#32) - k0_pay24 (k0_pay14 v22) (ix2 r x)) * q (ix3 0 x j)
      = ∑ i, dGrp P pos 3 i * pw 3 i j := by
  refine Finset.sum_congr rfl fun i _ => ?_
  show _ = dRow P pos 384 15 16#32 i (by omega) * pw 3 i j
  unfold dRow
  rw [pay25_apply, pay24_apply, win_15, up_pos, h22, h36, hq, ha1, ha2, ha3, ha4, ha5, ha6, ha7, ha8, ha9, ha10, ha11, ha12, ha13, ha14, ha15]

omit h36 in
/-- The gated convolution, from the rows it loads. -/
theorem conv_row (w : Fin 3 → Fin 512 → EReal) (v37 : Vec Ideal S3x512 .f32) (h37 : ∀ k n, v37 (ix2 k n) = w k n)
    (v50 v55 : Vec Ideal S512x512 .f32) (h50 : ∀ ch, v50 (ix2 r ch) = cvp P (pos.val + 7) ch) (h55 : ∀ ch, v55 (ix2 r ch) = cvp P (pos.val + 6) ch) (ch : Fin 512) :
    k0_pay15 v22 v37 v50 v55 (ix2 r ch) = convOut P w pos ch := by
  unfold convOut
  rw [pay15_apply, cvp_pos, h22, h37, h37, h37, h50, h55]
  congr 4
  unfold cvRow
  simp only [h22]

end

/-- The mixer's row from its parts' rows. -/
theorem catK_eq (P : Fin 8192 → Fin 2048 → EReal) (w : Fin 3 → Fin 512 → EReal) (pw : Fin 4 → Fin 128 → Fin 128 → EReal) (ps : Fin 512 → EReal) (pos : Fin 8192)
    (v36 : BitVec 32) (v40 : Fin 512 → EReal) (v59 : Fin 512 → EReal) (v74 v93 v120 v121 v143 a12 a13 a14 a15 : Fin 128 → EReal) (v161 : Fin 128 → Fin 128 → EReal)
    (h40 : ∀ n, v40 n = ps n) (h59 : ∀ ch, v59 ch = convOut P w pos ch) (h74 : ∀ j, v74 j = ∑ i, dGrp P pos 0 i * pw 0 i j) (h93 : ∀ j, v93 j = ∑ i, dGrp P pos 1 i * pw 1 i j)
    (h120 : ∀ j, v120 j = ∑ i, dGrp P pos 2 i * pw 2 i j)
    (h163 : ∀ j, ∑ x : Fin 128, (Ideal.div (v143 x + a12 x + a13 x + a14 x + a15 x) (cnt v36 16#32) - v121 x) * v161 x j = ∑ i, dGrp P pos 3 i * pw 3 i j) (k : Fin 1024) :
    catK v36 v40 v59 v74 v93 v120 v121 v143 a12 a13 a14 a15 v161 k = mixCat P w pw ps pos k := by
  unfold catK mixCat
  by_cases h : k.val < 512
  · rw [dif_pos h, dif_pos h, h59]
  · rw [dif_neg h, dif_neg h, h40]
    unfold poolOut
    have hk := k.isLt
    by_cases h1 : k.val - 512 < 128
    · rw [dif_pos h1, h74]
      have e1 : (⟨(k.val - 512) / 128, by omega⟩ : Fin 4) = 0 := Fin.ext (by show (k.val - 512) / 128 = 0; omega)
      have e2 : (⟨(k.val - 512) % 128, by omega⟩ : Fin 128) = ⟨k.val - 512, h1⟩ := Fin.ext (by show (k.val - 512) % 128 = k.val - 512; omega)
      rw [e1, e2]
      congr 2
      exact Fin.ext (by show k.val - 512 = 0 * 128 + (k.val - 512); omega)
    · rw [dif_neg h1]
      by_cases h2 : k.val - 512 - 128 < 128
      · rw [dif_pos h2, h93]
        have e1 : (⟨(k.val - 512) / 128, by omega⟩ : Fin 4) = 1 := Fin.ext (by show (k.val - 512) / 128 = 1; omega)
        have e2 : (⟨(k.val - 512) % 128, by omega⟩ : Fin 128) = ⟨k.val - 512 - 128, h2⟩ := Fin.ext (by show (k.val - 512) % 128 = k.val - 512 - 128; omega)
        rw [e1, e2]
        congr 2
        exact Fin.ext (by show k.val - 512 = 1 * 128 + (k.val - 512 - 128); omega)
      · rw [dif_neg h2]
        by_cases h3 : k.val - 512 - 128 - 128 < 128
        · rw [dif_pos h3, h120]
          have e1 : (⟨(k.val - 512) / 128, by omega⟩ : Fin 4) = 2 := Fin.ext (by show (k.val - 512) / 128 = 2; omega)
          have e2 : (⟨(k.val - 512) % 128, by omega⟩ : Fin 128) = ⟨k.val - 512 - 128 - 128, h3⟩ := Fin.ext (by show (k.val - 512) % 128 = k.val - 512 - 128 - 128; omega)
          rw [e1, e2]
          congr 2
          exact Fin.ext (by show k.val - 512 = 2 * 128 + (k.val - 512 - 128 - 128); omega)
        · rw [dif_neg h3, h163]
          have e1 : (⟨(k.val - 512) / 128, by omega⟩ : Fin 4) = 3 := Fin.ext (by show (k.val - 512) / 128 = 3; omega)
          have e2 : (⟨(k.val - 512) % 128, by omega⟩ : Fin 128) = ⟨k.val - 512 - 128 - 128 - 128, by omega⟩ := Fin.ext (by show (k.val - 512) % 128 = k.val - 512 - 128 - 128 - 128; omega)
          rw [e1, e2]
          congr 2
          exact Fin.ext (by show k.val - 512 = 3 * 128 + (k.val - 512 - 128 - 128 - 128); omega)

/-- A load whose row is the pooled sequence's, `j` entries back, from column `o`. -/
def Ld (P : Fin 8192 → Fin 2048 → EReal) (pos : Fin 8192) (r : Fin 512) (o j : ℕ) (a : Vec Ideal S512x128 .f32) : Prop :=
  ∀ (x : Fin 128) (h : o + x.val < 512), a (ix2 r x) = up P (pos.val + 16 - j) ⟨o + x.val, h⟩

/-- A step's result row, from the rows it loads. -/
theorem step_row (P : Fin 8192 → Fin 2048 → EReal) (w : Fin 3 → Fin 512 → EReal) (pw : Fin 4 → Fin 128 → Fin 128 → EReal) (ps : Fin 512 → EReal) (pos : Fin 8192) (r : Fin 512)
    (i : grid0.Coords) (hi : (i 1).val * 512 + r.val = pos.val) (v3 : Vec Ideal S1x512x1024 .f32) (v5 : Vec Ideal S1x1024 .f32) (v20 : Vec Ideal S1024x2048 .bf16)
    (h22 : ∀ n, k0_pay9 v3 v5 v20 (ix2 r n) = P pos n)
    (v37 : Vec Ideal S3x512 .f32) (h37 : ∀ k n, v37 (ix2 k n) = w k n) (v40 : Vec Ideal S1x512 .f32) (h40 : ∀ n, v40 (ix2 0 n) = ps n)
    (q0 q1 q2 q3 : Vec Ideal S1x128x128 .bf16) (hq0 : ∀ i j, q0 (ix3 0 i j) = pw 0 i j) (hq1 : ∀ i j, q1 (ix3 0 i j) = pw 1 i j) (hq2 : ∀ i j, q2 (ix3 0 i j) = pw 2 i j) (hq3 : ∀ i j, q3 (ix3 0 i j) = pw 3 i j)
    (v50 v55 : Vec Ideal S512x512 .f32) (h50 : ∀ ch, v50 (ix2 r ch) = cvp P (pos.val + 7) ch) (h55 : ∀ ch, v55 (ix2 r ch) = cvp P (pos.val + 6) ch)
    (a1 b1 b2 b3 c1 c2 c3 c4 c5 c6 c7 d1 d2 d3 d4 d5 d6 d7 d8 d9 d10 d11 d12 d13 d14 d15 : Vec Ideal S512x128 .f32)
    (ha1 : Ld P pos r 0 1 a1)
    (hb1 : Ld P pos r 128 1 b1) (hb2 : Ld P pos r 128 2 b2) (hb3 : Ld P pos r 128 3 b3)
    (hc1 : Ld P pos r 256 1 c1) (hc2 : Ld P pos r 256 2 c2) (hc3 : Ld P pos r 256 3 c3) (hc4 : Ld P pos r 256 4 c4) (hc5 : Ld P pos r 256 5 c5) (hc6 : Ld P pos r 256 6 c6) (hc7 : Ld P pos r 256 7 c7)
    (hd1 : Ld P pos r 384 1 d1) (hd2 : Ld P pos r 384 2 d2) (hd3 : Ld P pos r 384 3 d3) (hd4 : Ld P pos r 384 4 d4) (hd5 : Ld P pos r 384 5 d5) (hd6 : Ld P pos r 384 6 d6) (hd7 : Ld P pos r 384 7 d7) (hd8 : Ld P pos r 384 8 d8) (hd9 : Ld P pos r 384 9 d9) (hd10 : Ld P pos r 384 10 d10) (hd11 : Ld P pos r 384 11 d11) (hd12 : Ld P pos r 384 12 d12) (hd13 : Ld P pos r 384 13 d13) (hd14 : Ld P pos r 384 14 d14) (hd15 : Ld P pos r 384 15 d15)
    (wo : Vec Ideal S1024x1024 .bf16) (g1 g2 g3 : Vec Ideal S1x1024 .f32) (wu : Vec Ideal S1024x4096 .bf16) (wd : Vec Ideal S4096x1024 .bf16) (n : Fin 1024) :
    k0_pay1 (k0_pay28 (k0_pay8 v3)
      (k0_pay26 (k0_pay12 i) (k0_pay13 v40) (k0_pay15 (k0_pay9 v3 v5 v20) v37 v50 v55) (k0_pay16 (k0_pay9 v3 v5 v20) (k0_pay12 i) a1 q0)
        (k0_pay19 (k0_pay12 i) (k0_pay17 (k0_pay9 v3 v5 v20)) (k0_pay18 (k0_pay9 v3 v5 v20) b1) b2 b3 q1)
        (k0_pay23 (k0_pay20 (k0_pay14 (k0_pay9 v3 v5 v20))) (k0_pay21 (k0_pay14 (k0_pay9 v3 v5 v20)) c1 c2 c3 c4 c5 c6 c7) (k0_pay22 (k0_pay12 i)) q2)
        (k0_pay24 (k0_pay14 (k0_pay9 v3 v5 v20))) (k0_pay25 (k0_pay14 (k0_pay9 v3 v5 v20)) d1 d2 d3 d4 d5 d6 d7 d8 d9 d10 d11) d12 d13 d14 d15 q3 wo)
      (k0_pay27 g1) g2 g3 wu wd) (ix3 0 r n) =
      layerRow (fun n => v3 (ix3 0 r n)) (mixCat P w pw ps pos) (fun k n => wo (ix2 k n)) (fun n => g1 (ix2 0 n)) (fun n => g2 (ix2 0 n)) (fun n => g3 (ix2 0 n))
        (fun k n => wu (ix2 k n)) (fun k n => wd (ix2 k n)) n := by
  have h36 : k0_pay12 i (ix2 r 0) = BitVec.ofNat 32 pos.val := by rw [pay12_apply, hi]
  refine (pay28_apply v3 _ _ g2 g3 wu wd r n (rms (lin (mixCat P w pw ps pos) (fun k n => wo (ix2 k n))) (fun n => g1 (ix2 0 n))) fun n => ?_).trans ?_
  · refine (pay26_apply _ _ _ _ _ _ _ _ _ _ _ _ _ _ g1 r n).trans (congrArg (fun o => rms (lin o fun k n => wo (ix2 k n)) (fun n => g1 (ix2 0 n)) n) (funext fun k => ?_))
    refine catK_eq P w pw ps pos _ _ _ _ _ _ _ _ _ _ _ _ _ h40 ?_ ?_ ?_ ?_ ?_ k
    · exact conv_row P pos r _ h22 w v37 h37 v50 v55 h50 h55
    · exact grp0 P pw pos r _ h22 _ h36 a1 q0 hq0 (fun x => ha1 x _)
    · exact grp1 P pw pos r _ h22 _ h36 b1 b2 b3 q1 hq1 (fun x => hb1 x _) (fun x => hb2 x _) (fun x => hb3 x _)
    · exact grp2 P pw pos r _ h22 _ h36 c1 c2 c3 c4 c5 c6 c7 q2 hq2 (fun x => hc1 x _) (fun x => hc2 x _) (fun x => hc3 x _) (fun x => hc4 x _) (fun x => hc5 x _) (fun x => hc6 x _) (fun x => hc7 x _)
    · exact grp3 P pw pos r _ h22 _ h36 d1 d2 d3 d4 d5 d6 d7 d8 d9 d10 d11 d12 d13 d14 d15 q3 hq3 (fun x => hd1 x _) (fun x => hd2 x _) (fun x => hd3 x _) (fun x => hd4 x _) (fun x => hd5 x _) (fun x => hd6 x _) (fun x => hd7 x _) (fun x => hd8 x _) (fun x => hd9 x _) (fun x => hd10 x _) (fun x => hd11 x _) (fun x => hd12 x _) (fun x => hd13 x _) (fun x => hd14 x _) (fun x => hd15 x _)
  · unfold layerRow mixRow
    with_reducible rfl

/-- What the convolution's scratch is given, at an index. -/
theorem pay10_apply (v3 : Vec Ideal S1x512x1024 .f32) (v5 : Vec Ideal S1x1024 .f32) (v20 : Vec Ideal S1024x2048 .bf16) (r : Fin 512) (ch : Fin 512) :
    k0_pay10 v3 v5 v20 (ix2 r ch) = cvRow (fun n => k0_pay9 v3 v5 v20 (ix2 r n)) ch := by
  unfold k0_pay10 cvRow
  pointwise

/-- What the pool's scratch is given, at an index. -/
theorem pay11_apply (v3 : Vec Ideal S1x512x1024 .f32) (v5 : Vec Ideal S1x1024 .f32) (v20 : Vec Ideal S1024x2048 .bf16) (r : Fin 512) (ch : Fin 512) :
    k0_pay11 v3 v5 v20 (ix2 r ch) = k0_pay9 v3 v5 v20 (ix2 r ⟨1536 + ch.val, by omega⟩) := by
  unfold k0_pay11
  pointwise

end Cert.MixIdeal.RefValue

end
-- ==== Proof.MixScr.lean ====
/- The mixer program's carried rows: what a load reads of them. -/
module

public import proofs.«01_k».proof.Proof.MixPay
public import proofs.«01_k».proof.Proof.Gen.MixIdeal.Frame
public import Idealize.ShloMosaic.Lib.Pipeline.ValueKit
public import Idealize.ShloMosaic.Lib.WritesUnit

@[expose] public section

set_option maxRecDepth 16384

noncomputable section

namespace Cert.MixIdeal.RefValue

open Idealize.ShloMosaic Idealize.ShloMosaic.TcCoe Idealize.SL.Sem
open Cert.MixIdeal Cert.MixIdeal.Gen Cert.OutMath Cert.MixMath

/-- A box's entry sits at its offset and its own position. -/
theorem emb2 {M N a b o c : ℕ} (inb : ∀ k, (![o, c] : Fin 2 → ℕ) k + (![a, b] : Fin 2 → ℕ) k ≤ (⟨2, ![M, N]⟩ : Shape).size k) (r : Fin a) (x : Fin b) (y : Fin M) (z : Fin N)
    (hy : y.val = o + r.val) (hz : z.val = c + x.val) : (Rect.unit (s := ⟨2, ![M, N]⟩) ![o, c] ![a, b] inb).emb (ix2 r x) = ix2 y z := by
  funext k
  fin_cases k
  · exact Fin.ext (by show o + 1 * r.val = y.val; omega)
  · exact Fin.ext (by show c + 1 * x.val = z.val; omega)

/-- A load of a box, at an index. -/
theorem ld2 {M N a b o c : ℕ} (X : Vec Ideal ⟨2, ![M, N]⟩ .f32) (inb : ∀ k, (![o, c] : Fin 2 → ℕ) k + (![a, b] : Fin 2 → ℕ) k ≤ (⟨2, ![M, N]⟩ : Shape).size k) (r : Fin a) (x : Fin b) (y : Fin M) (z : Fin N)
    (hy : y.val = o + r.val) (hz : z.val = c + x.val) : View.ld X (Rect.unit (s := ⟨2, ![M, N]⟩) ![o, c] ![a, b] inb) (ix2 r x) = X (ix2 y z) :=
  congrArg X (emb2 inb r x y z hy hz)

/-- A load of written rows, at an index. -/
theorem cov2 {M N a b o c : ℕ} {κ : Kind} {sp : Space} (v : View sig κ sp ⟨2, ![M, N]⟩ .f32) (L : List (View.Piece (Elt Ideal) ⟨2, ![M, N]⟩ .f32))
    (inb : ∀ k, (![o, c] : Fin 2 → ℕ) k + (![a, b] : Fin 2 → ℕ) k ≤ (⟨2, ![M, N]⟩ : Shape).size k) (r : Fin a) (x : Fin b) (y : Fin M) (z : Fin N)
    (hy : y.val = o + r.val) (hz : z.val = c + x.val) : v.readCov L (Rect.unit (s := ⟨2, ![M, N]⟩) ![o, c] ![a, b] inb).toLoadRect (ix2 r x) = View.canon L (ix2 y z) := by
  rw [View.readCov_eq_canon']
  exact congrArg (View.canon L) (emb2 inb r x y z hy hz)

/-- Written rows: the newest piece where it lies. -/
theorem canon_hit {M a o : ℕ} (inb : ∀ k, (![o, 0] : Fin 2 → ℕ) k + (![a, 512] : Fin 2 → ℕ) k ≤ (⟨2, ![M, 512]⟩ : Shape).size k)
    (w : Vec Ideal ⟨2, ![a, 512]⟩ .f32) (L : List (View.Piece (Elt Ideal) ⟨2, ![M, 512]⟩ .f32)) (y : Fin M) (r : Fin a) (z : Fin 512) (hy : y.val = o + r.val) :
    View.canon ((⟨Rect.unit (s := ⟨2, ![M, 512]⟩) ![o, 0] ![a, 512] inb, w⟩ : View.Piece (Elt Ideal) ⟨2, ![M, 512]⟩ .f32) :: L) (ix2 y z) = w (ix2 r z) := by
  rw [← emb2 inb r z y z hy (by omega)]
  exact View.canon_cons_emb (Rect.unit (s := ⟨2, ![M, 512]⟩) ![o, 0] ![a, 512] inb) w L (ix2 r z)

/-- Written rows: the earlier pieces elsewhere. -/
theorem canon_miss {M a o : ℕ} (inb : ∀ k, (![o, 0] : Fin 2 → ℕ) k + (![a, 512] : Fin 2 → ℕ) k ≤ (⟨2, ![M, 512]⟩ : Shape).size k)
    (w : Vec Ideal ⟨2, ![a, 512]⟩ .f32) (L : List (View.Piece (Elt Ideal) ⟨2, ![M, 512]⟩ .f32)) (y : Fin M) (z : Fin 512) (hy : y.val < o ∨ o + a ≤ y.val) :
    View.canon ((⟨Rect.unit (s := ⟨2, ![M, 512]⟩) ![o, 0] ![a, 512] inb, w⟩ : View.Piece (Elt Ideal) ⟨2, ![M, 512]⟩ .f32) :: L) (ix2 y z) = View.canon L (ix2 y z) := by
  refine View.canon_cons_of_not_mem _ L ?_
  rw [Rect.mem_set_unit]
  intro h
  have := h 0
  have e1 : (![o, 0] : Fin 2 → ℕ) 0 = o := rfl
  have e2 : (![a, 512] : Fin 2 → ℕ) 0 = a := rfl
  have e3 : ((ix2 y z : (⟨2, ![M, 512]⟩ : Shape).Idx) 0).val = y.val := rfl
  rw [e1, e2] at this
  omega

/-- Rows written over what was there, at an index of the newest piece. -/
theorem writes_hit {M a o : ℕ} {κ : Kind} {sp : Space} (v : View sig κ sp ⟨2, ![M, 512]⟩ .f32) (f : v.ty.Contents (Elt Ideal)) (inb : ∀ k, (![o, 0] : Fin 2 → ℕ) k + (![a, 512] : Fin 2 → ℕ) k ≤ (⟨2, ![M, 512]⟩ : Shape).size k)
    (w : Vec Ideal ⟨2, ![a, 512]⟩ .f32) (y : Fin M) (r : Fin a) (z : Fin 512) (hy : y.val = o + r.val) :
    v.read (Elt Ideal) (v.writes (Elt Ideal) f [(⟨Rect.unit (s := ⟨2, ![M, 512]⟩) ![o, 0] ![a, 512] inb, w⟩ : View.Piece (Elt Ideal) ⟨2, ![M, 512]⟩ .f32)]) (ix2 y z) = w (ix2 r z) := by
  rw [← emb2 inb r z y z hy (by omega)]
  exact View.read_writes_cons_emb v f (Rect.unit (s := ⟨2, ![M, 512]⟩) ![o, 0] ![a, 512] inb) w [] (ix2 r z)

/-- Rows written over what was there, at an index off the piece. -/
theorem writes_miss {M a o : ℕ} {κ : Kind} {sp : Space} (v : View sig κ sp ⟨2, ![M, 512]⟩ .f32) (f : v.ty.Contents (Elt Ideal)) (inb : ∀ k, (![o, 0] : Fin 2 → ℕ) k + (![a, 512] : Fin 2 → ℕ) k ≤ (⟨2, ![M, 512]⟩ : Shape).size k)
    (w : Vec Ideal ⟨2, ![a, 512]⟩ .f32) (y : Fin M) (z : Fin 512) (hy : y.val < o ∨ o + a ≤ y.val) :
    v.read (Elt Ideal) (v.writes (Elt Ideal) f [(⟨Rect.unit (s := ⟨2, ![M, 512]⟩) ![o, 0] ![a, 512] inb, w⟩ : View.Piece (Elt Ideal) ⟨2, ![M, 512]⟩ .f32)]) (ix2 y z) = v.read (Elt Ideal) f (ix2 y z) :=
  View.read_writes_cons_rows_of_not_mem v f inb w [] (ix2 y z) rfl rfl hy

/-- A load of one matrix of a stack, at an index. -/
theorem ld3 {o : ℕ} (X : Vec Ideal S4x128x128 .bf16) (inb : ∀ k, (![o, 0, 0] : Fin 3 → ℕ) k + (![1, 128, 128] : Fin 3 → ℕ) k ≤ S4x128x128.size k) (g : Fin 4) (hg : g.val = o) (i j : Fin 128) :
    View.ld X (Rect.unit (s := S4x128x128) ![o, 0, 0] ![1, 128, 128] inb) (ix3 0 i j) = X (ix3 g i j) := by
  refine congrArg X (funext fun k => ?_)
  fin_cases k
  · exact Fin.ext (by show o + 1 * 0 = g.val; omega)
  · exact Fin.ext (by show 0 + 1 * i.val = i.val; omega)
  · exact Fin.ext (by show 0 + 1 * j.val = j.val; omega)

variable (m : (ℓ : Loc nD τ sig) → Buf (Elt Ideal) ℓ) (ρ : Dev nD → PrngReg)

/-- Where each window sits. -/
theorem idx : ∀ t : Fin cfg0.N, win0_0.index t = ![t.val / 16, t.val % 16, 0] ∧ win0_1.index t = ![0, 0] ∧ win0_2.index t = ![0, 0] ∧ win0_3.index t = ![0, 0] ∧ win0_4.index t = ![0, 0] ∧ win0_5.index t = ![0, 0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val / 16, t.val % 16, 0] ∧ win0_13.index t = ![t.val / 16, 0, 0] ∧ win0_14.index t = ![t.val / 16, 0, 0] := by
  decide +kernel

/-- A point's second coordinate. -/
theorem coord1 : ∀ t : Fin cfg0.N, (grid0.coords t 1).val = t.val % 16 := by
  decide +kernel

/-- A point's batch. -/
def bt (t : Fin cfg0.N) : Fin 4 := ⟨t.val / 16, by have := t.isLt; have : cfg0.N = 64 := N_0; omega⟩

/-- A row of a point's block, as a position. -/
def post (t : Fin cfg0.N) (r : Fin 512) : Fin 8192 := ⟨t.val % 16 * 512 + r.val, by omega⟩

/-- Block 0 at an index. -/
theorem iblk0_apply (c : Dev nD) (t : Fin cfg0.N) (r : Fin 512) (n : Fin 1024) : iblk m c 0 t (ix3 0 r n) = V m c main_arg0 (ix3 (bt t) (post t r) n) := by
  obtain ⟨e0, e1, e2, e3, e4, e5, e6, e7, e8, e9, e10, e11, e12, e13, e14⟩ := idx t
  unfold iblk
  blk_ext [e0, bt, post]

/-- Block 1 at an index. -/
theorem iblk1_apply (c : Dev nD) (t : Fin cfg0.N) (r : Fin 1) (n : Fin 1024) : iblk m c 1 t (ix2 r n) = V m c main_v2 (ix2 r n) := by
  obtain ⟨e0, e1, e2, e3, e4, e5, e6, e7, e8, e9, e10, e11, e12, e13, e14⟩ := idx t
  unfold iblk
  blk_ext [e1]

/-- Block 2 at an index. -/
theorem iblk2_apply (c : Dev nD) (t : Fin cfg0.N) (r : Fin 1) (n : Fin 1024) : iblk m c 2 t (ix2 r n) = V m c main_v5 (ix2 r n) := by
  obtain ⟨e0, e1, e2, e3, e4, e5, e6, e7, e8, e9, e10, e11, e12, e13, e14⟩ := idx t
  unfold iblk
  blk_ext [e2]

/-- Block 3 at an index. -/
theorem iblk3_apply (c : Dev nD) (t : Fin cfg0.N) (r : Fin 1024) (n : Fin 2048) : iblk m c 3 t (ix2 r n) = V m c main_v7 (ix2 r n) := by
  obtain ⟨e0, e1, e2, e3, e4, e5, e6, e7, e8, e9, e10, e11, e12, e13, e14⟩ := idx t
  unfold iblk
  blk_ext [e3]

/-- Block 4 at an index. -/
theorem iblk4_apply (c : Dev nD) (t : Fin cfg0.N) (r : Fin 3) (n : Fin 512) : iblk m c 4 t (ix2 r n) = V m c main_v8 (ix2 r n) := by
  obtain ⟨e0, e1, e2, e3, e4, e5, e6, e7, e8, e9, e10, e11, e12, e13, e14⟩ := idx t
  unfold iblk
  blk_ext [e4]

/-- Block 5 at an index. -/
theorem iblk5_apply (c : Dev nD) (t : Fin cfg0.N) (g : Fin 4) (i j : Fin 128) : iblk m c 5 t (ix3 g i j) = V m c main_v10 (ix3 g i j) := by
  obtain ⟨e0, e1, e2, e3, e4, e5, e6, e7, e8, e9, e10, e11, e12, e13, e14⟩ := idx t
  unfold iblk
  blk_ext [e5]

/-- Block 6 at an index. -/
theorem iblk6_apply (c : Dev nD) (t : Fin cfg0.N) (r : Fin 1) (n : Fin 512) : iblk m c 6 t (ix2 r n) = V m c main_v12 (ix2 r n) := by
  obtain ⟨e0, e1, e2, e3, e4, e5, e6, e7, e8, e9, e10, e11, e12, e13, e14⟩ := idx t
  unfold iblk
  blk_ext [e6]

/-- Block 7 at an index. -/
theorem iblk7_apply (c : Dev nD) (t : Fin cfg0.N) (r : Fin 1024) (n : Fin 1024) : iblk m c 7 t (ix2 r n) = V m c main_v14 (ix2 r n) := by
  obtain ⟨e0, e1, e2, e3, e4, e5, e6, e7, e8, e9, e10, e11, e12, e13, e14⟩ := idx t
  unfold iblk
  blk_ext [e7]

/-- Block 8 at an index. -/
theorem iblk8_apply (c : Dev nD) (t : Fin cfg0.N) (r : Fin 1) (n : Fin 1024) : iblk m c 8 t (ix2 r n) = V m c main_v17 (ix2 r n) := by
  obtain ⟨e0, e1, e2, e3, e4, e5, e6, e7, e8, e9, e10, e11, e12, e13, e14⟩ := idx t
  unfold iblk
  blk_ext [e8]

/-- Block 9 at an index. -/
theorem iblk9_apply (c : Dev nD) (t : Fin cfg0.N) (r : Fin 1) (n : Fin 1024) : iblk m c 9 t (ix2 r n) = V m c main_v20 (ix2 r n) := by
  obtain ⟨e0, e1, e2, e3, e4, e5, e6, e7, e8, e9, e10, e11, e12, e13, e14⟩ := idx t
  unfold iblk
  blk_ext [e9]

/-- Block 10 at an index. -/
theorem iblk10_apply (c : Dev nD) (t : Fin cfg0.N) (r : Fin 1024) (n : Fin 4096) : iblk m c 10 t (ix2 r n) = V m c main_v23 (ix2 r n) := by
  obtain ⟨e0, e1, e2, e3, e4, e5, e6, e7, e8, e9, e10, e11, e12, e13, e14⟩ := idx t
  unfold iblk
  blk_ext [e10]

/-- Block 11 at an index. -/
theorem iblk11_apply (c : Dev nD) (t : Fin cfg0.N) (r : Fin 4096) (n : Fin 1024) : iblk m c 11 t (ix2 r n) = V m c main_v26 (ix2 r n) := by
  obtain ⟨e0, e1, e2, e3, e4, e5, e6, e7, e8, e9, e10, e11, e12, e13, e14⟩ := idx t
  unfold iblk
  blk_ext [e11]

/-- A batch's projected rows. -/
def Pb (c : Dev nD) (b : Fin 4) (s : Fin 8192) (n : Fin 2048) : EReal :=
  lin (rms (fun n => V m c main_arg0 (ix3 b s n)) (fun n => V m c main_v2 (ix2 0 n))) (fun k n => V m c main_v7 (ix2 k n)) n

/-- A step's projected rows are its batch's. -/
theorem proj_apply (c : Dev nD) (t : Fin cfg0.N) (r : Fin 512) (n : Fin 2048) :
    k0_pay9 (iblk m c 0 t) (iblk m c 1 t) (iblk m c 3 t) (ix2 r n) = Pb m c (bt t) (post t r) n := by
  rw [pay9_apply]
  simp only [iblk0_apply, iblk1_apply, iblk3_apply]
  rfl

/-- What a step gives the convolution's scratch. -/
theorem cv_new (c : Dev nD) (t : Fin cfg0.N) (r : Fin 512) (ch : Fin 512) :
    k0_pay10 (iblk m c 0 t) (iblk m c 1 t) (iblk m c 3 t) (ix2 r ch) = cvp (Pb m c (bt t)) (t.val % 16 * 512 + r.val + 8) ch := by
  rw [pay10_apply, show t.val % 16 * 512 + r.val = (post t r).val from rfl, cvp_pos]
  exact congrArg (fun p => cvRow p ch) (funext fun n => proj_apply m c t r n)

/-- What a step gives the pool's scratch. -/
theorem up_new (c : Dev nD) (t : Fin cfg0.N) (r : Fin 512) (ch : Fin 512) :
    k0_pay11 (iblk m c 0 t) (iblk m c 1 t) (iblk m c 3 t) (ix2 r ch) = up (Pb m c (bt t)) (t.val % 16 * 512 + r.val + 16) ch := by
  rw [pay11_apply, show t.val % 16 * 512 + r.val = (post t r).val from rfl, up_pos]
  exact proj_apply m c t r _

theorem pay4_apply (v : Vec Ideal S8x512 .f32) (r : Fin 8) (n : Fin 512) : k0_pay4 v (ix2 r n) = v (ix2 r n) := by
  unfold k0_pay4
  pointwise

theorem pay5_apply (v : Vec Ideal S16x512 .f32) (r : Fin 16) (n : Fin 512) : k0_pay5 v (ix2 r n) = v (ix2 r n) := by
  unfold k0_pay5
  pointwise

theorem pay6_apply (r : Fin 8) (n : Fin 512) : k0_pay6 (F := Ideal) (ix2 r n) = 0 := by
  unfold k0_pay6
  pointwise

theorem pay7_apply (r : Fin 16) (n : Fin 512) : k0_pay7 (F := Ideal) (ix2 r n) = 0 := by
  unfold k0_pay7
  pointwise

theorem pay2_apply (v : Vec Ideal S2x512 .f32) (r : Fin 2) (n : Fin 512) : k0_pay2 v (ix3 0 r n) = v (ix2 r n) := by
  unfold k0_pay2
  pointwise

theorem pay3_apply (v : Vec Ideal S15x512 .f32) (r : Fin 15) (n : Fin 512) : k0_pay3 v (ix3 0 r n) = v (ix2 r n) := by
  unfold k0_pay3
  pointwise

/-- After a step, the convolution's first eight carried rows are the step's last eight. -/
theorem carry0 (c : Dev nD) (t : Fin cfg0.N) (p : Fin 8) (ch : Fin 512) :
    (outsAt0 m c t.val t.isLt).2.2.2.1 (ix2 ⟨p.val, by omega⟩ ch) = cvp (Pb m c (bt t)) (t.val % 16 * 512 + 512 + p.val) ch := by
  have key := cv_new m c t ⟨504 + p.val, by omega⟩ ch
  rw [show t.val % 16 * 512 + (504 + p.val) + 8 = t.val % 16 * 512 + 512 + p.val by omega] at key
  by_cases h0 : t.val % 16 = 0
  · have h1 : ¬t.val % 16 = 15 := by omega
    rw [outsAt0_A m c t h0 h1]
    frame_out
    refine (canon_hit _ _ _ _ p ch (by show p.val = 0 + p.val; omega)).trans ?_
    rw [pay4_apply]
    refine (cov2 _ _ _ p ch ⟨512 + p.val, by omega⟩ ch rfl (by omega)).trans ?_
    exact (canon_hit _ _ _ _ ⟨504 + p.val, by omega⟩ ch (by show 512 + p.val = 8 + (504 + p.val); omega)).trans key
  · by_cases h1 : t.val % 16 = 15
    · rw [outsAt0_C m c t h0 h1]
      frame_out
      refine (canon_hit _ _ _ _ p ch (by show p.val = 0 + p.val; omega)).trans ?_
      rw [pay4_apply]
      refine (cov2 _ _ _ p ch ⟨512 + p.val, by omega⟩ ch rfl (by omega)).trans ?_
      exact (canon_hit _ _ _ _ ⟨504 + p.val, by omega⟩ ch (by show 512 + p.val = 8 + (504 + p.val); omega)).trans key
    · rw [outsAt0_B m c t h0 h1]
      frame_out
      refine (canon_hit _ _ _ _ p ch (by show p.val = 0 + p.val; omega)).trans ?_
      rw [pay4_apply]
      refine (cov2 _ _ _ p ch ⟨512 + p.val, by omega⟩ ch rfl (by omega)).trans ?_
      exact (canon_hit _ _ _ _ ⟨504 + p.val, by omega⟩ ch (by show 512 + p.val = 8 + (504 + p.val); omega)).trans key

/-- After a step, the pool's first sixteen carried rows are the step's last sixteen. -/
theorem carry1 (c : Dev nD) (t : Fin cfg0.N) (p : Fin 16) (ch : Fin 512) :
    (outsAt0 m c t.val t.isLt).2.2.2.2 (ix2 ⟨p.val, by omega⟩ ch) = up (Pb m c (bt t)) (t.val % 16 * 512 + 512 + p.val) ch := by
  have key := up_new m c t ⟨496 + p.val, by omega⟩ ch
  rw [show t.val % 16 * 512 + (496 + p.val) + 16 = t.val % 16 * 512 + 512 + p.val by omega] at key
  by_cases h0 : t.val % 16 = 0
  · have h1 : ¬t.val % 16 = 15 := by omega
    rw [outsAt0_A m c t h0 h1]
    frame_out
    refine (canon_hit _ _ _ _ p ch (by show p.val = 0 + p.val; omega)).trans ?_
    rw [pay5_apply]
    refine (cov2 _ _ _ p ch ⟨512 + p.val, by omega⟩ ch rfl (by omega)).trans ?_
    exact (canon_hit _ _ _ _ ⟨496 + p.val, by omega⟩ ch (by show 512 + p.val = 16 + (496 + p.val); omega)).trans key
  · by_cases h1 : t.val % 16 = 15
    · rw [outsAt0_C m c t h0 h1]
      frame_out
      refine (canon_hit _ _ _ _ p ch (by show p.val = 0 + p.val; omega)).trans ?_
      rw [pay5_apply]
      refine (cov2 _ _ _ p ch ⟨512 + p.val, by omega⟩ ch rfl (by omega)).trans ?_
      exact (canon_hit _ _ _ _ ⟨496 + p.val, by omega⟩ ch (by show 512 + p.val = 16 + (496 + p.val); omega)).trans key
    · rw [outsAt0_B m c t h0 h1]
      frame_out
      refine (canon_hit _ _ _ _ p ch (by show p.val = 0 + p.val; omega)).trans ?_
      rw [pay5_apply]
      refine (cov2 _ _ _ p ch ⟨512 + p.val, by omega⟩ ch rfl (by omega)).trans ?_
      exact (canon_hit _ _ _ _ ⟨496 + p.val, by omega⟩ ch (by show 512 + p.val = 16 + (496 + p.val); omega)).trans key

end Cert.MixIdeal.RefValue

end
-- ==== Proof.MixKernel.lean ====
/- The mixer program's results, row by row. -/
module

public import proofs.«01_k».proof.Proof.MixScr
public import proofs.«01_k».proof.Proof.Gen.MixIdeal.Frame
public import Idealize.ShloMosaic.Lib.Pipeline.ValueKit
public import Idealize.ShloMosaic.Lib.WritesUnit

@[expose] public section

set_option maxRecDepth 16384

noncomputable section

namespace Cert.MixIdeal.RefValue

open Idealize.ShloMosaic Idealize.ShloMosaic.TcCoe Idealize.SL.Sem
open Cert.MixIdeal Cert.MixIdeal.Gen Cert.OutMath Cert.MixMath

variable (m : (ℓ : Loc nD τ sig) → Buf (Elt Ideal) ℓ) (ρ : Dev nD → PrngReg)

theorem bt_prev (t : Fin cfg0.N) (h0 : ¬t.val % 16 = 0) (hn : t.val - 1 < cfg0.N) : bt ⟨t.val - 1, hn⟩ = bt t :=
  Fin.ext (by show (t.val - 1) / 16 = t.val / 16; omega)

/-- A load of the convolution's scratch: a row of it holds the product's row. -/
def Cv (P : Fin 8192 → Fin 2048 → EReal) (pos : Fin 8192) (r : Fin 512) (o : ℕ) (a : FVec Ideal ⟨2, ![512, 512]⟩ .f32) : Prop :=
  ∀ ch : Fin 512, a (ix2 r ch) = cvp P (pos.val + o) ch

/-- A first block's rows before it are zero. -/
theorem cvp_zero (P : Fin 8192 → Fin 2048 → EReal) (e : ℕ) (he : e < 8) (ch : Fin 512) : cvp P e ch = 0 := by
  unfold cvp
  rw [dif_neg (by omega)]

theorem up_zero (P : Fin 8192 → Fin 2048 → EReal) (e : ℕ) (he : e < 16) (ch : Fin 512) : up P e ch = 0 := by
  unfold up
  rw [dif_neg (by omega)]

/-- What a later step loads of the convolution's scratch. -/
theorem ldB0 (c : Dev nD) (t : Fin cfg0.N) (h0 : ¬t.val % 16 = 0) (hw : (Memref.whole cc0_scratch0).IsWhole) (hn : t.val - 1 < cfg0.N) (o : ℕ) (ho : o ≤ 8) (r : Fin 512) (ch : Fin 512)
    (inb : ∀ a, (![o, 0] : Fin 2 → ℕ) a + (![512, 512] : Fin 2 → ℕ) a ≤ S520x512.size a) (inbk : ∀ a, (![8, 0] : Fin 2 → ℕ) a + (![512, 512] : Fin 2 → ℕ) a ≤ S520x512.size a) :
    (View.ld (View.read (Elt Ideal) (View.whole cc0_scratch0) ((View.whole cc0_scratch0).writes (Elt Ideal) (hw.unread (outsAt0 m c (t.val - 1) hn).2.2.2.1) [⟨Rect.unit ![8, 0] ![512, 512] inbk, k0_pay10 (iblk m c 0 t) (iblk m c 1 t) (iblk m c 3 t)⟩])) (Rect.unit ![o, 0] ![512, 512] inb)) (ix2 r ch) = cvp (Pb m c (bt t)) ((post t r).val + o) ch := by
  refine (ld2 _ inb r ch ⟨o + r.val, by omega⟩ ch rfl (by omega)).trans ?_
  by_cases h : o + r.val < 8
  · refine (writes_miss _ _ inbk _ _ _ (.inl h)).trans ?_
    rw [show View.read (Elt Ideal) (View.whole cc0_scratch0) (hw.unread (outsAt0 m c (t.val - 1) hn).2.2.2.1) = (outsAt0 m c (t.val - 1) hn).2.2.2.1 from Memref.IsWhole.read_unread hw _]
    refine (carry0 m c ⟨t.val - 1, hn⟩ ⟨o + r.val, h⟩ _).trans ?_
    rw [bt_prev t h0]
    congr 1
    show (t.val - 1) % 16 * 512 + 512 + (o + r.val) = t.val % 16 * 512 + r.val + o
    omega
  · refine (writes_hit _ _ inbk _ _ ⟨o + r.val - 8, by omega⟩ _ (by show o + r.val = 8 + (o + r.val - 8); omega)).trans ?_
    rw [cv_new]
    congr 1
    show t.val % 16 * 512 + (o + r.val - 8) + 8 = t.val % 16 * 512 + r.val + o
    omega

/-- What a first step loads of the convolution's scratch. -/
theorem ldA0 (c : Dev nD) (t : Fin cfg0.N) (h0 : t.val % 16 = 0) (o : ℕ) (ho : o ≤ 8) (r : Fin 512)
    (inb : ∀ a, (![o, 0] : Fin 2 → ℕ) a + (![512, 512] : Fin 2 → ℕ) a ≤ S520x512.size a) (inbk : ∀ a, (![8, 0] : Fin 2 → ℕ) a + (![512, 512] : Fin 2 → ℕ) a ≤ S520x512.size a) (inbz : ∀ a, (![0, 0] : Fin 2 → ℕ) a + (![8, 512] : Fin 2 → ℕ) a ≤ S520x512.size a) :
    Cv (Pb m c (bt t)) (post t r) r o (View.readCov (Val := Elt Ideal) (View.whole cc0_scratch0) [⟨Rect.unit (s := S520x512) ![8, 0] ![512, 512] inbk, k0_pay10 (iblk m c 0 t) (iblk m c 1 t) (iblk m c 3 t)⟩, ⟨Rect.unit (s := S520x512) ![0, 0] ![8, 512] inbz, k0_pay6 (F := Ideal)⟩] (Rect.unit (s := S520x512) ![o, 0] ![512, 512] inb).toLoadRect) := by
  intro ch
  refine (cov2 _ _ inb r ch ⟨o + r.val, by omega⟩ ch rfl (by omega)).trans ?_
  by_cases h : o + r.val < 8
  · refine (canon_miss inbk _ _ _ _ (.inl h)).trans ((canon_hit inbz _ _ _ ⟨o + r.val, h⟩ _ (by show o + r.val = 0 + (o + r.val); omega)).trans ?_)
    rw [pay6_apply, cvp_zero _ _ (by show t.val % 16 * 512 + r.val + o < 8; omega)]
  · refine (canon_hit inbk _ _ _ ⟨o + r.val - 8, by omega⟩ _ (by show o + r.val = 8 + (o + r.val - 8); omega)).trans ?_
    rw [cv_new]
    congr 1
    show t.val % 16 * 512 + (o + r.val - 8) + 8 = t.val % 16 * 512 + r.val + o
    omega

/-- What a later step loads of the pool's scratch. -/
theorem ldB1 (c : Dev nD) (t : Fin cfg0.N) (h0 : ¬t.val % 16 = 0) (hw : (Memref.whole cc0_scratch1).IsWhole) (hn : t.val - 1 < cfg0.N) (o : ℕ) (j : ℕ) (hj : o + j = 16) (co : ℕ) (r : Fin 512)
    (inb : ∀ a, (![o, co] : Fin 2 → ℕ) a + (![512, 128] : Fin 2 → ℕ) a ≤ S528x512.size a) (inbk : ∀ a, (![16, 0] : Fin 2 → ℕ) a + (![512, 512] : Fin 2 → ℕ) a ≤ S528x512.size a) :
    Ld (Pb m c (bt t)) (post t r) r co j (View.ld (View.read (Elt Ideal) (View.whole cc0_scratch1) ((View.whole cc0_scratch1).writes (Elt Ideal) (hw.unread (outsAt0 m c (t.val - 1) hn).2.2.2.2) [⟨Rect.unit ![16, 0] ![512, 512] inbk, k0_pay11 (iblk m c 0 t) (iblk m c 1 t) (iblk m c 3 t)⟩])) (Rect.unit ![o, co] ![512, 128] inb)) := by
  intro x hx
  rw [show (post t r).val + 16 - j = (post t r).val + o by omega]
  refine (ld2 _ inb r x ⟨o + r.val, by omega⟩ ⟨co + x.val, hx⟩ rfl rfl).trans ?_
  by_cases h : o + r.val < 16
  · refine (writes_miss _ _ inbk _ _ _ (.inl h)).trans ?_
    rw [show View.read (Elt Ideal) (View.whole cc0_scratch1) (hw.unread (outsAt0 m c (t.val - 1) hn).2.2.2.2) = (outsAt0 m c (t.val - 1) hn).2.2.2.2 from Memref.IsWhole.read_unread hw _]
    refine (carry1 m c ⟨t.val - 1, hn⟩ ⟨o + r.val, h⟩ _).trans ?_
    rw [bt_prev t h0]
    congr 1
    show (t.val - 1) % 16 * 512 + 512 + (o + r.val) = t.val % 16 * 512 + r.val + o
    omega
  · refine (writes_hit _ _ inbk _ _ ⟨o + r.val - 16, by omega⟩ _ (by show o + r.val = 16 + (o + r.val - 16); omega)).trans ?_
    rw [up_new]
    congr 1
    show t.val % 16 * 512 + (o + r.val - 16) + 16 = t.val % 16 * 512 + r.val + o
    omega

/-- What a first step loads of the pool's scratch. -/
theorem ldA1 (c : Dev nD) (t : Fin cfg0.N) (h0 : t.val % 16 = 0) (o : ℕ) (j : ℕ) (hj : o + j = 16) (co : ℕ) (r : Fin 512)
    (inb : ∀ a, (![o, co] : Fin 2 → ℕ) a + (![512, 128] : Fin 2 → ℕ) a ≤ S528x512.size a) (inbk : ∀ a, (![16, 0] : Fin 2 → ℕ) a + (![512, 512] : Fin 2 → ℕ) a ≤ S528x512.size a) (inbz : ∀ a, (![0, 0] : Fin 2 → ℕ) a + (![16, 512] : Fin 2 → ℕ) a ≤ S528x512.size a) :
    Ld (Pb m c (bt t)) (post t r) r co j ((View.whole cc0_scratch1).readCov [⟨Rect.unit (s := S528x512) ![16, 0] ![512, 512] inbk, k0_pay11 (iblk m c 0 t) (iblk m c 1 t) (iblk m c 3 t)⟩, ⟨Rect.unit (s := S528x512) ![0, 0] ![16, 512] inbz, k0_pay7 (F := Ideal)⟩] (Rect.unit (s := S528x512) ![o, co] ![512, 128] inb).toLoadRect) := by
  intro x hx
  rw [show (post t r).val + 16 - j = (post t r).val + o by omega]
  refine (cov2 _ _ inb r x ⟨o + r.val, by omega⟩ ⟨co + x.val, hx⟩ rfl rfl).trans ?_
  by_cases h : o + r.val < 16
  · refine (canon_miss inbk _ _ _ _ (.inl h)).trans ((canon_hit inbz _ _ _ ⟨o + r.val, h⟩ _ (by show o + r.val = 0 + (o + r.val); omega)).trans ?_)
    rw [pay7_apply, up_zero _ _ (by show t.val % 16 * 512 + r.val + o < 16; omega)]
  · refine (canon_hit inbk _ _ _ ⟨o + r.val - 16, by omega⟩ _ (by show o + r.val = 16 + (o + r.val - 16); omega)).trans ?_
    rw [up_new]
    congr 1
    show t.val % 16 * 512 + (o + r.val - 16) + 16 = t.val % 16 * 512 + r.val + o
    omega

/-- The convolution's weights. -/
def cW (c : Dev nD) (k : Fin 3) (n : Fin 512) : EReal := V m c main_v8 (ix2 k n)
/-- The groups' matrices. -/
def cM (c : Dev nD) (g : Fin 4) (i j : Fin 128) : EReal := V m c main_v10 (ix3 g i j)
/-- The pool's scales. -/
def cS (c : Dev nD) (n : Fin 512) : EReal := V m c main_v12 (ix2 0 n)

/-- A row of the first result array. -/
def Grow (c : Dev nD) (b : Fin 4) (s : Fin 8192) (n : Fin 1024) : EReal :=
  layerRow (fun n => V m c main_arg0 (ix3 b s n)) (mixCat (Pb m c b) (cW m c) (cM m c) (cS m c) s) (fun k n => V m c main_v14 (ix2 k n))
    (fun n => V m c main_v5 (ix2 0 n)) (fun n => V m c main_v17 (ix2 0 n)) (fun n => V m c main_v20 (ix2 0 n))
    (fun k n => V m c main_v23 (ix2 k n)) (fun k n => V m c main_v26 (ix2 k n)) n

/-- What a step of case A leaves of the first result. -/
theorem out_A (c : Dev nD) (t : Fin cfg0.N) (h0 : t.val % 16 = 0) (h1 : ¬t.val % 16 = 15) (r : Fin 512) (n : Fin 1024) :
    (outsAt0 m c t.val t.isLt).1 (ix3 0 r n) = Grow m c (bt t) (post t r) n := by
  rw [outsAt0_A m c t h0 h1]
  frame_out
  refine (step_row (Pb m c (bt t)) (cW m c) (cM m c) (cS m c) (post t r) r (grid0.coords t) (by rw [coord1]; rfl) _ _ _ (proj_apply m c t r)
    _ (fun k n => iblk4_apply m c t k n) _ (fun n => iblk6_apply m c t 0 n)
    _ _ _ _ (fun i j => (ld3 _ _ 0 rfl i j).trans (iblk5_apply m c t 0 i j)) (fun i j => (ld3 _ _ 1 rfl i j).trans (iblk5_apply m c t 1 i j))
    (fun i j => (ld3 _ _ 2 rfl i j).trans (iblk5_apply m c t 2 i j)) (fun i j => (ld3 _ _ 3 rfl i j).trans (iblk5_apply m c t 3 i j))
    _ _ (ldA0 m c t h0 7 (by omega) r _ _ _) (ldA0 m c t h0 6 (by omega) r _ _ _)
    _ _ _ _ _ _ _ _ _ _ _ _ _ _ _ _ _ _ _ _ _ _ _ _ _ _
    (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _) (ldA1 m c t h0 _ _ rfl _ r _ _ _)
    _ _ _ _ _ _ n).trans ?_
  exact layerRow_congr n (funext fun n => iblk0_apply m c t r n) rfl (funext fun k => funext fun n => iblk7_apply m c t k n)
    (funext fun n => iblk2_apply m c t 0 n) (funext fun n => iblk8_apply m c t 0 n) (funext fun n => iblk9_apply m c t 0 n)
    (funext fun k => funext fun n => iblk10_apply m c t k n) (funext fun k => funext fun n => iblk11_apply m c t k n)

/-- What a step of case B leaves of the first result. -/
theorem out_B (c : Dev nD) (t : Fin cfg0.N) (h0 : ¬t.val % 16 = 0) (h1 : ¬t.val % 16 = 15) (r : Fin 512) (n : Fin 1024) :
    (outsAt0 m c t.val t.isLt).1 (ix3 0 r n) = Grow m c (bt t) (post t r) n := by
  rw [outsAt0_B m c t h0 h1]
  frame_out
  refine (step_row (Pb m c (bt t)) (cW m c) (cM m c) (cS m c) (post t r) r (grid0.coords t) (by rw [coord1]; rfl) _ _ _ (proj_apply m c t r)
    _ (fun k n => iblk4_apply m c t k n) _ (fun n => iblk6_apply m c t 0 n)
    _ _ _ _ (fun i j => (ld3 _ _ 0 rfl i j).trans (iblk5_apply m c t 0 i j)) (fun i j => (ld3 _ _ 1 rfl i j).trans (iblk5_apply m c t 1 i j))
    (fun i j => (ld3 _ _ 2 rfl i j).trans (iblk5_apply m c t 2 i j)) (fun i j => (ld3 _ _ 3 rfl i j).trans (iblk5_apply m c t 3 i j))
    _ _ (fun ch => ldB0 m c t h0 _ _ 7 (by omega) r ch _ _) (fun ch => ldB0 m c t h0 _ _ 6 (by omega) r ch _ _)
    _ _ _ _ _ _ _ _ _ _ _ _ _ _ _ _ _ _ _ _ _ _ _ _ _ _
    (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _)
    _ _ _ _ _ _ n).trans ?_
  exact layerRow_congr n (funext fun n => iblk0_apply m c t r n) rfl (funext fun k => funext fun n => iblk7_apply m c t k n)
    (funext fun n => iblk2_apply m c t 0 n) (funext fun n => iblk8_apply m c t 0 n) (funext fun n => iblk9_apply m c t 0 n)
    (funext fun k => funext fun n => iblk10_apply m c t k n) (funext fun k => funext fun n => iblk11_apply m c t k n)

/-- What a step of case C leaves of the first result. -/
theorem out_C (c : Dev nD) (t : Fin cfg0.N) (h0 : ¬t.val % 16 = 0) (h1 : t.val % 16 = 15) (r : Fin 512) (n : Fin 1024) :
    (outsAt0 m c t.val t.isLt).1 (ix3 0 r n) = Grow m c (bt t) (post t r) n := by
  rw [outsAt0_C m c t h0 h1]
  frame_out
  refine (step_row (Pb m c (bt t)) (cW m c) (cM m c) (cS m c) (post t r) r (grid0.coords t) (by rw [coord1]; rfl) _ _ _ (proj_apply m c t r)
    _ (fun k n => iblk4_apply m c t k n) _ (fun n => iblk6_apply m c t 0 n)
    _ _ _ _ (fun i j => (ld3 _ _ 0 rfl i j).trans (iblk5_apply m c t 0 i j)) (fun i j => (ld3 _ _ 1 rfl i j).trans (iblk5_apply m c t 1 i j))
    (fun i j => (ld3 _ _ 2 rfl i j).trans (iblk5_apply m c t 2 i j)) (fun i j => (ld3 _ _ 3 rfl i j).trans (iblk5_apply m c t 3 i j))
    _ _ (fun ch => ldB0 m c t h0 _ _ 7 (by omega) r ch _ _) (fun ch => ldB0 m c t h0 _ _ 6 (by omega) r ch _ _)
    _ _ _ _ _ _ _ _ _ _ _ _ _ _ _ _ _ _ _ _ _ _ _ _ _ _
    (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _) (ldB1 m c t h0 _ _ _ _ rfl _ r _ _)
    _ _ _ _ _ _ n).trans ?_
  exact layerRow_congr n (funext fun n => iblk0_apply m c t r n) rfl (funext fun k => funext fun n => iblk7_apply m c t k n)
    (funext fun n => iblk2_apply m c t 0 n) (funext fun n => iblk8_apply m c t 0 n) (funext fun n => iblk9_apply m c t 0 n)
    (funext fun k => funext fun n => iblk10_apply m c t k n) (funext fun k => funext fun n => iblk11_apply m c t k n)

/-- The first result array, row by row. -/
def G0 (c : Dev nD) : Buf (Elt Ideal) ((c : Thread nD τ).loc main_v27_0) := fun (i : S4x8192x1024.Idx) => Grow m c (i 0) (i 1) (i 2)

/-- The convolution's carried rows. -/
def G1 (c : Dev nD) : Buf (Elt Ideal) ((c : Thread nD τ).loc main_v27_1) := fun (i : S4x2x512.Idx) => cvp (Pb m c (i 0)) (8198 + (i 1).val) (i 2)

/-- The pool's carried rows. -/
def G2 (c : Dev nD) : Buf (Elt Ideal) ((c : Thread nD τ).loc main_v27_2) := fun (i : S4x15x512.Idx) => up (Pb m c (i 0)) (8193 + (i 1).val) (i 2)

theorem flush13 : ∀ t : Fin cfg0.N, (cfg0.win 13).flush t = true → t.val % 16 = 15 := by
  decide +kernel

theorem flush14 : ∀ t : Fin cfg0.N, (cfg0.win 14).flush t = true → t.val % 16 = 15 := by
  decide +kernel

/-- The launch leaves the rows in the first result array. -/
theorem final0 (c : Dev nD) : (dats m 0 c).arrAt 12 cfg0.N = G0 m c := by
  refine (dats m 0 c).arrAt_eq_of_covers 12 _ (by decide +kernel) fun t hf y => ?_
  obtain ⟨e0, e1, e2, e3, e4, e5, e6, e7, e8, e9, e10, e11, e12, e13, e14⟩ := idx t
  blk_simp
  rw [after0_12]
  obtain ⟨z, r, n, rfl⟩ : ∃ (z : Fin 1) (r : Fin 512) (n : Fin 1024), y = ix3 z r n := ⟨y 0, y 1, y 2, eq_ix3 y⟩
  obtain rfl : z = 0 := Subsingleton.elim _ _
  rw [show ((View.whole main_v27_0).slice (win0_12.rect t)).emb (ix3 0 r n) = ix3 (bt t) (post t r) n from by blk_ext [e12, bt, post]]
  show _ = Grow m c (bt t) (post t r) n
  by_cases h0 : t.val % 16 = 0
  · exact out_A m c t h0 (by omega) r n
  · by_cases h1 : t.val % 16 = 15
    · exact out_C m c t h0 h1 r n
    · exact out_B m c t h0 h1 r n

/-- The launch leaves the convolution's last rows in the second result array. -/
theorem final1 (c : Dev nD) : (dats m 0 c).arrAt 13 cfg0.N = G1 m c := by
  refine (dats m 0 c).arrAt_eq_of_covers 13 _ (by decide +kernel) fun t hf y => ?_
  obtain ⟨e0, e1, e2, e3, e4, e5, e6, e7, e8, e9, e10, e11, e12, e13, e14⟩ := idx t
  have h1 := flush13 t hf
  blk_simp
  rw [after0_13, outsAt0_C m c t (by omega) h1]
  frame_out
  obtain ⟨z, r, n, rfl⟩ : ∃ (z : Fin 1) (r : Fin 2) (n : Fin 512), y = ix3 z r n := ⟨y 0, y 1, y 2, eq_ix3 y⟩
  obtain rfl : z = 0 := Subsingleton.elim _ _
  rw [show ((View.whole main_v27_1).slice (win0_13.rect t)).emb (ix3 0 r n) = ix3 (bt t) r n from by blk_ext [e13, bt]]
  show _ = cvp (Pb m c (bt t)) (8198 + r.val) n
  refine (pay2_apply _ r n).trans ((cov2 _ _ _ r n ⟨518 + r.val, by omega⟩ n rfl (by omega)).trans ?_)
  refine (canon_hit _ _ _ _ ⟨510 + r.val, by omega⟩ n (by show 518 + r.val = 8 + (510 + r.val); omega)).trans ?_
  rw [cv_new]
  congr 1
  show t.val % 16 * 512 + (510 + r.val) + 8 = 8198 + r.val
  omega

/-- The launch leaves the pool's last rows in the third result array. -/
theorem final2 (c : Dev nD) : (dats m 0 c).arrAt 14 cfg0.N = G2 m c := by
  refine (dats m 0 c).arrAt_eq_of_covers 14 _ (by decide +kernel) fun t hf y => ?_
  obtain ⟨e0, e1, e2, e3, e4, e5, e6, e7, e8, e9, e10, e11, e12, e13, e14⟩ := idx t
  have h1 := flush14 t hf
  blk_simp
  rw [after0_14, outsAt0_C m c t (by omega) h1]
  frame_out
  obtain ⟨z, r, n, rfl⟩ : ∃ (z : Fin 1) (r : Fin 15) (n : Fin 512), y = ix3 z r n := ⟨y 0, y 1, y 2, eq_ix3 y⟩
  obtain rfl : z = 0 := Subsingleton.elim _ _
  rw [show ((View.whole main_v27_2).slice (win0_14.rect t)).emb (ix3 0 r n) = ix3 (bt t) r n from by blk_ext [e14, bt]]
  show _ = up (Pb m c (bt t)) (8193 + r.val) n
  refine (pay3_apply _ r n).trans ((cov2 _ _ _ r n ⟨513 + r.val, by omega⟩ n rfl (by omega)).trans ?_)
  refine (canon_hit _ _ _ _ ⟨497 + r.val, by omega⟩ n (by show 513 + r.val = 16 + (497 + r.val); omega)).trans ?_
  rw [up_new]
  congr 1
  show t.val % 16 * 512 + (497 + r.val) + 16 = 8193 + r.val
  omega

end Cert.MixIdeal.RefValue

end
-- ==== Proof.MixSum.lean ====
/- Running sums and their windows. -/
module

public import proofs.«01_k».proof.Proof.MixMath

@[expose] public section

set_option maxRecDepth 16384

noncomputable section

namespace Cert.MixMath

open Idealize.ShloMosaic Cert.OutMath

/-- A fold that adds is a sum. -/
theorem foldl_add_sum {α : Type} (l : List α) (g : α → EReal) (a : EReal) : l.foldl (fun r n => r + g n) a = a + (l.map g).sum := by
  induction l generalizing a with
  | nil => simp
  | cons x l ih => rw [List.foldl_cons, ih, List.map_cons, List.sum_cons, add_assoc]

/-- The position of a window that is long along one axis only. -/
theorem col_pos {N : ℕ} (n : Fin (⟨4, ![1, N, 1, 1]⟩ : Shape).numel) :
    (((⟨4, ![1, N, 1, 1]⟩ : Shape).rowMajor.symm n 0).val = 0 ∧ ((⟨4, ![1, N, 1, 1]⟩ : Shape).rowMajor.symm n 1).val = n.val)
      ∧ ((⟨4, ![1, N, 1, 1]⟩ : Shape).rowMajor.symm n 2).val = 0 ∧ ((⟨4, ![1, N, 1, 1]⟩ : Shape).rowMajor.symm n 3).val = 0 := by
  obtain ⟨k, rfl⟩ := (⟨4, ![1, N, 1, 1]⟩ : Shape).rowMajor.surjective n
  rw [Equiv.symm_apply_apply, Shape.rowMajor_val_four]
  have h0 : (k 0).val < 1 := (k 0).isLt
  have h2 : (k 2).val < 1 := (k 2).isLt
  have h3 : (k 3).val < 1 := (k 3).isLt
  show ((k 0).val = 0 ∧ (k 1).val = (((k 0).val * N + (k 1).val) * 1 + (k 2).val) * 1 + (k 3).val) ∧ (k 2).val = 0 ∧ (k 3).val = 0
  have e0 : (k 0).val = 0 := by omega
  refine ⟨⟨e0, ?_⟩, by omega, by omega⟩
  rw [e0, Nat.zero_mul]
  omega

theorem col_numel (N : ℕ) : (⟨4, ![1, N, 1, 1]⟩ : Shape).numel = N := by
  simp [Shape.numel, Fin.prod_univ_succ]

/-- A windowed sum whose window is the whole axis, padded low by one less, is the running sum. -/
theorem running {B N M G C : ℕ} (hN : M + 1 = N) (x : FVec Ideal ⟨4, ![B, N, G, C]⟩ .f32) (init : FVec Ideal ⟨0, ![]⟩ .f32) (hi : ∀ i, init i = 0)
    (h : (⟨4, ![B, N, G, C]⟩ : Shape).ReduceWindows ![1, N, 1, 1] ![1, 1, 1, 1] ![0, M, 0, 0] ![0, 0, 0, 0] ⟨4, ![B, N, G, C]⟩) (hu : 0 < (⟨0, ![]⟩ : Shape).numel)
    (b : Fin B) (g : Fin G) (c : Fin C) (f : ℕ → EReal) (hf : ∀ i : Fin N, x (ix4 b i g c) = f i.val) (j : Fin N) :
    Host.reduceWindowAdd ![1, N, 1, 1] ![1, 1, 1, 1] ![0, M, 0, 0] ![0, 0, 0, 0] x init h hu (ix4 b j g c) = ∑ i ∈ Finset.range (j.val + 1), f i := by
  subst hN
  have hj := j.isLt
  show Host.reduceWindow (· + ·) ![1, M + 1, 1, 1] ![1, 1, 1, 1] ![0, M, 0, 0] ![0, 0, 0, 0] x (fun _ : (⟨0, ![]⟩ : Shape).Idx => init (Shape.Idx.first hu)) h hu (ix4 b j g c) = _
  unfold Host.reduceWindow
  dsimp only
  rw [hi]
  refine (foldl_add_sum _ _ _).trans ?_
  rw [zero_add, ← Fin.sum_univ_def]
  refine (Finset.sum_congr rfl fun n _ => show _ = (fun n : ℕ => if M ≤ j.val + n then f (j.val + n - M) else 0) n.val from ?_).trans ?_
  · obtain ⟨⟨w0, w1⟩, w2, w3⟩ := col_pos n
    have hn : n.val < M + 1 := lt_of_lt_of_eq n.isLt (col_numel _)
    dsimp only
    split
    · next hin =>
      have h1 := hin 1
      change M ≤ j.val * 1 + ((⟨4, ![1, M + 1, 1, 1]⟩ : Shape).rowMajor.symm n 1).val ∧ _ at h1
      rw [w1] at h1
      rw [if_pos (by omega), ← hf ⟨j.val + n.val - M, by omega⟩]
      refine congrArg x (funext fun a => Fin.ext ?_)
      match a with
      | ⟨0, _⟩ => show b.val * 1 + ((⟨4, ![1, M + 1, 1, 1]⟩ : Shape).rowMajor.symm n 0).val - 0 = b.val; rw [w0]; omega
      | ⟨1, _⟩ => show j.val * 1 + ((⟨4, ![1, M + 1, 1, 1]⟩ : Shape).rowMajor.symm n 1).val - M = j.val + n.val - M; rw [w1]; omega
      | ⟨2, _⟩ => show g.val * 1 + ((⟨4, ![1, M + 1, 1, 1]⟩ : Shape).rowMajor.symm n 2).val - 0 = g.val; rw [w2]; omega
      | ⟨3, _⟩ => show c.val * 1 + ((⟨4, ![1, M + 1, 1, 1]⟩ : Shape).rowMajor.symm n 3).val - 0 = c.val; rw [w3]; omega
    · next hin =>
      rw [if_neg fun hle => hin fun a => ?_]
      match a with
      | ⟨0, _⟩ => show 0 ≤ b.val * 1 + ((⟨4, ![1, M + 1, 1, 1]⟩ : Shape).rowMajor.symm n 0).val ∧ b.val * 1 + ((⟨4, ![1, M + 1, 1, 1]⟩ : Shape).rowMajor.symm n 0).val - 0 < B; rw [w0]; have := b.isLt; omega
      | ⟨1, _⟩ => show M ≤ j.val * 1 + ((⟨4, ![1, M + 1, 1, 1]⟩ : Shape).rowMajor.symm n 1).val ∧ j.val * 1 + ((⟨4, ![1, M + 1, 1, 1]⟩ : Shape).rowMajor.symm n 1).val - M < M + 1; rw [w1]; omega
      | ⟨2, _⟩ => show 0 ≤ g.val * 1 + ((⟨4, ![1, M + 1, 1, 1]⟩ : Shape).rowMajor.symm n 2).val ∧ g.val * 1 + ((⟨4, ![1, M + 1, 1, 1]⟩ : Shape).rowMajor.symm n 2).val - 0 < G; rw [w2]; have := g.isLt; omega
      | ⟨3, _⟩ => show 0 ≤ c.val * 1 + ((⟨4, ![1, M + 1, 1, 1]⟩ : Shape).rowMajor.symm n 3).val ∧ c.val * 1 + ((⟨4, ![1, M + 1, 1, 1]⟩ : Shape).rowMajor.symm n 3).val - 0 < C; rw [w3]; have := c.isLt; omega
  · rw [Fin.sum_univ_eq_sum_range (fun n : ℕ => if M ≤ j.val + n then f (j.val + n - M) else 0), col_numel]
    clear hf hi
    generalize j.val = q at hj ⊢
    rw [show M + 1 = (M - q) + (q + 1) by omega, Finset.sum_range_add]
    rw [Finset.sum_eq_zero fun n hn => if_neg (by rw [Finset.mem_range] at hn; omega), zero_add]
    refine Finset.sum_congr rfl fun n hn => ?_
    rw [if_pos (by omega)]
    congr 1
    omega

/-- An entry and those before it, as a sum. -/
theorem win_sum (f : ℕ → EReal) (e n : ℕ) : win f e n = ∑ i ∈ Finset.range (n + 1), f (e - i) := by
  induction n with
  | zero => simp [win]
  | succ n ih => rw [win, ih, Finset.sum_range_succ _ (n + 1)]

/-- A sum of reals is real. -/
theorem coe_sum' {ι : Type} (s : Finset ι) (φ : ι → ℝ) : ∑ i ∈ s, ((φ i : ℝ) : EReal) = ((∑ i ∈ s, φ i : ℝ) : EReal) := by
  classical
  induction s using Finset.induction_on with
  | empty => simp
  | insert a s ha ih => rw [Finset.sum_insert ha, Finset.sum_insert ha, ih, EReal.coe_add]

/-- The difference of two running sums of reals is the window between them. -/
theorem win_diff (f : ℕ → EReal) (φ : ℕ → ℝ) (hf : ∀ i, f i = (φ i : EReal)) (a n : ℕ) :
    (∑ i ∈ Finset.range (a + (n + 1)), f i) - (∑ i ∈ Finset.range a, f i) = win f (a + n) n := by
  rw [win_sum, Finset.sum_range_add]
  have h1 : ∑ i ∈ Finset.range a, f i = ((∑ i ∈ Finset.range a, φ i : ℝ) : EReal) := by
    rw [Finset.sum_congr rfl fun i _ => hf i, coe_sum']
  have h2 : ∑ i ∈ Finset.range (n + 1), f (a + i) = ((∑ i ∈ Finset.range (n + 1), φ (a + i) : ℝ) : EReal) := by
    rw [Finset.sum_congr rfl fun i _ => hf (a + i), coe_sum']
  have h3 : ∑ i ∈ Finset.range (n + 1), f (a + n - i) = ∑ i ∈ Finset.range (n + 1), f (a + i) := by
    rw [← Finset.sum_range_reflect]
    refine Finset.sum_congr rfl fun i hi => ?_
    rw [Finset.mem_range] at hi
    congr 1
    omega
  rw [h3, h1, h2, ← EReal.coe_add, ← EReal.coe_sub, add_sub_cancel_left]

/-- A window of a sequence read one further on. -/
theorem win_shift (f : ℕ → EReal) (e n : ℕ) (h : n ≤ e) : win (fun i => f (i + 1)) e n = win f (e + 1) n := by
  rw [win_sum, win_sum]
  refine Finset.sum_congr rfl fun i hi => ?_
  rw [Finset.mem_range] at hi
  show f (e - i + 1) = f (e + 1 - i)
  congr 1
  omega

/-- The difference of two running sums of a sequence read one further on. -/
theorem win_run (f : ℕ → EReal) (hf : ∀ i, ∃ r : ℝ, f i = (r : EReal)) (s n : ℕ) (hn : n ≤ 15) :
    (∑ i ∈ Finset.range (16 + s), f (i + 1)) - (∑ i ∈ Finset.range (15 - n + s), f (i + 1)) = win f (s + 16) n := by
  choose φ hφ using hf
  have h := win_diff (fun i => f (i + 1)) (fun i => φ (i + 1)) (fun i => hφ (i + 1)) (15 - n + s) n
  rw [show 15 - n + s + (n + 1) = 16 + s by omega, show 15 - n + s + n = s + 15 by omega, win_shift f _ _ (by omega)] at h
  exact h

/-- A row of reals times a matrix of reals is real. -/
theorem lin_real {K N : ℕ} (x : Fin K → EReal) (w : Fin K → Fin N → EReal) (hx : ∀ k, ∃ r : ℝ, x k = (r : EReal)) (hw : ∀ k n, ∃ r : ℝ, w k n = (r : EReal)) (n : Fin N) :
    ∃ r : ℝ, lin x w n = (r : EReal) := by
  choose ξ hξ using hx
  choose ω hω using hw
  refine ⟨∑ k, ξ k * ω k n, ?_⟩
  unfold lin
  rw [Finset.sum_congr rfl fun k _ => by rw [hξ k, hω k n, ← EReal.coe_mul], coe_sum']

theorem eps_real : ∃ e : ℝ, 0 < e ∧ Ideal.ofBits FTy.f32 897988541#32 = (e : EReal) := by
  refine ⟨_, ?_, by simp [Ideal.ofBits, Ideal.ieee]; rfl⟩
  norm_num

theorem count_real : Ideal.ofBits FTy.f32 1149239296#32 = ((1024 : ℝ) : EReal) := by
  rw [show (1024 : ℝ) = 8388608 * (2 ^ 13)⁻¹ by norm_num]; simp [Ideal.ofBits, Ideal.ieee]

/-- A row of reals over its root mean square is real. -/
theorem rms_real (x g : Fin 1024 → EReal) (hx : ∀ k, ∃ r : ℝ, x k = (r : EReal)) (hg : ∀ k, ∃ r : ℝ, g k = (r : EReal)) (n : Fin 1024) :
    ∃ r : ℝ, rms x g n = (r : EReal) := by
  choose ξ hξ using hx
  choose γ hγ using hg
  obtain ⟨e, he, hee⟩ := eps_real
  have hs : ∑ k, x k * x k = ((∑ k, ξ k * ξ k : ℝ) : EReal) := by
    rw [Finset.sum_congr rfl fun k _ => by rw [hξ k, ← EReal.coe_mul], coe_sum']
  have hp : 0 < (∑ k, ξ k * ξ k) * (1024 : ℝ)⁻¹ + e := by
    have : 0 ≤ ∑ k, ξ k * ξ k := Finset.sum_nonneg fun k _ => mul_self_nonneg _
    positivity
  have hd : Ideal.div ((∑ k, ξ k * ξ k : ℝ) : EReal) ((1024 : ℝ) : EReal) = (((∑ k, ξ k * ξ k) * (1024 : ℝ)⁻¹ : ℝ) : EReal) := by
    unfold Ideal.div
    rw [if_neg (by norm_cast), EReal.coe_mul, EReal.coe_inv]
  have hr : Ideal.rsqrt (((∑ k, ξ k * ξ k) * (1024 : ℝ)⁻¹ + e : ℝ) : EReal) = ((Real.sqrt ((∑ k, ξ k * ξ k) * (1024 : ℝ)⁻¹ + e))⁻¹ : ℝ) := by
    show (if _ then _ else _) = _
    rw [if_neg (not_lt.mpr hp.le), if_neg hp.ne']
  refine ⟨ξ n * (Real.sqrt ((∑ k, ξ k * ξ k) * (1024 : ℝ)⁻¹ + e))⁻¹ * γ n, ?_⟩
  unfold rms
  rw [hs, count_real, hd, hee, ← EReal.coe_add, hr, hξ, hγ, ← EReal.coe_mul, ← EReal.coe_mul]

end Cert.MixMath

end
-- ==== Proof.MixRef.lean ====
/- The mixer reference's result, row by row. -/
module

public import proofs.«01_k».proof.Proof.MixSum
public import proofs.«01_k».proof.Proof.MixPay
public import proofs.«01_k».proof.Proof.Gen.MixRefIdeal.Run

@[expose] public section

set_option maxRecDepth 16384

noncomputable section

namespace Cert.MixRefIdeal.RefValue

open Idealize.ShloMosaic Idealize.ShloMosaic.TcCoe Idealize.SL.Sem
open Cert.MixRefIdeal Cert.MixRefIdeal.Gen Cert.OutMath Cert.MixMath

/-- The reference's norm. -/
def normV (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

theorem normV_apply (x : FVec Ideal S4x8192x1024 .f32) (g : FVec Ideal S1024 .f32) (b : Fin 4) (s : Fin 8192) (n : Fin 1024) :
    normV x g (ix3 b s n) = rms (fun n => x (ix3 b s n)) (fun n => g (ix1 n)) n := by
  unfold normV rms
  pointwise

/-- A gain vector of the first layer. -/
def gainV (g : FVec Ideal S2x1024 .f32) : FVec Ideal S1024 .f32 := shapeCast _ (extractStridedSlice S1x1024 ![0, 0] g slices_S2x1024_S1x1024_0_0) shapeCasts_S1x1024_S1024

theorem gainV_apply (g : FVec Ideal S2x1024 .f32) (n : Fin 1024) : gainV g (ix1 n) = g (ix2 0 n) := by
  unfold gainV
  pointwise

/-- The input projection. -/
def projV (x : FVec Ideal S4x8192x1024 .f32) (w : FVec Ideal S1x1024x2048 .f32) : FVec Ideal S4x8192x2048 .f32 :=
  Host.dotGeneral dot_S4x8192x1024_S1024x2048_S4x8192x2048_2_0_01_1_n_n none x (shapeCast _ w shapeCasts_S1x1024x2048_S1024x2048)

theorem projV_apply (x : FVec Ideal S4x8192x1024 .f32) (w : FVec Ideal S1x1024x2048 .f32) (b : Fin 4) (s : Fin 8192) (n : Fin 2048) :
    projV x w (ix3 b s n) = lin (fun n => x (ix3 b s n)) (fun k n => w (ix3 0 k n)) n := by
  unfold projV lin
  pointwise

/-- A batch of a projection. -/
def Bt (p : FVec Ideal S4x8192x2048 .f32) (b : Fin 4) : Fin 8192 → Fin 2048 → EReal := fun s n => p (ix3 b s n)

/-- The convolution's sequence with its state before it. -/
def seqC (p : FVec Ideal S4x8192x2048 .f32) : FVec Ideal S4x8194x512 .f32 :=
  concatenate S4x8194x512 1 [⟨S4x2x512, (broadcastInDim S4x2x512 ![] bcast_S_S4x2x512 (constant S_ .f32 0x00000000#32))⟩, ⟨S4x8192x512, (mulf (extractStridedSlice S4x8192x512 ![0, 0, 512] p slices_S4x8192x2048_S4x8192x512_0_0_512) (extractStridedSlice S4x8192x512 ![0, 0, 1024] p slices_S4x8192x2048_S4x8192x512_0_0_1024))⟩] concatenates_S4x2x512_S4x8192x512_S4x8194x512_d1

theorem seqC_apply (p : FVec Ideal S4x8192x2048 .f32) (b : Fin 4) (e : Fin 8194) (ch : Fin 512) : seqC p (ix3 b e ch) = cvp (Bt p b) (e.val + 6) ch := by
  have he := e.isLt
  unfold seqC cvp cvRow Bt
  by_cases h : e.val < 2
  · rw [dif_neg (by omega)]
    pointwise
    exact dif_pos h
  · rw [dif_pos (by omega)]
    pointwise
    have e2 : e.val + 6 - 8 = e.val - 2 := by omega
    refine (dif_neg h).trans ?_
    simp only [e2]

/-- The pooled sequence with its state before it. -/
def seqU (p : FVec Ideal S4x8192x2048 .f32) : FVec Ideal S4x8207x512 .f32 :=
  concatenate S4x8207x512 1 [⟨S4x15x512, (broadcastInDim S4x15x512 ![] bcast_S_S4x15x512 (constant S_ .f32 0x00000000#32))⟩, ⟨S4x8192x512, (extractStridedSlice S4x8192x512 ![0, 0, 1536] p slices_S4x8192x2048_S4x8192x512_0_0_1536)⟩] concatenates_S4x15x512_S4x8192x512_S4x8207x512_d1

theorem seqU_apply (p : FVec Ideal S4x8192x2048 .f32) (b : Fin 4) (e : Fin 8207) (ch : Fin 512) : seqU p (ix3 b e ch) = up (Bt p b) (e.val + 1) ch := by
  have he := e.isLt
  unfold seqU up Bt
  by_cases h : e.val < 15
  · rw [dif_neg (by omega)]
    pointwise
    exact dif_pos h
  · rw [dif_pos (by omega)]
    pointwise
    have e2 : e.val + 1 - 16 = e.val - 15 := by omega
    refine (dif_neg h).trans ?_
    simp only [e2]

/-- It by groups. -/
def grpU (x : FVec Ideal S4x8207x512 .f32) : FVec Ideal S4x8207x4x128 .f32 := shapeCast _ x shapeCasts_S4x8207x512_S4x8207x4x128

theorem grpU_apply (x : FVec Ideal S4x8207x512 .f32) (b : Fin 4) (e : Fin 8207) (g : Fin 4) (i : Fin 128) :
    grpU x (ix4 b e g i) = x (ix3 b e ⟨g.val * 128 + i.val, by omega⟩) := by
  unfold grpU
  pointwise

/-- The running sums, a zero first. -/
def runU (x : FVec Ideal S4x8207x4x128 .f32) : FVec Ideal S4x8208x4x128 .f32 :=
  concatenate S4x8208x4x128 1 [⟨S4x1x4x128, (broadcastInDim S4x1x4x128 ![] bcast_S_S4x1x4x128 (constant S_ .f32 0x00000000#32))⟩, ⟨S4x8207x4x128, (Host.reduceWindowAdd ![1, 8207, 1, 1] ![1, 1, 1, 1] ![0, 8206, 0, 0] ![0, 0, 0, 0] x (broadcastInDim S_ ![] bcast_S_S_ (constant S_ .f32 0x00000000#32)) reduceWindows_S4x8207x4x128_S4x8207x4x128_w1s1p0_0_w8207s1p8206_0_w1s1p0_0_w1s1p0_0 h_S_)⟩] concatenates_S4x1x4x128_S4x8207x4x128_S4x8208x4x128_d1

/-- A row and the rows after it. -/
def joinU (r : FVec Ideal S4x8207x4x128 .f32) : FVec Ideal S4x8208x4x128 .f32 :=
  concatenate S4x8208x4x128 1 [⟨S4x1x4x128, (broadcastInDim S4x1x4x128 ![] bcast_S_S4x1x4x128 (constant S_ .f32 0x00000000#32))⟩, ⟨S4x8207x4x128, r⟩] concatenates_S4x1x4x128_S4x8207x4x128_S4x8208x4x128_d1

theorem joinU_zero (r : FVec Ideal S4x8207x4x128 .f32) (b : Fin 4) (q : Fin 8208) (g : Fin 4) (i : Fin 128) (h : q.val = 0) : joinU r (ix4 b q g i) = 0 := by
  unfold joinU
  pointwise
  exact dif_pos (by omega)

theorem joinU_succ (r : FVec Ideal S4x8207x4x128 .f32) (b : Fin 4) (q : Fin 8207) (g : Fin 4) (i : Fin 128) :
    joinU r (ix4 b ⟨q.val + 1, by omega⟩ g i) = r (ix4 b q g i) := by
  unfold joinU
  pointwise
  exact dif_neg (by omega)

theorem runU_apply (x : FVec Ideal S4x8207x4x128 .f32) (b : Fin 4) (q : Fin 8208) (g : Fin 4) (i : Fin 128) (f : ℕ → EReal) (hf : ∀ e : Fin 8207, x (ix4 b e g i) = f e.val) :
    runU x (ix4 b q g i) = ∑ e ∈ Finset.range q.val, f e := by
  show joinU _ (ix4 b q g i) = _
  by_cases h : q.val = 0
  · rw [joinU_zero _ _ _ _ _ h, h, Finset.sum_range_zero]
  · obtain ⟨q', rfl⟩ : ∃ q' : Fin 8207, q = ⟨q'.val + 1, by omega⟩ := ⟨⟨q.val - 1, by omega⟩, Fin.ext (by show q.val = q.val - 1 + 1; omega)⟩
    rw [joinU_succ]
    exact running (M := 8206) rfl x _ (fun i => show Ideal.ofBits FTy.f32 0#32 = 0 by simp [Ideal.ofBits, Ideal.ieee]) _ _ b g i f hf q'

/-- The pooled rows of the four groups. -/
def poolD (k : IVec S8192 32) (x : FVec Ideal S4x8207x4x128 .f32) (y : FVec Ideal S4x8208x4x128 .f32) (z : FVec Ideal S4x8192x4x128 .f32) : FVec Ideal S4x8192x4x128 .f32 :=
  (concatenate S4x8192x4x128 2 [⟨S4x8192x1x128, ((broadcastInDim S4x8192x1x128 ![0, 1, 3] bcast_S4x8192x128_S4x8192x1x128_0_1_3 (subf (Host.divf (subf (shapeCast _ (extractStridedSlice S4x8192x1x128 ![0, 0, 0, 0] z slices_S4x8192x4x128_S4x8192x1x128_0_0_0_0) shapeCasts_S4x8192x1x128_S4x8192x128) (shapeCast _ (extractStridedSlice S4x8192x1x128 ![0, 14, 0, 0] y slices_S4x8208x4x128_S4x8192x1x128_0_14_0_0) shapeCasts_S4x8192x1x128_S4x8192x128)) (broadcastInDim S4x8192x128 ![0, 1, 2] bcast_S1x8192x1_S4x8192x128_0_1_2 (broadcastInDim S1x8192x1 ![1] bcast_S8192_S1x8192x1_1 (sitofp .f32 (minsi (addi k (broadcastInDim S8192 ![] bcast_S_S8192 (constantI S_ 32 1#32))) (broadcastInDim S8192 ![] bcast_S_S8192 (constantI S_ 32 2#32))))))) (shapeCast _ (extractStridedSlice S4x8192x1x128 ![0, 15, 0, 0] x slices_S4x8207x4x128_S4x8192x1x128_0_15_0_0) shapeCasts_S4x8192x1x128_S4x8192x128))) : FVec Ideal S4x8192x1x128 .f32)⟩, ⟨S4x8192x1x128, ((broadcastInDim S4x8192x1x128 ![0, 1, 3] bcast_S4x8192x128_S4x8192x1x128_0_1_3 (subf (Host.divf (subf (shapeCast _ (extractStridedSlice S4x8192x1x128 ![0, 0, 1, 0] z slices_S4x8192x4x128_S4x8192x1x128_0_0_1_0) shapeCasts_S4x8192x1x128_S4x8192x128) (shapeCast _ (extractStridedSlice S4x8192x1x128 ![0, 12, 1, 0] y slices_S4x8208x4x128_S4x8192x1x128_0_12_1_0) shapeCasts_S4x8192x1x128_S4x8192x128)) (broadcastInDim S4x8192x128 ![0, 1, 2] bcast_S1x8192x1_S4x8192x128_0_1_2 (broadcastInDim S1x8192x1 ![1] bcast_S8192_S1x8192x1_1 (sitofp .f32 (minsi (addi k (broadcastInDim S8192 ![] bcast_S_S8192 (constantI S_ 32 1#32))) (broadcastInDim S8192 ![] bcast_S_S8192 (constantI S_ 32 4#32))))))) (shapeCast _ (extractStridedSlice S4x8192x1x128 ![0, 15, 1, 0] x slices_S4x8207x4x128_S4x8192x1x128_0_15_1_0) shapeCasts_S4x8192x1x128_S4x8192x128))) : FVec Ideal S4x8192x1x128 .f32)⟩, ⟨S4x8192x1x128, ((broadcastInDim S4x8192x1x128 ![0, 1, 3] bcast_S4x8192x128_S4x8192x1x128_0_1_3 (subf (Host.divf (subf (shapeCast _ (extractStridedSlice S4x8192x1x128 ![0, 0, 2, 0] z slices_S4x8192x4x128_S4x8192x1x128_0_0_2_0) shapeCasts_S4x8192x1x128_S4x8192x128) (shapeCast _ (extractStridedSlice S4x8192x1x128 ![0, 8, 2, 0] y slices_S4x8208x4x128_S4x8192x1x128_0_8_2_0) shapeCasts_S4x8192x1x128_S4x8192x128)) (broadcastInDim S4x8192x128 ![0, 1, 2] bcast_S1x8192x1_S4x8192x128_0_1_2 (broadcastInDim S1x8192x1 ![1] bcast_S8192_S1x8192x1_1 (sitofp .f32 (minsi (addi k (broadcastInDim S8192 ![] bcast_S_S8192 (constantI S_ 32 1#32))) (broadcastInDim S8192 ![] bcast_S_S8192 (constantI S_ 32 8#32))))))) (shapeCast _ (extractStridedSlice S4x8192x1x128 ![0, 15, 2, 0] x slices_S4x8207x4x128_S4x8192x1x128_0_15_2_0) shapeCasts_S4x8192x1x128_S4x8192x128))) : FVec Ideal S4x8192x1x128 .f32)⟩, ⟨S4x8192x1x128, ((broadcastInDim S4x8192x1x128 ![0, 1, 3] bcast_S4x8192x128_S4x8192x1x128_0_1_3 (subf (Host.divf (subf (shapeCast _ (extractStridedSlice S4x8192x1x128 ![0, 0, 3, 0] z slices_S4x8192x4x128_S4x8192x1x128_0_0_3_0) shapeCasts_S4x8192x1x128_S4x8192x128) (shapeCast _ (extractStridedSlice S4x8192x1x128 ![0, 0, 3, 0] y slices_S4x8208x4x128_S4x8192x1x128_0_0_3_0) shapeCasts_S4x8192x1x128_S4x8192x128)) (broadcastInDim S4x8192x128 ![0, 1, 2] bcast_S1x8192x1_S4x8192x128_0_1_2 (broadcastInDim S1x8192x1 ![1] bcast_S8192_S1x8192x1_1 (sitofp .f32 (minsi (addi k (broadcastInDim S8192 ![] bcast_S_S8192 (constantI S_ 32 1#32))) (broadcastInDim S8192 ![] bcast_S_S8192 (constantI S_ 32 16#32))))))) (shapeCast _ (extractStridedSlice S4x8192x1x128 ![0, 15, 3, 0] x slices_S4x8207x4x128_S4x8192x1x128_0_15_3_0) shapeCasts_S4x8192x1x128_S4x8192x128))) : FVec Ideal S4x8192x1x128 .f32)⟩] concatenates_S4x8192x1x128_S4x8192x1x128_S4x8192x1x128_S4x8192x1x128_S4x8192x4x128_d2 : FVec Ideal S4x8192x4x128 .f32)

theorem poolD_0 (x : FVec Ideal S4x8207x4x128 .f32) (y : FVec Ideal S4x8208x4x128 .f32) (z : FVec Ideal S4x8192x4x128 .f32) (b : Fin 4) (s : Fin 8192) (i : Fin 128) :
    poolD (iotaInDim S8192 32 0) x y z (ix4 b s 0 i) = Ideal.div (z (ix4 b s 0 i) - y (ix4 b ⟨14 + s.val, by omega⟩ 0 i)) (cnt (BitVec.ofNat 32 s.val) 2#32) - x (ix4 b ⟨15 + s.val, by omega⟩ 0 i) := by
  unfold poolD cnt
  pointwise

theorem poolD_1 (x : FVec Ideal S4x8207x4x128 .f32) (y : FVec Ideal S4x8208x4x128 .f32) (z : FVec Ideal S4x8192x4x128 .f32) (b : Fin 4) (s : Fin 8192) (i : Fin 128) :
    poolD (iotaInDim S8192 32 0) x y z (ix4 b s 1 i) = Ideal.div (z (ix4 b s 1 i) - y (ix4 b ⟨12 + s.val, by omega⟩ 1 i)) (cnt (BitVec.ofNat 32 s.val) 4#32) - x (ix4 b ⟨15 + s.val, by omega⟩ 1 i) := by
  unfold poolD cnt
  pointwise

theorem poolD_2 (x : FVec Ideal S4x8207x4x128 .f32) (y : FVec Ideal S4x8208x4x128 .f32) (z : FVec Ideal S4x8192x4x128 .f32) (b : Fin 4) (s : Fin 8192) (i : Fin 128) :
    poolD (iotaInDim S8192 32 0) x y z (ix4 b s 2 i) = Ideal.div (z (ix4 b s 2 i) - y (ix4 b ⟨8 + s.val, by omega⟩ 2 i)) (cnt (BitVec.ofNat 32 s.val) 8#32) - x (ix4 b ⟨15 + s.val, by omega⟩ 2 i) := by
  unfold poolD cnt
  pointwise

theorem poolD_3 (x : FVec Ideal S4x8207x4x128 .f32) (y : FVec Ideal S4x8208x4x128 .f32) (z : FVec Ideal S4x8192x4x128 .f32) (b : Fin 4) (s : Fin 8192) (i : Fin 128) :
    poolD (iotaInDim S8192 32 0) x y z (ix4 b s 3 i) = Ideal.div (z (ix4 b s 3 i) - y (ix4 b ⟨0 + s.val, by omega⟩ 3 i)) (cnt (BitVec.ofNat 32 s.val) 16#32) - x (ix4 b ⟨15 + s.val, by omega⟩ 3 i) := by
  unfold poolD cnt
  pointwise

/-- The gated convolution. -/
def convV (p : FVec Ideal S4x8192x2048 .f32) (w : FVec Ideal S3x512 .f32) (x : FVec Ideal S4x8194x512 .f32) : FVec Ideal S4x8192x512 .f32 :=
  (mulf (extractStridedSlice S4x8192x512 ![0, 0, 0] p slices_S4x8192x2048_S4x8192x512_0_0_0) (addf (addf (mulf (broadcastInDim S4x8192x512 ![0, 1, 2] bcast_S1x1x512_S4x8192x512_0_1_2 (broadcastInDim S1x1x512 ![2] bcast_S512_S1x1x512_2 (shapeCast _ (extractStridedSlice S1x512 ![0, 0] w slices_S3x512_S1x512_0_0) shapeCasts_S1x512_S512))) (extractStridedSlice S4x8192x512 ![0, 0, 0] x slices_S4x8194x512_S4x8192x512_0_0_0)) (mulf (broadcastInDim S4x8192x512 ![0, 1, 2] bcast_S1x1x512_S4x8192x512_0_1_2 (broadcastInDim S1x1x512 ![2] bcast_S512_S1x1x512_2 (shapeCast _ (extractStridedSlice S1x512 ![1, 0] w slices_S3x512_S1x512_1_0) shapeCasts_S1x512_S512))) (extractStridedSlice S4x8192x512 ![0, 1, 0] x slices_S4x8194x512_S4x8192x512_0_1_0))) (mulf (broadcastInDim S4x8192x512 ![0, 1, 2] bcast_S1x1x512_S4x8192x512_0_1_2 (broadcastInDim S1x1x512 ![2] bcast_S512_S1x1x512_2 (shapeCast _ (extractStridedSlice S1x512 ![2, 0] w slices_S3x512_S1x512_2_0) shapeCasts_S1x512_S512))) (extractStridedSlice S4x8192x512 ![0, 2, 0] x slices_S4x8194x512_S4x8192x512_0_2_0))))

theorem convV_apply (p : FVec Ideal S4x8192x2048 .f32) (w : FVec Ideal S3x512 .f32) (x : FVec Ideal S4x8194x512 .f32) (b : Fin 4) (s : Fin 8192) (ch : Fin 512) :
    convV p w x (ix3 b s ch) = p (ix3 b s ⟨ch.val, by omega⟩) * (w (ix2 0 ch) * x (ix3 b ⟨s.val, by omega⟩ ch) + w (ix2 1 ch) * x (ix3 b ⟨1 + s.val, by omega⟩ ch) + w (ix2 2 ch) * x (ix3 b ⟨2 + s.val, by omega⟩ ch)) := by
  unfold convV
  pointwise

/-- The pooled groups times their matrices and scales. -/
def poolV (pw : FVec Ideal S4x128x128 .f32) (ps : FVec Ideal S512 .f32) (d : FVec Ideal S4x8192x4x128 .f32) : FVec Ideal S4x8192x512 .f32 :=
  (mulf (shapeCast _ (transpose S4x8192x4x128 [2, 3, 0, 1] (Host.dotGeneral dot_S4x128x128_S4x8192x4x128_S4x128x4x8192_1_3_2_01_0_2 none pw d) transposes_S4x128x4x8192_S4x8192x4x128_2_3_0_1) shapeCasts_S4x8192x4x128_S4x8192x512) (broadcastInDim S4x8192x512 ![0, 1, 2] bcast_S1x1x512_S4x8192x512_0_1_2 (broadcastInDim S1x1x512 ![2] bcast_S512_S1x1x512_2 ps)))

theorem poolV_apply (pw : FVec Ideal S4x128x128 .f32) (ps : FVec Ideal S512 .f32) (d : FVec Ideal S4x8192x4x128 .f32) (b : Fin 4) (s : Fin 8192) (g : Fin 4) (j : Fin 128) :
    poolV pw ps d (ix3 b s ⟨g.val * 128 + j.val, by omega⟩) = (∑ i, pw (ix3 g i j) * d (ix4 b s g i)) * ps (ix1 ⟨g.val * 128 + j.val, by omega⟩) := by
  unfold poolV
  pointwise

/-- The running sums from a window's width on. -/
def cutU (y : FVec Ideal S4x8208x4x128 .f32) : FVec Ideal S4x8192x4x128 .f32 := extractStridedSlice S4x8192x4x128 ![0, 16, 0, 0] y slices_S4x8208x4x128_S4x8192x4x128_0_16_0_0

theorem cutU_apply (y : FVec Ideal S4x8208x4x128 .f32) (b : Fin 4) (s : Fin 8192) (g : Fin 4) (i : Fin 128) : cutU y (ix4 b s g i) = y (ix4 b ⟨16 + s.val, by omega⟩ g i) := by
  unfold cutU
  pointwise

/-- A sequence of reals with zeros before it is real. -/
theorem up_real (P : Fin 8192 → Fin 2048 → EReal) (hP : ∀ s n, ∃ r : ℝ, P s n = (r : EReal)) (ch : Fin 512) (e : ℕ) : ∃ r : ℝ, up P e ch = (r : EReal) := by
  unfold up
  split
  · exact hP _ _
  · exact ⟨0, rfl⟩

/-- The running sums of a projection. -/
theorem run_grp (p : FVec Ideal S4x8192x2048 .f32) (b : Fin 4) (q : Fin 8208) (g : Fin 4) (i : Fin 128) :
    runU (grpU (seqU p)) (ix4 b q g i) = ∑ e ∈ Finset.range q.val, up (Bt p b) (e + 1) ⟨g.val * 128 + i.val, by omega⟩ :=
  runU_apply _ b q g i (fun e => up (Bt p b) (e + 1) ⟨g.val * 128 + i.val, by omega⟩) fun e => (grpU_apply _ b e g i).trans (seqU_apply p b e _)

/-- The pooled rows are the windows' means less the rows. -/
theorem poolD_grp (p : FVec Ideal S4x8192x2048 .f32) (b : Fin 4) (hp : ∀ s n, ∃ r : ℝ, Bt p b s n = (r : EReal)) (s : Fin 8192) (g : Fin 4) (i : Fin 128) :
    poolD (iotaInDim S8192 32 0) (grpU (seqU p)) (runU (grpU (seqU p))) (cutU (runU (grpU (seqU p)))) (ix4 b s g i) = dGrp (Bt p b) s g i := by
  have hx : ∀ (g : Fin 4), grpU (seqU p) (ix4 b ⟨15 + s.val, by omega⟩ g i) = Bt p b s ⟨1536 + (g.val * 128 + i.val), by omega⟩ := fun g => by
    rw [grpU_apply, seqU_apply]
    show up _ (15 + s.val + 1) _ = _
    rw [show 15 + s.val + 1 = s.val + 16 by omega]
    exact Cert.MixIdeal.RefValue.up_pos _ s _
  have hd : ∀ (g : Fin 4) (n : ℕ) (hn : n ≤ 15), runU (grpU (seqU p)) (ix4 b ⟨16 + s.val, by omega⟩ g i) - runU (grpU (seqU p)) (ix4 b ⟨15 - n + s.val, by omega⟩ g i)
      = win (fun e => up (Bt p b) e ⟨g.val * 128 + i.val, by omega⟩) (s.val + 16) n := fun g n hn => by
    rw [run_grp, run_grp]
    exact win_run (fun e => up (Bt p b) e ⟨g.val * 128 + i.val, by omega⟩) (fun e => up_real _ hp _ e) s.val n hn
  match g with
  | 0 => rw [poolD_0, cutU_apply, hx 0]; exact congrArg (fun a => Ideal.div a _ - _) (hd 0 1 (by omega))
  | 1 => rw [poolD_1, cutU_apply, hx 1]; exact congrArg (fun a => Ideal.div a _ - _) (hd 1 3 (by omega))
  | 2 => rw [poolD_2, cutU_apply, hx 2]; exact congrArg (fun a => Ideal.div a _ - _) (hd 2 7 (by omega))
  | 3 => rw [poolD_3, cutU_apply, hx 3]; exact congrArg (fun a => Ideal.div a _ - _) (hd 3 15 (by omega))

/-- The two halves of the mixer's rows. -/
def catV (a d : FVec Ideal S4x8192x512 .f32) : FVec Ideal S4x8192x1024 .f32 :=
  concatenate S4x8192x1024 2 [⟨S4x8192x512, a⟩, ⟨S4x8192x512, d⟩] concatenates_S4x8192x512_S4x8192x512_S4x8192x1024_d2

theorem catV_lo (a d : FVec Ideal S4x8192x512 .f32) (b : Fin 4) (s : Fin 8192) (k : Fin 512) : catV a d (ix3 b s ⟨k.val, by omega⟩) = a (ix3 b s k) := by
  unfold catV
  pointwise

theorem catV_hi (a d : FVec Ideal S4x8192x512 .f32) (b : Fin 4) (s : Fin 8192) (k : Fin 512) : catV a d (ix3 b s ⟨512 + k.val, by omega⟩) = d (ix3 b s k) := by
  unfold catV
  pointwise

/-- The mixer's rows of a projection. -/
def rowsV (p : FVec Ideal S4x8192x2048 .f32) (cw : FVec Ideal S1x3x512 .f32) (pw : FVec Ideal S1x4x128x128 .f32) (ps : FVec Ideal S1x512 .f32) : FVec Ideal S4x8192x1024 .f32 :=
  catV (convV p (shapeCast _ cw shapeCasts_S1x3x512_S3x512) (seqC p))
    (poolV (shapeCast _ pw shapeCasts_S1x4x128x128_S4x128x128) (shapeCast _ ps shapeCasts_S1x512_S512)
      (poolD (iotaInDim S8192 32 0) (grpU (seqU p)) (runU (grpU (seqU p))) (cutU (runU (grpU (seqU p))))))

theorem cw_apply (cw : FVec Ideal S1x3x512 .f32) (k : Fin 3) (n : Fin 512) : shapeCast S3x512 cw shapeCasts_S1x3x512_S3x512 (ix2 k n) = cw (ix3 0 k n) := by pointwise
theorem pw_apply (pw : FVec Ideal S1x4x128x128 .f32) (g : Fin 4) (i j : Fin 128) : shapeCast S4x128x128 pw shapeCasts_S1x4x128x128_S4x128x128 (ix3 g i j) = pw (ix4 0 g i j) := by pointwise
theorem ps_apply (ps : FVec Ideal S1x512 .f32) (n : Fin 512) : shapeCast S512 ps shapeCasts_S1x512_S512 (ix1 n) = ps (ix2 0 n) := by pointwise

theorem rowsV_apply (p : FVec Ideal S4x8192x2048 .f32) (cw : FVec Ideal S1x3x512 .f32) (pw : FVec Ideal S1x4x128x128 .f32) (ps : FVec Ideal S1x512 .f32)
    (b : Fin 4) (hp : ∀ s n, ∃ r : ℝ, Bt p b s n = (r : EReal)) (s : Fin 8192) (n : Fin 1024) :
    rowsV p cw pw ps (ix3 b s n) = mixCat (Bt p b) (fun k n => cw (ix3 0 k n)) (fun g i j => pw (ix4 0 g i j)) (fun n => ps (ix2 0 n)) s n := by
  unfold rowsV
  rcases col_cases n with ⟨ch, rfl⟩ | ⟨g, j, rfl⟩
  · rw [mixCat_conv, catV_lo, convV_apply, cw_apply, cw_apply, cw_apply, seqC_apply, seqC_apply, seqC_apply]
    unfold convOut
    dsimp only
    rw [show 1 + s.val + 6 = s.val + 7 by omega, show 2 + s.val + 6 = s.val + 8 by omega, add_comm, add_comm (_ * cvp _ (s.val + 6) _), ← add_assoc]
    rfl
  · rw [mixCat_pool]
    refine (catV_hi _ _ b s ⟨g.val * 128 + j.val, by omega⟩).trans ((poolV_apply _ _ _ b s g j).trans ?_)
    rw [ps_apply]
    unfold poolOut
    refine congrArg (· * _) (Finset.sum_congr rfl fun i _ => ?_)
    rw [pw_apply, poolD_grp p b hp, mul_comm]

/-- The output projection. -/
def outV (o : FVec Ideal S4x8192x1024 .f32) (wo : FVec Ideal S1x1024x1024 .f32) : FVec Ideal S4x8192x1024 .f32 :=
  Host.dotGeneral dot_S4x8192x1024_S1024x1024_S4x8192x1024_2_0_01_1_n_n none o (shapeCast _ wo shapeCasts_S1x1024x1024_S1024x1024)

theorem outV_apply (o : FVec Ideal S4x8192x1024 .f32) (wo : FVec Ideal S1x1024x1024 .f32) (b : Fin 4) (s : Fin 8192) (n : Fin 1024) :
    outV o wo (ix3 b s n) = lin (fun n => o (ix3 b s n)) (fun k n => wo (ix3 0 k n)) n := by
  unfold outV lin
  pointwise

/-- The reference's block. -/
def mlpV (x : FVec Ideal S4x8192x1024 .f32) (wu : FVec Ideal S2x1024x4096 .f32) (wd : FVec Ideal S2x4096x1024 .f32) : FVec Ideal S4x8192x1024 .f32 :=
  Host.dotGeneral dot_S4x8192x4096_S4096x1024_S4x8192x1024_2_0_01_1_n_n none
    (mulf (maximumf (Host.dotGeneral dot_S4x8192x1024_S1024x4096_S4x8192x4096_2_0_01_1_n_n none x (shapeCast _ (extractStridedSlice S1x1024x4096 ![0, 0, 0] wu slices_S2x1024x4096_S1x1024x4096_0_0_0) shapeCasts_S1x1024x4096_S1024x4096)) (broadcastInDim S4x8192x4096 ![] bcast_S_S4x8192x4096 (constant S_ .f32 0x00000000#32)))
      (maximumf (Host.dotGeneral dot_S4x8192x1024_S1024x4096_S4x8192x4096_2_0_01_1_n_n none x (shapeCast _ (extractStridedSlice S1x1024x4096 ![0, 0, 0] wu slices_S2x1024x4096_S1x1024x4096_0_0_0) shapeCasts_S1x1024x4096_S1024x4096)) (broadcastInDim S4x8192x4096 ![] bcast_S_S4x8192x4096 (constant S_ .f32 0x00000000#32))))
    (shapeCast _ (extractStridedSlice S1x4096x1024 ![0, 0, 0] wd slices_S2x4096x1024_S1x4096x1024_0_0_0) shapeCasts_S1x4096x1024_S4096x1024)

theorem mlpV_apply (x : FVec Ideal S4x8192x1024 .f32) (wu : FVec Ideal S2x1024x4096 .f32) (wd : FVec Ideal S2x4096x1024 .f32) (b : Fin 4) (s : Fin 8192) (n : Fin 1024) :
    mlpV x wu wd (ix3 b s n) = lin (fun j => sqRelu (lin (fun n => x (ix3 b s n)) (fun k n => wu (ix3 0 k n)) j)) (fun k n => wd (ix3 0 k n)) n := by
  unfold mlpV lin sqRelu
  pointwise

/-- The projection of the first layer's rows. -/
def projOf (x : (⟨3, ![4, 8192, 1024]⟩ : Shape).Idx → EReal) (g : (⟨2, ![2, 1024]⟩ : Shape).Idx → EReal) (w : (⟨3, ![1, 1024, 2048]⟩ : Shape).Idx → EReal)
    (b : Fin 4) (s : Fin 8192) (n : Fin 2048) : EReal :=
  lin (rms (fun n => x (ix3 b s n)) (fun n => g (ix2 0 n))) (fun k n => w (ix3 0 k n)) n

theorem proj_steps (x : FVec Ideal S4x8192x1024 .f32) (g : FVec Ideal S2x1024 .f32) (w : FVec Ideal S1x1024x2048 .f32) (b : Fin 4) :
    Bt (projV (normV x (gainV g)) w) b = projOf x g w b := by
  funext s n
  unfold Bt projOf
  rw [projV_apply]
  simp only [normV_apply, gainV_apply]

/-- The projection of reals is real. -/
theorem projOf_real (x : (⟨3, ![4, 8192, 1024]⟩ : Shape).Idx → EReal) (g : (⟨2, ![2, 1024]⟩ : Shape).Idx → EReal) (w : (⟨3, ![1, 1024, 2048]⟩ : Shape).Idx → EReal)
    (hx : ∀ i, ∃ r : ℝ, x i = (r : EReal)) (hg : ∀ i, ∃ r : ℝ, g i = (r : EReal)) (hw : ∀ i, ∃ r : ℝ, w i = (r : EReal)) (b : Fin 4) (s : Fin 8192) (n : Fin 2048) :
    ∃ r : ℝ, projOf x g w b s n = (r : EReal) :=
  lin_real _ _ (fun k => rms_real _ _ (fun _ => hx _) (fun _ => hg _) k) (fun _ _ => hw _) n

/-- The residual after the mixer. -/
def resV (x : FVec Ideal S4x8192x1024 .f32) (g : FVec Ideal S2x1024 .f32) (w : FVec Ideal S1x1024x2048 .f32) (cw : FVec Ideal S1x3x512 .f32) (pw : FVec Ideal S1x4x128x128 .f32)
    (ps : FVec Ideal S1x512 .f32) (wo : FVec Ideal S1x1024x1024 .f32) (g1 : FVec Ideal S2x1024 .f32) : FVec Ideal S4x8192x1024 .f32 :=
  addf x (normV (outV (rowsV (projV (normV x (gainV g)) w) cw pw ps) wo) (gainV g1))

/-- The layer's rows as the composition of the steps. -/
def layerV (x : FVec Ideal S4x8192x1024 .f32) (g : FVec Ideal S2x1024 .f32) (w : FVec Ideal S1x1024x2048 .f32) (cw : FVec Ideal S1x3x512 .f32) (pw : FVec Ideal S1x4x128x128 .f32)
    (ps : FVec Ideal S1x512 .f32) (wo : FVec Ideal S1x1024x1024 .f32) (g1 g2 g3 : FVec Ideal S2x1024 .f32) (wu : FVec Ideal S2x1024x4096 .f32) (wd : FVec Ideal S2x4096x1024 .f32) : FVec Ideal S4x8192x1024 .f32 :=
  addf (resV x g w cw pw ps wo g1) (normV (mlpV (normV (resV x g w cw pw ps wo g1) (gainV g2)) wu wd) (gainV g3))

/-- The layer's row from the arguments. -/
def layerOf (x : (⟨3, ![4, 8192, 1024]⟩ : Shape).Idx → EReal) (g : (⟨2, ![2, 1024]⟩ : Shape).Idx → EReal) (w : (⟨3, ![1, 1024, 2048]⟩ : Shape).Idx → EReal)
    (cw : (⟨3, ![1, 3, 512]⟩ : Shape).Idx → EReal) (pw : (⟨4, ![1, 4, 128, 128]⟩ : Shape).Idx → EReal) (ps : (⟨2, ![1, 512]⟩ : Shape).Idx → EReal)
    (wo : (⟨3, ![1, 1024, 1024]⟩ : Shape).Idx → EReal) (g1 g2 g3 : (⟨2, ![2, 1024]⟩ : Shape).Idx → EReal) (wu : (⟨3, ![2, 1024, 4096]⟩ : Shape).Idx → EReal)
    (wd : (⟨3, ![2, 4096, 1024]⟩ : Shape).Idx → EReal) (b : Fin 4) (s : Fin 8192) (n : Fin 1024) : EReal :=
  layerRow (fun n => x (ix3 b s n)) (mixCat (projOf x g w b) (fun k n => cw (ix3 0 k n)) (fun g i j => pw (ix4 0 g i j)) (fun n => ps (ix2 0 n)) s) (fun k n => wo (ix3 0 k n))
    (fun n => g1 (ix2 0 n)) (fun n => g2 (ix2 0 n)) (fun n => g3 (ix2 0 n)) (fun k n => wu (ix3 0 k n)) (fun k n => wd (ix3 0 k n)) n

theorem resV_apply (x : FVec Ideal S4x8192x1024 .f32) (g : FVec Ideal S2x1024 .f32) (w : FVec Ideal S1x1024x2048 .f32) (cw : FVec Ideal S1x3x512 .f32) (pw : FVec Ideal S1x4x128x128 .f32)
    (ps : FVec Ideal S1x512 .f32) (wo : FVec Ideal S1x1024x1024 .f32) (g1 : FVec Ideal S2x1024 .f32)
    (hx : ∀ i, ∃ r : ℝ, x i = (r : EReal)) (hg : ∀ i, ∃ r : ℝ, g i = (r : EReal)) (hw : ∀ i, ∃ r : ℝ, w i = (r : EReal)) (b : Fin 4) (s : Fin 8192) (n : Fin 1024) :
    resV x g w cw pw ps wo g1 (ix3 b s n) = mixRow (fun n => x (ix3 b s n)) (mixCat (projOf x g w b) (fun k n => cw (ix3 0 k n)) (fun g i j => pw (ix4 0 g i j)) (fun n => ps (ix2 0 n)) s) (fun k n => wo (ix3 0 k n))
      (fun n => g1 (ix2 0 n)) n := by
  have hp : ∀ s n, ∃ r : ℝ, Bt (projV (normV x (gainV g)) w) b s n = (r : EReal) := fun s n => by rw [proj_steps]; exact projOf_real x g w hx hg hw b s n
  unfold resV mixRow
  rw [show ∀ (a b : FVec Ideal S4x8192x1024 .f32) i, addf a b i = a i + b i from fun _ _ _ => rfl, normV_apply]
  simp only [outV_apply, gainV_apply, rowsV_apply _ cw pw ps b hp, proj_steps]

theorem layerV_apply (x : FVec Ideal S4x8192x1024 .f32) (g : FVec Ideal S2x1024 .f32) (w : FVec Ideal S1x1024x2048 .f32) (cw : FVec Ideal S1x3x512 .f32) (pw : FVec Ideal S1x4x128x128 .f32)
    (ps : FVec Ideal S1x512 .f32) (wo : FVec Ideal S1x1024x1024 .f32) (g1 g2 g3 : FVec Ideal S2x1024 .f32) (wu : FVec Ideal S2x1024x4096 .f32) (wd : FVec Ideal S2x4096x1024 .f32)
    (hx : ∀ i, ∃ r : ℝ, x i = (r : EReal)) (hg : ∀ i, ∃ r : ℝ, g i = (r : EReal)) (hw : ∀ i, ∃ r : ℝ, w i = (r : EReal)) (b : Fin 4) (s : Fin 8192) (n : Fin 1024) :
    layerV x g w cw pw ps wo g1 g2 g3 wu wd (ix3 b s n) = layerOf x g w cw pw ps wo g1 g2 g3 wu wd b s n := by
  unfold layerV layerOf layerRow
  rw [show ∀ (a b : FVec Ideal S4x8192x1024 .f32) i, addf a b i = a i + b i from fun _ _ _ => rfl, normV_apply]
  simp only [mlpV_apply, normV_apply, resV_apply x g w cw pw ps wo g1 hx hg hw, gainV_apply]

end Cert.MixRefIdeal.RefValue

end
-- ==== Proof.AttnMath.lean ====
/- One lane of the attention: sums of powers of two over the keys so far, at a moving reference. -/
module

public import Idealize.ShloMosaic.Lib.Pointwise

@[expose] public section

noncomputable section

namespace Cert.AttnMath

open Idealize.ShloMosaic

/-- The sum over the visible ones of the first `n` keys: powers of two of the scores over the reference, times values. -/
def wsum (s v : ℕ → ℝ) (lim n : ℕ) (μ : ℝ) : ℝ := ∑ k ∈ Finset.range n, if k ≤ lim then (2 : ℝ) ^ (s k - μ) * v k else 0

/-- A lane holds a real reference and, for each row of values, the sum at that reference. -/
def Lane {E : Type} (s : ℕ → ℝ) (V : E → ℕ → ℝ) (lim n : ℕ) (m : EReal) (a : E → EReal) : Prop :=
  ∃ μ : ℝ, m = (μ : EReal) ∧ ∀ e, a e = (wsum s (V e) lim n μ : EReal)

/-- A power of two of a real. -/
theorem exp2_real (x : ℝ) : Ideal.exp2 (x : EReal) = (((2 : ℝ) ^ x : ℝ) : EReal) := rfl

/-- A sum of reals, as extended reals. -/
theorem coe_sum {ι : Type} (t : Finset ι) (f : ι → ℝ) : ∑ i ∈ t, ((f i : ℝ) : EReal) = ((∑ i ∈ t, f i : ℝ) : EReal) := by
  classical
  induction t using Finset.induction with
  | empty => simp
  | insert a t ha ih => rw [Finset.sum_insert ha, Finset.sum_insert ha, ih, EReal.coe_add]

/-- Before the first key, the sums are zero. -/
theorem lane_zero {E : Type} (s : ℕ → ℝ) (V : E → ℕ → ℝ) (lim : ℕ) (m : EReal) (hm : ∃ μ : ℝ, m = (μ : EReal)) :
    Lane s V lim 0 m (fun _ => 0) := by
  obtain ⟨μ, rfl⟩ := hm
  exact ⟨μ, rfl, fun e => by simp [wsum]⟩

/-- A tile of keys that a lane does not see leaves it. -/
theorem lane_skip {E : Type} {s : ℕ → ℝ} {V : E → ℕ → ℝ} {lim n : ℕ} {m : EReal} {a : E → EReal} (B : ℕ) (h : lim < n)
    (H : Lane s V lim n m a) : Lane s V lim (n + B) m a := by
  obtain ⟨μ, rfl, ha⟩ := H
  refine ⟨μ, rfl, fun e => ?_⟩
  rw [ha e]; unfold wsum
  rw [Finset.sum_range_add, Finset.sum_eq_zero (s := Finset.range B) (fun x _ => if_neg (by omega)), add_zero]

/-- A tile of keys adds its visible ones. -/
theorem lane_add {E : Type} {s : ℕ → ℝ} {V : E → ℕ → ℝ} {lim n : ℕ} {m : EReal} {a : E → EReal} {B : ℕ}
    (σ : Fin B → EReal) (o : E → Fin B → EReal)
    (hσ : ∀ r : Fin B, σ r = if n + r.val ≤ lim then ((s (n + r.val) : ℝ) : EReal) else ⊥)
    (ho : ∀ e (r : Fin B), o e r = ((V e (n + r.val) : ℝ) : EReal))
    (H : Lane s V lim n m a) : Lane s V lim (n + B) m (fun e => a e + ∑ r, o e r * Ideal.exp2 (σ r - m)) := by
  obtain ⟨μ, rfl, ha⟩ := H
  refine ⟨μ, rfl, fun e => ?_⟩
  have h1 : ∀ r : Fin B, o e r * Ideal.exp2 (σ r - (μ : EReal)) =
      ((if n + r.val ≤ lim then (2 : ℝ) ^ (s (n + r.val) - μ) * V e (n + r.val) else 0 : ℝ) : EReal) := fun r => by
    rw [hσ, ho]
    split_ifs
    · rw [← EReal.coe_sub, exp2_real, ← EReal.coe_mul, mul_comm]
    · rw [EReal.bot_sub, Ideal.exp2_bot, mul_zero, EReal.coe_zero]
  show a e + ∑ r, o e r * Ideal.exp2 (σ r - (μ : EReal)) = _
  rw [Finset.sum_congr rfl (fun r _ => h1 r), coe_sum, ha e, ← EReal.coe_add]
  congr 1
  unfold wsum
  rw [Finset.sum_range_add, Finset.sum_range (fun x => if n + x ≤ lim then (2 : ℝ) ^ (s (n + x) - μ) * V e (n + x) else 0)]

/-- The sums brought to another reference. -/
theorem lane_resc {E : Type} {s : ℕ → ℝ} {V : E → ℕ → ℝ} {lim n : ℕ} {m m' : EReal} {a : E → EReal}
    (hm : ∃ μ : ℝ, m' = (μ : EReal)) (H : Lane s V lim n m a) :
    Lane s V lim n m' (fun e => Ideal.exp2 (m - m') * a e) := by
  obtain ⟨μ, rfl, ha⟩ := H
  obtain ⟨μ', rfl⟩ := hm
  refine ⟨μ', rfl, fun e => ?_⟩
  show Ideal.exp2 ((μ : EReal) - μ') * a e = _
  rw [ha e, ← EReal.coe_sub, exp2_real, ← EReal.coe_mul]
  congr 1
  unfold wsum
  rw [Finset.mul_sum]
  refine Finset.sum_congr rfl fun k _ => ?_
  split_ifs
  · rw [← mul_assoc, ← Real.rpow_add (by norm_num)]; congr 2; ring
  · rw [mul_zero]

/-- The maximum of a real and extended reals below the top is real. -/
theorem real_max {B : ℕ} {m : EReal} (hm : ∃ μ : ℝ, m = (μ : EReal)) (σ : Fin B → EReal) (hσ : ∀ r, σ r ≠ ⊤) :
    ∃ μ : ℝ, max m (Finset.fold max (Ideal.ofBits FTy.f32 4286578688#32) σ Finset.univ) = (μ : EReal) := by
  obtain ⟨μ, rfl⟩ := hm
  have hb : Ideal.ofBits FTy.f32 4286578688#32 = ⊥ := by simp [Ideal.ofBits, Ideal.ieee]
  have hf : Finset.fold max (Ideal.ofBits FTy.f32 4286578688#32) σ Finset.univ ≠ ⊤ := by
    rw [hb]
    refine ne_of_lt ?_
    rw [Finset.fold_max_lt]
    exact ⟨bot_lt_top, fun r _ => lt_top_iff_ne_top.mpr (hσ r)⟩
  refine ⟨(max (μ : EReal) (Finset.fold max (Ideal.ofBits FTy.f32 4286578688#32) σ Finset.univ)).toReal, (EReal.coe_toReal ?_ ?_).symm⟩
  · exact (max_lt (EReal.coe_lt_top μ) (lt_top_iff_ne_top.mpr hf)).ne
  · exact (lt_of_lt_of_le (EReal.bot_lt_coe μ) (le_max_left _ _)).ne'

/-- A comparison of two small numbers chooses as the numbers compare. -/
theorem select_sle {α : Type} (r j : ℕ) (hr : r < 2048) (hj : j < 2048) (a b : α) :
    Scalar.select (IntOp.cmpi CmpIPredicate.sle (BitVec.ofNat 32 r) (BitVec.ofNat 32 j)) a b = if r ≤ j then a else b := by
  have h : (BitVec.ofNat 32 r).sle (BitVec.ofNat 32 j) = decide (r ≤ j) := by
    rw [BitVec.sle_eq_decide]
    have e : ∀ x, x < 2048 → (BitVec.ofNat 32 x).toInt = (x : ℤ) := fun x hx => by
      rw [BitVec.toInt_eq_toNat_of_lt] <;> simp <;> omega
    rw [e r hr, e j hj]; simp
  by_cases hrj : r ≤ j <;> simp [Scalar.select, IntOp.cmpi, h, hrj]

end Cert.AttnMath

end
-- ==== Proof.AttnSpec.lean ====
/- Softmax attention over the visible keys, in real numbers: what the sums at a moving reference and the softmax both are. -/
module

public import proofs.«01_k».proof.Proof.AttnMath

@[expose] public section

noncomputable section

namespace Cert.AttnMath

open Idealize.ShloMosaic

/-- The total weight of the visible keys. -/
def den (z : ℕ → ℝ) (lim : ℕ) : ℝ := ∑ k ∈ Finset.range (lim + 1), Real.exp (z k)

/-- The mean of the values of the visible keys, weighted by the exponentials of their scores. -/
def att (z v : ℕ → ℝ) (lim : ℕ) : ℝ := (∑ k ∈ Finset.range (lim + 1), Real.exp (z k) * v k) / den z lim

/-- The total weight is positive. -/
theorem den_pos (z : ℕ → ℝ) (lim : ℕ) : 0 < den z lim :=
  Finset.sum_pos (fun _ _ => Real.exp_pos _) ⟨0, by simp⟩

/-- A sum over more keys than are visible is a sum over the visible ones. -/
theorem sum_visible (f : ℕ → ℝ) {lim n : ℕ} (h : lim < n) :
    (∑ k ∈ Finset.range n, if k ≤ lim then f k else 0) = ∑ k ∈ Finset.range (lim + 1), f k := by
  obtain ⟨d, rfl⟩ : ∃ d, n = (lim + 1) + d := ⟨n - (lim + 1), by omega⟩
  rw [Finset.sum_range_add, Finset.sum_eq_zero (s := Finset.range d) (fun x _ => if_neg (by omega)), add_zero]
  exact Finset.sum_congr rfl fun k hk => if_pos (by have := Finset.mem_range.mp hk; omega)

/-- Powers of two of the scores over the natural logarithm of two are exponentials. -/
theorem wsum_eq (z v : ℕ → ℝ) {lim n : ℕ} (h : lim < n) (μ : ℝ) :
    wsum (fun k => z k / Real.log 2) v lim n μ = (2 : ℝ) ^ (-μ) * ∑ k ∈ Finset.range (lim + 1), Real.exp (z k) * v k := by
  unfold wsum
  rw [sum_visible (fun k => (2 : ℝ) ^ (z k / Real.log 2 - μ) * v k) h, Finset.mul_sum]
  refine Finset.sum_congr rfl fun k _ => ?_
  have hl : Real.log 2 ≠ 0 := (Real.log_pos (by norm_num)).ne'
  rw [sub_eq_add_neg, Real.rpow_add (by norm_num), Real.rpow_def_of_pos (by norm_num : (0 : ℝ) < 2) (z k / Real.log 2),
    mul_div_cancel₀ _ hl]
  ring

/-- A ratio of two sums at one reference is the mean. -/
theorem wsum_ratio (z v : ℕ → ℝ) {lim n : ℕ} (h : lim < n) (μ : ℝ) :
    Ideal.div (wsum (fun k => z k / Real.log 2) v lim n μ : EReal) (wsum (fun k => z k / Real.log 2) (fun _ => 1) lim n μ : EReal)
      = (att z v lim : EReal) := by
  have hd : (2 : ℝ) ^ (-μ) * den z lim ≠ 0 := (mul_pos (Real.rpow_pos_of_pos (by norm_num) _) (den_pos z lim)).ne'
  have e1 : wsum (fun k => z k / Real.log 2) (fun _ => 1) lim n μ = (2 : ℝ) ^ (-μ) * den z lim := by
    rw [wsum_eq z _ h]; simp [den]
  rw [e1, wsum_eq z v h, Ideal.div_coe hd, ← EReal.coe_mul]
  congr 1
  unfold att
  have := (Real.rpow_pos_of_pos (by norm_num : (0 : ℝ) < 2) (-μ)).ne'
  have := (den_pos z lim).ne'
  field_simp

/-- The largest of masked real scores, the first key visible, is real. -/
theorem max_masked {B lim : ℕ} [NeZero B] (z : ℕ → ℝ) (σ : Fin B → EReal) (hσ : ∀ k, σ k = if k.val ≤ lim then (z k.val : EReal) else ⊥) (b : EReal) (hb : b = ⊥) :
    ∃ μ : ℝ, max b (Finset.fold max b σ Finset.univ) = (μ : EReal) := by
  subst hb
  have h0 : (z 0 : EReal) ≤ Finset.fold max ⊥ σ Finset.univ := by
    rw [Finset.le_fold_max]
    exact .inr ⟨0, Finset.mem_univ _, by rw [hσ]; simp⟩
  have h1 : Finset.fold max ⊥ σ Finset.univ < ⊤ := by
    rw [Finset.fold_max_lt]
    refine ⟨bot_lt_top, fun k _ => ?_⟩
    rw [hσ]; split_ifs
    · exact EReal.coe_lt_top _
    · exact bot_lt_top
  rw [max_eq_right bot_le]
  exact ⟨_, (EReal.coe_toReal h1.ne (lt_of_lt_of_le (EReal.bot_lt_coe _) h0).ne').symm⟩

/-- A probability of the softmax of masked scores. -/
theorem soft_masked {B lim : ℕ} (hB : lim < B) (z : ℕ → ℝ) (σ : Fin B → EReal) (hσ : ∀ k, σ k = if k.val ≤ lim then (z k.val : EReal) else ⊥) (μ : ℝ) (k : Fin B) :
    Ideal.div (Ideal.exp (σ k - (μ : EReal))) (∑ j, Ideal.exp (σ j - (μ : EReal)))
      = ((if k.val ≤ lim then Real.exp (z k.val) / den z lim else 0 : ℝ) : EReal) := by
  have h1 : ∀ j : Fin B, Ideal.exp (σ j - (μ : EReal)) = ((if j.val ≤ lim then Real.exp (-μ) * Real.exp (z j.val) else 0 : ℝ) : EReal) := fun j => by
    rw [hσ]; split_ifs
    · rw [← EReal.coe_sub, Ideal.exp_coe, ← Real.exp_add]; congr 2; ring
    · rw [EReal.bot_sub, Ideal.exp_bot, EReal.coe_zero]
  have hd : Real.exp (-μ) * den z lim ≠ 0 := (mul_pos (Real.exp_pos _) (den_pos z lim)).ne'
  rw [Finset.sum_congr rfl (fun j _ => h1 j), coe_sum, h1 k]
  rw [show (∑ j : Fin B, if j.val ≤ lim then Real.exp (-μ) * Real.exp (z j.val) else 0) = Real.exp (-μ) * den z lim from by
    rw [← Finset.sum_range (fun j => if j ≤ lim then Real.exp (-μ) * Real.exp (z j) else 0), sum_visible (fun j => Real.exp (-μ) * Real.exp (z j)) hB, ← Finset.mul_sum]
    rfl]
  rw [Ideal.div_coe hd, ← EReal.coe_mul]
  congr 1
  split_ifs
  · have := (Real.exp_pos (-μ)).ne'
    have := (den_pos z lim).ne'
    field_simp
  · simp

/-- The difference of two attentions, from the difference of the probabilities. -/
theorem diff_att {B lim : ℕ} (hB : lim < B) (z0 z1 v : ℕ → ℝ) (l : ℝ) (p0 p1 w : Fin B → EReal)
    (h0 : ∀ k, p0 k = ((if k.val ≤ lim then Real.exp (z0 k.val) / den z0 lim else 0 : ℝ) : EReal))
    (h1 : ∀ k, p1 k = ((if k.val ≤ lim then Real.exp (z1 k.val) / den z1 lim else 0 : ℝ) : EReal))
    (hw : ∀ k, w k = (v k.val : EReal)) :
    ∑ k, w k * (p0 k - (l : EReal) * p1 k) = (att z0 v lim : EReal) - (l : EReal) * (att z1 v lim : EReal) := by
  have e : ∀ k : Fin B, w k * (p0 k - (l : EReal) * p1 k)
      = ((if k.val ≤ lim then v k.val * (Real.exp (z0 k.val) / den z0 lim - l * (Real.exp (z1 k.val) / den z1 lim)) else 0 : ℝ) : EReal) := fun k => by
    rw [h0, h1, hw, ← EReal.coe_mul, ← EReal.coe_sub, ← EReal.coe_mul]
    congr 1
    split_ifs
    · rfl
    · simp
  rw [Finset.sum_congr rfl (fun k _ => e k), coe_sum, ← EReal.coe_mul, ← EReal.coe_sub]
  congr 1
  rw [← Finset.sum_range (fun k => if k ≤ lim then v k * (Real.exp (z0 k) / den z0 lim - l * (Real.exp (z1 k) / den z1 lim)) else 0),
    sum_visible (fun k => v k * (Real.exp (z0 k) / den z0 lim - l * (Real.exp (z1 k) / den z1 lim))) hB]
  unfold att
  rw [Finset.sum_div, Finset.sum_div, Finset.mul_sum, ← Finset.sum_sub_distrib]
  refine Finset.sum_congr rfl fun k _ => ?_
  ring

/-- A row scaled to unit mean square, times its gain and the last factor. -/
def headRow (o g : Fin 128 → EReal) (e : Fin 128) : EReal :=
  o e * Ideal.rsqrt (Ideal.div (∑ x, o x * o x) (Ideal.ofBits FTy.f32 0x43000000#32) + Ideal.ofBits FTy.f32 0x358637BD#32)
    * (g e * Ideal.ofBits FTy.f32 0x3F24FD5C#32)

/-- The weight of the second attention. -/
def lamOf (l : Fin 4 → Fin 64 → EReal) : EReal :=
  Ideal.exp (∑ x, l 0 x * l 1 x) - Ideal.exp (∑ x, l 2 x * l 3 x) + Ideal.ofBits FTy.f32 0x3EB60549#32

/-- The weight of the second attention is real when its parameters are. -/
theorem lamOf_real (l : Fin 4 → Fin 64 → EReal) (r : Fin 4 → Fin 64 → ℝ) (h : ∀ a x, l a x = (r a x : EReal)) : ∃ μ : ℝ, lamOf l = (μ : EReal) := by
  have hc : ∃ μ : ℝ, Ideal.ofBits FTy.f32 0x3EB60549#32 = (μ : EReal) := ⟨11928905 * (2 ^ 25)⁻¹, by simp [Ideal.ofBits, Ideal.ieee]⟩
  obtain ⟨c, hc⟩ := hc
  have hs : ∀ a b, ∑ x, l a x * l b x = ((∑ x, r a x * r b x : ℝ) : EReal) := fun a b => by
    rw [← coe_sum]
    exact Finset.sum_congr rfl fun x _ => by rw [h, h, EReal.coe_mul]
  unfold lamOf
  rw [hs, hs, hc, Ideal.exp_coe, Ideal.exp_coe, ← EReal.coe_sub, ← EReal.coe_add]
  exact ⟨_, rfl⟩

/-- A comparison of two small numbers chooses as the numbers compare. -/
theorem select_le {α : Type} (r j : ℕ) (hr : r < 8192) (hj : j < 8192) (a b : α) :
    Scalar.select (IntOp.cmpi CmpIPredicate.sle (BitVec.ofNat 32 r) (BitVec.ofNat 32 j)) a b = if r ≤ j then a else b := by
  have h : (BitVec.ofNat 32 r).sle (BitVec.ofNat 32 j) = decide (r ≤ j) := by
    rw [BitVec.sle_eq_decide]
    have e : ∀ x, x < 8192 → (BitVec.ofNat 32 x).toInt = (x : ℤ) := fun x hx => by
      rw [BitVec.toInt_eq_toNat_of_lt] <;> simp <;> omega
    rw [e r hr, e j hj]; simp
  by_cases hrj : r ≤ j <;> simp [Scalar.select, IntOp.cmpi, h, hrj]

/-- The scores of a query for one map and head: an eighth of its dot products with the keys. -/
def scoreOf (q k : Fin 4 → Fin 8192 → Fin 8 → Fin 2 → Fin 64 → EReal) (b : Fin 4) (s : Fin 8192) (h : Fin 8) (x : Fin 2) (n : ℕ) : ℝ :=
  if hn : n < 8192 then (∑ d, (q b s h x d).toReal * (k b ⟨n, hn⟩ h x d).toReal) * (1 / 8) else 0

/-- One column of a head's values. -/
def valOf (v : Fin 4 → Fin 8192 → Fin 8 → Fin 128 → EReal) (b : Fin 4) (h : Fin 8) (e : Fin 128) (n : ℕ) : ℝ :=
  if hn : n < 8192 then (v b ⟨n, hn⟩ h e).toReal else 0

/-- The differential attention of a query, for one head: the two attentions over the keys up to it, the second weighted, then scaled. -/
def headOut (q k : Fin 4 → Fin 8192 → Fin 8 → Fin 2 → Fin 64 → EReal) (v : Fin 4 → Fin 8192 → Fin 8 → Fin 128 → EReal) (l : Fin 4 → Fin 64 → EReal)
    (g : Fin 128 → EReal) (b : Fin 4) (s : Fin 8192) (h : Fin 8) (e : Fin 128) : EReal :=
  headRow (fun e => (att (scoreOf q k b s h 0) (valOf v b h e) s.val : EReal) - lamOf l * (att (scoreOf q k b s h 1) (valOf v b h e) s.val : EReal)) g e

end Cert.AttnMath

end
-- ==== Proof.AttnDefs.lean ====
/- The steps of the attention body, one for each tile of keys: scores, running maxima, powers of two and weighted sums of the values. -/
module

public import proofs.«01_k».proof.Proof.KernelIdealParts

@[expose] public section

set_option maxRecDepth 16384

noncomputable section

namespace Cert.KernelIdeal.Body

open Idealize.ShloMosaic Cert.KernelIdeal Cert.KernelIdeal.Gen

variable {F : FTy → Type} [FloatOps F] [Named F]

/-- The values of 512 keys over sixteen rows of ones. -/
def ones512 (vb : Vec F S1x128x512 .bf16) : FVec F S144x512 .bf16 :=
  concatenate S144x512 0 [⟨S128x512, shapeCast S128x512 vb shapeCasts_S1x128x512_S128x512⟩, ⟨S16x512, broadcast S16x512 (Scalar.ofBits .bf16 0x3F80#16)⟩] concatenates_S128x512_S16x512_S144x512_d0

/-- The values of 256 keys over sixteen rows of ones. -/
def ones256 (vb : Vec F S1x128x256 .bf16) : FVec F S144x256 .bf16 :=
  concatenate S144x256 0 [⟨S128x256, shapeCast S128x256 vb shapeCasts_S1x128x256_S128x256⟩, ⟨S16x256, broadcast S16x256 (Scalar.ofBits .bf16 0x3F80#16)⟩] concatenates_S128x256_S16x256_S144x256_d0

/-- The scores of a tile of 512 keys. -/
def wS (q : FVec F S128x2048 .bf16) (kb : Vec F S1x512x128 .bf16) : FVec F S512x2048 .f32 :=
  matmul dot_S512x128_S128x2048_S512x2048_1_0_0_1_n_n none (shapeCast S512x128 kb shapeCasts_S1x512x128_S512x128) q (constant S512x2048 .f32 0x00000000#32)

/-- The column maxima of the scores of a tile of 512 keys. -/
def wC (s : FVec F S512x2048 .f32) : FVec F S1x2048 .f32 :=
  shapeCast S1x2048 (multiReduction .maximumf [0] S2048 s 0xFF800000#32 reduces_S512x2048_S2048 (.inl rfl) rfl) shapeCasts_S2048_S1x2048

/-- The powers of two of the scores of a tile of 512 keys, from a row of references. -/
def wP (m : FVec F S1x2048 .f32) (s : FVec F S512x2048 .f32) : FVec F S512x2048 .bf16 :=
  truncf .bf16 (exp2 (subf s (broadcastTo S512x2048 m broadcasts_S1x2048_S512x2048))) bitsLt_bf16_f32

/-- The products of the values and the powers of the scores of a tile of 512 keys; the ones below the values sum the powers. -/
def wV (p : FVec F S512x2048 .bf16) (vb : Vec F S1x128x512 .bf16) : FVec F S144x2048 .f32 :=
  matmul dot_S144x512_S512x2048_S144x2048_1_0_0_1_n_n none (ones512 vb) p (constant S144x2048 .f32 0x00000000#32)

/-- The running maxima after a tile of 512 keys. -/
def wM (q : FVec F S128x2048 .bf16) (kb : Vec F S1x512x128 .bf16) (m : FVec F S1x2048 .f32) : FVec F S1x2048 .f32 :=
  maximumf m (wC (wS q kb))

/-- The sums after a tile of 512 keys, at unchanged references. -/
def wL (q : FVec F S128x2048 .bf16) (kb : Vec F S1x512x128 .bf16) (vb : Vec F S1x128x512 .bf16) (ref : FVec F S1x2048 .f32) (acc : FVec F S144x2048 .f32) : FVec F S144x2048 .f32 :=
  addf acc (wV (wP ref (wS q kb)) vb)

/-- The sums brought from the references `m` to the references `m'`. -/
def resc (m m' : FVec F S1x2048 .f32) (acc : FVec F S144x2048 .f32) : FVec F S144x2048 .f32 :=
  mulf (broadcastTo S144x2048 (exp2 (subf m m')) broadcasts_S1x2048_S144x2048) acc

/-- The sums after a tile of 512 keys, at the references after the tile. -/
def wN (q : FVec F S128x2048 .bf16) (kb : Vec F S1x512x128 .bf16) (vb : Vec F S1x128x512 .bf16) (m : FVec F S1x2048 .f32) (acc : FVec F S144x2048 .f32) : FVec F S144x2048 .f32 :=
  addf (resc m (wM q kb m) acc) (wV (wP (wM q kb m) (wS q kb)) vb)

/-- The scores of the first key, from the first of eight rows. -/
def first (q : FVec F S128x2048 .bf16) (kb : Vec F S1x8x128 .bf16) : FVec F S1x2048 .f32 :=
  extractStridedSlice S1x2048 ![0, 0] (matmul dot_S8x128_S128x2048_S8x2048_1_0_0_1_n_n none (shapeCast S8x128 kb shapeCasts_S1x8x128_S8x128) q (constant S8x2048 .f32 0x00000000#32)) slices_S8x2048_o0_0_S1x2048

/-- The masked scores of tile 0 of the diagonal. -/
def d0S (q : FVec F S128x2048 .bf16) (kb : Vec F S1x256x128 .bf16) : FVec F S256x2048 .f32 :=
  select (cmpi .sle (iota .tc S256x2048 32 [0] iota_S256x2048_d0_w32) (iota .tc S256x2048 32 [1] iota_S256x2048_d1_w32))
    (matmul dot_S256x128_S128x2048_S256x2048_1_0_0_1_n_n none (shapeCast S256x128 kb shapeCasts_S1x256x128_S256x128) q (constant S256x2048 .f32 0x00000000#32))
    (broadcast S256x2048 (Named.named κ "mask" 0xF149F2CA#32))

/-- The column maxima of the scores of tile 0 of the diagonal. -/
def d0C (s : FVec F S256x2048 .f32) : FVec F S1x2048 .f32 :=
  shapeCast S1x2048 (multiReduction .maximumf [0] S2048 s 0xFF800000#32 reduces_S256x2048_S2048 (.inl rfl) rfl) shapeCasts_S2048_S1x2048

/-- The powers of two of the scores of tile 0 of the diagonal, from a row of references. -/
def d0P (m : FVec F S1x2048 .f32) (s : FVec F S256x2048 .f32) : FVec F S256x2048 .bf16 :=
  truncf .bf16 (exp2 (subf s (broadcastTo S256x2048 m broadcasts_S1x2048_S256x2048))) bitsLt_bf16_f32

/-- The products of the values and the powers of the scores of tile 0 of the diagonal; the ones below the values sum the powers. -/
def d0V (p : FVec F S256x2048 .bf16) (vb : Vec F S1x128x256 .bf16) : FVec F S144x2048 .f32 :=
  matmul dot_S144x256_S256x2048_S144x2048_1_0_0_1_n_n none (ones256 vb) p (constant S144x2048 .f32 0x00000000#32)

/-- The maxima of the lanes of tile 0 of the diagonal. -/
def d0X (q : FVec F S128x2048 .bf16) (kb : Vec F S1x256x128 .bf16) (m : FVec F S1x2048 .f32) : FVec F S1x2048 .f32 :=
  maximumf m (d0C (d0S q kb))

/-- The running maxima after tile 0 of the diagonal. -/
def d0M (q : FVec F S128x2048 .bf16) (kb : Vec F S1x256x128 .bf16) (m : FVec F S1x2048 .f32) : FVec F S1x2048 .f32 :=
  d0X q kb m

/-- The sums after tile 0 of the diagonal, at unchanged references. -/
def d0L (q : FVec F S128x2048 .bf16) (kb : Vec F S1x256x128 .bf16) (vb : Vec F S1x128x256 .bf16) (ref : FVec F S1x2048 .f32) (acc : FVec F S144x2048 .f32) : FVec F S144x2048 .f32 :=
  addf acc (d0V (d0P ref (d0S q kb)) vb)

/-- The sums after tile 0 of the diagonal, at the references after the tile. -/
def d0N (q : FVec F S128x2048 .bf16) (kb : Vec F S1x256x128 .bf16) (vb : Vec F S1x128x256 .bf16) (m : FVec F S1x2048 .f32) (acc : FVec F S144x2048 .f32) : FVec F S144x2048 .f32 :=
  addf (mulf (broadcastTo S144x2048 (exp2 (subf m (d0X q kb m))) broadcasts_S1x2048_S144x2048) acc) (d0V (d0P (d0X q kb m) (d0S q kb)) vb)

/-- The masked scores of tile 1 of the diagonal. -/
def d1S (q : FVec F S128x2048 .bf16) (kb : Vec F S1x256x128 .bf16) : FVec F S256x1792 .f32 :=
  select (cmpi .sle (iota .tc S256x1792 32 [0] iota_S256x1792_d0_w32) (iota .tc S256x1792 32 [1] iota_S256x1792_d1_w32))
    (matmul dot_S256x128_S128x1792_S256x1792_1_0_0_1_n_n none (shapeCast S256x128 kb shapeCasts_S1x256x128_S256x128) (extractStridedSlice S128x1792 ![0, 256] q slices_S128x2048_o0_256_S128x1792) (constant S256x1792 .f32 0x00000000#32))
    (broadcast S256x1792 (Named.named κ "mask" 0xF149F2CA#32))

/-- The column maxima of the scores of tile 1 of the diagonal. -/
def d1C (s : FVec F S256x1792 .f32) : FVec F S1x1792 .f32 :=
  shapeCast S1x1792 (multiReduction .maximumf [0] S1792 s 0xFF800000#32 reduces_S256x1792_S1792 (.inl rfl) rfl) shapeCasts_S1792_S1x1792

/-- The powers of two of the scores of tile 1 of the diagonal, from a row of references. -/
def d1P (m : FVec F S1x1792 .f32) (s : FVec F S256x1792 .f32) : FVec F S256x1792 .bf16 :=
  truncf .bf16 (exp2 (subf s (broadcastTo S256x1792 m broadcasts_S1x1792_S256x1792))) bitsLt_bf16_f32

/-- The products of the values and the powers of the scores of tile 1 of the diagonal; the ones below the values sum the powers. -/
def d1V (p : FVec F S256x1792 .bf16) (vb : Vec F S1x128x256 .bf16) : FVec F S144x1792 .f32 :=
  matmul dot_S144x256_S256x1792_S144x1792_1_0_0_1_n_n none (ones256 vb) p (constant S144x1792 .f32 0x00000000#32)

/-- The maxima of the lanes of tile 1 of the diagonal. -/
def d1X (q : FVec F S128x2048 .bf16) (kb : Vec F S1x256x128 .bf16) (m : FVec F S1x2048 .f32) : FVec F S1x1792 .f32 :=
  maximumf (extractStridedSlice S1x1792 ![0, 256] m slices_S1x2048_o0_256_S1x1792) (d1C (d1S q kb))

/-- The running maxima after tile 1 of the diagonal. -/
def d1M (q : FVec F S128x2048 .bf16) (kb : Vec F S1x256x128 .bf16) (m : FVec F S1x2048 .f32) : FVec F S1x2048 .f32 :=
  concatenate S1x2048 1 [⟨S1x256, extractStridedSlice S1x256 ![0, 0] m slices_S1x2048_o0_0_S1x256⟩, ⟨S1x1792, d1X q kb m⟩] concatenates_S1x256_S1x1792_S1x2048_d1

/-- The sums after tile 1 of the diagonal, at unchanged references. -/
def d1L (q : FVec F S128x2048 .bf16) (kb : Vec F S1x256x128 .bf16) (vb : Vec F S1x128x256 .bf16) (ref : FVec F S1x2048 .f32) (acc : FVec F S144x2048 .f32) : FVec F S144x2048 .f32 :=
  concatenate S144x2048 1 [⟨S144x256, extractStridedSlice S144x256 ![0, 0] acc slices_S144x2048_o0_0_S144x256⟩, ⟨S144x1792, addf (extractStridedSlice S144x1792 ![0, 256] acc slices_S144x2048_o0_256_S144x1792) (d1V (d1P (extractStridedSlice S1x1792 ![0, 256] ref slices_S1x2048_o0_256_S1x1792) (d1S q kb)) vb)⟩] concatenates_S144x256_S144x1792_S144x2048_d1

/-- The sums after tile 1 of the diagonal, at the references after the tile. -/
def d1N (q : FVec F S128x2048 .bf16) (kb : Vec F S1x256x128 .bf16) (vb : Vec F S1x128x256 .bf16) (m : FVec F S1x2048 .f32) (acc : FVec F S144x2048 .f32) : FVec F S144x2048 .f32 :=
  concatenate S144x2048 1 [⟨S144x256, extractStridedSlice S144x256 ![0, 0] acc slices_S144x2048_o0_0_S144x256⟩, ⟨S144x1792, addf (mulf (broadcastTo S144x1792 (exp2 (subf (extractStridedSlice S1x1792 ![0, 256] m slices_S1x2048_o0_256_S1x1792) (d1X q kb m))) broadcasts_S1x1792_S144x1792) (extractStridedSlice S144x1792 ![0, 256] acc slices_S144x2048_o0_256_S144x1792)) (d1V (d1P (d1X q kb m) (d1S q kb)) vb)⟩] concatenates_S144x256_S144x1792_S144x2048_d1

/-- The masked scores of tile 2 of the diagonal. -/
def d2S (q : FVec F S128x2048 .bf16) (kb : Vec F S1x256x128 .bf16) : FVec F S256x1536 .f32 :=
  select (cmpi .sle (iota .tc S256x1536 32 [0] iota_S256x1536_d0_w32) (iota .tc S256x1536 32 [1] iota_S256x1536_d1_w32))
    (matmul dot_S256x128_S128x1536_S256x1536_1_0_0_1_n_n none (shapeCast S256x128 kb shapeCasts_S1x256x128_S256x128) (extractStridedSlice S128x1536 ![0, 512] q slices_S128x2048_o0_512_S128x1536) (constant S256x1536 .f32 0x00000000#32))
    (broadcast S256x1536 (Named.named κ "mask" 0xF149F2CA#32))

/-- The column maxima of the scores of tile 2 of the diagonal. -/
def d2C (s : FVec F S256x1536 .f32) : FVec F S1x1536 .f32 :=
  shapeCast S1x1536 (multiReduction .maximumf [0] S1536 s 0xFF800000#32 reduces_S256x1536_S1536 (.inl rfl) rfl) shapeCasts_S1536_S1x1536

/-- The powers of two of the scores of tile 2 of the diagonal, from a row of references. -/
def d2P (m : FVec F S1x1536 .f32) (s : FVec F S256x1536 .f32) : FVec F S256x1536 .bf16 :=
  truncf .bf16 (exp2 (subf s (broadcastTo S256x1536 m broadcasts_S1x1536_S256x1536))) bitsLt_bf16_f32

/-- The products of the values and the powers of the scores of tile 2 of the diagonal; the ones below the values sum the powers. -/
def d2V (p : FVec F S256x1536 .bf16) (vb : Vec F S1x128x256 .bf16) : FVec F S144x1536 .f32 :=
  matmul dot_S144x256_S256x1536_S144x1536_1_0_0_1_n_n none (ones256 vb) p (constant S144x1536 .f32 0x00000000#32)

/-- The maxima of the lanes of tile 2 of the diagonal. -/
def d2X (q : FVec F S128x2048 .bf16) (kb : Vec F S1x256x128 .bf16) (m : FVec F S1x2048 .f32) : FVec F S1x1536 .f32 :=
  maximumf (extractStridedSlice S1x1536 ![0, 512] m slices_S1x2048_o0_512_S1x1536) (d2C (d2S q kb))

/-- The running maxima after tile 2 of the diagonal. -/
def d2M (q : FVec F S128x2048 .bf16) (kb : Vec F S1x256x128 .bf16) (m : FVec F S1x2048 .f32) : FVec F S1x2048 .f32 :=
  concatenate S1x2048 1 [⟨S1x512, extractStridedSlice S1x512 ![0, 0] m slices_S1x2048_o0_0_S1x512⟩, ⟨S1x1536, d2X q kb m⟩] concatenates_S1x512_S1x1536_S1x2048_d1

/-- The sums after tile 2 of the diagonal, at unchanged references. -/
def d2L (q : FVec F S128x2048 .bf16) (kb : Vec F S1x256x128 .bf16) (vb : Vec F S1x128x256 .bf16) (ref : FVec F S1x2048 .f32) (acc : FVec F S144x2048 .f32) : FVec F S144x2048 .f32 :=
  concatenate S144x2048 1 [⟨S144x512, extractStridedSlice S144x512 ![0, 0] acc slices_S144x2048_o0_0_S144x512⟩, ⟨S144x1536, addf (extractStridedSlice S144x1536 ![0, 512] acc slices_S144x2048_o0_512_S144x1536) (d2V (d2P (extractStridedSlice S1x1536 ![0, 512] ref slices_S1x2048_o0_512_S1x1536) (d2S q kb)) vb)⟩] concatenates_S144x512_S144x1536_S144x2048_d1

/-- The sums after tile 2 of the diagonal, at the references after the tile. -/
def d2N (q : FVec F S128x2048 .bf16) (kb : Vec F S1x256x128 .bf16) (vb : Vec F S1x128x256 .bf16) (m : FVec F S1x2048 .f32) (acc : FVec F S144x2048 .f32) : FVec F S144x2048 .f32 :=
  concatenate S144x2048 1 [⟨S144x512, extractStridedSlice S144x512 ![0, 0] acc slices_S144x2048_o0_0_S144x512⟩, ⟨S144x1536, addf (mulf (broadcastTo S144x1536 (exp2 (subf (extractStridedSlice S1x1536 ![0, 512] m slices_S1x2048_o0_512_S1x1536) (d2X q kb m))) broadcasts_S1x1536_S144x1536) (extractStridedSlice S144x1536 ![0, 512] acc slices_S144x2048_o0_512_S144x1536)) (d2V (d2P (d2X q kb m) (d2S q kb)) vb)⟩] concatenates_S144x512_S144x1536_S144x2048_d1

/-- The masked scores of tile 3 of the diagonal. -/
def d3S (q : FVec F S128x2048 .bf16) (kb : Vec F S1x256x128 .bf16) : FVec F S256x1280 .f32 :=
  select (cmpi .sle (iota .tc S256x1280 32 [0] iota_S256x1280_d0_w32) (iota .tc S256x1280 32 [1] iota_S256x1280_d1_w32))
    (matmul dot_S256x128_S128x1280_S256x1280_1_0_0_1_n_n none (shapeCast S256x128 kb shapeCasts_S1x256x128_S256x128) (extractStridedSlice S128x1280 ![0, 768] q slices_S128x2048_o0_768_S128x1280) (constant S256x1280 .f32 0x00000000#32))
    (broadcast S256x1280 (Named.named κ "mask" 0xF149F2CA#32))

/-- The column maxima of the scores of tile 3 of the diagonal. -/
def d3C (s : FVec F S256x1280 .f32) : FVec F S1x1280 .f32 :=
  shapeCast S1x1280 (multiReduction .maximumf [0] S1280 s 0xFF800000#32 reduces_S256x1280_S1280 (.inl rfl) rfl) shapeCasts_S1280_S1x1280

/-- The powers of two of the scores of tile 3 of the diagonal, from a row of references. -/
def d3P (m : FVec F S1x1280 .f32) (s : FVec F S256x1280 .f32) : FVec F S256x1280 .bf16 :=
  truncf .bf16 (exp2 (subf s (broadcastTo S256x1280 m broadcasts_S1x1280_S256x1280))) bitsLt_bf16_f32

/-- The products of the values and the powers of the scores of tile 3 of the diagonal; the ones below the values sum the powers. -/
def d3V (p : FVec F S256x1280 .bf16) (vb : Vec F S1x128x256 .bf16) : FVec F S144x1280 .f32 :=
  matmul dot_S144x256_S256x1280_S144x1280_1_0_0_1_n_n none (ones256 vb) p (constant S144x1280 .f32 0x00000000#32)

/-- The maxima of the lanes of tile 3 of the diagonal. -/
def d3X (q : FVec F S128x2048 .bf16) (kb : Vec F S1x256x128 .bf16) (m : FVec F S1x2048 .f32) : FVec F S1x1280 .f32 :=
  maximumf (extractStridedSlice S1x1280 ![0, 768] m slices_S1x2048_o0_768_S1x1280) (d3C (d3S q kb))

/-- The running maxima after tile 3 of the diagonal. -/
def d3M (q : FVec F S128x2048 .bf16) (kb : Vec F S1x256x128 .bf16) (m : FVec F S1x2048 .f32) : FVec F S1x2048 .f32 :=
  concatenate S1x2048 1 [⟨S1x768, extractStridedSlice S1x768 ![0, 0] m slices_S1x2048_o0_0_S1x768⟩, ⟨S1x1280, d3X q kb m⟩] concatenates_S1x768_S1x1280_S1x2048_d1

/-- The sums after tile 3 of the diagonal, at unchanged references. -/
def d3L (q : FVec F S128x2048 .bf16) (kb : Vec F S1x256x128 .bf16) (vb : Vec F S1x128x256 .bf16) (ref : FVec F S1x2048 .f32) (acc : FVec F S144x2048 .f32) : FVec F S144x2048 .f32 :=
  concatenate S144x2048 1 [⟨S144x768, extractStridedSlice S144x768 ![0, 0] acc slices_S144x2048_o0_0_S144x768⟩, ⟨S144x1280, addf (extractStridedSlice S144x1280 ![0, 768] acc slices_S144x2048_o0_768_S144x1280) (d3V (d3P (extractStridedSlice S1x1280 ![0, 768] ref slices_S1x2048_o0_768_S1x1280) (d3S q kb)) vb)⟩] concatenates_S144x768_S144x1280_S144x2048_d1

/-- The sums after tile 3 of the diagonal, at the references after the tile. -/
def d3N (q : FVec F S128x2048 .bf16) (kb : Vec F S1x256x128 .bf16) (vb : Vec F S1x128x256 .bf16) (m : FVec F S1x2048 .f32) (acc : FVec F S144x2048 .f32) : FVec F S144x2048 .f32 :=
  concatenate S144x2048 1 [⟨S144x768, extractStridedSlice S144x768 ![0, 0] acc slices_S144x2048_o0_0_S144x768⟩, ⟨S144x1280, addf (mulf (broadcastTo S144x1280 (exp2 (subf (extractStridedSlice S1x1280 ![0, 768] m slices_S1x2048_o0_768_S1x1280) (d3X q kb m))) broadcasts_S1x1280_S144x1280) (extractStridedSlice S144x1280 ![0, 768] acc slices_S144x2048_o0_768_S144x1280)) (d3V (d3P (d3X q kb m) (d3S q kb)) vb)⟩] concatenates_S144x768_S144x1280_S144x2048_d1

/-- The masked scores of tile 4 of the diagonal. -/
def d4S (q : FVec F S128x2048 .bf16) (kb : Vec F S1x256x128 .bf16) : FVec F S256x1024 .f32 :=
  select (cmpi .sle (iota .tc S256x1024 32 [0] iota_S256x1024_d0_w32) (iota .tc S256x1024 32 [1] iota_S256x1024_d1_w32))
    (matmul dot_S256x128_S128x1024_S256x1024_1_0_0_1_n_n none (shapeCast S256x128 kb shapeCasts_S1x256x128_S256x128) (extractStridedSlice S128x1024 ![0, 1024] q slices_S128x2048_o0_1024_S128x1024) (constant S256x1024 .f32 0x00000000#32))
    (broadcast S256x1024 (Named.named κ "mask" 0xF149F2CA#32))

/-- The column maxima of the scores of tile 4 of the diagonal. -/
def d4C (s : FVec F S256x1024 .f32) : FVec F S1x1024 .f32 :=
  shapeCast S1x1024 (multiReduction .maximumf [0] S1024 s 0xFF800000#32 reduces_S256x1024_S1024 (.inl rfl) rfl) shapeCasts_S1024_S1x1024

/-- The powers of two of the scores of tile 4 of the diagonal, from a row of references. -/
def d4P (m : FVec F S1x1024 .f32) (s : FVec F S256x1024 .f32) : FVec F S256x1024 .bf16 :=
  truncf .bf16 (exp2 (subf s (broadcastTo S256x1024 m broadcasts_S1x1024_S256x1024))) bitsLt_bf16_f32

/-- The products of the values and the powers of the scores of tile 4 of the diagonal; the ones below the values sum the powers. -/
def d4V (p : FVec F S256x1024 .bf16) (vb : Vec F S1x128x256 .bf16) : FVec F S144x1024 .f32 :=
  matmul dot_S144x256_S256x1024_S144x1024_1_0_0_1_n_n none (ones256 vb) p (constant S144x1024 .f32 0x00000000#32)

/-- The maxima of the lanes of tile 4 of the diagonal. -/
def d4X (q : FVec F S128x2048 .bf16) (kb : Vec F S1x256x128 .bf16) (m : FVec F S1x2048 .f32) : FVec F S1x1024 .f32 :=
  maximumf (extractStridedSlice S1x1024 ![0, 1024] m slices_S1x2048_o0_1024_S1x1024) (d4C (d4S q kb))

/-- The running maxima after tile 4 of the diagonal. -/
def d4M (q : FVec F S128x2048 .bf16) (kb : Vec F S1x256x128 .bf16) (m : FVec F S1x2048 .f32) : FVec F S1x2048 .f32 :=
  concatenate S1x2048 1 [⟨S1x1024, extractStridedSlice S1x1024 ![0, 0] m slices_S1x2048_o0_0_S1x1024⟩, ⟨S1x1024, d4X q kb m⟩] concatenates_S1x1024_S1x1024_S1x2048_d1

/-- The sums after tile 4 of the diagonal, at unchanged references. -/
def d4L (q : FVec F S128x2048 .bf16) (kb : Vec F S1x256x128 .bf16) (vb : Vec F S1x128x256 .bf16) (ref : FVec F S1x2048 .f32) (acc : FVec F S144x2048 .f32) : FVec F S144x2048 .f32 :=
  concatenate S144x2048 1 [⟨S144x1024, extractStridedSlice S144x1024 ![0, 0] acc slices_S144x2048_o0_0_S144x1024⟩, ⟨S144x1024, addf (extractStridedSlice S144x1024 ![0, 1024] acc slices_S144x2048_o0_1024_S144x1024) (d4V (d4P (extractStridedSlice S1x1024 ![0, 1024] ref slices_S1x2048_o0_1024_S1x1024) (d4S q kb)) vb)⟩] concatenates_S144x1024_S144x1024_S144x2048_d1

/-- The sums after tile 4 of the diagonal, at the references after the tile. -/
def d4N (q : FVec F S128x2048 .bf16) (kb : Vec F S1x256x128 .bf16) (vb : Vec F S1x128x256 .bf16) (m : FVec F S1x2048 .f32) (acc : FVec F S144x2048 .f32) : FVec F S144x2048 .f32 :=
  concatenate S144x2048 1 [⟨S144x1024, extractStridedSlice S144x1024 ![0, 0] acc slices_S144x2048_o0_0_S144x1024⟩, ⟨S144x1024, addf (mulf (broadcastTo S144x1024 (exp2 (subf (extractStridedSlice S1x1024 ![0, 1024] m slices_S1x2048_o0_1024_S1x1024) (d4X q kb m))) broadcasts_S1x1024_S144x1024) (extractStridedSlice S144x1024 ![0, 1024] acc slices_S144x2048_o0_1024_S144x1024)) (d4V (d4P (d4X q kb m) (d4S q kb)) vb)⟩] concatenates_S144x1024_S144x1024_S144x2048_d1

/-- The masked scores of tile 5 of the diagonal. -/
def d5S (q : FVec F S128x2048 .bf16) (kb : Vec F S1x256x128 .bf16) : FVec F S256x768 .f32 :=
  select (cmpi .sle (iota .tc S256x768 32 [0] iota_S256x768_d0_w32) (iota .tc S256x768 32 [1] iota_S256x768_d1_w32))
    (matmul dot_S256x128_S128x768_S256x768_1_0_0_1_n_n none (shapeCast S256x128 kb shapeCasts_S1x256x128_S256x128) (extractStridedSlice S128x768 ![0, 1280] q slices_S128x2048_o0_1280_S128x768) (constant S256x768 .f32 0x00000000#32))
    (broadcast S256x768 (Named.named κ "mask" 0xF149F2CA#32))

/-- The column maxima of the scores of tile 5 of the diagonal. -/
def d5C (s : FVec F S256x768 .f32) : FVec F S1x768 .f32 :=
  shapeCast S1x768 (multiReduction .maximumf [0] S768 s 0xFF800000#32 reduces_S256x768_S768 (.inl rfl) rfl) shapeCasts_S768_S1x768

/-- The powers of two of the scores of tile 5 of the diagonal, from a row of references. -/
def d5P (m : FVec F S1x768 .f32) (s : FVec F S256x768 .f32) : FVec F S256x768 .bf16 :=
  truncf .bf16 (exp2 (subf s (broadcastTo S256x768 m broadcasts_S1x768_S256x768))) bitsLt_bf16_f32

/-- The products of the values and the powers of the scores of tile 5 of the diagonal; the ones below the values sum the powers. -/
def d5V (p : FVec F S256x768 .bf16) (vb : Vec F S1x128x256 .bf16) : FVec F S144x768 .f32 :=
  matmul dot_S144x256_S256x768_S144x768_1_0_0_1_n_n none (ones256 vb) p (constant S144x768 .f32 0x00000000#32)

/-- The maxima of the lanes of tile 5 of the diagonal. -/
def d5X (q : FVec F S128x2048 .bf16) (kb : Vec F S1x256x128 .bf16) (m : FVec F S1x2048 .f32) : FVec F S1x768 .f32 :=
  maximumf (extractStridedSlice S1x768 ![0, 1280] m slices_S1x2048_o0_1280_S1x768) (d5C (d5S q kb))

/-- The running maxima after tile 5 of the diagonal. -/
def d5M (q : FVec F S128x2048 .bf16) (kb : Vec F S1x256x128 .bf16) (m : FVec F S1x2048 .f32) : FVec F S1x2048 .f32 :=
  concatenate S1x2048 1 [⟨S1x1280, extractStridedSlice S1x1280 ![0, 0] m slices_S1x2048_o0_0_S1x1280⟩, ⟨S1x768, d5X q kb m⟩] concatenates_S1x1280_S1x768_S1x2048_d1

/-- The sums after tile 5 of the diagonal, at unchanged references. -/
def d5L (q : FVec F S128x2048 .bf16) (kb : Vec F S1x256x128 .bf16) (vb : Vec F S1x128x256 .bf16) (ref : FVec F S1x2048 .f32) (acc : FVec F S144x2048 .f32) : FVec F S144x2048 .f32 :=
  concatenate S144x2048 1 [⟨S144x1280, extractStridedSlice S144x1280 ![0, 0] acc slices_S144x2048_o0_0_S144x1280⟩, ⟨S144x768, addf (extractStridedSlice S144x768 ![0, 1280] acc slices_S144x2048_o0_1280_S144x768) (d5V (d5P (extractStridedSlice S1x768 ![0, 1280] ref slices_S1x2048_o0_1280_S1x768) (d5S q kb)) vb)⟩] concatenates_S144x1280_S144x768_S144x2048_d1

/-- The sums after tile 5 of the diagonal, at the references after the tile. -/
def d5N (q : FVec F S128x2048 .bf16) (kb : Vec F S1x256x128 .bf16) (vb : Vec F S1x128x256 .bf16) (m : FVec F S1x2048 .f32) (acc : FVec F S144x2048 .f32) : FVec F S144x2048 .f32 :=
  concatenate S144x2048 1 [⟨S144x1280, extractStridedSlice S144x1280 ![0, 0] acc slices_S144x2048_o0_0_S144x1280⟩, ⟨S144x768, addf (mulf (broadcastTo S144x768 (exp2 (subf (extractStridedSlice S1x768 ![0, 1280] m slices_S1x2048_o0_1280_S1x768) (d5X q kb m))) broadcasts_S1x768_S144x768) (extractStridedSlice S144x768 ![0, 1280] acc slices_S144x2048_o0_1280_S144x768)) (d5V (d5P (d5X q kb m) (d5S q kb)) vb)⟩] concatenates_S144x1280_S144x768_S144x2048_d1

/-- The masked scores of tile 6 of the diagonal. -/
def d6S (q : FVec F S128x2048 .bf16) (kb : Vec F S1x256x128 .bf16) : FVec F S256x512 .f32 :=
  select (cmpi .sle (iota .tc S256x512 32 [0] iota_S256x512_d0_w32) (iota .tc S256x512 32 [1] iota_S256x512_d1_w32))
    (matmul dot_S256x128_S128x512_S256x512_1_0_0_1_n_n none (shapeCast S256x128 kb shapeCasts_S1x256x128_S256x128) (extractStridedSlice S128x512 ![0, 1536] q slices_S128x2048_o0_1536_S128x512) (constant S256x512 .f32 0x00000000#32))
    (broadcast S256x512 (Named.named κ "mask" 0xF149F2CA#32))

/-- The column maxima of the scores of tile 6 of the diagonal. -/
def d6C (s : FVec F S256x512 .f32) : FVec F S1x512 .f32 :=
  shapeCast S1x512 (multiReduction .maximumf [0] S512 s 0xFF800000#32 reduces_S256x512_S512 (.inl rfl) rfl) shapeCasts_S512_S1x512

/-- The powers of two of the scores of tile 6 of the diagonal, from a row of references. -/
def d6P (m : FVec F S1x512 .f32) (s : FVec F S256x512 .f32) : FVec F S256x512 .bf16 :=
  truncf .bf16 (exp2 (subf s (broadcastTo S256x512 m broadcasts_S1x512_S256x512))) bitsLt_bf16_f32

/-- The products of the values and the powers of the scores of tile 6 of the diagonal; the ones below the values sum the powers. -/
def d6V (p : FVec F S256x512 .bf16) (vb : Vec F S1x128x256 .bf16) : FVec F S144x512 .f32 :=
  matmul dot_S144x256_S256x512_S144x512_1_0_0_1_n_n none (ones256 vb) p (constant S144x512 .f32 0x00000000#32)

/-- The maxima of the lanes of tile 6 of the diagonal. -/
def d6X (q : FVec F S128x2048 .bf16) (kb : Vec F S1x256x128 .bf16) (m : FVec F S1x2048 .f32) : FVec F S1x512 .f32 :=
  maximumf (extractStridedSlice S1x512 ![0, 1536] m slices_S1x2048_o0_1536_S1x512) (d6C (d6S q kb))

/-- The running maxima after tile 6 of the diagonal. -/
def d6M (q : FVec F S128x2048 .bf16) (kb : Vec F S1x256x128 .bf16) (m : FVec F S1x2048 .f32) : FVec F S1x2048 .f32 :=
  concatenate S1x2048 1 [⟨S1x1536, extractStridedSlice S1x1536 ![0, 0] m slices_S1x2048_o0_0_S1x1536⟩, ⟨S1x512, d6X q kb m⟩] concatenates_S1x1536_S1x512_S1x2048_d1

/-- The sums after tile 6 of the diagonal, at unchanged references. -/
def d6L (q : FVec F S128x2048 .bf16) (kb : Vec F S1x256x128 .bf16) (vb : Vec F S1x128x256 .bf16) (ref : FVec F S1x2048 .f32) (acc : FVec F S144x2048 .f32) : FVec F S144x2048 .f32 :=
  concatenate S144x2048 1 [⟨S144x1536, extractStridedSlice S144x1536 ![0, 0] acc slices_S144x2048_o0_0_S144x1536⟩, ⟨S144x512, addf (extractStridedSlice S144x512 ![0, 1536] acc slices_S144x2048_o0_1536_S144x512) (d6V (d6P (extractStridedSlice S1x512 ![0, 1536] ref slices_S1x2048_o0_1536_S1x512) (d6S q kb)) vb)⟩] concatenates_S144x1536_S144x512_S144x2048_d1

/-- The sums after tile 6 of the diagonal, at the references after the tile. -/
def d6N (q : FVec F S128x2048 .bf16) (kb : Vec F S1x256x128 .bf16) (vb : Vec F S1x128x256 .bf16) (m : FVec F S1x2048 .f32) (acc : FVec F S144x2048 .f32) : FVec F S144x2048 .f32 :=
  concatenate S144x2048 1 [⟨S144x1536, extractStridedSlice S144x1536 ![0, 0] acc slices_S144x2048_o0_0_S144x1536⟩, ⟨S144x512, addf (mulf (broadcastTo S144x512 (exp2 (subf (extractStridedSlice S1x512 ![0, 1536] m slices_S1x2048_o0_1536_S1x512) (d6X q kb m))) broadcasts_S1x512_S144x512) (extractStridedSlice S144x512 ![0, 1536] acc slices_S144x2048_o0_1536_S144x512)) (d6V (d6P (d6X q kb m) (d6S q kb)) vb)⟩] concatenates_S144x1536_S144x512_S144x2048_d1

/-- The masked scores of tile 7 of the diagonal. -/
def d7S (q : FVec F S128x2048 .bf16) (kb : Vec F S1x256x128 .bf16) : FVec F S256x256 .f32 :=
  select (cmpi .sle (iota .tc S256x256 32 [0] iota_S256x256_d0_w32) (iota .tc S256x256 32 [1] iota_S256x256_d1_w32))
    (matmul dot_S256x128_S128x256_S256x256_1_0_0_1_n_n none (shapeCast S256x128 kb shapeCasts_S1x256x128_S256x128) (extractStridedSlice S128x256 ![0, 1792] q slices_S128x2048_o0_1792_S128x256) (constant S256x256 .f32 0x00000000#32))
    (broadcast S256x256 (Named.named κ "mask" 0xF149F2CA#32))

/-- The column maxima of the scores of tile 7 of the diagonal. -/
def d7C (s : FVec F S256x256 .f32) : FVec F S1x256 .f32 :=
  shapeCast S1x256 (multiReduction .maximumf [0] S256 s 0xFF800000#32 reduces_S256x256_S256 (.inl rfl) rfl) shapeCasts_S256_S1x256

/-- The powers of two of the scores of tile 7 of the diagonal, from a row of references. -/
def d7P (m : FVec F S1x256 .f32) (s : FVec F S256x256 .f32) : FVec F S256x256 .bf16 :=
  truncf .bf16 (exp2 (subf s (broadcastTo S256x256 m broadcasts_S1x256_S256x256))) bitsLt_bf16_f32

/-- The products of the values and the powers of the scores of tile 7 of the diagonal; the ones below the values sum the powers. -/
def d7V (p : FVec F S256x256 .bf16) (vb : Vec F S1x128x256 .bf16) : FVec F S144x256 .f32 :=
  matmul dot_S144x256_S256x256_S144x256_1_0_0_1_n_n none (ones256 vb) p (constant S144x256 .f32 0x00000000#32)

/-- The maxima of the lanes of tile 7 of the diagonal. -/
def d7X (q : FVec F S128x2048 .bf16) (kb : Vec F S1x256x128 .bf16) (m : FVec F S1x2048 .f32) : FVec F S1x256 .f32 :=
  maximumf (extractStridedSlice S1x256 ![0, 1792] m slices_S1x2048_o0_1792_S1x256) (d7C (d7S q kb))

/-- The running maxima after tile 7 of the diagonal. -/
def d7M (q : FVec F S128x2048 .bf16) (kb : Vec F S1x256x128 .bf16) (m : FVec F S1x2048 .f32) : FVec F S1x2048 .f32 :=
  concatenate S1x2048 1 [⟨S1x1792, extractStridedSlice S1x1792 ![0, 0] m slices_S1x2048_o0_0_S1x1792⟩, ⟨S1x256, d7X q kb m⟩] concatenates_S1x1792_S1x256_S1x2048_d1

/-- The sums after tile 7 of the diagonal, at unchanged references. -/
def d7L (q : FVec F S128x2048 .bf16) (kb : Vec F S1x256x128 .bf16) (vb : Vec F S1x128x256 .bf16) (ref : FVec F S1x2048 .f32) (acc : FVec F S144x2048 .f32) : FVec F S144x2048 .f32 :=
  concatenate S144x2048 1 [⟨S144x1792, extractStridedSlice S144x1792 ![0, 0] acc slices_S144x2048_o0_0_S144x1792⟩, ⟨S144x256, addf (extractStridedSlice S144x256 ![0, 1792] acc slices_S144x2048_o0_1792_S144x256) (d7V (d7P (extractStridedSlice S1x256 ![0, 1792] ref slices_S1x2048_o0_1792_S1x256) (d7S q kb)) vb)⟩] concatenates_S144x1792_S144x256_S144x2048_d1

/-- The sums after tile 7 of the diagonal, at the references after the tile. -/
def d7N (q : FVec F S128x2048 .bf16) (kb : Vec F S1x256x128 .bf16) (vb : Vec F S1x128x256 .bf16) (m : FVec F S1x2048 .f32) (acc : FVec F S144x2048 .f32) : FVec F S144x2048 .f32 :=
  concatenate S144x2048 1 [⟨S144x1792, extractStridedSlice S144x1792 ![0, 0] acc slices_S144x2048_o0_0_S144x1792⟩, ⟨S144x256, addf (mulf (broadcastTo S144x256 (exp2 (subf (extractStridedSlice S1x256 ![0, 1792] m slices_S1x2048_o0_1792_S1x256) (d7X q kb m))) broadcasts_S1x256_S144x256) (extractStridedSlice S144x256 ![0, 1792] acc slices_S144x2048_o0_1792_S144x256)) (d7V (d7P (d7X q kb m) (d7S q kb)) vb)⟩] concatenates_S144x1792_S144x256_S144x2048_d1

end Cert.KernelIdeal.Body

end
-- ==== Proof.AttnChain.lean ====
/- What the loops and the diagonal of the attention body return, in the steps of one tile each. -/
module

public import proofs.«01_k».proof.Proof.AttnDefs

@[expose] public section

set_option maxRecDepth 16384

noncomputable section

namespace Cert.KernelIdeal.Body

open Idealize.ShloMosaic Cert.KernelIdeal Cert.KernelIdeal.Gen

variable {F : FTy → Type} [FloatOps F] [Named F]

attribute [local irreducible] maximumf multiReduction shapeCast addf mulf subf exp2 truncf broadcastTo concatenate extractStridedSlice select cmpi iota broadcast constant

/-- The running maxima after four tiles of 512 keys. -/
def wM4 (q : FVec F S128x2048 .bf16) (k0 k1 k2 k3 : Vec F S1x512x128 .bf16) (m : FVec F S1x2048 .f32) : FVec F S1x2048 .f32 := (wM q k3 (wM q k2 (wM q k1 (wM q k0 m))))

/-- The sums after four tiles, at the references before them. -/
def wL4 (q : FVec F S128x2048 .bf16) (k0 k1 k2 k3 : Vec F S1x512x128 .bf16) (v0 v1 v2 v3 : Vec F S1x128x512 .bf16) (m : FVec F S1x2048 .f32) (a : FVec F S144x2048 .f32) : FVec F S144x2048 .f32 := (wL q k3 v3 m (wL q k2 v2 m (wL q k1 v1 m (wL q k0 v0 m a))))

/-- The sums after four tiles, at running references. -/
def wN4 (q : FVec F S128x2048 .bf16) (k0 k1 k2 k3 : Vec F S1x512x128 .bf16) (v0 v1 v2 v3 : Vec F S1x128x512 .bf16) (m : FVec F S1x2048 .f32) (a : FVec F S144x2048 .f32) : FVec F S144x2048 .f32 := (wN q k3 v3 (wM q k2 (wM q k1 (wM q k0 m))) (wN q k2 v2 (wM q k1 (wM q k0 m)) (wN q k1 v1 (wM q k0 m) (wN q k0 v0 m a))))

/-- The running maxima after the eight tiles of the diagonal. -/
def dM8 (q : FVec F S128x2048 .bf16) (k0 k1 k2 k3 k4 k5 k6 k7 : Vec F S1x256x128 .bf16) (m : FVec F S1x2048 .f32) : FVec F S1x2048 .f32 := (d7M q k7 (d6M q k6 (d5M q k5 (d4M q k4 (d3M q k3 (d2M q k2 (d1M q k1 (d0M q k0 m))))))))

/-- The sums after the diagonal, at the references before it. -/
def dL8 (q : FVec F S128x2048 .bf16) (k0 k1 k2 k3 k4 k5 k6 k7 : Vec F S1x256x128 .bf16) (v0 v1 v2 v3 v4 v5 v6 v7 : Vec F S1x128x256 .bf16) (m : FVec F S1x2048 .f32) (a : FVec F S144x2048 .f32) : FVec F S144x2048 .f32 := (d7L q k7 v7 m (d6L q k6 v6 m (d5L q k5 v5 m (d4L q k4 v4 m (d3L q k3 v3 m (d2L q k2 v2 m (d1L q k1 v1 m (d0L q k0 v0 m a))))))))

/-- The sums after the diagonal, at running references. -/
def dN8 (q : FVec F S128x2048 .bf16) (k0 k1 k2 k3 k4 k5 k6 k7 : Vec F S1x256x128 .bf16) (v0 v1 v2 v3 v4 v5 v6 v7 : Vec F S1x128x256 .bf16) (m : FVec F S1x2048 .f32) (a : FVec F S144x2048 .f32) : FVec F S144x2048 .f32 := (d7N q k7 v7 (d6M q k6 (d5M q k5 (d4M q k4 (d3M q k3 (d2M q k2 (d1M q k1 (d0M q k0 m))))))) (d6N q k6 v6 (d5M q k5 (d4M q k4 (d3M q k3 (d2M q k2 (d1M q k1 (d0M q k0 m)))))) (d5N q k5 v5 (d4M q k4 (d3M q k3 (d2M q k2 (d1M q k1 (d0M q k0 m))))) (d4N q k4 v4 (d3M q k3 (d2M q k2 (d1M q k1 (d0M q k0 m)))) (d3N q k3 v3 (d2M q k2 (d1M q k1 (d0M q k0 m))) (d2N q k2 v2 (d1M q k1 (d0M q k0 m)) (d1N q k1 v1 (d0M q k0 m) (d0N q k0 v0 m a))))))))

/-- The keys of tile `n` of a trip of loop 1. -/
def kw1 (i : grid0.Coords) (X : Blocks F) (t : Fin (k0_t1_loop i).trips) (n : Fin 4) : Vec F S1x512x128 .bf16 :=
  View.ld X.x4 (Rect.unit (s := S1x8192x128) (k0_off1 i t (BitVec.ofNat 32 (512 * n.val))) S1x512x128.size (k0_off1_inb i t n))

/-- The values of tile `n` of a trip of loop 1. -/
def vw1 (i : grid0.Coords) (X : Blocks F) (t : Fin (k0_t1_loop i).trips) (n : Fin 4) : Vec F S1x128x512 .bf16 :=
  View.ld X.x5 (Rect.unit (s := S1x128x8192) (k0_off2 i t (BitVec.ofNat 32 (512 * n.val))) S1x128x512.size (k0_off2_inb i t n))

/-- The keys of tile `n` of a trip of loop 3. -/
def kw3 (i : grid0.Coords) (X : Blocks F) (t : Fin (k0_t3_loop i).trips) (n : Fin 4) : Vec F S1x512x128 .bf16 :=
  View.ld X.x4 (Rect.unit (s := S1x8192x128) (k0_off7 i t (BitVec.ofNat 32 (512 * n.val))) S1x512x128.size (k0_off7_inb i t n))

/-- The values of tile `n` of a trip of loop 3. -/
def vw3 (i : grid0.Coords) (X : Blocks F) (t : Fin (k0_t3_loop i).trips) (n : Fin 4) : Vec F S1x128x512 .bf16 :=
  View.ld X.x5 (Rect.unit (s := S1x128x8192) (k0_off8 i t (BitVec.ofNat 32 (512 * n.val))) S1x128x512.size (k0_off8_inb i t n))

/-- The keys of tile `n` of the diagonal. -/
def kd1 (i : grid0.Coords) (X : Blocks F) (n : Fin 8) : Vec F S1x256x128 .bf16 :=
  View.ld X.x4 (Rect.unit (s := S1x8192x128) (k0_off5 i (BitVec.ofNat 32 (256 * n.val))) S1x256x128.size (k0_off5_inb i n))

/-- The values of tile `n` of the diagonal. -/
def vd1 (i : grid0.Coords) (X : Blocks F) (n : Fin 8) : Vec F S1x128x256 .bf16 :=
  View.ld X.x5 (Rect.unit (s := S1x128x8192) (k0_off6 i (BitVec.ofNat 32 (256 * n.val))) S1x128x256.size (k0_off6_inb i n))

/-- The keys of tile `n` of the diagonal again. -/
def kd3 (i : grid0.Coords) (X : Blocks F) (n : Fin 8) : Vec F S1x256x128 .bf16 :=
  View.ld X.x4 (Rect.unit (s := S1x8192x128) (k0_off11 i (BitVec.ofNat 32 (256 * n.val))) S1x256x128.size (k0_off11_inb i n))

/-- The values of tile `n` of the diagonal again. -/
def vd3 (i : grid0.Coords) (X : Blocks F) (n : Fin 8) : Vec F S1x128x256 .bf16 :=
  View.ld X.x5 (Rect.unit (s := S1x128x8192) (k0_off12 i (BitVec.ofNat 32 (256 * n.val))) S1x128x256.size (k0_off12_inb i n))

/-- A trip of loop 1 takes the maxima of map 0 over four tiles. -/
theorem trip1_m0 (i : grid0.Coords) (X : Blocks F) (arg2 : BitVec 32) (v30 v34 : FVec F S128x2048 .bf16) (v38 : FVec F S1x2048 .f32) (t : Fin (k0_t1_loop i).trips) (s : FVec F S1x2048 .f32 × FVec F S144x2048 .f32 × FVec F S1x2048 .f32 × FVec F S144x2048 .f32 × FVec F S1x2048 .f32) :
    (trip1 i X arg2 v30 v34 v38 t s).1 = wM4 v30 (kw1 i X t 0) (kw1 i X t 1) (kw1 i X t 2) (kw1 i X t 3) s.1 := by
  unfold trip1 part1 part2 part3 part4; rfl

/-- A trip of loop 1 takes the sums of map 0 over four tiles. -/
theorem trip1_a0 (i : grid0.Coords) (X : Blocks F) (arg2 : BitVec 32) (v30 v34 : FVec F S128x2048 .bf16) (v38 : FVec F S1x2048 .f32) (t : Fin (k0_t1_loop i).trips) (s : FVec F S1x2048 .f32 × FVec F S144x2048 .f32 × FVec F S1x2048 .f32 × FVec F S144x2048 .f32 × FVec F S1x2048 .f32) :
    (trip1 i X arg2 v30 v34 v38 t s).2.1 = resc s.1 (wM4 v30 (kw1 i X t 0) (kw1 i X t 1) (kw1 i X t 2) (kw1 i X t 3) s.1) (wL4 v30 (kw1 i X t 0) (kw1 i X t 1) (kw1 i X t 2) (kw1 i X t 3) (vw1 i X t 0) (vw1 i X t 1) (vw1 i X t 2) (vw1 i X t 3) s.1 s.2.1) := by
  unfold trip1 part1 part2 part3 part4; rfl

/-- A trip of loop 1 takes the maxima of map 1 over four tiles. -/
theorem trip1_m1 (i : grid0.Coords) (X : Blocks F) (arg2 : BitVec 32) (v30 v34 : FVec F S128x2048 .bf16) (v38 : FVec F S1x2048 .f32) (t : Fin (k0_t1_loop i).trips) (s : FVec F S1x2048 .f32 × FVec F S144x2048 .f32 × FVec F S1x2048 .f32 × FVec F S144x2048 .f32 × FVec F S1x2048 .f32) :
    (trip1 i X arg2 v30 v34 v38 t s).2.2.1 = wM4 v34 (kw1 i X t 0) (kw1 i X t 1) (kw1 i X t 2) (kw1 i X t 3) s.2.2.1 := by
  unfold trip1 part1 part2 part3 part4; rfl

/-- A trip of loop 1 takes the sums of map 1 over four tiles. -/
theorem trip1_a1 (i : grid0.Coords) (X : Blocks F) (arg2 : BitVec 32) (v30 v34 : FVec F S128x2048 .bf16) (v38 : FVec F S1x2048 .f32) (t : Fin (k0_t1_loop i).trips) (s : FVec F S1x2048 .f32 × FVec F S144x2048 .f32 × FVec F S1x2048 .f32 × FVec F S144x2048 .f32 × FVec F S1x2048 .f32) :
    (trip1 i X arg2 v30 v34 v38 t s).2.2.2.1 = resc s.2.2.1 (wM4 v34 (kw1 i X t 0) (kw1 i X t 1) (kw1 i X t 2) (kw1 i X t 3) s.2.2.1) (wL4 v34 (kw1 i X t 0) (kw1 i X t 1) (kw1 i X t 2) (kw1 i X t 3) (vw1 i X t 0) (vw1 i X t 1) (vw1 i X t 2) (vw1 i X t 3) s.2.2.1 s.2.2.2.1) := by
  unfold trip1 part1 part2 part3 part4; rfl

/-- A trip of loop 3 takes the maxima of map 0 over four tiles. -/
theorem trip3_m0 (i : grid0.Coords) (X : Blocks F) (arg2 : BitVec 32) (v30 v34 : FVec F S128x2048 .bf16) (t : Fin (k0_t3_loop i).trips) (s : FVec F S1x2048 .f32 × FVec F S144x2048 .f32 × FVec F S1x2048 .f32 × FVec F S144x2048 .f32) :
    (trip3 i X arg2 v30 v34 t s).1 = wM4 v30 (kw3 i X t 0) (kw3 i X t 1) (kw3 i X t 2) (kw3 i X t 3) s.1 := by
  unfold trip3 part9 part10 part11 part12; rfl

/-- A trip of loop 3 takes the sums of map 0 over four tiles. -/
theorem trip3_a0 (i : grid0.Coords) (X : Blocks F) (arg2 : BitVec 32) (v30 v34 : FVec F S128x2048 .bf16) (t : Fin (k0_t3_loop i).trips) (s : FVec F S1x2048 .f32 × FVec F S144x2048 .f32 × FVec F S1x2048 .f32 × FVec F S144x2048 .f32) :
    (trip3 i X arg2 v30 v34 t s).2.1 = wN4 v30 (kw3 i X t 0) (kw3 i X t 1) (kw3 i X t 2) (kw3 i X t 3) (vw3 i X t 0) (vw3 i X t 1) (vw3 i X t 2) (vw3 i X t 3) s.1 s.2.1 := by
  unfold trip3 part9 part10 part11 part12; rfl

/-- A trip of loop 3 takes the maxima of map 1 over four tiles. -/
theorem trip3_m1 (i : grid0.Coords) (X : Blocks F) (arg2 : BitVec 32) (v30 v34 : FVec F S128x2048 .bf16) (t : Fin (k0_t3_loop i).trips) (s : FVec F S1x2048 .f32 × FVec F S144x2048 .f32 × FVec F S1x2048 .f32 × FVec F S144x2048 .f32) :
    (trip3 i X arg2 v30 v34 t s).2.2.1 = wM4 v34 (kw3 i X t 0) (kw3 i X t 1) (kw3 i X t 2) (kw3 i X t 3) s.2.2.1 := by
  unfold trip3 part9 part10 part11 part12; rfl

/-- A trip of loop 3 takes the sums of map 1 over four tiles. -/
theorem trip3_a1 (i : grid0.Coords) (X : Blocks F) (arg2 : BitVec 32) (v30 v34 : FVec F S128x2048 .bf16) (t : Fin (k0_t3_loop i).trips) (s : FVec F S1x2048 .f32 × FVec F S144x2048 .f32 × FVec F S1x2048 .f32 × FVec F S144x2048 .f32) :
    (trip3 i X arg2 v30 v34 t s).2.2.2 = wN4 v34 (kw3 i X t 0) (kw3 i X t 1) (kw3 i X t 2) (kw3 i X t 3) (vw3 i X t 0) (vw3 i X t 1) (vw3 i X t 2) (vw3 i X t 3) s.2.2.1 s.2.2.2 := by
  unfold trip3 part9 part10 part11 part12; rfl

/-- What the second branch passes on, from what part17 returns. -/
theorem nonlazy_eq {β : Type} (i : grid0.Coords) (X : Blocks F) (arg2 : BitVec 32) (v30 v34 : FVec F S128x2048 .bf16) (k : FVec F S144x2048 .f32 × FVec F S144x2048 .f32 → β) :
    nonlazy i X arg2 v30 v34 k = next (part17 i X arg2 v30 v34) fun p17 =>
      k (dN8 v30 (kd3 i X 0) (kd3 i X 1) (kd3 i X 2) (kd3 i X 3) (kd3 i X 4) (kd3 i X 5) (kd3 i X 6) (kd3 i X 7) (vd3 i X 0) (vd3 i X 1) (vd3 i X 2) (vd3 i X 3) (vd3 i X 4) (vd3 i X 5) (vd3 i X 6) (vd3 i X 7) p17.1 p17.2.1, dN8 v34 (kd3 i X 0) (kd3 i X 1) (kd3 i X 2) (kd3 i X 3) (kd3 i X 4) (kd3 i X 5) (kd3 i X 6) (kd3 i X 7) (vd3 i X 0) (vd3 i X 1) (vd3 i X 2) (vd3 i X 3) (vd3 i X 4) (vd3 i X 5) (vd3 i X 6) (vd3 i X 7) p17.2.2.1 p17.2.2.2.1) := by
  unfold nonlazy part18 part19 part20 part21 part22 part23 part24 part25 part26 part27 part28 part29; rfl

/-- The queries of map 0 of a block. -/
def q0 (X : Blocks F) : FVec F S128x2048 .bf16 :=
  k0_pay245 (View.ld X.x3 (Rect.unit (s := S1x128x2048) ![0, 0, 0] S1x128x2048.size inb_S1x128x2048_S1x128x2048_0_0_0))

/-- The queries of map 1 of a block. -/
def q1 (X : Blocks F) : FVec F S128x2048 .bf16 :=
  k0_pay246 (View.ld X.x3 (Rect.unit (s := S1x128x2048) ![0, 0, 0] S1x128x2048.size inb_S1x128x2048_S1x128x2048_0_0_0))

/-- The first eight keys of a block. -/
def k8 (X : Blocks F) : Vec F S1x8x128 .bf16 := (View.ld X.x4 (Rect.unit (s := S1x8192x128) ![0, 0, 0] S1x8x128.size inb_S1x8192x128_S1x8x128_0_0_0))

/-- The sums of the two maps and the small inputs, put together. -/
def epi (X : Blocks F) (r : FVec F S144x2048 .f32 × FVec F S144x2048 .f32) : FVec F S2048x128 .bf16 :=
  k0_pay334 r.1 r.2 (k0_pay332 (View.ld X.x6 (Rect.unit (s := S4x64) ![0, 0] S4x64.size inb_S4x64_S4x64_0_0)))
    (k0_pay333 (View.ld X.x6 (Rect.unit (s := S4x64) ![0, 0] S4x64.size inb_S4x64_S4x64_0_0)))
    (View.ld X.x7 (Rect.unit (s := S128x1) ![0, 0] S128x1.size inb_S128x1_S128x1_0_0))

/-- The state that loop 1 leaves. -/
def loop1 (i : grid0.Coords) (X : Blocks F) : FVec F S1x2048 .f32 × FVec F S144x2048 .f32 × FVec F S1x2048 .f32 × FVec F S144x2048 .f32 × FVec F S1x2048 .f32 :=
  Scf.fold (trip1 (F := F) i X (BitVec.ofNat 32 (i 2).val) (q0 X) (q1 X) (first (q0 X) (k8 X)))
    (first (q0 X) (k8 X), broadcast S144x2048 (Scalar.ofBits .f32 0x00000000#32), first (q1 X) (k8 X), broadcast S144x2048 (Scalar.ofBits .f32 0x00000000#32), broadcast S1x2048 (Scalar.ofBits .f32 0x00000000#32))

/-- The state that loop 3 leaves. -/
def loop3 (i : grid0.Coords) (X : Blocks F) : FVec F S1x2048 .f32 × FVec F S144x2048 .f32 × FVec F S1x2048 .f32 × FVec F S144x2048 .f32 :=
  Scf.fold (trip3 (F := F) i X (BitVec.ofNat 32 (i 2).val) (q0 X) (q1 X))
    (first (q0 X) (k8 X), broadcast S144x2048 (Scalar.ofBits .f32 0x00000000#32), first (q1 X) (k8 X), broadcast S144x2048 (Scalar.ofBits .f32 0x00000000#32))

/-- The sums after the diagonal, from the state that loop 1 leaves. -/
def sums1 (i : grid0.Coords) (X : Blocks F) : FVec F S144x2048 .f32 × FVec F S144x2048 .f32 :=
  (resc (loop1 i X).1 (dM8 (q0 X) (kd1 i X 0) (kd1 i X 1) (kd1 i X 2) (kd1 i X 3) (kd1 i X 4) (kd1 i X 5) (kd1 i X 6) (kd1 i X 7) (loop1 i X).1) (dL8 (q0 X) (kd1 i X 0) (kd1 i X 1) (kd1 i X 2) (kd1 i X 3) (kd1 i X 4) (kd1 i X 5) (kd1 i X 6) (kd1 i X 7) (vd1 i X 0) (vd1 i X 1) (vd1 i X 2) (vd1 i X 3) (vd1 i X 4) (vd1 i X 5) (vd1 i X 6) (vd1 i X 7) (loop1 i X).1 (loop1 i X).2.1),
   resc (loop1 i X).2.2.1 (dM8 (q1 X) (kd1 i X 0) (kd1 i X 1) (kd1 i X 2) (kd1 i X 3) (kd1 i X 4) (kd1 i X 5) (kd1 i X 6) (kd1 i X 7) (loop1 i X).2.2.1) (dL8 (q1 X) (kd1 i X 0) (kd1 i X 1) (kd1 i X 2) (kd1 i X 3) (kd1 i X 4) (kd1 i X 5) (kd1 i X 6) (kd1 i X 7) (vd1 i X 0) (vd1 i X 1) (vd1 i X 2) (vd1 i X 3) (vd1 i X 4) (vd1 i X 5) (vd1 i X 6) (vd1 i X 7) (loop1 i X).2.2.1 (loop1 i X).2.2.2.1))

/-- The sums after the diagonal, from the state that loop 3 leaves. -/
def sums3 (i : grid0.Coords) (X : Blocks F) : FVec F S144x2048 .f32 × FVec F S144x2048 .f32 :=
  (dN8 (q0 X) (kd3 i X 0) (kd3 i X 1) (kd3 i X 2) (kd3 i X 3) (kd3 i X 4) (kd3 i X 5) (kd3 i X 6) (kd3 i X 7) (vd3 i X 0) (vd3 i X 1) (vd3 i X 2) (vd3 i X 3) (vd3 i X 4) (vd3 i X 5) (vd3 i X 6) (vd3 i X 7) (loop3 i X).1 (loop3 i X).2.1, dN8 (q1 X) (kd3 i X 0) (kd3 i X 1) (kd3 i X 2) (kd3 i X 3) (kd3 i X 4) (kd3 i X 5) (kd3 i X 6) (kd3 i X 7) (vd3 i X 0) (vd3 i X 1) (vd3 i X 2) (vd3 i X 3) (vd3 i X 4) (vd3 i X 5) (vd3 i X 6) (vd3 i X 7) (loop3 i X).2.2.1 (loop3 i X).2.2.2)

/-- What part31 returns is the state that loop 1 leaves. -/
theorem part31_eq (i : grid0.Coords) (X : Blocks F) :
    part31 i X (BitVec.ofNat 32 (i 2).val) (q0 X) (q1 X) (first (q0 X) (k8 X)) =
      ⟨(loop1 i X).1, (loop1 i X).2.1, (loop1 i X).2.2.1, (loop1 i X).2.2.2.1, (loop1 i X).2.2.2.2, Scalar.muli (BitVec.ofNat 32 (i 2).val) 2048#32, kd1 i X 0⟩ := by
  unfold part31; rfl

/-- What part17 returns is the state that loop 3 leaves. -/
theorem part17_eq (i : grid0.Coords) (X : Blocks F) :
    part17 i X (BitVec.ofNat 32 (i 2).val) (q0 X) (q1 X) =
      ⟨(loop3 i X).1, (loop3 i X).2.1, (loop3 i X).2.2.1, (loop3 i X).2.2.2, Scalar.muli (BitVec.ofNat 32 (i 2).val) 2048#32⟩ := by
  unfold part17; rfl

/-- What holds of both branches holds of part43. -/
theorem part43_cases (i : grid0.Coords) (X : Blocks F) (arg2 : BitVec 32) (v30 : FVec F S128x2048 .bf16) (v34 : FVec F S128x2048 .bf16) (v70_0 : FVec F S1x2048 .f32) (v70_2 : FVec F S1x2048 .f32) (v70_4 : FVec F S1x2048 .f32) (v72 : BitVec 32) (v518 : FVec F S144x2048 .f32) (v535 : FVec F S1x2048 .f32) (v540 : FVec F S256x256 .bf16) (v551 : FVec F S144x2048 .f32) (v557 : FVec F S1x2048 .f32) (v562 : FVec F S256x256 .bf16) (v568 : FVec F S144x256 .bf16)  (R : ((Σ' (v604_0 : FVec F S144x2048 .f32) (v604_1 : FVec F S144x2048 .f32) (v611 : FVec F S1x1 .f32), FVec F S1 .f32) → Prop))
    (h1 : R (tail43 X (k0_pay326 v70_0 v518 v535 v540 v568, k0_pay327 v70_2 v551 v557 v562 (vd1 i X 7))))
    (h2 : R (nonlazy i X arg2 v30 v34 (tail43 X))) : R (part43 i X arg2 v30 v34 v70_0 v70_2 v70_4 v72 v518 v535 v540 v551 v557 v562 v568) := by
  unfold part43 next
  split
  · exact h1
  · exact h2

/-- What holds of both sums, put together, holds of what the body stores. -/
theorem part44_cases (i : grid0.Coords) (X : Blocks F) (x8 : Vec F S1x2048x128 .bf16) (Q : FVec F S2048x128 .bf16 → Prop)
    (h1 : Q (epi X (sums1 i X))) (h2 : Q (epi X (sums3 i X))) : Q (part44 i X x8).1 := by
  unfold part44
  refine part43_cases i X _ _ _ _ _ _ _ _ _ _ _ _ _ _ (fun p43 => Q (k0_pay334 p43.1 p43.2.1 p43.2.2.1 p43.2.2.2 (View.ld X.x7 (Rect.unit (s := S128x1) ![0, 0] S128x1.size inb_S128x1_S128x1_0_0)))) ?_ ?_
  · unfold part30 part31 part32 part33 part34 part35 part36 part37 part38 part39 part40 part41 part42; exact h1
  · rw [nonlazy_eq]; unfold part30 part17; exact h2

end Cert.KernelIdeal.Body

end
-- ==== Proof.AttnStep.lean ====
/- What one tile of keys does to the lanes of the attention body. -/
module

public import proofs.«01_k».proof.Proof.AttnChain
public import proofs.«01_k».proof.Proof.AttnMath

@[expose] public section

set_option maxRecDepth 16384

noncomputable section

namespace Cert.KernelIdeal.Body

open Idealize.ShloMosaic Cert.KernelIdeal Cert.KernelIdeal.Gen Cert.AttnMath

/-- The score of a key for a lane. -/
def sc (K : ℕ → Fin 128 → ℝ) (Q : Fin 2048 → Fin 128 → ℝ) (j : Fin 2048) (n : ℕ) : ℝ := ∑ d, K n d * Q j d

/-- Every lane holds the sums over the visible ones of the first `n` keys. -/
def Lanes (K : ℕ → Fin 128 → ℝ) (Q : Fin 2048 → Fin 128 → ℝ) (V : Fin 144 → ℕ → ℝ) (L n : ℕ) (m : FVec Ideal S1x2048 .f32) (a : FVec Ideal S144x2048 .f32) : Prop :=
  ∀ j : Fin 2048, Lane (sc K Q j) V (L + j.val) n (m (ix2 0 j)) (fun e => a (ix2 e j))

/-- Every lane's reference is real. -/
def Reals (m : FVec Ideal S1x2048 .f32) : Prop := ∀ j : Fin 2048, ∃ μ : ℝ, m (ix2 0 j) = (μ : EReal)

variable {K : ℕ → Fin 128 → ℝ} {Q : Fin 2048 → Fin 128 → ℝ} {V : Fin 144 → ℕ → ℝ} {L n : ℕ}

/-- Lanes hold real references. -/
theorem Lanes.reals {m : FVec Ideal S1x2048 .f32} {a : FVec Ideal S144x2048 .f32} (H : Lanes K Q V L n m a) : Reals m :=
  fun j => let ⟨μ, h, _⟩ := H j; ⟨μ, h⟩

/-- A dot product of reals. -/
theorem dot_real (f g : Fin 128 → EReal) (x y : Fin 128 → ℝ) (hf : ∀ d, f d = (x d : EReal)) (hg : ∀ d, g d = (y d : EReal)) :
    ∑ d, f d * g d = ((∑ d, x d * y d : ℝ) : EReal) := by
  rw [← coe_sum]
  exact Finset.sum_congr rfl fun d _ => by rw [hf, hg, EReal.coe_mul]

/-- The scores of the first key. -/
theorem first_apply (q : FVec Ideal S128x2048 .bf16) (kb : Vec Ideal S1x8x128 .bf16) (j : Fin 2048) :
    first q kb (ix2 0 j) = ∑ d : Fin 128, kb (ix3 0 0 d) * q (ix2 d j) := by
  unfold first; pointwise

/-- The scores of a tile of 512 keys. -/
theorem wS_apply (q : FVec Ideal S128x2048 .bf16) (kb : Vec Ideal S1x512x128 .bf16) (r : Fin 512) (j : Fin 2048) :
    wS q kb (ix2 r j) = ∑ d : Fin 128, kb (ix3 0 r d) * q (ix2 d j) := by
  unfold wS; pointwise

/-- The running maximum of a lane after a tile of 512 keys. -/
theorem wM_apply (q : FVec Ideal S128x2048 .bf16) (kb : Vec Ideal S1x512x128 .bf16) (m : FVec Ideal S1x2048 .f32) (j : Fin 2048) :
    wM q kb m (ix2 0 j) = max (m (ix2 0 j)) (Finset.fold max (Ideal.ofBits FTy.f32 4286578688#32) (fun r => wS q kb (ix2 r j)) Finset.univ) := by
  unfold wM wC; pointwise

/-- The sums brought to other references, at an index. -/
theorem resc_apply (m m' : FVec Ideal S1x2048 .f32) (a : FVec Ideal S144x2048 .f32) (e : Fin 144) (j : Fin 2048) :
    resc m m' a (ix2 e j) = Ideal.exp2 (m (ix2 0 j) - m' (ix2 0 j)) * a (ix2 e j) := by
  unfold resc; pointwise; rfl

/-- The sums a tile of 512 keys adds, at an index. -/
theorem wV_apply (m : FVec Ideal S1x2048 .f32) (s : FVec Ideal S512x2048 .f32) (vb : Vec Ideal S1x128x512 .bf16) (e : Fin 144) (j : Fin 2048) :
    wV (wP m s) vb (ix2 e j) = ∑ r : Fin 512, ones512 vb (ix2 e r) * Ideal.exp2 (s (ix2 r j) - m (ix2 0 j)) := by
  unfold wV wP; pointwise; rfl

/-- The references of the lanes after a tile of 512 keys are real. -/
theorem wM_real (q : FVec Ideal S128x2048 .bf16) (kb : Vec Ideal S1x512x128 .bf16) (m : FVec Ideal S1x2048 .f32)
    (hq : ∀ d j, q (ix2 d j) = (Q j d : EReal)) (hk : ∀ r d, kb (ix3 0 r d) = (K (n + r.val) d : EReal)) (hm : Reals m) : Reals (wM q kb m) := fun j => by
  rw [wM_apply]
  refine real_max (hm j) _ fun r => ?_
  rw [wS_apply, dot_real _ _ (K (n + r.val)) (Q j) (fun d => hk r d) (fun d => hq d j)]
  exact EReal.coe_ne_top _

/-- A visible tile of 512 keys, at unchanged references. -/
theorem wL_lanes (q : FVec Ideal S128x2048 .bf16) (kb : Vec Ideal S1x512x128 .bf16) (vb : Vec Ideal S1x128x512 .bf16) (m : FVec Ideal S1x2048 .f32) (a : FVec Ideal S144x2048 .f32)
    (hq : ∀ d j, q (ix2 d j) = (Q j d : EReal)) (hk : ∀ r d, kb (ix3 0 r d) = (K (n + r.val) d : EReal))
    (hv : ∀ e r, ones512 vb (ix2 e r) = (V e (n + r.val) : EReal)) (hn : n + 512 ≤ L) (H : Lanes K Q V L n m a) : Lanes K Q V L (n + 512) m (wL q kb vb m a) := fun j => by
  refine (congrArg (Lane (sc K Q j) V (L + j.val) (n + 512) (m (ix2 0 j))) (funext fun e => ?_)).mpr
    (lane_add (B := 512) (fun r => wS q kb (ix2 r j)) (fun e r => ones512 vb (ix2 e r)) (fun r => ?_) (fun e r => hv e r) (H j))
  · show addf a _ (ix2 e j) = _
    unfold addf
    rw [wV_apply]; rfl
  · have := r.isLt
    rw [if_pos (by omega), wS_apply, dot_real _ _ (K (n + r.val)) (Q j) (fun d => hk r d) (fun d => hq d j)]
    rfl

/-- The sums brought to other real references. -/
theorem resc_lanes {m m' : FVec Ideal S1x2048 .f32} {a : FVec Ideal S144x2048 .f32} (hm : Reals m') (H : Lanes K Q V L n m a) : Lanes K Q V L n m' (resc m m' a) := fun j => by
  refine (congrArg (Lane (sc K Q j) V (L + j.val) n (m' (ix2 0 j))) (funext fun e => ?_)).mpr (lane_resc (hm j) (H j))
  exact resc_apply m m' a e j

/-- A visible tile of 512 keys, at the references after it. -/
theorem wN_lanes (q : FVec Ideal S128x2048 .bf16) (kb : Vec Ideal S1x512x128 .bf16) (vb : Vec Ideal S1x128x512 .bf16) (m : FVec Ideal S1x2048 .f32) (a : FVec Ideal S144x2048 .f32)
    (hq : ∀ d j, q (ix2 d j) = (Q j d : EReal)) (hk : ∀ r d, kb (ix3 0 r d) = (K (n + r.val) d : EReal))
    (hv : ∀ e r, ones512 vb (ix2 e r) = (V e (n + r.val) : EReal)) (hn : n + 512 ≤ L) (H : Lanes K Q V L n m a) :
    Lanes K Q V L (n + 512) (wM q kb m) (wN q kb vb m a) :=
  wL_lanes q kb vb (wM q kb m) (resc m (wM q kb m) a) hq hk hv hn (resc_lanes (wM_real q kb m hq hk H.reals) H)

variable (q : FVec Ideal S128x2048 .bf16) (kb : Vec Ideal S1x256x128 .bf16) (vb : Vec Ideal S1x128x256 .bf16) (m : FVec Ideal S1x2048 .f32) (a : FVec Ideal S144x2048 .f32)

/-- A lane's place among the lanes from `o` on leads back to it. -/
theorem place_back {o : ℕ} {j : Fin 2048} (h : ¬j.val < o) (p : o + (j.val - o) < 2048) : (⟨o + (j.val - o), p⟩ : Fin 2048) = j :=
  Fin.ext (by show o + (j.val - o) = j.val; omega)

/-- A tile of the diagonal that meets the lanes from `o` on: their references stay real. -/
theorem edge_real {o w : ℕ} (ho : o + w = 2048) {q : FVec Ideal S128x2048 .bf16} {kb : Vec Ideal S1x256x128 .bf16} {m m' : FVec Ideal S1x2048 .f32} {S : Fin 256 → Fin w → EReal} {X : Fin w → EReal}
    (hS : ∀ r j, S r j = if r.val ≤ j.val then ∑ d : Fin 128, kb (ix3 0 r d) * q (ix2 d ⟨o + j.val, by omega⟩) else ⊥)
    (hX : ∀ j, X j = max (m (ix2 0 ⟨o + j.val, by omega⟩)) (Finset.fold max (Ideal.ofBits FTy.f32 4286578688#32) (fun r => S r j) Finset.univ))
    (hM : ∀ j : Fin 2048, m' (ix2 0 j) = if h : j.val < o then m (ix2 0 j) else X ⟨j.val - o, by omega⟩)
    (hq : ∀ d j, q (ix2 d j) = (Q j d : EReal)) (hk : ∀ r d, kb (ix3 0 r d) = (K (L + o + r.val) d : EReal)) (hm : Reals m) : Reals m' := fun j => by
  rw [hM]
  split_ifs with h
  · exact hm j
  · rw [hX]
    refine real_max (hm _) _ fun r => ?_
    rw [hS]
    split_ifs
    · rw [dot_real _ _ (K (L + o + r.val)) (Q ⟨o + (j.val - o), by omega⟩) (fun d => hk r d) (fun d => hq d _)]
      exact EReal.coe_ne_top _
    · exact bot_ne_top

/-- A tile of the diagonal that meets the lanes from `o` on, for one of them. -/
theorem edge_lane {o w : ℕ} (ho : o + w = 2048) {q : FVec Ideal S128x2048 .bf16} {kb : Vec Ideal S1x256x128 .bf16} {vb : Vec Ideal S1x128x256 .bf16} {S : Fin 256 → Fin w → EReal}
    (hS : ∀ r j, S r j = if r.val ≤ j.val then ∑ d : Fin 128, kb (ix3 0 r d) * q (ix2 d ⟨o + j.val, by omega⟩) else ⊥)
    (hq : ∀ d j, q (ix2 d j) = (Q j d : EReal)) (hk : ∀ r d, kb (ix3 0 r d) = (K (L + o + r.val) d : EReal)) (hv : ∀ e r, ones256 vb (ix2 e r) = (V e (L + o + r.val) : EReal))
    (j : Fin 2048) (h : ¬j.val < o) {μ : EReal} {b b' : Fin 144 → EReal} (hb : ∀ e, b' e = b e + ∑ r : Fin 256, ones256 vb (ix2 e r) * Ideal.exp2 (S r ⟨j.val - o, by omega⟩ - μ))
    (H : Lane (sc K Q j) V (L + j.val) (L + o) μ b) : Lane (sc K Q j) V (L + j.val) (L + o + 256) μ b' := by
  refine (congrArg (Lane (sc K Q j) V (L + j.val) (L + o + 256) μ) (funext hb)).mpr
    (lane_add (B := 256) (fun r => S r ⟨j.val - o, by omega⟩) (fun e r => ones256 vb (ix2 e r)) (fun r => ?_) (fun e r => hv e r) H)
  have := r.isLt
  rw [hS]
  show (if r.val ≤ j.val - o then _ else _) = _
  by_cases hr : r.val ≤ j.val - o
  · rw [if_pos hr, if_pos (by omega), dot_real _ _ (K (L + o + r.val)) (Q j) (fun d => hk r d) (fun d => by rw [← hq d j]; exact congrArg (fun x => q (ix2 d x)) (place_back h _))]
    rfl
  · rw [if_neg hr, if_neg (by omega)]

/-- A tile of the diagonal that meets the lanes from `o` on, at unchanged references. -/
theorem edge_lanes {o w : ℕ} (ho : o + w = 2048) {q : FVec Ideal S128x2048 .bf16} {kb : Vec Ideal S1x256x128 .bf16} {vb : Vec Ideal S1x128x256 .bf16} {m : FVec Ideal S1x2048 .f32} {a a' : FVec Ideal S144x2048 .f32} {S : Fin 256 → Fin w → EReal}
    (hS : ∀ r j, S r j = if r.val ≤ j.val then ∑ d : Fin 128, kb (ix3 0 r d) * q (ix2 d ⟨o + j.val, by omega⟩) else ⊥)
    (hA : ∀ (e : Fin 144) (j : Fin 2048), a' (ix2 e j) = if h : j.val < o then a (ix2 e j) else a (ix2 e j) + ∑ r : Fin 256, ones256 vb (ix2 e r) * Ideal.exp2 (S r ⟨j.val - o, by omega⟩ - m (ix2 0 j)))
    (hq : ∀ d j, q (ix2 d j) = (Q j d : EReal)) (hk : ∀ r d, kb (ix3 0 r d) = (K (L + o + r.val) d : EReal)) (hv : ∀ e r, ones256 vb (ix2 e r) = (V e (L + o + r.val) : EReal))
    (H : Lanes K Q V L (L + o) m a) : Lanes K Q V L (L + o + 256) m a' := fun j => by
  by_cases h : j.val < o
  · refine (congrArg (Lane (sc K Q j) V (L + j.val) (L + o + 256) (m (ix2 0 j))) (funext fun e => ?_)).mpr (lane_skip 256 (by omega) (H j))
    rw [hA, dif_pos h]
  · exact edge_lane ho hS hq hk hv j h (fun e => by rw [hA, dif_neg h]) (H j)

/-- A tile of the diagonal that meets the lanes from `o` on, at the references after it. -/
theorem edge_next {o w : ℕ} (ho : o + w = 2048) {q : FVec Ideal S128x2048 .bf16} {kb : Vec Ideal S1x256x128 .bf16} {vb : Vec Ideal S1x128x256 .bf16} {m m' : FVec Ideal S1x2048 .f32} {a a' : FVec Ideal S144x2048 .f32} {S : Fin 256 → Fin w → EReal} {X : Fin w → EReal}
    (hS : ∀ r j, S r j = if r.val ≤ j.val then ∑ d : Fin 128, kb (ix3 0 r d) * q (ix2 d ⟨o + j.val, by omega⟩) else ⊥)
    (hX : ∀ j, X j = max (m (ix2 0 ⟨o + j.val, by omega⟩)) (Finset.fold max (Ideal.ofBits FTy.f32 4286578688#32) (fun r => S r j) Finset.univ))
    (hM : ∀ j : Fin 2048, m' (ix2 0 j) = if h : j.val < o then m (ix2 0 j) else X ⟨j.val - o, by omega⟩)
    (hN : ∀ (e : Fin 144) (j : Fin 2048), a' (ix2 e j) = if h : j.val < o then a (ix2 e j) else
      Ideal.exp2 (m (ix2 0 j) - X ⟨j.val - o, by omega⟩) * a (ix2 e j) + ∑ r : Fin 256, ones256 vb (ix2 e r) * Ideal.exp2 (S r ⟨j.val - o, by omega⟩ - X ⟨j.val - o, by omega⟩))
    (hq : ∀ d j, q (ix2 d j) = (Q j d : EReal)) (hk : ∀ r d, kb (ix3 0 r d) = (K (L + o + r.val) d : EReal)) (hv : ∀ e r, ones256 vb (ix2 e r) = (V e (L + o + r.val) : EReal))
    (H : Lanes K Q V L (L + o) m a) : Lanes K Q V L (L + o + 256) m' a' := fun j => by
  by_cases h : j.val < o
  · rw [hM, dif_pos h]
    refine (congrArg (Lane (sc K Q j) V (L + j.val) (L + o + 256) (m (ix2 0 j))) (funext fun e => ?_)).mpr (lane_skip 256 (by omega) (H j))
    rw [hN, dif_pos h]
  · exact edge_lane ho hS hq hk hv j h (fun e => by rw [hN, dif_neg h, resc_apply, hM, dif_neg h]) (resc_lanes (edge_real ho hS hX hM hq hk H.reals) H j)

/-- The masked scores of tile 0 of the diagonal. -/
theorem d0S_apply (r : Fin 256) (j : Fin 2048) :
    d0S q kb (ix2 r j) = if r.val ≤ j.val then ∑ d : Fin 128, kb (ix3 0 r d) * q (ix2 d j) else ⊥ := by
  unfold d0S; pointwise
  exact select_sle _ _ (by omega) (by omega) _ _

/-- The maxima of tile 0 of the diagonal. -/
theorem d0X_apply (j : Fin 2048) :
    d0X q kb m (ix2 0 j) = max (m (ix2 0 j)) (Finset.fold max (Ideal.ofBits FTy.f32 4286578688#32) (fun r => d0S q kb (ix2 r j)) Finset.univ) := by
  unfold d0X d0C; pointwise

/-- The sums tile 0 of the diagonal adds, at an index. -/
theorem d0V_apply (m : FVec Ideal S1x2048 .f32) (s : FVec Ideal S256x2048 .f32) (vb : Vec Ideal S1x128x256 .bf16) (e : Fin 144) (j : Fin 2048) :
    d0V (d0P m s) vb (ix2 e j) = ∑ r : Fin 256, ones256 vb (ix2 e r) * Ideal.exp2 (s (ix2 r j) - m (ix2 0 j)) := by
  unfold d0V d0P; pointwise; rfl

/-- The references of the lanes after tile 0 of the diagonal are real. -/
theorem d0M_real
    (hq : ∀ d j, q (ix2 d j) = (Q j d : EReal)) (hk : ∀ r d, kb (ix3 0 r d) = (K (L + 0 + r.val) d : EReal)) (hm : Reals m) : Reals (d0M q kb m) := fun j => by
  show ∃ μ : ℝ, d0X q kb m (ix2 0 j) = (μ : EReal)
  rw [d0X_apply]
  refine real_max (hm j) _ fun r => ?_
  rw [d0S_apply]
  split_ifs
  · rw [dot_real _ _ (K (L + 0 + r.val)) (Q j) (fun d => hk r d) (fun d => hq d j)]
    exact EReal.coe_ne_top _
  · exact bot_ne_top

/-- Tile 0 of the diagonal, at unchanged references. -/
theorem d0L_lanes
    (hq : ∀ d j, q (ix2 d j) = (Q j d : EReal)) (hk : ∀ r d, kb (ix3 0 r d) = (K (L + 0 + r.val) d : EReal))
    (hv : ∀ e r, ones256 vb (ix2 e r) = (V e (L + 0 + r.val) : EReal)) (H : Lanes K Q V L (L + 0) m a) : Lanes K Q V L (L + 0 + 256) m (d0L q kb vb m a) := fun j => by
  refine (congrArg (Lane (sc K Q j) V (L + j.val) (L + 0 + 256) (m (ix2 0 j))) (funext fun e => ?_)).mpr
    (lane_add (B := 256) (fun r => d0S q kb (ix2 r j)) (fun e r => ones256 vb (ix2 e r)) (fun r => ?_) (fun e r => hv e r) (H j))
  · show addf a _ (ix2 e j) = _
    unfold addf
    rw [d0V_apply]; rfl
  · have := r.isLt
    rw [d0S_apply]
    by_cases hr : r.val ≤ j.val
    · rw [if_pos hr, if_pos (by omega), dot_real _ _ (K (L + 0 + r.val)) (Q j) (fun d => hk r d) (fun d => hq d j)]
      rfl
    · rw [if_neg hr, if_neg (by omega)]

/-- Tile 0 of the diagonal, at the references after it. -/
theorem d0N_lanes
    (hq : ∀ d j, q (ix2 d j) = (Q j d : EReal)) (hk : ∀ r d, kb (ix3 0 r d) = (K (L + 0 + r.val) d : EReal))
    (hv : ∀ e r, ones256 vb (ix2 e r) = (V e (L + 0 + r.val) : EReal)) (H : Lanes K Q V L (L + 0) m a) : Lanes K Q V L (L + 0 + 256) (d0M q kb m) (d0N q kb vb m a) :=
  d0L_lanes q kb vb (d0M q kb m) (resc m (d0M q kb m) a) hq hk hv (resc_lanes (d0M_real q kb m hq hk H.reals) H)

/-- The masked scores of tile 1 of the diagonal. -/
theorem d1S_apply (r : Fin 256) (j : Fin 1792) :
    d1S q kb (ix2 r j) = if r.val ≤ j.val then ∑ d : Fin 128, kb (ix3 0 r d) * q (ix2 d ⟨256 + j.val, by omega⟩) else ⊥ := by
  unfold d1S; pointwise
  exact select_sle _ _ (by omega) (by omega) _ _

/-- The maxima of tile 1 of the diagonal. -/
theorem d1X_apply (j : Fin 1792) :
    d1X q kb m (ix2 0 j) = max (m (ix2 0 ⟨256 + j.val, by omega⟩)) (Finset.fold max (Ideal.ofBits FTy.f32 4286578688#32) (fun r => d1S q kb (ix2 r j)) Finset.univ) := by
  unfold d1X d1C; pointwise

/-- The sums tile 1 of the diagonal adds, at an index. -/
theorem d1V_apply (m : FVec Ideal S1x1792 .f32) (s : FVec Ideal S256x1792 .f32) (vb : Vec Ideal S1x128x256 .bf16) (e : Fin 144) (j : Fin 1792) :
    d1V (d1P m s) vb (ix2 e j) = ∑ r : Fin 256, ones256 vb (ix2 e r) * Ideal.exp2 (s (ix2 r j) - m (ix2 0 j)) := by
  unfold d1V d1P; pointwise; rfl

/-- The running maxima after tile 1 of the diagonal. -/
theorem d1M_apply (j : Fin 2048) :
    d1M q kb m (ix2 0 j) = if h : j.val < 256 then m (ix2 0 j) else d1X q kb m (ix2 0 ⟨j.val - 256, by omega⟩) := by
  unfold d1M; pointwise

/-- The sums after tile 1 of the diagonal, at unchanged references. -/
theorem d1L_apply (e : Fin 144) (j : Fin 2048) :
    d1L q kb vb m a (ix2 e j) = if h : j.val < 256 then a (ix2 e j) else a (ix2 e j) + ∑ r : Fin 256, ones256 vb (ix2 e r) * Ideal.exp2 (d1S q kb (ix2 r ⟨j.val - 256, by omega⟩) - m (ix2 0 j)) := by
  unfold d1L; pointwise
  by_cases h : j.val < 256
  · rw [dif_pos h, dif_pos h]
  · rw [dif_neg h, dif_neg h, d1V_apply]
    pointwise
    rw [place_back h]

/-- The sums after tile 1 of the diagonal, at the references after it. -/
theorem d1N_apply (e : Fin 144) (j : Fin 2048) :
    d1N q kb vb m a (ix2 e j) = if h : j.val < 256 then a (ix2 e j) else Ideal.exp2 (m (ix2 0 j) - d1X q kb m (ix2 0 ⟨j.val - 256, by omega⟩)) * a (ix2 e j) +
      ∑ r : Fin 256, ones256 vb (ix2 e r) * Ideal.exp2 (d1S q kb (ix2 r ⟨j.val - 256, by omega⟩) - d1X q kb m (ix2 0 ⟨j.val - 256, by omega⟩)) := by
  unfold d1N; pointwise
  by_cases h : j.val < 256
  · rw [dif_pos h, dif_pos h]
  · rw [dif_neg h, dif_neg h, d1V_apply]
    pointwise
    rw [place_back h]; rfl

/-- The references of the lanes after tile 1 of the diagonal are real. -/
theorem d1M_real
    (hq : ∀ d j, q (ix2 d j) = (Q j d : EReal)) (hk : ∀ r d, kb (ix3 0 r d) = (K (L + 256 + r.val) d : EReal)) (hm : Reals m) : Reals (d1M q kb m) :=
  edge_real rfl (d1S_apply q kb) (d1X_apply q kb m) (d1M_apply q kb m) hq hk hm

/-- Tile 1 of the diagonal, at unchanged references. -/
theorem d1L_lanes
    (hq : ∀ d j, q (ix2 d j) = (Q j d : EReal)) (hk : ∀ r d, kb (ix3 0 r d) = (K (L + 256 + r.val) d : EReal))
    (hv : ∀ e r, ones256 vb (ix2 e r) = (V e (L + 256 + r.val) : EReal)) (H : Lanes K Q V L (L + 256) m a) : Lanes K Q V L (L + 256 + 256) m (d1L q kb vb m a) :=
  edge_lanes rfl (d1S_apply q kb) (d1L_apply q kb vb m a) hq hk hv H

/-- Tile 1 of the diagonal, at the references after it. -/
theorem d1N_lanes
    (hq : ∀ d j, q (ix2 d j) = (Q j d : EReal)) (hk : ∀ r d, kb (ix3 0 r d) = (K (L + 256 + r.val) d : EReal))
    (hv : ∀ e r, ones256 vb (ix2 e r) = (V e (L + 256 + r.val) : EReal)) (H : Lanes K Q V L (L + 256) m a) : Lanes K Q V L (L + 256 + 256) (d1M q kb m) (d1N q kb vb m a) :=
  edge_next rfl (d1S_apply q kb) (d1X_apply q kb m) (d1M_apply q kb m) (d1N_apply q kb vb m a) hq hk hv H

/-- The masked scores of tile 2 of the diagonal. -/
theorem d2S_apply (r : Fin 256) (j : Fin 1536) :
    d2S q kb (ix2 r j) = if r.val ≤ j.val then ∑ d : Fin 128, kb (ix3 0 r d) * q (ix2 d ⟨512 + j.val, by omega⟩) else ⊥ := by
  unfold d2S; pointwise
  exact select_sle _ _ (by omega) (by omega) _ _

/-- The maxima of tile 2 of the diagonal. -/
theorem d2X_apply (j : Fin 1536) :
    d2X q kb m (ix2 0 j) = max (m (ix2 0 ⟨512 + j.val, by omega⟩)) (Finset.fold max (Ideal.ofBits FTy.f32 4286578688#32) (fun r => d2S q kb (ix2 r j)) Finset.univ) := by
  unfold d2X d2C; pointwise

/-- The sums tile 2 of the diagonal adds, at an index. -/
theorem d2V_apply (m : FVec Ideal S1x1536 .f32) (s : FVec Ideal S256x1536 .f32) (vb : Vec Ideal S1x128x256 .bf16) (e : Fin 144) (j : Fin 1536) :
    d2V (d2P m s) vb (ix2 e j) = ∑ r : Fin 256, ones256 vb (ix2 e r) * Ideal.exp2 (s (ix2 r j) - m (ix2 0 j)) := by
  unfold d2V d2P; pointwise; rfl

/-- The running maxima after tile 2 of the diagonal. -/
theorem d2M_apply (j : Fin 2048) :
    d2M q kb m (ix2 0 j) = if h : j.val < 512 then m (ix2 0 j) else d2X q kb m (ix2 0 ⟨j.val - 512, by omega⟩) := by
  unfold d2M; pointwise

/-- The sums after tile 2 of the diagonal, at unchanged references. -/
theorem d2L_apply (e : Fin 144) (j : Fin 2048) :
    d2L q kb vb m a (ix2 e j) = if h : j.val < 512 then a (ix2 e j) else a (ix2 e j) + ∑ r : Fin 256, ones256 vb (ix2 e r) * Ideal.exp2 (d2S q kb (ix2 r ⟨j.val - 512, by omega⟩) - m (ix2 0 j)) := by
  unfold d2L; pointwise
  by_cases h : j.val < 512
  · rw [dif_pos h, dif_pos h]
  · rw [dif_neg h, dif_neg h, d2V_apply]
    pointwise
    rw [place_back h]

/-- The sums after tile 2 of the diagonal, at the references after it. -/
theorem d2N_apply (e : Fin 144) (j : Fin 2048) :
    d2N q kb vb m a (ix2 e j) = if h : j.val < 512 then a (ix2 e j) else Ideal.exp2 (m (ix2 0 j) - d2X q kb m (ix2 0 ⟨j.val - 512, by omega⟩)) * a (ix2 e j) +
      ∑ r : Fin 256, ones256 vb (ix2 e r) * Ideal.exp2 (d2S q kb (ix2 r ⟨j.val - 512, by omega⟩) - d2X q kb m (ix2 0 ⟨j.val - 512, by omega⟩)) := by
  unfold d2N; pointwise
  by_cases h : j.val < 512
  · rw [dif_pos h, dif_pos h]
  · rw [dif_neg h, dif_neg h, d2V_apply]
    pointwise
    rw [place_back h]; rfl

/-- The references of the lanes after tile 2 of the diagonal are real. -/
theorem d2M_real
    (hq : ∀ d j, q (ix2 d j) = (Q j d : EReal)) (hk : ∀ r d, kb (ix3 0 r d) = (K (L + 512 + r.val) d : EReal)) (hm : Reals m) : Reals (d2M q kb m) :=
  edge_real rfl (d2S_apply q kb) (d2X_apply q kb m) (d2M_apply q kb m) hq hk hm

/-- Tile 2 of the diagonal, at unchanged references. -/
theorem d2L_lanes
    (hq : ∀ d j, q (ix2 d j) = (Q j d : EReal)) (hk : ∀ r d, kb (ix3 0 r d) = (K (L + 512 + r.val) d : EReal))
    (hv : ∀ e r, ones256 vb (ix2 e r) = (V e (L + 512 + r.val) : EReal)) (H : Lanes K Q V L (L + 512) m a) : Lanes K Q V L (L + 512 + 256) m (d2L q kb vb m a) :=
  edge_lanes rfl (d2S_apply q kb) (d2L_apply q kb vb m a) hq hk hv H

/-- Tile 2 of the diagonal, at the references after it. -/
theorem d2N_lanes
    (hq : ∀ d j, q (ix2 d j) = (Q j d : EReal)) (hk : ∀ r d, kb (ix3 0 r d) = (K (L + 512 + r.val) d : EReal))
    (hv : ∀ e r, ones256 vb (ix2 e r) = (V e (L + 512 + r.val) : EReal)) (H : Lanes K Q V L (L + 512) m a) : Lanes K Q V L (L + 512 + 256) (d2M q kb m) (d2N q kb vb m a) :=
  edge_next rfl (d2S_apply q kb) (d2X_apply q kb m) (d2M_apply q kb m) (d2N_apply q kb vb m a) hq hk hv H

/-- The masked scores of tile 3 of the diagonal. -/
theorem d3S_apply (r : Fin 256) (j : Fin 1280) :
    d3S q kb (ix2 r j) = if r.val ≤ j.val then ∑ d : Fin 128, kb (ix3 0 r d) * q (ix2 d ⟨768 + j.val, by omega⟩) else ⊥ := by
  unfold d3S; pointwise
  exact select_sle _ _ (by omega) (by omega) _ _

/-- The maxima of tile 3 of the diagonal. -/
theorem d3X_apply (j : Fin 1280) :
    d3X q kb m (ix2 0 j) = max (m (ix2 0 ⟨768 + j.val, by omega⟩)) (Finset.fold max (Ideal.ofBits FTy.f32 4286578688#32) (fun r => d3S q kb (ix2 r j)) Finset.univ) := by
  unfold d3X d3C; pointwise

/-- The sums tile 3 of the diagonal adds, at an index. -/
theorem d3V_apply (m : FVec Ideal S1x1280 .f32) (s : FVec Ideal S256x1280 .f32) (vb : Vec Ideal S1x128x256 .bf16) (e : Fin 144) (j : Fin 1280) :
    d3V (d3P m s) vb (ix2 e j) = ∑ r : Fin 256, ones256 vb (ix2 e r) * Ideal.exp2 (s (ix2 r j) - m (ix2 0 j)) := by
  unfold d3V d3P; pointwise; rfl

/-- The running maxima after tile 3 of the diagonal. -/
theorem d3M_apply (j : Fin 2048) :
    d3M q kb m (ix2 0 j) = if h : j.val < 768 then m (ix2 0 j) else d3X q kb m (ix2 0 ⟨j.val - 768, by omega⟩) := by
  unfold d3M; pointwise

/-- The sums after tile 3 of the diagonal, at unchanged references. -/
theorem d3L_apply (e : Fin 144) (j : Fin 2048) :
    d3L q kb vb m a (ix2 e j) = if h : j.val < 768 then a (ix2 e j) else a (ix2 e j) + ∑ r : Fin 256, ones256 vb (ix2 e r) * Ideal.exp2 (d3S q kb (ix2 r ⟨j.val - 768, by omega⟩) - m (ix2 0 j)) := by
  unfold d3L; pointwise
  by_cases h : j.val < 768
  · rw [dif_pos h, dif_pos h]
  · rw [dif_neg h, dif_neg h, d3V_apply]
    pointwise
    rw [place_back h]

/-- The sums after tile 3 of the diagonal, at the references after it. -/
theorem d3N_apply (e : Fin 144) (j : Fin 2048) :
    d3N q kb vb m a (ix2 e j) = if h : j.val < 768 then a (ix2 e j) else Ideal.exp2 (m (ix2 0 j) - d3X q kb m (ix2 0 ⟨j.val - 768, by omega⟩)) * a (ix2 e j) +
      ∑ r : Fin 256, ones256 vb (ix2 e r) * Ideal.exp2 (d3S q kb (ix2 r ⟨j.val - 768, by omega⟩) - d3X q kb m (ix2 0 ⟨j.val - 768, by omega⟩)) := by
  unfold d3N; pointwise
  by_cases h : j.val < 768
  · rw [dif_pos h, dif_pos h]
  · rw [dif_neg h, dif_neg h, d3V_apply]
    pointwise
    rw [place_back h]; rfl

/-- The references of the lanes after tile 3 of the diagonal are real. -/
theorem d3M_real
    (hq : ∀ d j, q (ix2 d j) = (Q j d : EReal)) (hk : ∀ r d, kb (ix3 0 r d) = (K (L + 768 + r.val) d : EReal)) (hm : Reals m) : Reals (d3M q kb m) :=
  edge_real rfl (d3S_apply q kb) (d3X_apply q kb m) (d3M_apply q kb m) hq hk hm

/-- Tile 3 of the diagonal, at unchanged references. -/
theorem d3L_lanes
    (hq : ∀ d j, q (ix2 d j) = (Q j d : EReal)) (hk : ∀ r d, kb (ix3 0 r d) = (K (L + 768 + r.val) d : EReal))
    (hv : ∀ e r, ones256 vb (ix2 e r) = (V e (L + 768 + r.val) : EReal)) (H : Lanes K Q V L (L + 768) m a) : Lanes K Q V L (L + 768 + 256) m (d3L q kb vb m a) :=
  edge_lanes rfl (d3S_apply q kb) (d3L_apply q kb vb m a) hq hk hv H

/-- Tile 3 of the diagonal, at the references after it. -/
theorem d3N_lanes
    (hq : ∀ d j, q (ix2 d j) = (Q j d : EReal)) (hk : ∀ r d, kb (ix3 0 r d) = (K (L + 768 + r.val) d : EReal))
    (hv : ∀ e r, ones256 vb (ix2 e r) = (V e (L + 768 + r.val) : EReal)) (H : Lanes K Q V L (L + 768) m a) : Lanes K Q V L (L + 768 + 256) (d3M q kb m) (d3N q kb vb m a) :=
  edge_next rfl (d3S_apply q kb) (d3X_apply q kb m) (d3M_apply q kb m) (d3N_apply q kb vb m a) hq hk hv H

/-- The masked scores of tile 4 of the diagonal. -/
theorem d4S_apply (r : Fin 256) (j : Fin 1024) :
    d4S q kb (ix2 r j) = if r.val ≤ j.val then ∑ d : Fin 128, kb (ix3 0 r d) * q (ix2 d ⟨1024 + j.val, by omega⟩) else ⊥ := by
  unfold d4S; pointwise
  exact select_sle _ _ (by omega) (by omega) _ _

/-- The maxima of tile 4 of the diagonal. -/
theorem d4X_apply (j : Fin 1024) :
    d4X q kb m (ix2 0 j) = max (m (ix2 0 ⟨1024 + j.val, by omega⟩)) (Finset.fold max (Ideal.ofBits FTy.f32 4286578688#32) (fun r => d4S q kb (ix2 r j)) Finset.univ) := by
  unfold d4X d4C; pointwise

/-- The sums tile 4 of the diagonal adds, at an index. -/
theorem d4V_apply (m : FVec Ideal S1x1024 .f32) (s : FVec Ideal S256x1024 .f32) (vb : Vec Ideal S1x128x256 .bf16) (e : Fin 144) (j : Fin 1024) :
    d4V (d4P m s) vb (ix2 e j) = ∑ r : Fin 256, ones256 vb (ix2 e r) * Ideal.exp2 (s (ix2 r j) - m (ix2 0 j)) := by
  unfold d4V d4P; pointwise; rfl

/-- The running maxima after tile 4 of the diagonal. -/
theorem d4M_apply (j : Fin 2048) :
    d4M q kb m (ix2 0 j) = if h : j.val < 1024 then m (ix2 0 j) else d4X q kb m (ix2 0 ⟨j.val - 1024, by omega⟩) := by
  unfold d4M; pointwise

/-- The sums after tile 4 of the diagonal, at unchanged references. -/
theorem d4L_apply (e : Fin 144) (j : Fin 2048) :
    d4L q kb vb m a (ix2 e j) = if h : j.val < 1024 then a (ix2 e j) else a (ix2 e j) + ∑ r : Fin 256, ones256 vb (ix2 e r) * Ideal.exp2 (d4S q kb (ix2 r ⟨j.val - 1024, by omega⟩) - m (ix2 0 j)) := by
  unfold d4L; pointwise
  by_cases h : j.val < 1024
  · rw [dif_pos h, dif_pos h]
  · rw [dif_neg h, dif_neg h, d4V_apply]
    pointwise
    rw [place_back h]

/-- The sums after tile 4 of the diagonal, at the references after it. -/
theorem d4N_apply (e : Fin 144) (j : Fin 2048) :
    d4N q kb vb m a (ix2 e j) = if h : j.val < 1024 then a (ix2 e j) else Ideal.exp2 (m (ix2 0 j) - d4X q kb m (ix2 0 ⟨j.val - 1024, by omega⟩)) * a (ix2 e j) +
      ∑ r : Fin 256, ones256 vb (ix2 e r) * Ideal.exp2 (d4S q kb (ix2 r ⟨j.val - 1024, by omega⟩) - d4X q kb m (ix2 0 ⟨j.val - 1024, by omega⟩)) := by
  unfold d4N; pointwise
  by_cases h : j.val < 1024
  · rw [dif_pos h, dif_pos h]
  · rw [dif_neg h, dif_neg h, d4V_apply]
    pointwise
    rw [place_back h]; rfl

/-- The references of the lanes after tile 4 of the diagonal are real. -/
theorem d4M_real
    (hq : ∀ d j, q (ix2 d j) = (Q j d : EReal)) (hk : ∀ r d, kb (ix3 0 r d) = (K (L + 1024 + r.val) d : EReal)) (hm : Reals m) : Reals (d4M q kb m) :=
  edge_real rfl (d4S_apply q kb) (d4X_apply q kb m) (d4M_apply q kb m) hq hk hm

/-- Tile 4 of the diagonal, at unchanged references. -/
theorem d4L_lanes
    (hq : ∀ d j, q (ix2 d j) = (Q j d : EReal)) (hk : ∀ r d, kb (ix3 0 r d) = (K (L + 1024 + r.val) d : EReal))
    (hv : ∀ e r, ones256 vb (ix2 e r) = (V e (L + 1024 + r.val) : EReal)) (H : Lanes K Q V L (L + 1024) m a) : Lanes K Q V L (L + 1024 + 256) m (d4L q kb vb m a) :=
  edge_lanes rfl (d4S_apply q kb) (d4L_apply q kb vb m a) hq hk hv H

/-- Tile 4 of the diagonal, at the references after it. -/
theorem d4N_lanes
    (hq : ∀ d j, q (ix2 d j) = (Q j d : EReal)) (hk : ∀ r d, kb (ix3 0 r d) = (K (L + 1024 + r.val) d : EReal))
    (hv : ∀ e r, ones256 vb (ix2 e r) = (V e (L + 1024 + r.val) : EReal)) (H : Lanes K Q V L (L + 1024) m a) : Lanes K Q V L (L + 1024 + 256) (d4M q kb m) (d4N q kb vb m a) :=
  edge_next rfl (d4S_apply q kb) (d4X_apply q kb m) (d4M_apply q kb m) (d4N_apply q kb vb m a) hq hk hv H

/-- The masked scores of tile 5 of the diagonal. -/
theorem d5S_apply (r : Fin 256) (j : Fin 768) :
    d5S q kb (ix2 r j) = if r.val ≤ j.val then ∑ d : Fin 128, kb (ix3 0 r d) * q (ix2 d ⟨1280 + j.val, by omega⟩) else ⊥ := by
  unfold d5S; pointwise
  exact select_sle _ _ (by omega) (by omega) _ _

/-- The maxima of tile 5 of the diagonal. -/
theorem d5X_apply (j : Fin 768) :
    d5X q kb m (ix2 0 j) = max (m (ix2 0 ⟨1280 + j.val, by omega⟩)) (Finset.fold max (Ideal.ofBits FTy.f32 4286578688#32) (fun r => d5S q kb (ix2 r j)) Finset.univ) := by
  unfold d5X d5C; pointwise

/-- The sums tile 5 of the diagonal adds, at an index. -/
theorem d5V_apply (m : FVec Ideal S1x768 .f32) (s : FVec Ideal S256x768 .f32) (vb : Vec Ideal S1x128x256 .bf16) (e : Fin 144) (j : Fin 768) :
    d5V (d5P m s) vb (ix2 e j) = ∑ r : Fin 256, ones256 vb (ix2 e r) * Ideal.exp2 (s (ix2 r j) - m (ix2 0 j)) := by
  unfold d5V d5P; pointwise; rfl

/-- The running maxima after tile 5 of the diagonal. -/
theorem d5M_apply (j : Fin 2048) :
    d5M q kb m (ix2 0 j) = if h : j.val < 1280 then m (ix2 0 j) else d5X q kb m (ix2 0 ⟨j.val - 1280, by omega⟩) := by
  unfold d5M; pointwise

/-- The sums after tile 5 of the diagonal, at unchanged references. -/
theorem d5L_apply (e : Fin 144) (j : Fin 2048) :
    d5L q kb vb m a (ix2 e j) = if h : j.val < 1280 then a (ix2 e j) else a (ix2 e j) + ∑ r : Fin 256, ones256 vb (ix2 e r) * Ideal.exp2 (d5S q kb (ix2 r ⟨j.val - 1280, by omega⟩) - m (ix2 0 j)) := by
  unfold d5L; pointwise
  by_cases h : j.val < 1280
  · rw [dif_pos h, dif_pos h]
  · rw [dif_neg h, dif_neg h, d5V_apply]
    pointwise
    rw [place_back h]

/-- The sums after tile 5 of the diagonal, at the references after it. -/
theorem d5N_apply (e : Fin 144) (j : Fin 2048) :
    d5N q kb vb m a (ix2 e j) = if h : j.val < 1280 then a (ix2 e j) else Ideal.exp2 (m (ix2 0 j) - d5X q kb m (ix2 0 ⟨j.val - 1280, by omega⟩)) * a (ix2 e j) +
      ∑ r : Fin 256, ones256 vb (ix2 e r) * Ideal.exp2 (d5S q kb (ix2 r ⟨j.val - 1280, by omega⟩) - d5X q kb m (ix2 0 ⟨j.val - 1280, by omega⟩)) := by
  unfold d5N; pointwise
  by_cases h : j.val < 1280
  · rw [dif_pos h, dif_pos h]
  · rw [dif_neg h, dif_neg h, d5V_apply]
    pointwise
    rw [place_back h]; rfl

/-- The references of the lanes after tile 5 of the diagonal are real. -/
theorem d5M_real
    (hq : ∀ d j, q (ix2 d j) = (Q j d : EReal)) (hk : ∀ r d, kb (ix3 0 r d) = (K (L + 1280 + r.val) d : EReal)) (hm : Reals m) : Reals (d5M q kb m) :=
  edge_real rfl (d5S_apply q kb) (d5X_apply q kb m) (d5M_apply q kb m) hq hk hm

/-- Tile 5 of the diagonal, at unchanged references. -/
theorem d5L_lanes
    (hq : ∀ d j, q (ix2 d j) = (Q j d : EReal)) (hk : ∀ r d, kb (ix3 0 r d) = (K (L + 1280 + r.val) d : EReal))
    (hv : ∀ e r, ones256 vb (ix2 e r) = (V e (L + 1280 + r.val) : EReal)) (H : Lanes K Q V L (L + 1280) m a) : Lanes K Q V L (L + 1280 + 256) m (d5L q kb vb m a) :=
  edge_lanes rfl (d5S_apply q kb) (d5L_apply q kb vb m a) hq hk hv H

/-- Tile 5 of the diagonal, at the references after it. -/
theorem d5N_lanes
    (hq : ∀ d j, q (ix2 d j) = (Q j d : EReal)) (hk : ∀ r d, kb (ix3 0 r d) = (K (L + 1280 + r.val) d : EReal))
    (hv : ∀ e r, ones256 vb (ix2 e r) = (V e (L + 1280 + r.val) : EReal)) (H : Lanes K Q V L (L + 1280) m a) : Lanes K Q V L (L + 1280 + 256) (d5M q kb m) (d5N q kb vb m a) :=
  edge_next rfl (d5S_apply q kb) (d5X_apply q kb m) (d5M_apply q kb m) (d5N_apply q kb vb m a) hq hk hv H

/-- The masked scores of tile 6 of the diagonal. -/
theorem d6S_apply (r : Fin 256) (j : Fin 512) :
    d6S q kb (ix2 r j) = if r.val ≤ j.val then ∑ d : Fin 128, kb (ix3 0 r d) * q (ix2 d ⟨1536 + j.val, by omega⟩) else ⊥ := by
  unfold d6S; pointwise
  exact select_sle _ _ (by omega) (by omega) _ _

/-- The maxima of tile 6 of the diagonal. -/
theorem d6X_apply (j : Fin 512) :
    d6X q kb m (ix2 0 j) = max (m (ix2 0 ⟨1536 + j.val, by omega⟩)) (Finset.fold max (Ideal.ofBits FTy.f32 4286578688#32) (fun r => d6S q kb (ix2 r j)) Finset.univ) := by
  unfold d6X d6C; pointwise

/-- The sums tile 6 of the diagonal adds, at an index. -/
theorem d6V_apply (m : FVec Ideal S1x512 .f32) (s : FVec Ideal S256x512 .f32) (vb : Vec Ideal S1x128x256 .bf16) (e : Fin 144) (j : Fin 512) :
    d6V (d6P m s) vb (ix2 e j) = ∑ r : Fin 256, ones256 vb (ix2 e r) * Ideal.exp2 (s (ix2 r j) - m (ix2 0 j)) := by
  unfold d6V d6P; pointwise; rfl

/-- The running maxima after tile 6 of the diagonal. -/
theorem d6M_apply (j : Fin 2048) :
    d6M q kb m (ix2 0 j) = if h : j.val < 1536 then m (ix2 0 j) else d6X q kb m (ix2 0 ⟨j.val - 1536, by omega⟩) := by
  unfold d6M; pointwise

/-- The sums after tile 6 of the diagonal, at unchanged references. -/
theorem d6L_apply (e : Fin 144) (j : Fin 2048) :
    d6L q kb vb m a (ix2 e j) = if h : j.val < 1536 then a (ix2 e j) else a (ix2 e j) + ∑ r : Fin 256, ones256 vb (ix2 e r) * Ideal.exp2 (d6S q kb (ix2 r ⟨j.val - 1536, by omega⟩) - m (ix2 0 j)) := by
  unfold d6L; pointwise
  by_cases h : j.val < 1536
  · rw [dif_pos h, dif_pos h]
  · rw [dif_neg h, dif_neg h, d6V_apply]
    pointwise
    rw [place_back h]

/-- The sums after tile 6 of the diagonal, at the references after it. -/
theorem d6N_apply (e : Fin 144) (j : Fin 2048) :
    d6N q kb vb m a (ix2 e j) = if h : j.val < 1536 then a (ix2 e j) else Ideal.exp2 (m (ix2 0 j) - d6X q kb m (ix2 0 ⟨j.val - 1536, by omega⟩)) * a (ix2 e j) +
      ∑ r : Fin 256, ones256 vb (ix2 e r) * Ideal.exp2 (d6S q kb (ix2 r ⟨j.val - 1536, by omega⟩) - d6X q kb m (ix2 0 ⟨j.val - 1536, by omega⟩)) := by
  unfold d6N; pointwise
  by_cases h : j.val < 1536
  · rw [dif_pos h, dif_pos h]
  · rw [dif_neg h, dif_neg h, d6V_apply]
    pointwise
    rw [place_back h]; rfl

/-- The references of the lanes after tile 6 of the diagonal are real. -/
theorem d6M_real
    (hq : ∀ d j, q (ix2 d j) = (Q j d : EReal)) (hk : ∀ r d, kb (ix3 0 r d) = (K (L + 1536 + r.val) d : EReal)) (hm : Reals m) : Reals (d6M q kb m) :=
  edge_real rfl (d6S_apply q kb) (d6X_apply q kb m) (d6M_apply q kb m) hq hk hm

/-- Tile 6 of the diagonal, at unchanged references. -/
theorem d6L_lanes
    (hq : ∀ d j, q (ix2 d j) = (Q j d : EReal)) (hk : ∀ r d, kb (ix3 0 r d) = (K (L + 1536 + r.val) d : EReal))
    (hv : ∀ e r, ones256 vb (ix2 e r) = (V e (L + 1536 + r.val) : EReal)) (H : Lanes K Q V L (L + 1536) m a) : Lanes K Q V L (L + 1536 + 256) m (d6L q kb vb m a) :=
  edge_lanes rfl (d6S_apply q kb) (d6L_apply q kb vb m a) hq hk hv H

/-- Tile 6 of the diagonal, at the references after it. -/
theorem d6N_lanes
    (hq : ∀ d j, q (ix2 d j) = (Q j d : EReal)) (hk : ∀ r d, kb (ix3 0 r d) = (K (L + 1536 + r.val) d : EReal))
    (hv : ∀ e r, ones256 vb (ix2 e r) = (V e (L + 1536 + r.val) : EReal)) (H : Lanes K Q V L (L + 1536) m a) : Lanes K Q V L (L + 1536 + 256) (d6M q kb m) (d6N q kb vb m a) :=
  edge_next rfl (d6S_apply q kb) (d6X_apply q kb m) (d6M_apply q kb m) (d6N_apply q kb vb m a) hq hk hv H

/-- The masked scores of tile 7 of the diagonal. -/
theorem d7S_apply (r : Fin 256) (j : Fin 256) :
    d7S q kb (ix2 r j) = if r.val ≤ j.val then ∑ d : Fin 128, kb (ix3 0 r d) * q (ix2 d ⟨1792 + j.val, by omega⟩) else ⊥ := by
  unfold d7S; pointwise
  exact select_sle _ _ (by omega) (by omega) _ _

/-- The maxima of tile 7 of the diagonal. -/
theorem d7X_apply (j : Fin 256) :
    d7X q kb m (ix2 0 j) = max (m (ix2 0 ⟨1792 + j.val, by omega⟩)) (Finset.fold max (Ideal.ofBits FTy.f32 4286578688#32) (fun r => d7S q kb (ix2 r j)) Finset.univ) := by
  unfold d7X d7C; pointwise

/-- The sums tile 7 of the diagonal adds, at an index. -/
theorem d7V_apply (m : FVec Ideal S1x256 .f32) (s : FVec Ideal S256x256 .f32) (vb : Vec Ideal S1x128x256 .bf16) (e : Fin 144) (j : Fin 256) :
    d7V (d7P m s) vb (ix2 e j) = ∑ r : Fin 256, ones256 vb (ix2 e r) * Ideal.exp2 (s (ix2 r j) - m (ix2 0 j)) := by
  unfold d7V d7P; pointwise; rfl

/-- The running maxima after tile 7 of the diagonal. -/
theorem d7M_apply (j : Fin 2048) :
    d7M q kb m (ix2 0 j) = if h : j.val < 1792 then m (ix2 0 j) else d7X q kb m (ix2 0 ⟨j.val - 1792, by omega⟩) := by
  unfold d7M; pointwise

/-- The sums after tile 7 of the diagonal, at unchanged references. -/
theorem d7L_apply (e : Fin 144) (j : Fin 2048) :
    d7L q kb vb m a (ix2 e j) = if h : j.val < 1792 then a (ix2 e j) else a (ix2 e j) + ∑ r : Fin 256, ones256 vb (ix2 e r) * Ideal.exp2 (d7S q kb (ix2 r ⟨j.val - 1792, by omega⟩) - m (ix2 0 j)) := by
  unfold d7L; pointwise
  by_cases h : j.val < 1792
  · rw [dif_pos h, dif_pos h]
  · rw [dif_neg h, dif_neg h, d7V_apply]
    pointwise
    rw [place_back h]

/-- The sums after tile 7 of the diagonal, at the references after it. -/
theorem d7N_apply (e : Fin 144) (j : Fin 2048) :
    d7N q kb vb m a (ix2 e j) = if h : j.val < 1792 then a (ix2 e j) else Ideal.exp2 (m (ix2 0 j) - d7X q kb m (ix2 0 ⟨j.val - 1792, by omega⟩)) * a (ix2 e j) +
      ∑ r : Fin 256, ones256 vb (ix2 e r) * Ideal.exp2 (d7S q kb (ix2 r ⟨j.val - 1792, by omega⟩) - d7X q kb m (ix2 0 ⟨j.val - 1792, by omega⟩)) := by
  unfold d7N; pointwise
  by_cases h : j.val < 1792
  · rw [dif_pos h, dif_pos h]
  · rw [dif_neg h, dif_neg h, d7V_apply]
    pointwise
    rw [place_back h]; rfl

/-- The references of the lanes after tile 7 of the diagonal are real. -/
theorem d7M_real
    (hq : ∀ d j, q (ix2 d j) = (Q j d : EReal)) (hk : ∀ r d, kb (ix3 0 r d) = (K (L + 1792 + r.val) d : EReal)) (hm : Reals m) : Reals (d7M q kb m) :=
  edge_real rfl (d7S_apply q kb) (d7X_apply q kb m) (d7M_apply q kb m) hq hk hm

/-- Tile 7 of the diagonal, at unchanged references. -/
theorem d7L_lanes
    (hq : ∀ d j, q (ix2 d j) = (Q j d : EReal)) (hk : ∀ r d, kb (ix3 0 r d) = (K (L + 1792 + r.val) d : EReal))
    (hv : ∀ e r, ones256 vb (ix2 e r) = (V e (L + 1792 + r.val) : EReal)) (H : Lanes K Q V L (L + 1792) m a) : Lanes K Q V L (L + 1792 + 256) m (d7L q kb vb m a) :=
  edge_lanes rfl (d7S_apply q kb) (d7L_apply q kb vb m a) hq hk hv H

/-- Tile 7 of the diagonal, at the references after it. -/
theorem d7N_lanes
    (hq : ∀ d j, q (ix2 d j) = (Q j d : EReal)) (hk : ∀ r d, kb (ix3 0 r d) = (K (L + 1792 + r.val) d : EReal))
    (hv : ∀ e r, ones256 vb (ix2 e r) = (V e (L + 1792 + r.val) : EReal)) (H : Lanes K Q V L (L + 1792) m a) : Lanes K Q V L (L + 1792 + 256) (d7M q kb m) (d7N q kb vb m a) :=
  edge_next rfl (d7S_apply q kb) (d7X_apply q kb m) (d7M_apply q kb m) (d7N_apply q kb vb m a) hq hk hv H

end Cert.KernelIdeal.Body

end
-- ==== Proof.AttnLoops.lean ====
/- The sums that the attention body forms over the keys, lane by lane. -/
module

public import proofs.«01_k».proof.Proof.AttnStep
public import proofs.«01_k».proof.Proof.Ret

@[expose] public section

set_option maxRecDepth 16384

noncomputable section

namespace Cert.KernelIdeal.Body

open Idealize.ShloMosaic Cert.KernelIdeal Cert.KernelIdeal.Gen Cert.AttnMath

/-- Loop 1 runs once for each tile of queries before. -/
theorem trips1_eq : ∀ i : grid0.Coords, (k0_t1_loop i).trips = (i 2).val := by decide +kernel

/-- Loop 3 runs once for each tile of queries before. -/
theorem trips3_eq : ∀ i : grid0.Coords, (k0_t3_loop i).trips = (i 2).val := by decide +kernel

/-- A load of 512 keys reads them. -/
theorem ldK512 (X : Vec Ideal S1x8192x128 .bf16) (off : Fin 3 → ℕ) (inb : ∀ a, off a + S1x512x128.size a ≤ S1x8192x128.size a) (b : ℕ) (h : off = ![0, b, 0])
    (r : Fin 512) (d : Fin 128) (n : Fin 8192) (hn : n.val = b + r.val) :
    View.ld X (Rect.unit (s := S1x8192x128) off S1x512x128.size inb) (ix3 0 r d) = X (ix3 0 n d) := by
  subst h
  refine congrArg X (funext fun a => Fin.ext ?_)
  match a with
  | 0 => rfl
  | 1 => show b + 1 * r.val = n.val; omega
  | 2 => show 0 + 1 * d.val = d.val; omega

/-- A load of the values of 512 keys reads them. -/
theorem ldV512 (X : Vec Ideal S1x128x8192 .bf16) (off : Fin 3 → ℕ) (inb : ∀ a, off a + S1x128x512.size a ≤ S1x128x8192.size a) (b : ℕ) (h : off = ![0, 0, b])
    (d : Fin 128) (r : Fin 512) (n : Fin 8192) (hn : n.val = b + r.val) :
    View.ld X (Rect.unit (s := S1x128x8192) off S1x128x512.size inb) (ix3 0 d r) = X (ix3 0 d n) := by
  subst h
  refine congrArg X (funext fun a => Fin.ext ?_)
  match a with
  | 0 => rfl
  | 1 => show 0 + 1 * d.val = d.val; omega
  | 2 => show b + 1 * r.val = n.val; omega

/-- The values over the ones, at an index. -/
theorem ones512_apply (vb : Vec Ideal S1x128x512 .bf16) (e : Fin 144) (r : Fin 512) :
    ones512 vb (ix2 e r) = if h : e.val < 128 then vb (ix3 0 ⟨e.val, h⟩ r) else 1 := by
  unfold ones512; pointwise

/-- A load of 256 keys reads them. -/
theorem ldK256 (X : Vec Ideal S1x8192x128 .bf16) (off : Fin 3 → ℕ) (inb : ∀ a, off a + S1x256x128.size a ≤ S1x8192x128.size a) (b : ℕ) (h : off = ![0, b, 0])
    (r : Fin 256) (d : Fin 128) (n : Fin 8192) (hn : n.val = b + r.val) :
    View.ld X (Rect.unit (s := S1x8192x128) off S1x256x128.size inb) (ix3 0 r d) = X (ix3 0 n d) := by
  subst h
  refine congrArg X (funext fun a => Fin.ext ?_)
  match a with
  | 0 => rfl
  | 1 => show b + 1 * r.val = n.val; omega
  | 2 => show 0 + 1 * d.val = d.val; omega

/-- A load of the values of 256 keys reads them. -/
theorem ldV256 (X : Vec Ideal S1x128x8192 .bf16) (off : Fin 3 → ℕ) (inb : ∀ a, off a + S1x128x256.size a ≤ S1x128x8192.size a) (b : ℕ) (h : off = ![0, 0, b])
    (d : Fin 128) (r : Fin 256) (n : Fin 8192) (hn : n.val = b + r.val) :
    View.ld X (Rect.unit (s := S1x128x8192) off S1x128x256.size inb) (ix3 0 d r) = X (ix3 0 d n) := by
  subst h
  refine congrArg X (funext fun a => Fin.ext ?_)
  match a with
  | 0 => rfl
  | 1 => show 0 + 1 * d.val = d.val; omega
  | 2 => show b + 1 * r.val = n.val; omega

/-- The values over the ones, at an index. -/
theorem ones256_apply (vb : Vec Ideal S1x128x256 .bf16) (e : Fin 144) (r : Fin 256) :
    ones256 vb (ix2 e r) = if h : e.val < 128 then vb (ix3 0 ⟨e.val, h⟩ r) else 1 := by
  unfold ones256; pointwise

/-- What a block of keys, values and masked queries holds, in reals. -/
structure Holds (X : Blocks Ideal) (K : ℕ → Fin 128 → ℝ) (Q : Fin 2 → Fin 2048 → Fin 128 → ℝ) (V : Fin 144 → ℕ → ℝ) : Prop where
  k : ∀ (n : Fin 8192) d, X.x4 (ix3 0 n d) = (K n.val d : EReal)
  v : ∀ (e : Fin 128) (n : Fin 8192), X.x5 (ix3 0 e n) = (V ⟨e.val, by omega⟩ n.val : EReal)
  o : ∀ (e : Fin 144) n, 128 ≤ e.val → V e n = 1
  q0 : ∀ d j, q0 X (ix2 d j) = (Q 0 j d : EReal)
  q1 : ∀ d j, q1 X (ix2 d j) = (Q 1 j d : EReal)

variable {X : Blocks Ideal} {K : ℕ → Fin 128 → ℝ} {Q : Fin 2 → Fin 2048 → Fin 128 → ℝ} {V : Fin 144 → ℕ → ℝ}

/-- Where the keys of a tile start. -/
theorem off1_eq : ∀ (i : grid0.Coords) (t : Fin (k0_t1_loop i).trips) (u : Fin 4), k0_off1 i t (BitVec.ofNat 32 (512 * u.val)) = ![0, 2048 * t.val + 512 * u.val, 0] := by decide +kernel

/-- Where the values of a tile start. -/
theorem off2_eq : ∀ (i : grid0.Coords) (t : Fin (k0_t1_loop i).trips) (u : Fin 4), k0_off2 i t (BitVec.ofNat 32 (512 * u.val)) = ![0, 0, 2048 * t.val + 512 * u.val] := by decide +kernel

/-- The keys of a tile, in reals. -/
theorem kw1_holds (H : Holds X K Q V) (i : grid0.Coords) (t : Fin (k0_t1_loop i).trips) (u : Fin 4) (r : Fin 512) (d : Fin 128) :
    kw1 i X t u (ix3 0 r d) = (K (2048 * t.val + 512 * u.val + r.val) d : EReal) :=
  (ldK512 X.x4 _ _ _ (off1_eq i t u) r d ⟨2048 * t.val + 512 * u.val + r.val, (by have h1 := t.isLt; have h2 : (k0_t1_loop i).trips = (i 2).val := trips1_eq i; have h3 : (i 2).val < 4 := (i 2).isLt; have := r.isLt; have := u.isLt; omega)⟩ rfl).trans (H.k _ d)

/-- The values of a tile, in reals. -/
theorem vw1_holds (H : Holds X K Q V) (i : grid0.Coords) (t : Fin (k0_t1_loop i).trips) (u : Fin 4) (e : Fin 144) (r : Fin 512) :
    ones512 (vw1 i X t u) (ix2 e r) = (V e (2048 * t.val + 512 * u.val + r.val) : EReal) := by
  rw [ones512_apply]
  split_ifs with h
  · exact (ldV512 X.x5 _ _ _ (off2_eq i t u) ⟨e.val, h⟩ r ⟨2048 * t.val + 512 * u.val + r.val, (by have h1 := t.isLt; have h2 : (k0_t1_loop i).trips = (i 2).val := trips1_eq i; have h3 : (i 2).val < 4 := (i 2).isLt; have := r.isLt; have := u.isLt; omega)⟩ rfl).trans (H.v ⟨e.val, h⟩ _)
  · rw [H.o e _ (by omega)]; rfl

/-- Where the keys of a tile start. -/
theorem off7_eq : ∀ (i : grid0.Coords) (t : Fin (k0_t3_loop i).trips) (u : Fin 4), k0_off7 i t (BitVec.ofNat 32 (512 * u.val)) = ![0, 2048 * t.val + 512 * u.val, 0] := by decide +kernel

/-- Where the values of a tile start. -/
theorem off8_eq : ∀ (i : grid0.Coords) (t : Fin (k0_t3_loop i).trips) (u : Fin 4), k0_off8 i t (BitVec.ofNat 32 (512 * u.val)) = ![0, 0, 2048 * t.val + 512 * u.val] := by decide +kernel

/-- The keys of a tile, in reals. -/
theorem kw3_holds (H : Holds X K Q V) (i : grid0.Coords) (t : Fin (k0_t3_loop i).trips) (u : Fin 4) (r : Fin 512) (d : Fin 128) :
    kw3 i X t u (ix3 0 r d) = (K (2048 * t.val + 512 * u.val + r.val) d : EReal) :=
  (ldK512 X.x4 _ _ _ (off7_eq i t u) r d ⟨2048 * t.val + 512 * u.val + r.val, (by have h1 := t.isLt; have h2 : (k0_t3_loop i).trips = (i 2).val := trips3_eq i; have h3 : (i 2).val < 4 := (i 2).isLt; have := r.isLt; have := u.isLt; omega)⟩ rfl).trans (H.k _ d)

/-- The values of a tile, in reals. -/
theorem vw3_holds (H : Holds X K Q V) (i : grid0.Coords) (t : Fin (k0_t3_loop i).trips) (u : Fin 4) (e : Fin 144) (r : Fin 512) :
    ones512 (vw3 i X t u) (ix2 e r) = (V e (2048 * t.val + 512 * u.val + r.val) : EReal) := by
  rw [ones512_apply]
  split_ifs with h
  · exact (ldV512 X.x5 _ _ _ (off8_eq i t u) ⟨e.val, h⟩ r ⟨2048 * t.val + 512 * u.val + r.val, (by have h1 := t.isLt; have h2 : (k0_t3_loop i).trips = (i 2).val := trips3_eq i; have h3 : (i 2).val < 4 := (i 2).isLt; have := r.isLt; have := u.isLt; omega)⟩ rfl).trans (H.v ⟨e.val, h⟩ _)
  · rw [H.o e _ (by omega)]; rfl

/-- Where the keys of a tile start. -/
theorem off5_eq : ∀ (i : grid0.Coords) (u : Fin 8), k0_off5 i (BitVec.ofNat 32 (256 * u.val)) = ![0, 2048 * (i 2).val + 256 * u.val, 0] := by decide +kernel

/-- Where the values of a tile start. -/
theorem off6_eq : ∀ (i : grid0.Coords) (u : Fin 8), k0_off6 i (BitVec.ofNat 32 (256 * u.val)) = ![0, 0, 2048 * (i 2).val + 256 * u.val] := by decide +kernel

/-- The keys of a tile, in reals. -/
theorem kd1_holds (H : Holds X K Q V) (i : grid0.Coords) (u : Fin 8) (r : Fin 256) (d : Fin 128) :
    kd1 i X u (ix3 0 r d) = (K (2048 * (i 2).val + 256 * u.val + r.val) d : EReal) :=
  (ldK256 X.x4 _ _ _ (off5_eq i u) r d ⟨2048 * (i 2).val + 256 * u.val + r.val, (by have h3 : (i 2).val < 4 := (i 2).isLt; have := r.isLt; have := u.isLt; omega)⟩ rfl).trans (H.k _ d)

/-- The values of a tile, in reals. -/
theorem vd1_holds (H : Holds X K Q V) (i : grid0.Coords) (u : Fin 8) (e : Fin 144) (r : Fin 256) :
    ones256 (vd1 i X u) (ix2 e r) = (V e (2048 * (i 2).val + 256 * u.val + r.val) : EReal) := by
  rw [ones256_apply]
  split_ifs with h
  · exact (ldV256 X.x5 _ _ _ (off6_eq i u) ⟨e.val, h⟩ r ⟨2048 * (i 2).val + 256 * u.val + r.val, (by have h3 : (i 2).val < 4 := (i 2).isLt; have := r.isLt; have := u.isLt; omega)⟩ rfl).trans (H.v ⟨e.val, h⟩ _)
  · rw [H.o e _ (by omega)]; rfl

/-- Where the keys of a tile start. -/
theorem off11_eq : ∀ (i : grid0.Coords) (u : Fin 8), k0_off11 i (BitVec.ofNat 32 (256 * u.val)) = ![0, 2048 * (i 2).val + 256 * u.val, 0] := by decide +kernel

/-- Where the values of a tile start. -/
theorem off12_eq : ∀ (i : grid0.Coords) (u : Fin 8), k0_off12 i (BitVec.ofNat 32 (256 * u.val)) = ![0, 0, 2048 * (i 2).val + 256 * u.val] := by decide +kernel

/-- The keys of a tile, in reals. -/
theorem kd3_holds (H : Holds X K Q V) (i : grid0.Coords) (u : Fin 8) (r : Fin 256) (d : Fin 128) :
    kd3 i X u (ix3 0 r d) = (K (2048 * (i 2).val + 256 * u.val + r.val) d : EReal) :=
  (ldK256 X.x4 _ _ _ (off11_eq i u) r d ⟨2048 * (i 2).val + 256 * u.val + r.val, (by have h3 : (i 2).val < 4 := (i 2).isLt; have := r.isLt; have := u.isLt; omega)⟩ rfl).trans (H.k _ d)

/-- The values of a tile, in reals. -/
theorem vd3_holds (H : Holds X K Q V) (i : grid0.Coords) (u : Fin 8) (e : Fin 144) (r : Fin 256) :
    ones256 (vd3 i X u) (ix2 e r) = (V e (2048 * (i 2).val + 256 * u.val + r.val) : EReal) := by
  rw [ones256_apply]
  split_ifs with h
  · exact (ldV256 X.x5 _ _ _ (off12_eq i u) ⟨e.val, h⟩ r ⟨2048 * (i 2).val + 256 * u.val + r.val, (by have h3 : (i 2).val < 4 := (i 2).isLt; have := r.isLt; have := u.isLt; omega)⟩ rfl).trans (H.v ⟨e.val, h⟩ _)
  · rw [H.o e _ (by omega)]; rfl

/-- The first eight keys. -/
theorem k8_holds (H : Holds X K Q V) (d : Fin 128) : k8 X (ix3 0 0 d) = (K 0 d : EReal) := by
  refine Eq.trans ?_ (H.k 0 d)
  refine congrArg X.x4 (funext fun a => Fin.ext ?_)
  match a with
  | 0 => rfl
  | 1 => rfl
  | 2 => show 0 + 1 * d.val = d.val; omega

/-- The first references are real. -/
theorem first_real {q : FVec Ideal S128x2048 .bf16} {Q' : Fin 2048 → Fin 128 → ℝ} (H : Holds X K Q V) (hq : ∀ d j, q (ix2 d j) = (Q' j d : EReal)) : Reals (first q (k8 X)) := fun j => by
  rw [first_apply, dot_real _ _ (K 0) (Q' j) (fun d => k8_holds H d) (fun d => hq d j)]
  exact ⟨_, rfl⟩

/-- The lanes before the first key. -/
theorem init_lanes {q : FVec Ideal S128x2048 .bf16} {Q' : Fin 2048 → Fin 128 → ℝ} (H : Holds X K Q V) (hq : ∀ d j, q (ix2 d j) = (Q' j d : EReal)) (L : ℕ) :
    Lanes K Q' V L 0 (first q (k8 X)) (broadcast S144x2048 (Scalar.ofBits .f32 0x00000000#32)) := fun j => by
  refine (congrArg (Lane (sc K Q' j) V (L + j.val) 0 (first q (k8 X) (ix2 0 j))) (funext fun e => ?_)).mpr
    (lane_zero _ _ _ _ (first_real H hq j))
  pointwise

/-- The references after four tiles are real. -/
theorem wM4_real {q : FVec Ideal S128x2048 .bf16} {Q' : Fin 2048 → Fin 128 → ℝ} (k0 k1 k2 k3 : Vec Ideal S1x512x128 .bf16) (m : FVec Ideal S1x2048 .f32) (n : ℕ) (hq : ∀ d j, q (ix2 d j) = (Q' j d : EReal)) (hk0 : ∀ r d, k0 (ix3 0 r d) = (K (n + 512 * 0 + r.val) d : EReal)) (hk1 : ∀ r d, k1 (ix3 0 r d) = (K (n + 512 * 1 + r.val) d : EReal)) (hk2 : ∀ r d, k2 (ix3 0 r d) = (K (n + 512 * 2 + r.val) d : EReal)) (hk3 : ∀ r d, k3 (ix3 0 r d) = (K (n + 512 * 3 + r.val) d : EReal)) (hm : Reals m) : Reals (wM4 q k0 k1 k2 k3 m) :=
  (wM_real (n := n + 512 * 3) q k3 _ hq hk3 (wM_real (n := n + 512 * 2) q k2 _ hq hk2 (wM_real (n := n + 512 * 1) q k1 _ hq hk1 (wM_real (n := n + 512 * 0) q k0 _ hq hk0 hm))))

/-- Four visible tiles, at unchanged references. -/
theorem wL4_lanes {q : FVec Ideal S128x2048 .bf16} {Q' : Fin 2048 → Fin 128 → ℝ} (k0 k1 k2 k3 : Vec Ideal S1x512x128 .bf16) (v0 v1 v2 v3 : Vec Ideal S1x128x512 .bf16) (m : FVec Ideal S1x2048 .f32) (a : FVec Ideal S144x2048 .f32) (L n : ℕ) (hq : ∀ d j, q (ix2 d j) = (Q' j d : EReal)) (hk0 : ∀ r d, k0 (ix3 0 r d) = (K (n + 512 * 0 + r.val) d : EReal)) (hk1 : ∀ r d, k1 (ix3 0 r d) = (K (n + 512 * 1 + r.val) d : EReal)) (hk2 : ∀ r d, k2 (ix3 0 r d) = (K (n + 512 * 2 + r.val) d : EReal)) (hk3 : ∀ r d, k3 (ix3 0 r d) = (K (n + 512 * 3 + r.val) d : EReal)) (hv0 : ∀ e r, ones512 v0 (ix2 e r) = (V e (n + 512 * 0 + r.val) : EReal)) (hv1 : ∀ e r, ones512 v1 (ix2 e r) = (V e (n + 512 * 1 + r.val) : EReal)) (hv2 : ∀ e r, ones512 v2 (ix2 e r) = (V e (n + 512 * 2 + r.val) : EReal)) (hv3 : ∀ e r, ones512 v3 (ix2 e r) = (V e (n + 512 * 3 + r.val) : EReal)) (hn : n + 2048 ≤ L)
    (H : Lanes K Q' V L n m a) : Lanes K Q' V L (n + 2048) m (wL4 q k0 k1 k2 k3 v0 v1 v2 v3 m a) := by
  have h0 := wL_lanes (n := n + 512 * 0) q k0 v0 m a hq hk0 hv0 (by omega) H
  have h1 := wL_lanes (n := n + 512 * 1) q k1 v1 m _ hq hk1 hv1 (by omega) h0
  have h2 := wL_lanes (n := n + 512 * 2) q k2 v2 m _ hq hk2 hv2 (by omega) h1
  exact wL_lanes (n := n + 512 * 3) q k3 v3 m _ hq hk3 hv3 (by omega) h2

/-- Four visible tiles, at running references. -/
theorem wN4_lanes {q : FVec Ideal S128x2048 .bf16} {Q' : Fin 2048 → Fin 128 → ℝ} (k0 k1 k2 k3 : Vec Ideal S1x512x128 .bf16) (v0 v1 v2 v3 : Vec Ideal S1x128x512 .bf16) (m : FVec Ideal S1x2048 .f32) (a : FVec Ideal S144x2048 .f32) (L n : ℕ) (hq : ∀ d j, q (ix2 d j) = (Q' j d : EReal)) (hk0 : ∀ r d, k0 (ix3 0 r d) = (K (n + 512 * 0 + r.val) d : EReal)) (hk1 : ∀ r d, k1 (ix3 0 r d) = (K (n + 512 * 1 + r.val) d : EReal)) (hk2 : ∀ r d, k2 (ix3 0 r d) = (K (n + 512 * 2 + r.val) d : EReal)) (hk3 : ∀ r d, k3 (ix3 0 r d) = (K (n + 512 * 3 + r.val) d : EReal)) (hv0 : ∀ e r, ones512 v0 (ix2 e r) = (V e (n + 512 * 0 + r.val) : EReal)) (hv1 : ∀ e r, ones512 v1 (ix2 e r) = (V e (n + 512 * 1 + r.val) : EReal)) (hv2 : ∀ e r, ones512 v2 (ix2 e r) = (V e (n + 512 * 2 + r.val) : EReal)) (hv3 : ∀ e r, ones512 v3 (ix2 e r) = (V e (n + 512 * 3 + r.val) : EReal)) (hn : n + 2048 ≤ L)
    (H : Lanes K Q' V L n m a) : Lanes K Q' V L (n + 2048) (wM4 q k0 k1 k2 k3 m) (wN4 q k0 k1 k2 k3 v0 v1 v2 v3 m a) := by
  have h0 := wN_lanes (n := n + 512 * 0) q k0 v0 m a hq hk0 hv0 (by omega) H
  have h1 := wN_lanes (n := n + 512 * 1) q k1 v1 _ _ hq hk1 hv1 (by omega) h0
  have h2 := wN_lanes (n := n + 512 * 2) q k2 v2 _ _ hq hk2 hv2 (by omega) h1
  exact wN_lanes (n := n + 512 * 3) q k3 v3 _ _ hq hk3 hv3 (by omega) h2

/-- The references after the diagonal are real. -/
theorem dM8_real {q : FVec Ideal S128x2048 .bf16} {Q' : Fin 2048 → Fin 128 → ℝ} (k0 k1 k2 k3 k4 k5 k6 k7 : Vec Ideal S1x256x128 .bf16) (m : FVec Ideal S1x2048 .f32) (L : ℕ) (hq : ∀ d j, q (ix2 d j) = (Q' j d : EReal)) (hk0 : ∀ r d, k0 (ix3 0 r d) = (K (L + 0 + r.val) d : EReal)) (hk1 : ∀ r d, k1 (ix3 0 r d) = (K (L + 256 + r.val) d : EReal)) (hk2 : ∀ r d, k2 (ix3 0 r d) = (K (L + 512 + r.val) d : EReal)) (hk3 : ∀ r d, k3 (ix3 0 r d) = (K (L + 768 + r.val) d : EReal)) (hk4 : ∀ r d, k4 (ix3 0 r d) = (K (L + 1024 + r.val) d : EReal)) (hk5 : ∀ r d, k5 (ix3 0 r d) = (K (L + 1280 + r.val) d : EReal)) (hk6 : ∀ r d, k6 (ix3 0 r d) = (K (L + 1536 + r.val) d : EReal)) (hk7 : ∀ r d, k7 (ix3 0 r d) = (K (L + 1792 + r.val) d : EReal)) (hm : Reals m) : Reals (dM8 q k0 k1 k2 k3 k4 k5 k6 k7 m) :=
  (d7M_real (L := L) q k7 _ hq hk7 (d6M_real (L := L) q k6 _ hq hk6 (d5M_real (L := L) q k5 _ hq hk5 (d4M_real (L := L) q k4 _ hq hk4 (d3M_real (L := L) q k3 _ hq hk3 (d2M_real (L := L) q k2 _ hq hk2 (d1M_real (L := L) q k1 _ hq hk1 (d0M_real (L := L) q k0 _ hq hk0 hm))))))))

/-- The diagonal, at unchanged references. -/
theorem dL8_lanes {q : FVec Ideal S128x2048 .bf16} {Q' : Fin 2048 → Fin 128 → ℝ} (k0 k1 k2 k3 k4 k5 k6 k7 : Vec Ideal S1x256x128 .bf16) (v0 v1 v2 v3 v4 v5 v6 v7 : Vec Ideal S1x128x256 .bf16) (m : FVec Ideal S1x2048 .f32) (a : FVec Ideal S144x2048 .f32) (L : ℕ) (hq : ∀ d j, q (ix2 d j) = (Q' j d : EReal)) (hk0 : ∀ r d, k0 (ix3 0 r d) = (K (L + 0 + r.val) d : EReal)) (hk1 : ∀ r d, k1 (ix3 0 r d) = (K (L + 256 + r.val) d : EReal)) (hk2 : ∀ r d, k2 (ix3 0 r d) = (K (L + 512 + r.val) d : EReal)) (hk3 : ∀ r d, k3 (ix3 0 r d) = (K (L + 768 + r.val) d : EReal)) (hk4 : ∀ r d, k4 (ix3 0 r d) = (K (L + 1024 + r.val) d : EReal)) (hk5 : ∀ r d, k5 (ix3 0 r d) = (K (L + 1280 + r.val) d : EReal)) (hk6 : ∀ r d, k6 (ix3 0 r d) = (K (L + 1536 + r.val) d : EReal)) (hk7 : ∀ r d, k7 (ix3 0 r d) = (K (L + 1792 + r.val) d : EReal)) (hv0 : ∀ e r, ones256 v0 (ix2 e r) = (V e (L + 0 + r.val) : EReal)) (hv1 : ∀ e r, ones256 v1 (ix2 e r) = (V e (L + 256 + r.val) : EReal)) (hv2 : ∀ e r, ones256 v2 (ix2 e r) = (V e (L + 512 + r.val) : EReal)) (hv3 : ∀ e r, ones256 v3 (ix2 e r) = (V e (L + 768 + r.val) : EReal)) (hv4 : ∀ e r, ones256 v4 (ix2 e r) = (V e (L + 1024 + r.val) : EReal)) (hv5 : ∀ e r, ones256 v5 (ix2 e r) = (V e (L + 1280 + r.val) : EReal)) (hv6 : ∀ e r, ones256 v6 (ix2 e r) = (V e (L + 1536 + r.val) : EReal)) (hv7 : ∀ e r, ones256 v7 (ix2 e r) = (V e (L + 1792 + r.val) : EReal))
    (H : Lanes K Q' V L L m a) : Lanes K Q' V L (L + 2048) m (dL8 q k0 k1 k2 k3 k4 k5 k6 k7 v0 v1 v2 v3 v4 v5 v6 v7 m a) := by
  have h0 := d0L_lanes (L := L) q k0 v0 m a hq hk0 hv0 H
  have h1 := d1L_lanes (L := L) q k1 v1 m _ hq hk1 hv1 h0
  have h2 := d2L_lanes (L := L) q k2 v2 m _ hq hk2 hv2 h1
  have h3 := d3L_lanes (L := L) q k3 v3 m _ hq hk3 hv3 h2
  have h4 := d4L_lanes (L := L) q k4 v4 m _ hq hk4 hv4 h3
  have h5 := d5L_lanes (L := L) q k5 v5 m _ hq hk5 hv5 h4
  have h6 := d6L_lanes (L := L) q k6 v6 m _ hq hk6 hv6 h5
  have h7 := d7L_lanes (L := L) q k7 v7 m _ hq hk7 hv7 h6
  exact h7

/-- The diagonal, at running references. -/
theorem dN8_lanes {q : FVec Ideal S128x2048 .bf16} {Q' : Fin 2048 → Fin 128 → ℝ} (k0 k1 k2 k3 k4 k5 k6 k7 : Vec Ideal S1x256x128 .bf16) (v0 v1 v2 v3 v4 v5 v6 v7 : Vec Ideal S1x128x256 .bf16) (m : FVec Ideal S1x2048 .f32) (a : FVec Ideal S144x2048 .f32) (L : ℕ) (hq : ∀ d j, q (ix2 d j) = (Q' j d : EReal)) (hk0 : ∀ r d, k0 (ix3 0 r d) = (K (L + 0 + r.val) d : EReal)) (hk1 : ∀ r d, k1 (ix3 0 r d) = (K (L + 256 + r.val) d : EReal)) (hk2 : ∀ r d, k2 (ix3 0 r d) = (K (L + 512 + r.val) d : EReal)) (hk3 : ∀ r d, k3 (ix3 0 r d) = (K (L + 768 + r.val) d : EReal)) (hk4 : ∀ r d, k4 (ix3 0 r d) = (K (L + 1024 + r.val) d : EReal)) (hk5 : ∀ r d, k5 (ix3 0 r d) = (K (L + 1280 + r.val) d : EReal)) (hk6 : ∀ r d, k6 (ix3 0 r d) = (K (L + 1536 + r.val) d : EReal)) (hk7 : ∀ r d, k7 (ix3 0 r d) = (K (L + 1792 + r.val) d : EReal)) (hv0 : ∀ e r, ones256 v0 (ix2 e r) = (V e (L + 0 + r.val) : EReal)) (hv1 : ∀ e r, ones256 v1 (ix2 e r) = (V e (L + 256 + r.val) : EReal)) (hv2 : ∀ e r, ones256 v2 (ix2 e r) = (V e (L + 512 + r.val) : EReal)) (hv3 : ∀ e r, ones256 v3 (ix2 e r) = (V e (L + 768 + r.val) : EReal)) (hv4 : ∀ e r, ones256 v4 (ix2 e r) = (V e (L + 1024 + r.val) : EReal)) (hv5 : ∀ e r, ones256 v5 (ix2 e r) = (V e (L + 1280 + r.val) : EReal)) (hv6 : ∀ e r, ones256 v6 (ix2 e r) = (V e (L + 1536 + r.val) : EReal)) (hv7 : ∀ e r, ones256 v7 (ix2 e r) = (V e (L + 1792 + r.val) : EReal))
    (H : Lanes K Q' V L L m a) : Lanes K Q' V L (L + 2048) (dM8 q k0 k1 k2 k3 k4 k5 k6 k7 m) (dN8 q k0 k1 k2 k3 k4 k5 k6 k7 v0 v1 v2 v3 v4 v5 v6 v7 m a) := by
  have h0 := d0N_lanes (L := L) q k0 v0 m a hq hk0 hv0 H
  have h1 := d1N_lanes (L := L) q k1 v1 _ _ hq hk1 hv1 h0
  have h2 := d2N_lanes (L := L) q k2 v2 _ _ hq hk2 hv2 h1
  have h3 := d3N_lanes (L := L) q k3 v3 _ _ hq hk3 hv3 h2
  have h4 := d4N_lanes (L := L) q k4 v4 _ _ hq hk4 hv4 h3
  have h5 := d5N_lanes (L := L) q k5 v5 _ _ hq hk5 hv5 h4
  have h6 := d6N_lanes (L := L) q k6 v6 _ _ hq hk6 hv6 h5
  have h7 := d7N_lanes (L := L) q k7 v7 _ _ hq hk7 hv7 h6
  exact h7

/-- The lanes after loop 1. -/
theorem loop1_lanes (H : Holds X K Q V) (i : grid0.Coords) :
    Lanes K (Q 0) V (2048 * (i 2).val) (2048 * (i 2).val) (loop1 i X).1 (loop1 i X).2.1 ∧
    Lanes K (Q 1) V (2048 * (i 2).val) (2048 * (i 2).val) (loop1 i X).2.2.1 (loop1 i X).2.2.2.1 := by
  have h := Cert.Attn.fold_inv (trip1 (F := Ideal) i X (BitVec.ofNat 32 (i 2).val) (q0 X) (q1 X) (first (q0 X) (k8 X)))
    (first (q0 X) (k8 X), broadcast S144x2048 (Scalar.ofBits .f32 0x00000000#32), first (q1 X) (k8 X), broadcast S144x2048 (Scalar.ofBits .f32 0x00000000#32), broadcast S1x2048 (Scalar.ofBits .f32 0x00000000#32))
    (fun n s => Lanes K (Q 0) V (2048 * (i 2).val) (2048 * n) s.1 s.2.1 ∧ Lanes K (Q 1) V (2048 * (i 2).val) (2048 * n) s.2.2.1 s.2.2.2.1)
    ⟨init_lanes H H.q0 _, init_lanes H H.q1 _⟩ (fun t s hs => by
      have ht : 2048 * t.val + 2048 ≤ 2048 * (i 2).val := by
        have h1 := t.isLt; have h2 : (k0_t1_loop i).trips = (i 2).val := trips1_eq i; omega
      rw [trip1_m0, trip1_a0, trip1_m1, trip1_a1, Nat.mul_succ]
      refine ⟨resc_lanes ?_ (wL4_lanes _ _ _ _ _ _ _ _ _ _ _ _ H.q0 (kw1_holds H i t 0) (kw1_holds H i t 1) (kw1_holds H i t 2) (kw1_holds H i t 3) (vw1_holds H i t 0) (vw1_holds H i t 1) (vw1_holds H i t 2) (vw1_holds H i t 3) ht hs.1), resc_lanes ?_ (wL4_lanes _ _ _ _ _ _ _ _ _ _ _ _ H.q1 (kw1_holds H i t 0) (kw1_holds H i t 1) (kw1_holds H i t 2) (kw1_holds H i t 3) (vw1_holds H i t 0) (vw1_holds H i t 1) (vw1_holds H i t 2) (vw1_holds H i t 3) ht hs.2)⟩
      · exact wM4_real _ _ _ _ _ _ H.q0 (kw1_holds H i t 0) (kw1_holds H i t 1) (kw1_holds H i t 2) (kw1_holds H i t 3) hs.1.reals
      · exact wM4_real _ _ _ _ _ _ H.q1 (kw1_holds H i t 0) (kw1_holds H i t 1) (kw1_holds H i t 2) (kw1_holds H i t 3) hs.2.reals)
  have h' : Lanes K (Q 0) V (2048 * (i 2).val) (2048 * (k0_t1_loop i).trips) (loop1 i X).1 (loop1 i X).2.1 ∧ Lanes K (Q 1) V (2048 * (i 2).val) (2048 * (k0_t1_loop i).trips) (loop1 i X).2.2.1 (loop1 i X).2.2.2.1 := h
  rw [trips1_eq i] at h'
  exact h'

/-- The lanes after loop 3. -/
theorem loop3_lanes (H : Holds X K Q V) (i : grid0.Coords) :
    Lanes K (Q 0) V (2048 * (i 2).val) (2048 * (i 2).val) (loop3 i X).1 (loop3 i X).2.1 ∧
    Lanes K (Q 1) V (2048 * (i 2).val) (2048 * (i 2).val) (loop3 i X).2.2.1 (loop3 i X).2.2.2 := by
  have h := Cert.Attn.fold_inv (trip3 (F := Ideal) i X (BitVec.ofNat 32 (i 2).val) (q0 X) (q1 X))
    (first (q0 X) (k8 X), broadcast S144x2048 (Scalar.ofBits .f32 0x00000000#32), first (q1 X) (k8 X), broadcast S144x2048 (Scalar.ofBits .f32 0x00000000#32))
    (fun n s => Lanes K (Q 0) V (2048 * (i 2).val) (2048 * n) s.1 s.2.1 ∧ Lanes K (Q 1) V (2048 * (i 2).val) (2048 * n) s.2.2.1 s.2.2.2)
    ⟨init_lanes H H.q0 _, init_lanes H H.q1 _⟩ (fun t s hs => by
      have ht : 2048 * t.val + 2048 ≤ 2048 * (i 2).val := by
        have h1 := t.isLt; have h2 : (k0_t3_loop i).trips = (i 2).val := trips3_eq i; omega
      rw [trip3_m0, trip3_a0, trip3_m1, trip3_a1, Nat.mul_succ]
      exact ⟨wN4_lanes _ _ _ _ _ _ _ _ _ _ _ _ H.q0 (kw3_holds H i t 0) (kw3_holds H i t 1) (kw3_holds H i t 2) (kw3_holds H i t 3) (vw3_holds H i t 0) (vw3_holds H i t 1) (vw3_holds H i t 2) (vw3_holds H i t 3) ht hs.1, wN4_lanes _ _ _ _ _ _ _ _ _ _ _ _ H.q1 (kw3_holds H i t 0) (kw3_holds H i t 1) (kw3_holds H i t 2) (kw3_holds H i t 3) (vw3_holds H i t 0) (vw3_holds H i t 1) (vw3_holds H i t 2) (vw3_holds H i t 3) ht hs.2⟩)
  have h' : Lanes K (Q 0) V (2048 * (i 2).val) (2048 * (k0_t3_loop i).trips) (loop3 i X).1 (loop3 i X).2.1 ∧ Lanes K (Q 1) V (2048 * (i 2).val) (2048 * (k0_t3_loop i).trips) (loop3 i X).2.2.1 (loop3 i X).2.2.2 := h
  rw [trips3_eq i] at h'
  exact h'

/-- What the two sums hold: at some references, the sums over all visible keys. -/
def Sums (K : ℕ → Fin 128 → ℝ) (Q : Fin 2 → Fin 2048 → Fin 128 → ℝ) (V : Fin 144 → ℕ → ℝ) (L : ℕ) (r : FVec Ideal S144x2048 .f32 × FVec Ideal S144x2048 .f32) : Prop :=
  (∃ m, Lanes K (Q 0) V L (L + 2048) m r.1) ∧ ∃ m, Lanes K (Q 1) V L (L + 2048) m r.2

/-- The sums of the first branch. -/
theorem sums1_holds (H : Holds X K Q V) (i : grid0.Coords) : Sums K Q V (2048 * (i 2).val) (sums1 i X) := by
  obtain ⟨h0, h1⟩ := loop1_lanes H i
  exact ⟨⟨_, resc_lanes (dM8_real _ _ _ _ _ _ _ _ _ _ H.q0 (kd1_holds H i 0) (kd1_holds H i 1) (kd1_holds H i 2) (kd1_holds H i 3) (kd1_holds H i 4) (kd1_holds H i 5) (kd1_holds H i 6) (kd1_holds H i 7) h0.reals) (dL8_lanes _ _ _ _ _ _ _ _ _ _ _ _ _ _ _ _ _ _ _ H.q0 (kd1_holds H i 0) (kd1_holds H i 1) (kd1_holds H i 2) (kd1_holds H i 3) (kd1_holds H i 4) (kd1_holds H i 5) (kd1_holds H i 6) (kd1_holds H i 7) (vd1_holds H i 0) (vd1_holds H i 1) (vd1_holds H i 2) (vd1_holds H i 3) (vd1_holds H i 4) (vd1_holds H i 5) (vd1_holds H i 6) (vd1_holds H i 7) h0)⟩,
    ⟨_, resc_lanes (dM8_real _ _ _ _ _ _ _ _ _ _ H.q1 (kd1_holds H i 0) (kd1_holds H i 1) (kd1_holds H i 2) (kd1_holds H i 3) (kd1_holds H i 4) (kd1_holds H i 5) (kd1_holds H i 6) (kd1_holds H i 7) h1.reals) (dL8_lanes _ _ _ _ _ _ _ _ _ _ _ _ _ _ _ _ _ _ _ H.q1 (kd1_holds H i 0) (kd1_holds H i 1) (kd1_holds H i 2) (kd1_holds H i 3) (kd1_holds H i 4) (kd1_holds H i 5) (kd1_holds H i 6) (kd1_holds H i 7) (vd1_holds H i 0) (vd1_holds H i 1) (vd1_holds H i 2) (vd1_holds H i 3) (vd1_holds H i 4) (vd1_holds H i 5) (vd1_holds H i 6) (vd1_holds H i 7) h1)⟩⟩

/-- The sums of the second branch. -/
theorem sums3_holds (H : Holds X K Q V) (i : grid0.Coords) : Sums K Q V (2048 * (i 2).val) (sums3 i X) := by
  obtain ⟨h0, h1⟩ := loop3_lanes H i
  exact ⟨⟨_, dN8_lanes _ _ _ _ _ _ _ _ _ _ _ _ _ _ _ _ _ _ _ H.q0 (kd3_holds H i 0) (kd3_holds H i 1) (kd3_holds H i 2) (kd3_holds H i 3) (kd3_holds H i 4) (kd3_holds H i 5) (kd3_holds H i 6) (kd3_holds H i 7) (vd3_holds H i 0) (vd3_holds H i 1) (vd3_holds H i 2) (vd3_holds H i 3) (vd3_holds H i 4) (vd3_holds H i 5) (vd3_holds H i 6) (vd3_holds H i 7) h0⟩, ⟨_, dN8_lanes _ _ _ _ _ _ _ _ _ _ _ _ _ _ _ _ _ _ _ H.q1 (kd3_holds H i 0) (kd3_holds H i 1) (kd3_holds H i 2) (kd3_holds H i 3) (kd3_holds H i 4) (kd3_holds H i 5) (kd3_holds H i 6) (kd3_holds H i 7) (vd3_holds H i 0) (vd3_holds H i 1) (vd3_holds H i 2) (vd3_holds H i 3) (vd3_holds H i 4) (vd3_holds H i 5) (vd3_holds H i 6) (vd3_holds H i 7) h1⟩⟩

/-- What the body stores is put together from sums over all visible keys. -/
theorem stored_holds (H : Holds X K Q V) (i : grid0.Coords) (x8 : Vec Ideal S1x2048x128 .bf16) :
    ∃ r, Sums K Q V (2048 * (i 2).val) r ∧ (part44 i X x8).1 = epi X r :=
  part44_cases i X x8 (fun y => ∃ r, Sums K Q V (2048 * (i 2).val) r ∧ y = epi X r) ⟨_, sums1_holds H i, rfl⟩ ⟨_, sums3_holds H i, rfl⟩

end Cert.KernelIdeal.Body

end
-- ==== Proof.AttnEpi.lean ====
/- The attention body's first step and last step, at an index. -/
module

public import proofs.«01_k».proof.Proof.AttnSpec
public import proofs.«01_k».proof.Proof.AttnLoops

@[expose] public section

set_option maxRecDepth 16384

noncomputable section

namespace Cert.KernelIdeal.Body

open Idealize.ShloMosaic Cert.KernelIdeal Cert.KernelIdeal.Gen Cert.AttnMath

attribute [local irreducible] Ideal.ofBits in
/-- The last step at an index: the difference of the two ratios, scaled. -/
theorem pay334_apply (a0 a1 : FVec Ideal S144x2048 .f32) (l : Vec Ideal S4x64 .f32) (g : Vec Ideal S128x1 .f32) (j : Fin 2048) (e : Fin 128) :
    k0_pay334 a0 a1 (k0_pay332 l) (k0_pay333 l) g (ix2 j e) =
      headRow (fun e => Ideal.div (a0 (ix2 ⟨e.val, by omega⟩ j)) (a0 (ix2 128 j)) - lamOf (fun a x => l (ix2 a x)) * Ideal.div (a1 (ix2 ⟨e.val, by omega⟩ j)) (a1 (ix2 128 j)))
        (fun e => g (ix2 e 0)) e := by
  unfold k0_pay334 k0_pay332 k0_pay333 k0_pay331 headRow lamOf
  pointwise

/-- The number of the map that a row of the queries belongs to. -/
theorem rowdiv (d : Fin 128) (j : Fin 2048) : k0_pay244 (ix2 d j) = BitVec.ofNat 32 (d.val / 64) := by
  unfold k0_pay244
  pointwise
  revert d; decide +kernel

/-- A test of a small number chooses as the number is. -/
theorem select_map : ∀ (d : Fin 128) (a b : EReal),
    (Scalar.select (IntOp.cmpi CmpIPredicate.eq (BitVec.ofNat 32 (d.val / 64)) 0#32) a b = if d.val / 64 = 0 then a else b)
    ∧ (Scalar.select (IntOp.cmpi CmpIPredicate.eq (BitVec.ofNat 32 (d.val / 64)) 1#32) a b = if d.val / 64 = 1 then a else b) := by
  intro d a b
  have h : d.val / 64 = 0 ∨ d.val / 64 = 1 := by omega
  rcases h with h | h <;> rw [h] <;> exact ⟨rfl, rfl⟩

/-- The queries of the first map: the other rows are zero. -/
theorem pay245_apply (v0 : Vec Ideal S1x128x2048 .bf16) (d : Fin 128) (j : Fin 2048) :
    k0_pay245 v0 (ix2 d j) = if d.val / 64 = 0 then v0 (ix3 0 d j) else 0 := by
  unfold k0_pay245 k0_pay243
  pointwise
  simp only [rowdiv]
  exact (select_map d _ _).1

/-- The queries of the second map: the other rows are zero. -/
theorem pay246_apply (v0 : Vec Ideal S1x128x2048 .bf16) (d : Fin 128) (j : Fin 2048) :
    k0_pay246 v0 (ix2 d j) = if d.val / 64 = 1 then v0 (ix3 0 d j) else 0 := by
  unfold k0_pay246 k0_pay243
  pointwise
  simp only [rowdiv]
  exact (select_map d _ _).2

/-- A load of a whole block is the block. -/
theorem ld_whole3 (x : Vec Ideal S1x128x2048 .bf16) (inb : ∀ a, (![0, 0, 0] : Fin 3 → ℕ) a + S1x128x2048.size a ≤ S1x128x2048.size a) (d : Fin 128) (j : Fin 2048) :
    View.ld x (Rect.unit (s := S1x128x2048) ![0, 0, 0] S1x128x2048.size inb) (ix3 0 d j) = x (ix3 0 d j) := by
  refine congrArg x (funext fun a => Fin.ext ?_)
  match a with
  | 0 => rfl
  | 1 => show 0 + 1 * d.val = d.val; omega
  | 2 => show 0 + 1 * j.val = j.val; omega

/-- The first map's queries, at an index. -/
theorem q0_apply (X : Blocks Ideal) (d : Fin 128) (j : Fin 2048) : q0 X (ix2 d j) = if d.val / 64 = 0 then X.x3 (ix3 0 d j) else 0 := by
  unfold q0
  rw [pay245_apply]
  exact congrArg (fun a => if d.val / 64 = 0 then a else 0) (ld_whole3 _ _ d j)

/-- The second map's queries, at an index. -/
theorem q1_apply (X : Blocks Ideal) (d : Fin 128) (j : Fin 2048) : q1 X (ix2 d j) = if d.val / 64 = 1 then X.x3 (ix3 0 d j) else 0 := by
  unfold q1
  rw [pay246_apply]
  exact congrArg (fun a => if d.val / 64 = 1 then a else 0) (ld_whole3 _ _ d j)

/-- What the body stores, at an index, when each lane's sums are over the visible keys. -/
theorem epi_apply (X : Blocks Ideal) (K : ℕ → Fin 128 → ℝ) (Q : Fin 2 → Fin 2048 → Fin 128 → ℝ) (V : Fin 144 → ℕ → ℝ) (L : ℕ) (r : FVec Ideal S144x2048 .f32 × FVec Ideal S144x2048 .f32)
    (hS : Sums K Q V L r) (hV : ∀ e n, 128 ≤ e.val → V e n = 1) (z0 z1 : ℕ → ℝ) (j : Fin 2048)
    (h0 : ∀ n, sc K (Q 0) j n = z0 n / Real.log 2) (h1 : ∀ n, sc K (Q 1) j n = z1 n / Real.log 2)
    (l : Vec Ideal S4x64 .f32) (g : Vec Ideal S128x1 .f32) (e : Fin 128) :
    k0_pay334 r.1 r.2 (k0_pay332 l) (k0_pay333 l) g (ix2 j e) =
      headRow (fun e => (att z0 (V ⟨e.val, by omega⟩) (L + j.val) : EReal) - lamOf (fun a x => l (ix2 a x)) * (att z1 (V ⟨e.val, by omega⟩) (L + j.val) : EReal))
        (fun e => g (ix2 e 0)) e := by
  obtain ⟨⟨m0, H0⟩, ⟨m1, H1⟩⟩ := hS
  have hr : ∀ (c : Fin 2) (z : ℕ → ℝ) (m : FVec Ideal S1x2048 .f32) (a : FVec Ideal S144x2048 .f32), Lanes K (Q c) V L (L + 2048) m a →
      (∀ n, sc K (Q c) j n = z n / Real.log 2) → ∀ e : Fin 128, Ideal.div (a (ix2 ⟨e.val, by omega⟩ j)) (a (ix2 128 j)) = (att z (V ⟨e.val, by omega⟩) (L + j.val) : EReal) := by
    intro c z m a H hz e
    obtain ⟨μ, -, ha⟩ := H j
    have hs : sc K (Q c) j = fun n => z n / Real.log 2 := funext hz
    have hl : L + j.val < L + 2048 := by omega
    have e1 := ha ⟨e.val, by omega⟩
    have e2 := ha 128
    rw [hs] at e1 e2
    rw [show V 128 = fun _ => 1 from funext fun n => hV 128 n (by decide)] at e2
    refine Eq.trans ?_ (wsum_ratio z (V ⟨e.val, by omega⟩) hl μ)
    exact congrArg₂ Ideal.div e1 e2
  rw [pay334_apply]
  simp only [hr 0 z0 m0 r.1 H0 h0, hr 1 z1 m1 r.2 H1 h1]

end Cert.KernelIdeal.Body

end
-- ==== Proof.AttnKernel.lean ====
/- The attention program's result, row by row. -/
module

public import proofs.«01_k».proof.Proof.AttnEpi
public import proofs.«01_k».proof.Proof.KernelIdealFrame
public import Idealize.ShloMosaic.Lib.Pipeline.ValueKit

@[expose] public section

set_option maxRecDepth 16384

noncomputable section

namespace Cert.KernelIdeal.RefValue

open Idealize.ShloMosaic Idealize.ShloMosaic.TcCoe Idealize.SL.Sem
open Idealize.ShloMosaic.Pipeline (Dat)
open Cert.KernelIdeal Cert.KernelIdeal.Gen Cert.KernelIdeal.Body Cert.AttnMath

attribute [local irreducible] Ideal.ofBits

variable (m : (ℓ : Loc nD τ sig) → Buf (Elt Ideal) ℓ) (c : Dev nD)

/-- The queries. -/
def qA (b : Fin 4) (s : Fin 8192) (h : Fin 8) (x : Fin 2) (d : Fin 64) : EReal := m ((c : Thread nD τ).loc main_arg0) (ix5 b s h x d)
/-- The keys. -/
def kA (b : Fin 4) (s : Fin 8192) (h : Fin 8) (x : Fin 2) (d : Fin 64) : EReal := m ((c : Thread nD τ).loc main_arg1) (ix5 b s h x d)
/-- The values. -/
def vA (b : Fin 4) (s : Fin 8192) (h : Fin 8) (e : Fin 128) : EReal := m ((c : Thread nD τ).loc main_arg2) (ix4 b s h e)
/-- The parameters of the second attention's weight. -/
def lA (a : Fin 4) (x : Fin 64) : EReal := m ((c : Thread nD τ).loc main_arg3) (ix3 0 a x)
/-- The gain. -/
def gA (e : Fin 128) : EReal := m ((c : Thread nD τ).loc main_arg4) (ix2 0 e)

/-- The queries, the keys and the values are real. -/
structure RealArgs : Prop where
  q : ∀ b s h x d, ∃ r : ℝ, qA m c b s h x d = (r : EReal)
  k : ∀ b s h x d, ∃ r : ℝ, kA m c b s h x d = (r : EReal)
  v : ∀ b s h e, ∃ r : ℝ, vA m c b s h e = (r : EReal)

/-- A real extended real is its real part. -/
theorem eq_toReal {x : EReal} (h : ∃ r : ℝ, x = (r : EReal)) : x = (x.toReal : EReal) := by
  obtain ⟨r, rfl⟩ := h; rw [EReal.toReal_coe]

/-- The scale of the queries. -/
def qScale : EReal := Ideal.div (Ideal.ofBits FTy.f32 1040187392#32) (Ideal.log (Ideal.ofBits FTy.f32 1073741824#32))

/-- The scale is an eighth over the natural logarithm of two. -/
theorem qScale_eq : qScale = ((1 / 8 / Real.log 2 : ℝ) : EReal) := by
  have e1 : Ideal.ofBits FTy.f32 1040187392#32 = ((1 / 8 : ℝ) : EReal) := by
    rw [show (1 / 8 : ℝ) = 8388608 * (2 ^ 26)⁻¹ by norm_num]; simp [Ideal.ofBits, Ideal.ieee]
  have e2 : Ideal.ofBits FTy.f32 1073741824#32 = ((2 : ℝ) : EReal) := by
    rw [show (2 : ℝ) = 8388608 * (2 ^ 22)⁻¹ by norm_num]; simp [Ideal.ofBits, Ideal.ieee]
  have hl : Real.log 2 ≠ 0 := (Real.log_pos (by norm_num)).ne'
  unfold qScale
  rw [e1, e2, Ideal.log_coe, if_neg (by norm_num), Ideal.div_coe hl, ← EReal.coe_mul]
  congr 1; ring

/-- The scaled queries as the launch finds them. -/
theorem V9 (b : Fin 4) (r : Fin 1024) (s : Fin 8192) : V m c main_v9 (ix3 b r s) =
    qA m c b s ⟨r.val / 128, by omega⟩ ⟨r.val / 64 % 2, by omega⟩ ⟨r.val % 64, by omega⟩ * qScale := by
  entry_read
  unfold qA qScale
  pointwise
/-- The keys as the launch finds them. -/
theorem V11 (b : Fin 4) (s : Fin 8192) (r : Fin 1024) : V m c main_v11 (ix3 b s r) = kA m c b s ⟨r.val / 128, by omega⟩ ⟨r.val / 64 % 2, by omega⟩ ⟨r.val % 64, by omega⟩ := by
  entry_read
  unfold kA
  pointwise
/-- The values as the launch finds them. -/
theorem V14 (b : Fin 4) (r : Fin 1024) (s : Fin 8192) : V m c main_v14 (ix3 b r s) = vA m c b s ⟨r.val / 128, by omega⟩ ⟨r.val % 128, by omega⟩ := by
  entry_read
  unfold vA
  pointwise
/-- The weight's parameters as the launch finds them. -/
theorem V0 (a : Fin 4) (x : Fin 64) : V m c main_v0 (ix2 a x) = lA m c a x := by
  entry_read
  unfold lA
  pointwise
/-- The gain as the launch finds it. -/
theorem V15 (e : Fin 128) : V m c main_v15 (ix2 e 0) = gA m c e := by
  entry_read
  unfold gA
  pointwise

/-- Where each window sits. -/
theorem idx : ∀ t : Fin cfg0.N, win0_0.index t = ![(grid0.coords t 0).val, (grid0.coords t 1).val, (grid0.coords t 2).val]
    ∧ win0_1.index t = ![(grid0.coords t 0).val, 0, (grid0.coords t 1).val] ∧ win0_2.index t = ![(grid0.coords t 0).val, (grid0.coords t 1).val, 0]
    ∧ win0_3.index t = ![0, 0] ∧ win0_4.index t = ![0, 0] ∧ win0_5.index t = ![(grid0.coords t 0).val, (grid0.coords t 2).val, (grid0.coords t 1).val] := by
  decide +kernel

/-- The coordinates of a point are in range. -/
theorem coords_lt : ∀ t : Fin cfg0.N, (grid0.coords t 0).val < 4 ∧ (grid0.coords t 1).val < 8 ∧ (grid0.coords t 2).val < 4 := by decide +kernel

/-- The batch of a point. -/
def bOf (t : Fin cfg0.N) : Fin 4 := ⟨(grid0.coords t 0).val, (coords_lt t).1⟩
/-- The head of a point. -/
def hOf (t : Fin cfg0.N) : Fin 8 := ⟨(grid0.coords t 1).val, (coords_lt t).2.1⟩
/-- A query of a point's tile. -/
def sOf (t : Fin cfg0.N) (j : Fin 2048) : Fin 8192 := ⟨(grid0.coords t 2).val * 2048 + j.val, by have := (coords_lt t).2.2; omega⟩
/-- A column of a point's head. -/
def colOf (t : Fin cfg0.N) (e : Fin 128) : Fin 1024 := ⟨(grid0.coords t 1).val * 128 + e.val, by have := (coords_lt t).2.1; omega⟩

/-- Block 0 at an index. -/
theorem iblk0_apply (t : Fin cfg0.N) (d : Fin 128) (j : Fin 2048) : iblk m c 0 t (ix3 0 d j) = V m c main_v9 (ix3 (bOf t) (colOf t d) (sOf t j)) := by
  obtain ⟨e0, e1, e2, e3, e4, e5⟩ := idx t
  unfold iblk
  blk_ext [e0, bOf, colOf, sOf]
/-- Block 1 at an index. -/
theorem iblk1_apply (t : Fin cfg0.N) (n : Fin 8192) (d : Fin 128) : iblk m c 1 t (ix3 0 n d) = V m c main_v11 (ix3 (bOf t) n (colOf t d)) := by
  obtain ⟨e0, e1, e2, e3, e4, e5⟩ := idx t
  unfold iblk
  blk_ext [e1, bOf, colOf]
/-- Block 2 at an index. -/
theorem iblk2_apply (t : Fin cfg0.N) (e : Fin 128) (n : Fin 8192) : iblk m c 2 t (ix3 0 e n) = V m c main_v14 (ix3 (bOf t) (colOf t e) n) := by
  obtain ⟨e0, e1, e2, e3, e4, e5⟩ := idx t
  unfold iblk
  blk_ext [e2, bOf, colOf]
/-- Block 3 at an index. -/
theorem iblk3_apply (t : Fin cfg0.N) (a : Fin 4) (x : Fin 64) : iblk m c 3 t (ix2 a x) = V m c main_v0 (ix2 a x) := by
  obtain ⟨e0, e1, e2, e3, e4, e5⟩ := idx t
  unfold iblk
  blk_ext [e3]
/-- Block 4 at an index. -/
theorem iblk4_apply (t : Fin cfg0.N) (e : Fin 128) : iblk m c 4 t (ix2 e 0) = V m c main_v15 (ix2 e 0) := by
  obtain ⟨e0, e1, e2, e3, e4, e5⟩ := idx t
  unfold iblk
  blk_ext [e4]

/-- A point's keys, as reals. -/
def pK (t : Fin cfg0.N) (n : ℕ) (d : Fin 128) : ℝ :=
  if hn : n < 8192 then (kA m c (bOf t) ⟨n, hn⟩ (hOf t) ⟨d.val / 64, by omega⟩ ⟨d.val % 64, by omega⟩).toReal else 0
/-- A point's scaled queries, as reals: one map's rows, zero elsewhere. -/
def pQ (t : Fin cfg0.N) (x : Fin 2) (j : Fin 2048) (d : Fin 128) : ℝ :=
  if d.val / 64 = x.val then (qA m c (bOf t) (sOf t j) (hOf t) ⟨d.val / 64, by omega⟩ ⟨d.val % 64, by omega⟩).toReal * (1 / 8 / Real.log 2) else 0
/-- A point's values, as reals, with the ones below them. -/
def pV (t : Fin cfg0.N) (e : Fin 144) : ℕ → ℝ := if he : e.val < 128 then valOf (vA m c) (bOf t) (hOf t) ⟨e.val, he⟩ else fun _ => 1

/-- The column of a head, divided. -/
theorem col_div (t : Fin cfg0.N) (d : Fin 128) : (⟨(colOf t d).val / 128, by omega⟩ : Fin 8) = hOf t
    ∧ (⟨(colOf t d).val / 64 % 2, by omega⟩ : Fin 2) = ⟨d.val / 64, by omega⟩ ∧ (⟨(colOf t d).val % 64, by omega⟩ : Fin 64) = ⟨d.val % 64, by omega⟩
    ∧ (⟨(colOf t d).val % 128, by omega⟩ : Fin 128) = d := by
  refine ⟨Fin.ext ?_, Fin.ext ?_, Fin.ext ?_, Fin.ext ?_⟩ <;> simp only [colOf, hOf] <;> omega

variable {m c}

/-- The scaled queries of a point. -/
theorem x3_apply (H : RealArgs m c) (t : Fin cfg0.N) (d : Fin 128) (j : Fin 2048) :
    (blocks m c t).x3 (ix3 0 d j) = (((qA m c (bOf t) (sOf t j) (hOf t) ⟨d.val / 64, by omega⟩ ⟨d.val % 64, by omega⟩).toReal * (1 / 8 / Real.log 2) : ℝ) : EReal) := by
  obtain ⟨h1, h2, h3, -⟩ := col_div t d
  refine (iblk0_apply m c t d j).trans ((V9 m c _ _ _).trans ?_)
  rw [h1, h2, h3, qScale_eq, EReal.coe_mul, ← eq_toReal (H.q _ _ _ _ _)]

/-- The blocks of a point hold its keys, queries and values. -/
theorem holds (H : RealArgs m c) (t : Fin cfg0.N) : Holds (blocks m c t) (pK m c t) (pQ m c t) (pV m c t) where
  k n d := by
    obtain ⟨h1, h2, h3, -⟩ := col_div t d
    refine (iblk1_apply m c t n d).trans ((V11 m c _ _ _).trans ?_)
    rw [h1, h2, h3]
    unfold pK
    rw [dif_pos n.isLt]
    exact eq_toReal (H.k _ _ _ _ _)
  v e n := by
    obtain ⟨h1, -, -, h4⟩ := col_div t e
    refine (iblk2_apply m c t e n).trans ((V14 m c _ _ _).trans ?_)
    rw [h1, h4]
    unfold pV valOf
    rw [dif_pos e.isLt]
    simp only [n.isLt, dif_pos]
    exact eq_toReal (H.v _ _ _ _)
  o e n he := by
    unfold pV
    rw [dif_neg (by omega)]
  q0 d j := by
    rw [q0_apply, x3_apply H]
    unfold pQ
    show _ = ((if d.val / 64 = 0 then _ else _ : ℝ) : EReal)
    split_ifs <;> simp
  q1 d j := by
    rw [q1_apply, x3_apply H]
    unfold pQ
    show _ = ((if d.val / 64 = 1 then _ else _ : ℝ) : EReal)
    split_ifs <;> simp

/-- A query's scores in base two are its scores over the natural logarithm of two. -/
theorem sc_eq (t : Fin cfg0.N) (x : Fin 2) (j : Fin 2048) (n : ℕ) :
    sc (pK m c t) (pQ m c t x) j n = scoreOf (qA m c) (kA m c) (bOf t) (sOf t j) (hOf t) x n / Real.log 2 := by
  unfold sc scoreOf
  split_ifs with hn
  · have hs : ∀ f : Fin 128 → ℝ, ∑ d, f d = ∑ d : Fin 64, f ⟨d.val, by omega⟩ + ∑ d : Fin 64, f ⟨64 + d.val, by omega⟩ := fun f =>
      Fin.sum_univ_add (a := 64) (b := 64) f
    rw [hs, Finset.sum_mul, Finset.sum_div]
    have hx : x = 0 ∨ x = 1 := by omega
    rcases hx with rfl | rfl
    · rw [Finset.sum_eq_zero (s := Finset.univ) (f := fun d : Fin 64 => pK m c t n ⟨64 + d.val, by omega⟩ * pQ m c t 0 j ⟨64 + d.val, by omega⟩) (fun d _ => by
        unfold pQ
        rw [if_neg (by show ¬ (64 + d.val) / 64 = 0; omega), mul_zero]), add_zero]
      refine Finset.sum_congr rfl fun d _ => ?_
      unfold pK pQ
      rw [dif_pos hn, if_pos (by show d.val / 64 = 0; omega)]
      rw [show (⟨d.val / 64, by omega⟩ : Fin 2) = 0 from Fin.ext (by show d.val / 64 = 0; omega), show (⟨d.val % 64, by omega⟩ : Fin 64) = d from Fin.ext (by show d.val % 64 = d.val; omega)]
      ring
    · rw [Finset.sum_eq_zero (s := Finset.univ) (f := fun d : Fin 64 => pK m c t n ⟨d.val, by omega⟩ * pQ m c t 1 j ⟨d.val, by omega⟩) (fun d _ => by
        unfold pQ
        rw [if_neg (by show ¬ d.val / 64 = 1; omega), mul_zero]), zero_add]
      refine Finset.sum_congr rfl fun d _ => ?_
      unfold pK pQ
      rw [dif_pos hn, if_pos (by show (64 + d.val) / 64 = 1; omega)]
      rw [show (⟨(64 + d.val) / 64, by omega⟩ : Fin 2) = 1 from Fin.ext (by show (64 + d.val) / 64 = 1; omega), show (⟨(64 + d.val) % 64, by omega⟩ : Fin 64) = d from Fin.ext (by show (64 + d.val) % 64 = d.val; omega)]
      ring
  · rw [zero_div]
    refine Finset.sum_eq_zero fun d _ => ?_
    unfold pK
    rw [dif_neg hn, zero_mul]

/-- A load of a whole block is the block. -/
theorem ld_l (x : Vec Ideal S4x64 .f32) (inb : ∀ a, (![0, 0] : Fin 2 → ℕ) a + S4x64.size a ≤ S4x64.size a) (a : Fin 4) (k : Fin 64) :
    View.ld x (Rect.unit (s := S4x64) ![0, 0] S4x64.size inb) (ix2 a k) = x (ix2 a k) := by
  refine congrArg x (funext fun i => Fin.ext ?_)
  match i with
  | 0 => show 0 + 1 * a.val = a.val; omega
  | 1 => show 0 + 1 * k.val = k.val; omega

/-- A load of a whole block is the block. -/
theorem ld_g (x : Vec Ideal S128x1 .f32) (inb : ∀ a, (![0, 0] : Fin 2 → ℕ) a + S128x1.size a ≤ S128x1.size a) (e : Fin 128) :
    View.ld x (Rect.unit (s := S128x1) ![0, 0] S128x1.size inb) (ix2 e 0) = x (ix2 e 0) := by
  refine congrArg x (funext fun i => Fin.ext ?_)
  match i with
  | 0 => show 0 + 1 * e.val = e.val; omega
  | 1 => rfl

/-- What a point stores, at an index. -/
theorem stored_apply (H : RealArgs m c) (t : Fin cfg0.N) (x8 : Vec Ideal S1x2048x128 .bf16) (j : Fin 2048) (e : Fin 128) :
    (part44 (grid0.coords t) (blocks m c t) x8).1 (ix2 j e) = headOut (qA m c) (kA m c) (vA m c) (lA m c) (gA m c) (bOf t) (sOf t j) (hOf t) e := by
  obtain ⟨r, hS, hr⟩ := stored_holds (holds H t) (grid0.coords t) x8
  rw [hr]
  unfold epi headOut
  refine (epi_apply (blocks m c t) _ _ _ _ r hS (holds H t).o _ _ j (sc_eq t 0 j) (sc_eq t 1 j) _ _ e).trans ?_
  have hl : ∀ a x, View.ld (blocks m c t).x6 (Rect.unit (s := S4x64) ![0, 0] S4x64.size (by decide)) (ix2 a x) = lA m c a x := fun a x =>
    (ld_l _ _ a x).trans ((iblk3_apply m c t a x).trans (V0 m c a x))
  have hg : ∀ e, View.ld (blocks m c t).x7 (Rect.unit (s := S128x1) ![0, 0] S128x1.size (by decide)) (ix2 e 0) = gA m c e := fun e =>
    (ld_g _ _ e).trans ((iblk4_apply m c t e).trans (V15 m c e))
  have hv : ∀ e : Fin 128, pV m c t ⟨e.val, by omega⟩ = valOf (vA m c) (bOf t) (hOf t) e := fun e => by
    unfold pV; rw [dif_pos e.isLt]
  have hL : 2048 * (grid0.coords t 2).val + j.val = (sOf t j).val := by unfold sOf; simp only; omega
  refine congrArg₂ (fun o g => headRow o g e) (funext fun e => ?_) (funext hg)
  rw [hv, hL, show (fun a x => View.ld (blocks m c t).x6 (Rect.unit (s := S4x64) ![0, 0] S4x64.size (by decide)) (ix2 a x)) = lA m c from funext fun a => funext fun x => hl a x]

variable (m c)

/-- The result array, row by row. -/
def G : Buf (Elt Ideal) ((c : Thread nD τ).loc main_v16) := fun (i : S4x8192x1024.Idx) =>
  headOut (qA m c) (kA m c) (vA m c) (lA m c) (gA m c) (i 0) (i 1) ⟨(i 2).val / 128, by have : (i 2).val < 1024 := (i 2).isLt; omega⟩ ⟨(i 2).val % 128, by omega⟩

/-- The stored block at an index. -/
theorem pay1_apply (v : FVec Ideal S2048x128 .bf16) (j : Fin 2048) (e : Fin 128) : k0_pay1 v (ix3 0 j e) = v (ix2 j e) := by
  unfold k0_pay1
  pointwise

variable {m c}

/-- The launch leaves the rows in the result array. -/
theorem final (H : RealArgs m c) : (dats m 0 c).arrAt 5 cfg0.N = G m c := by
  refine (dats m 0 c).arrAt_eq_of_covers 5 _ (by decide +kernel) fun t hf y => ?_
  obtain ⟨e0, e1, e2, e3, e4, e5⟩ := idx t
  blk_simp
  rw [after0_5]
  obtain ⟨a, j, e, rfl⟩ : ∃ (a : Fin 1) (j : Fin 2048) (e : Fin 128), y = ix3 a j e := ⟨y 0, y 1, y 2, eq_ix3 y⟩
  obtain rfl : a = 0 := Subsingleton.elim _ _
  rw [show ((View.whole main_v16).slice (win0_5.rect t)).emb (ix3 0 j e) = ix3 (bOf t) (sOf t j) (colOf t e) from by blk_ext [e5, bOf, sOf, colOf]]
  unfold outBlock rOut
  frame_out
  rw [pay1_apply, stored_apply H]
  obtain ⟨h1, -, -, h4⟩ := col_div t e
  show _ = headOut _ _ _ _ _ (bOf t) (sOf t j) ⟨(colOf t e).val / 128, _⟩ ⟨(colOf t e).val % 128, _⟩
  rw [h1, h4]

end Cert.KernelIdeal.RefValue

end
-- ==== Proof.AttnRef.lean ====
/- The attention reference's result, row by row. -/
module

public import proofs.«01_k».proof.Proof.AttnSpec
public import proofs.«01_k».proof.Proof.Gen.ReferenceIdeal.Run

@[expose] public section

set_option maxRecDepth 16384

noncomputable section

namespace Cert.ReferenceIdeal.RefValue

open Idealize.ShloMosaic Idealize.ShloMosaic.TcCoe Idealize.SL.Sem
open Cert.ReferenceIdeal Cert.ReferenceIdeal.Facts Cert.ReferenceIdeal.Gen Cert.AttnMath

/-- Which keys a query sees. -/
def maskV : IVec S8192x8192 1 :=
  cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))

/-- The dot products of the queries and the keys. -/
def dotV (q k : FVec Ideal S4x8192x8x2x64 .f32) : FVec Ideal S4x8x2x8192x8192 .f32 :=
  Host.dotGeneral dot_S4x8192x8x2x64_S4x8192x8x2x64_S4x8x2x8192x8192_4_4_1_1_023_023 none q k

/-- The scores, masked. -/
def maskedV (w : IVec S8192x8192 1) (z : FVec Ideal S4x8x2x8192x8192 .f32) : FVec Ideal S4x8x2x8192x8192 .f32 :=
  select (broadcastInDim S4x8x2x8192x8192 ![3, 4] bcast_S8192x8192_S4x8x2x8192x8192_3_4 w) (mulf z (broadcastInDim S4x8x2x8192x8192 ![] bcast_S_S4x8x2x8192x8192 (constant S_ .f32 0x3E000000#32))) (broadcastInDim S4x8x2x8192x8192 ![] bcast_S_S4x8x2x8192x8192 (id (constant S_ .f32 0xFF800000#32)))

/-- The masked scores. -/
def scoreV (q k : FVec Ideal S4x8192x8x2x64 .f32) : FVec Ideal S4x8x2x8192x8192 .f32 := maskedV maskV (dotV q k)

/-- The largest score of each query. -/
def maxV (z : FVec Ideal S4x8x2x8192x8192 .f32) : FVec Ideal S4x8x2x8192 .f32 :=
  maximumf (broadcastInDim S4x8x2x8192 ![] bcast_S_S4x8x2x8192 (constant S_ .f32 0xFF800000#32)) (Host.reduce FloatOps.maximumf z (constant S_ .f32 0xFF800000#32) reducesTo_S4x8x2x8192x8192_S4x8x2x8192_d4 h_S_)

/-- The exponentials of the scores less the largest. -/
def expV (z : FVec Ideal S4x8x2x8192x8192 .f32) : FVec Ideal S4x8x2x8192x8192 .f32 :=
  Host.exp (subf z (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3 (maxV z))))

/-- The exponentials over their sums. -/
def probV (x : FVec Ideal S4x8x2x8192x8192 .f32) : FVec Ideal S4x8x2x8192x8192 .f32 :=
  Host.divf x (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3 (Host.reduceAdd x (constant S_ .f32 0x00000000#32) reducesTo_S4x8x2x8192x8192_S4x8x2x8192_d4 h_S_)))

/-- The weight of the second map. -/
def lamV (l : FVec Ideal S1x4x64 .f32) : FVec Ideal S_ .f32 :=
  addf (subf (Host.exp (Host.reduceAdd (mulf (shapeCast _ (extractStridedSlice S1x64 ![0, 0] (shapeCast _ l shapeCasts_S1x4x64_S4x64) slices_S4x64_S1x64_0_0) shapeCasts_S1x64_S64) (shapeCast _ (extractStridedSlice S1x64 ![1, 0] (shapeCast _ l shapeCasts_S1x4x64_S4x64) slices_S4x64_S1x64_1_0) shapeCasts_S1x64_S64)) (constant S_ .f32 0x00000000#32) reducesTo_S64_S_d0 h_S_))
    (Host.exp (Host.reduceAdd (mulf (shapeCast _ (extractStridedSlice S1x64 ![2, 0] (shapeCast _ l shapeCasts_S1x4x64_S4x64) slices_S4x64_S1x64_2_0) shapeCasts_S1x64_S64) (shapeCast _ (extractStridedSlice S1x64 ![3, 0] (shapeCast _ l shapeCasts_S1x4x64_S4x64) slices_S4x64_S1x64_3_0) shapeCasts_S1x64_S64)) (constant S_ .f32 0x00000000#32) reducesTo_S64_S_d0 h_S_))) (constant S_ .f32 0x3EB60549#32)

/-- The first map's probabilities less the second's, weighted. -/
def diffV (p : FVec Ideal S4x8x2x8192x8192 .f32) (l : FVec Ideal S_ .f32) : FVec Ideal S4x8x8192x8192 .f32 :=
  subf (shapeCast _ (extractStridedSlice S4x8x1x8192x8192 ![0, 0, 0, 0, 0] p slices_S4x8x2x8192x8192_S4x8x1x8192x8192_0_0_0_0_0) shapeCasts_S4x8x1x8192x8192_S4x8x8192x8192)
    (mulf (broadcastInDim S4x8x8192x8192 ![] bcast_S_S4x8x8192x8192 l) (shapeCast _ (extractStridedSlice S4x8x1x8192x8192 ![0, 0, 1, 0, 0] p slices_S4x8x2x8192x8192_S4x8x1x8192x8192_0_0_1_0_0) shapeCasts_S4x8x1x8192x8192_S4x8x8192x8192))

/-- The values in the weights' proportion. -/
def outV (v : FVec Ideal S4x8192x8x128 .f32) (w : FVec Ideal S4x8x8192x8192 .f32) : FVec Ideal S4x8192x8x128 .f32 :=
  transpose S4x8192x8x128 [0, 3, 1, 2] (Host.dotGeneral dot_S4x8192x8x128_S4x8x8192x8192_S4x8x128x8192_1_3_3_2_02_01 none v w) transposes_S4x8x128x8192_S4x8192x8x128_0_3_1_2

/-- The heads scaled to unit mean square, times their gains and the last factor. -/
def headV (o : FVec Ideal S4x8192x8x128 .f32) (g : FVec Ideal S1x128 .f32) : FVec Ideal S4x8192x1024 .bf16 :=
  truncf .bf16 (shapeCast _ (mulf (mulf (mulf o (broadcastInDim S4x8192x8x128 ![0, 1, 2, 3] bcast_S4x8192x8x1_S4x8192x8x128_0_1_2_3 (Host.rsqrt (addf (Host.divf (broadcastInDim S4x8192x8x1 ![0, 1, 2] bcast_S4x8192x8_S4x8192x8x1_0_1_2 (Host.reduceAdd (mulf o o) (constant S_ .f32 0x00000000#32) reducesTo_S4x8192x8x128_S4x8192x8_d3 h_S_)) (broadcastInDim S4x8192x8x1 ![] bcast_S_S4x8192x8x1 (constant S_ .f32 0x43000000#32))) (broadcastInDim S4x8192x8x1 ![] bcast_S_S4x8192x8x1 (constant S_ .f32 0x358637BD#32))))))
    (broadcastInDim S4x8192x8x128 ![0, 1, 2, 3] bcast_S1x1x1x128_S4x8192x8x128_0_1_2_3 (broadcastInDim S1x1x1x128 ![3] bcast_S128_S1x1x1x128_3 (shapeCast _ g shapeCasts_S1x128_S128))))
    (broadcastInDim S4x8192x8x128 ![] bcast_S_S4x8192x8x128 (constant S_ .f32 0x3F24FD5C#32))) shapeCasts_S4x8192x8x128_S4x8192x1024) bitsLt_bf16_f32

section Steps

attribute [local irreducible] Ideal.ofBits

/-- The largest along the last of five axes, from a first value. -/
theorem hostMax5 {n0 n1 n2 n3 n4 : ℕ} {u : Shape} (z : FVec Ideal ⟨5, ![n0, n1, n2, n3, n4]⟩ .f32) (v : FVec Ideal u .f32)
    (h : (⟨5, ![n0, n1, n2, n3, n4]⟩ : Shape).ReducesTo [4] ⟨4, ![n0, n1, n2, n3]⟩) (hu : 0 < u.numel) (b : EReal) (hv : ∀ i, v i = b)
    (i0 : Fin n0) (i1 : Fin n1) (i2 : Fin n2) (i3 : Fin n3) :
    Host.reduce FloatOps.maximumf z v h hu (ix4 i0 i1 i2 i3) = Finset.fold max b (fun n : Fin n4 => z (ix5 i0 i1 i2 i3 n)) Finset.univ := by
  rw [Host.reduce_eq_fold, hv, Shape.ReducesTo.fold_fiber_r5_a4]
  rfl

/-- A larger of a constant and an array, at an index. -/
theorem maxConst_apply (w : FVec Ideal S4x8x2x8192 .f32) (b : Fin 4) (h : Fin 8) (x : Fin 2) (s : Fin 8192) :
    maximumf (broadcastInDim S4x8x2x8192 ![] bcast_S_S4x8x2x8192 (constant S_ .f32 0xFF800000#32)) w (ix4 b h x s) = max (Ideal.ofBits FTy.f32 0xFF800000#32) (w (ix4 b h x s)) := by
  pointwise

/-- The mask at an index. -/
theorem maskV_apply (s n : Fin 8192) : maskV (ix2 s n) = IntOp.cmpi CmpIPredicate.sle (BitVec.ofNat 32 n.val) (BitVec.ofNat 32 s.val) := by
  unfold maskV
  pointwise

/-- A dot product at an index. -/
theorem dotV_apply (q k : FVec Ideal S4x8192x8x2x64 .f32) (b : Fin 4) (h : Fin 8) (x : Fin 2) (s n : Fin 8192) :
    dotV q k (ix5 b h x s n) = ∑ d, q (ix5 b s h x d) * k (ix5 b n h x d) := by
  unfold dotV
  pointwise

/-- A masked score at an index. -/
theorem maskedV_apply (w : IVec S8192x8192 1) (z : FVec Ideal S4x8x2x8192x8192 .f32) (b : Fin 4) (h : Fin 8) (x : Fin 2) (s n : Fin 8192) :
    maskedV w z (ix5 b h x s n) = Scalar.select (w (ix2 s n)) (z (ix5 b h x s n) * Ideal.ofBits FTy.f32 0x3E000000#32) (Ideal.ofBits FTy.f32 0xFF800000#32) := by
  unfold maskedV
  pointwise
  rfl

/-- A masked score at an index. -/
theorem scoreV_apply (q k : FVec Ideal S4x8192x8x2x64 .f32) (b : Fin 4) (h : Fin 8) (x : Fin 2) (s n : Fin 8192) :
    scoreV q k (ix5 b h x s n) = if n.val ≤ s.val then (∑ d, q (ix5 b s h x d) * k (ix5 b n h x d)) * Ideal.ofBits FTy.f32 0x3E000000#32 else Ideal.ofBits FTy.f32 0xFF800000#32 := by
  unfold scoreV
  rw [maskedV_apply, maskV_apply, dotV_apply]
  exact select_le _ _ n.isLt s.isLt _ _

/-- A largest score at an index. -/
theorem maxV_apply (z : FVec Ideal S4x8x2x8192x8192 .f32) (b : Fin 4) (h : Fin 8) (x : Fin 2) (s : Fin 8192) :
    maxV z (ix4 b h x s) = max (Ideal.ofBits FTy.f32 0xFF800000#32) (Finset.fold max (Ideal.ofBits FTy.f32 0xFF800000#32) (fun n : Fin 8192 => z (ix5 b h x s n)) Finset.univ) := by
  unfold maxV
  rw [maxConst_apply]
  exact congrArg (max _) (hostMax5 z (constant (F := Ideal) S_ .f32 0xFF800000#32) reducesTo_S4x8x2x8192x8192_S4x8x2x8192_d4 h_S_ _ (fun _ => rfl) b h x s)

/-- An exponential at an index. -/
theorem expV_apply (z : FVec Ideal S4x8x2x8192x8192 .f32) (b : Fin 4) (h : Fin 8) (x : Fin 2) (s n : Fin 8192) :
    expV z (ix5 b h x s n) = Ideal.exp (z (ix5 b h x s n) - maxV z (ix4 b h x s)) := by
  unfold expV
  pointwise

/-- A probability at an index. -/
theorem probV_apply (e : FVec Ideal S4x8x2x8192x8192 .f32) (b : Fin 4) (h : Fin 8) (x : Fin 2) (s n : Fin 8192) :
    probV e (ix5 b h x s n) = Ideal.div (e (ix5 b h x s n)) (∑ j : Fin 8192, e (ix5 b h x s j)) := by
  unfold probV
  pointwise

/-- The weight of the second map, as a number. -/
theorem lamV_apply (l : FVec Ideal S1x4x64 .f32) (i : S_.Idx) : lamV l i = lamOf (fun a x => l (ix3 0 a x)) := by
  unfold lamV lamOf
  pointwise

/-- A weighted difference at an index. -/
theorem diffV_apply (p : FVec Ideal S4x8x2x8192x8192 .f32) (l : FVec Ideal S1x4x64 .f32) (b : Fin 4) (h : Fin 8) (s n : Fin 8192) :
    diffV p (lamV l) (ix4 b h s n) = p (ix5 b h 0 s n) - lamOf (fun a x => l (ix3 0 a x)) * p (ix5 b h 1 s n) := by
  unfold diffV
  pointwise
  simp only [lamV_apply]

/-- A weighted mean of the values at an index. -/
theorem outV_apply (v : FVec Ideal S4x8192x8x128 .f32) (w : FVec Ideal S4x8x8192x8192 .f32) (b : Fin 4) (s : Fin 8192) (h : Fin 8) (e : Fin 128) :
    outV v w (ix4 b s h e) = ∑ n : Fin 8192, v (ix4 b n h e) * w (ix4 b h s n) := by
  unfold outV
  pointwise

/-- A scaled head at an index. -/
theorem headV_apply (o : FVec Ideal S4x8192x8x128 .f32) (g : FVec Ideal S1x128 .f32) (b : Fin 4) (s : Fin 8192) (n : Fin 1024) :
    headV o g (ix3 b s n) = headRow (fun e => o (ix4 b s ⟨n.val / 128, by omega⟩ e)) (fun e => g (ix2 0 e)) ⟨n.val % 128, by omega⟩ := by
  unfold headV headRow
  pointwise
  rw [mul_assoc]

end Steps

section Res

attribute [local irreducible] maximumf shapeCast addf mulf subf truncf extractStridedSlice select cmpi iotaInDim broadcastInDim constant Host.reduce Host.reduceAdd Host.exp Host.divf Host.rsqrt transpose

/-- The reference's result is the composed steps. -/
theorem res_eq (m : (ℓ : Loc nD τ sig) → Buf (Elt Ideal) ℓ) (c : Dev nD) : Cert.ReferenceIdeal.Value.res_main_v64 m c =
    headV (outV (m ((c.tc : Thread nD τ).loc main_arg2)) (diffV (probV (expV (scoreV (m ((c.tc : Thread nD τ).loc main_arg0)) (m ((c.tc : Thread nD τ).loc main_arg1))))) (lamV (m ((c.tc : Thread nD τ).loc main_arg3)))))
      (m ((c.tc : Thread nD τ).loc main_arg4)) := by
  unfold Cert.ReferenceIdeal.Value.res_main_v64 headV outV diffV probV expV maxV scoreV maskedV maskV dotV lamV
  rfl

end Res

/-- A real extended real is its real part. -/
theorem eq_toReal {x : EReal} (h : ∃ r : ℝ, x = (r : EReal)) : x = (x.toReal : EReal) := by
  obtain ⟨r, rfl⟩ := h; rw [EReal.toReal_coe]

/-- The composed steps are the differential attention of each query and head. -/
theorem steps_apply (q k : FVec Ideal S4x8192x8x2x64 .f32) (v : FVec Ideal S4x8192x8x128 .f32) (l : FVec Ideal S1x4x64 .f32) (g : FVec Ideal S1x128 .f32)
    (hq : ∀ b s h x d, ∃ r : ℝ, q (ix5 b s h x d) = (r : EReal)) (hk : ∀ b s h x d, ∃ r : ℝ, k (ix5 b s h x d) = (r : EReal))
    (hv : ∀ b s h e, ∃ r : ℝ, v (ix4 b s h e) = (r : EReal)) (hl : ∀ a x, ∃ r : ℝ, l (ix3 0 a x) = (r : EReal)) (b : Fin 4) (s : Fin 8192) (n : Fin 1024) :
    headV (outV v (diffV (probV (expV (scoreV q k))) (lamV l))) g (ix3 b s n) =
      headOut (fun b s h x d => q (ix5 b s h x d)) (fun b s h x d => k (ix5 b s h x d)) (fun b s h e => v (ix4 b s h e)) (fun a x => l (ix3 0 a x)) (fun e => g (ix2 0 e))
        b s ⟨n.val / 128, by omega⟩ ⟨n.val % 128, by omega⟩ := by
  have hb : Ideal.ofBits FTy.f32 0xFF800000#32 = ⊥ := by simp [Ideal.ofBits, Ideal.ieee]
  have h8 : Ideal.ofBits FTy.f32 0x3E000000#32 = ((1 / 8 : ℝ) : EReal) := by
    rw [show (1 / 8 : ℝ) = 8388608 * (2 ^ 26)⁻¹ by norm_num]; simp [Ideal.ofBits, Ideal.ieee]
  rw [headV_apply]
  generalize (⟨n.val / 128, by omega⟩ : Fin 8) = h
  unfold headOut
  refine congrArg (fun o => headRow o _ _) (funext fun e => ?_)
  rw [outV_apply]
  simp only [diffV_apply]
  obtain ⟨μ, hμ⟩ := lamOf_real (fun a x => l (ix3 0 a x)) (fun a x => (l (ix3 0 a x)).toReal) fun a x => eq_toReal (hl a x)
  rw [hμ]
  have hσ : ∀ (x : Fin 2) (j : Fin 8192), scoreV q k (ix5 b h x s j) =
      if j.val ≤ s.val then (scoreOf (fun b s h x d => q (ix5 b s h x d)) (fun b s h x d => k (ix5 b s h x d)) b s h x j.val : EReal) else ⊥ := fun x j => by
    rw [scoreV_apply, hb, h8]
    refine if_congr Iff.rfl ?_ rfl
    unfold scoreOf
    rw [dif_pos j.isLt, EReal.coe_mul, ← coe_sum]
    refine congrArg (· * _) (Finset.sum_congr rfl fun d _ => ?_)
    rw [EReal.coe_mul, ← eq_toReal (hq b s h x d), ← eq_toReal (hk b j h x d)]
  have hp : ∀ (x : Fin 2) (j : Fin 8192), probV (expV (scoreV q k)) (ix5 b h x s j) =
      ((if j.val ≤ s.val then Real.exp (scoreOf (fun b s h x d => q (ix5 b s h x d)) (fun b s h x d => k (ix5 b s h x d)) b s h x j.val)
        / den (scoreOf (fun b s h x d => q (ix5 b s h x d)) (fun b s h x d => k (ix5 b s h x d)) b s h x) s.val else 0 : ℝ) : EReal) := fun x j => by
    rw [probV_apply]
    simp only [expV_apply]
    obtain ⟨M, hM⟩ := max_masked (lim := s.val) _ (fun j : Fin 8192 => scoreV q k (ix5 b h x s j)) (hσ x) _ hb
    rw [maxV_apply, hM]
    exact soft_masked s.isLt _ (fun j : Fin 8192 => scoreV q k (ix5 b h x s j)) (hσ x) M j
  refine diff_att s.isLt _ _ (valOf (fun b s h e => v (ix4 b s h e)) b h e) μ _ _ (fun n => v (ix4 b n h e)) (hp 0) (hp 1) fun j => ?_
  unfold valOf
  rw [dif_pos j.isLt]
  exact eq_toReal (hv b j h e)

end Cert.ReferenceIdeal.RefValue

end
-- ==== Proof.AttnClaim.lean ====
/- The attention program and its reference end with equal results, when the arguments but the gain are finite. -/
module

public import proofs.«01_k».proof.Proof.AttnKernel
public import proofs.«01_k».proof.Proof.AttnRef
public import proofs.«01_k».proof.Proof.Gen.Pre_inputs_finite
public import proofs.«01_k».proof.Proof.Frames
public import Idealize.ShloMosaic.Lib.ReduceAll
public import Idealize.ShloMosaic.Lib.Claim

@[expose] public section

set_option maxRecDepth 16384

noncomputable section

namespace Cert.Pre_inputs_finite.RefValue

open Idealize.ShloMosaic Cert.Pre_inputs_finite Cert.Pre_inputs_finite.Facts Cert.Pre_inputs_finite.Gen

/-- An extended real whose absolute value is below infinity is real. -/
theorem real_of_lt (x : EReal) (h : FloatOps.cmpf (F := Ideal) (φ := .f32) .olt (FloatOps.hostAbsf (F := Ideal) (φ := .f32) x) (Ideal.ofBits FTy.f32 0x7F800000#32) = 1#1) :
    ∃ r : ℝ, x = (r : EReal) := by
  have ht : Ideal.ofBits FTy.f32 0x7F800000#32 = ⊤ := by simp [Ideal.ofBits, Ideal.ieee]
  rw [ht] at h
  have h' : max x (-x) < ⊤ := by
    by_contra hn
    have : FloatOps.cmpf (F := Ideal) (φ := .f32) .olt (FloatOps.hostAbsf (F := Ideal) (φ := .f32) x) ⊤ = 0#1 := by
      show Ideal.cmp .olt (max x (-x)) ⊤ = 0#1
      simp only [Ideal.cmp, hn, decide_false]
      rfl
    rw [this] at h
    exact absurd h (by decide)
  obtain ⟨h1, h2⟩ := max_lt_iff.mp h'
  refine ⟨x.toReal, (EReal.coe_toReal h1.ne fun hb => ?_).symm⟩
  rw [hb, EReal.neg_bot] at h2
  exact lt_irrefl _ h2

/-- The scalar index. -/
instance : Subsingleton S_.Idx := ⟨fun a b => funext fun i => i.elim0⟩

/-- An array all of whose absolute values are below infinity is real everywhere. -/
theorem real_all {s : Shape} {axes : List (Fin s.rank)} (x : FVec Ideal s .f32) (hb : S_.BroadcastsInDim s (![] : Fin 0 → Fin s.rank)) (hr : s.ReducesTo axes S_)
    (h : Host.reduce IntOp.andi (cmpf .olt (Host.absf x) (broadcastInDim s ![] hb (constant S_ .f32 0x7F800000#32))) (constantI S_ 1 1#1) hr Facts.h_S_ = fun _ => 1#1) (i : s.Idx) :
    ∃ r : ℝ, x i = (r : EReal) :=
  real_of_lt (x i) (Host.reduce_andi_all _ _ hr Facts.h_S_ ix0 (congrFun h ix0) i)

/-- Both bits of a conjunction that is set are set. -/
theorem and_ones (a b : IVec S_ 1) (h : andi a b = fun _ => 1#1) : a = (fun _ => 1#1) ∧ b = fun _ => 1#1 := by
  have h2 : ∀ x y : BitVec 1, IntOp.andi x y = 1#1 → x = 1#1 ∧ y = 1#1 := by decide
  exact ⟨funext fun i => (h2 _ _ (congrFun h i)).1, funext fun i => (h2 _ _ (congrFun h i)).2⟩

/-- The precondition makes the queries, the keys, the values and the weight's parameters real. -/
theorem real_args (q k : FVec Ideal S4x8192x8x2x64 .f32) (v : FVec Ideal S4x8192x8x128 .f32) (l : FVec Ideal S1x4x64 .f32) (g : FVec Ideal S1x128 .f32)
    (h : fn (F := Ideal) q k v l g = fun _ => 1#1) :
    (∀ i, ∃ r : ℝ, q i = (r : EReal)) ∧ (∀ i, ∃ r : ℝ, k i = (r : EReal)) ∧ (∀ i, ∃ r : ℝ, v i = (r : EReal)) ∧ ∀ i, ∃ r : ℝ, l i = (r : EReal) := by
  unfold fn fn_part1 at h
  obtain ⟨h, hl⟩ := and_ones _ _ h
  obtain ⟨h, hv⟩ := and_ones _ _ h
  obtain ⟨hq, hk⟩ := and_ones _ _ h
  exact ⟨real_all q _ _ hq, real_all k _ _ hk, real_all v _ _ hv, real_all l _ _ hl⟩

end Cert.Pre_inputs_finite.RefValue

namespace Cert.Proof

open Idealize.ShloMosaic Idealize.ShloMosaic.TcCoe Idealize.SL.Sem

/-- The attention program and its reference end with equal results. -/
theorem algebraic_attn : Cert.algebraic_KernelIdeal_ReferenceIdeal_pre_inputs_finite := by
  intro m ρ m' ρ' hpre hagree
  have hreal := fun c => Cert.Pre_inputs_finite.RefValue.real_args _ _ _ _ _ (hpre c)
  have H : ∀ c, Cert.KernelIdeal.RefValue.RealArgs m c := fun c =>
    ⟨fun _ _ _ _ _ => (hreal c).1 _, fun _ _ _ _ _ => (hreal c).2.1 _, fun _ _ _ _ => (hreal c).2.2.1 _⟩
  refine ⟨fun c => Cert.KernelIdeal.RefValue.G m c, ?_, ?_⟩
  · refine (θ_run Cert.KernelIdeal.defs _ _).mono ?_ (θ_run_and (Cert.KernelIdeal.Body.run_main (F := Ideal) m ρ) (Cert.KernelIdeal.Body.frame (F := Ideal) m ρ))
    exact fun _ h c => ⟨((h.1 c).1 5).trans (Cert.KernelIdeal.RefValue.final (H c)), h.2.1 c⟩
  · refine (θ_run Cert.ReferenceIdeal.defs _ _).mono (fun _ h c => ⟨(h c).1.trans ?_, (h c).2⟩) (Cert.ReferenceIdeal.Value.run (F := Ideal) m' ρ')
    funext i
    obtain ⟨b, s, n, rfl⟩ : ∃ (b : Fin 4) (s : Fin 8192) (n : Fin 1024), i = ix3 b s n := ⟨i 0, i 1, i 2, eq_ix3 i⟩
    obtain ⟨h0, h1, h2, h3, h4⟩ := hagree c
    rw [Cert.ReferenceIdeal.RefValue.res_eq, h0, h1, h2, h3, h4]
    exact Cert.ReferenceIdeal.RefValue.steps_apply _ _ _ _ _ (fun _ _ _ _ _ => (hreal c).1 _) (fun _ _ _ _ _ => (hreal c).2.1 _) (fun _ _ _ _ => (hreal c).2.2.1 _)
      (fun _ _ => (hreal c).2.2.2 _) b s n

end Cert.Proof

end
-- ==== Proof.MixClaim.lean ====
/- The mixer program and its reference end with equal results. -/
module

public import proofs.«01_k».proof.Proof.MixKernel
public import proofs.«01_k».proof.Proof.MixRef
public import proofs.«01_k».proof.Proof.AttnClaim
public import proofs.«01_k».proof.Proof.Frames

@[expose] public section

set_option maxRecDepth 16384

noncomputable section

namespace Cert.MixIdeal.RefValue

open Idealize.ShloMosaic Idealize.ShloMosaic.TcCoe Idealize.SL.Sem
open Cert.MixIdeal Cert.MixIdeal.Gen Cert.OutMath Cert.MixMath Cert.MixRefIdeal.RefValue

variable (m : (ℓ : Loc nD τ sig) → Buf (Elt Ideal) ℓ) (ρ : Dev nD → PrngReg)

/-- The array arg0 as the launch finds it. -/
theorem V_arg0 (c : Dev nD) (b : Fin 4) (s : Fin 8192) (n : Fin 1024) : V m c main_arg0 (ix3 b s n) = m ((c : Thread nD τ).loc main_arg0) (ix3 b s n) := by
  entry_read
  rfl

/-- The array v2 as the launch finds it. -/
theorem V_v2 (c : Dev nD) (k : Fin 1) (n : Fin 1024) : V m c main_v2 (ix2 k n) = m ((c : Thread nD τ).loc main_arg1) (ix2 0 n) := by
  entry_read
  try dsimp only
  pointwise

/-- The array v5 as the launch finds it. -/
theorem V_v5 (c : Dev nD) (k : Fin 1) (n : Fin 1024) : V m c main_v5 (ix2 k n) = m ((c : Thread nD τ).loc main_arg2) (ix2 0 n) := by
  entry_read
  try dsimp only
  pointwise

/-- The array v7 as the launch finds it. -/
theorem V_v7 (c : Dev nD) (k : Fin 1024) (n : Fin 2048) : V m c main_v7 (ix2 k n) = m ((c : Thread nD τ).loc main_arg7) (ix3 0 k n) := by
  entry_read
  try dsimp only
  pointwise

/-- The array v8 as the launch finds it. -/
theorem V_v8 (c : Dev nD) (k : Fin 3) (n : Fin 512) : V m c main_v8 (ix2 k n) = m ((c : Thread nD τ).loc main_arg8) (ix3 0 k n) := by
  entry_read
  try dsimp only
  pointwise

/-- The array v10 as the launch finds it. -/
theorem V_v10 (c : Dev nD) (g : Fin 4) (i j : Fin 128) : V m c main_v10 (ix3 g i j) = m ((c : Thread nD τ).loc main_arg9) (ix4 0 g i j) := by
  entry_read
  try dsimp only
  pointwise

/-- The array v12 as the launch finds it. -/
theorem V_v12 (c : Dev nD) (k : Fin 1) (n : Fin 512) : V m c main_v12 (ix2 k n) = m ((c : Thread nD τ).loc main_arg10) (ix2 0 n) := by
  entry_read
  try dsimp only
  pointwise

/-- The array v14 as the launch finds it. -/
theorem V_v14 (c : Dev nD) (k n : Fin 1024) : V m c main_v14 (ix2 k n) = m ((c : Thread nD τ).loc main_arg11) (ix3 0 k n) := by
  entry_read
  try dsimp only
  pointwise

/-- The array v17 as the launch finds it. -/
theorem V_v17 (c : Dev nD) (k : Fin 1) (n : Fin 1024) : V m c main_v17 (ix2 k n) = m ((c : Thread nD τ).loc main_arg3) (ix2 0 n) := by
  entry_read
  try dsimp only
  pointwise

/-- The array v20 as the launch finds it. -/
theorem V_v20 (c : Dev nD) (k : Fin 1) (n : Fin 1024) : V m c main_v20 (ix2 k n) = m ((c : Thread nD τ).loc main_arg4) (ix2 0 n) := by
  entry_read
  try dsimp only
  pointwise

/-- The array v23 as the launch finds it. -/
theorem V_v23 (c : Dev nD) (k : Fin 1024) (n : Fin 4096) : V m c main_v23 (ix2 k n) = m ((c : Thread nD τ).loc main_arg5) (ix3 0 k n) := by
  entry_read
  try dsimp only
  pointwise

/-- The array v26 as the launch finds it. -/
theorem V_v26 (c : Dev nD) (k : Fin 4096) (n : Fin 1024) : V m c main_v26 (ix2 k n) = m ((c : Thread nD τ).loc main_arg6) (ix3 0 k n) := by
  entry_read
  try dsimp only
  pointwise

/-- The projected rows from the arguments. -/
theorem Pb_eq (c : Dev nD) (b : Fin 4) : Pb m c b = projOf (m ((c : Thread nD τ).loc main_arg0)) (m ((c : Thread nD τ).loc main_arg1)) (m ((c : Thread nD τ).loc main_arg7)) b := by
  funext s n
  unfold Pb projOf
  have e0 : (fun n => V m c main_arg0 (ix3 b s n)) = fun n => (m ((c : Thread nD τ).loc main_arg0)) (ix3 b s n) := funext fun n => V_arg0 m c b s n
  have e1 : (fun n => V m c main_v2 (ix2 0 n)) = fun n => (m ((c : Thread nD τ).loc main_arg1)) (ix2 0 n) := funext fun n => V_v2 m c 0 n
  have e2 : (fun k n => V m c main_v7 (ix2 k n)) = fun k n => (m ((c : Thread nD τ).loc main_arg7)) (ix3 0 k n) := funext fun k => funext fun n => V_v7 m c k n
  rw [e0, e1, e2]

/-- The launch's first result is the rows of the arguments. -/
theorem Grow_eq (c : Dev nD) (b : Fin 4) (s : Fin 8192) (n : Fin 1024) :
    Grow m c b s n = layerOf (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg2)) (m ((c : Thread nD τ).loc main_arg3)) (m ((c : Thread nD τ).loc main_arg4)) (m ((c : Thread nD τ).loc main_arg5)) (m ((c : Thread nD τ).loc main_arg6)) b s n := by
  unfold Grow layerOf
  have hw : cW m c = fun k n => (m ((c : Thread nD τ).loc main_arg8)) (ix3 0 k n) := funext fun k => funext fun n => V_v8 m c k n
  have hm : cM m c = fun g i j => (m ((c : Thread nD τ).loc main_arg9)) (ix4 0 g i j) := funext fun g => funext fun i => funext fun j => V_v10 m c g i j
  have hs : cS m c = fun n => (m ((c : Thread nD τ).loc main_arg10)) (ix2 0 n) := funext fun n => V_v12 m c 0 n
  rw [Pb_eq, hw, hm, hs]
  exact layerRow_congr n (funext fun n => V_arg0 m c b s n) rfl (funext fun k => funext fun n => V_v14 m c k n)
    (funext fun n => V_v5 m c 0 n) (funext fun n => V_v17 m c 0 n) (funext fun n => V_v20 m c 0 n)
    (funext fun k => funext fun n => V_v23 m c k n) (funext fun k => funext fun n => V_v26 m c k n)

end Cert.MixIdeal.RefValue

namespace Cert.MixRefIdeal.RefValue

open Idealize.ShloMosaic Idealize.ShloMosaic.TcCoe Idealize.SL.Sem
open Cert.MixRefIdeal Cert.MixRefIdeal.Gen Cert.OutMath Cert.MixMath Cert.MixRefIdeal.Value

variable (V0 : Valuation τ sig (Elt Ideal))

section steps

attribute [local irreducible] maximumf shapeCast addf mulf subf extractStridedSlice broadcastInDim constant Host.reduceAdd Host.divf Host.rsqrt transpose concatenate Host.reduceWindowAdd iotaInDim sitofp minsi addi

/-- The reference's projection. -/
theorem v23_eq : res_main_v23 V0 = projV (normV (V0 (Proc.devRef .tc main_arg0)) (gainV (V0 (Proc.devRef .tc main_arg1)))) (V0 (Proc.devRef .tc main_arg7)) := by
  unfold res_main_v23 projV normV gainV
  rfl

/-- The reference's convolution sequence. -/
theorem v29_eq : res_main_v29 V0 = seqC (res_main_v23 V0) := by
  unfold res_main_v29 seqC
  rfl

/-- The reference's pooled sequence. -/
theorem v51_eq : res_main_v51 V0 = seqU (res_main_v23 V0) := by
  unfold res_main_v51 seqU
  rfl

/-- The reference's running sums. -/
theorem v55_eq : res_main_v55 V0 = runU (grpU (seqU (res_main_v23 V0))) := by
  unfold res_main_v55 res_main_v52
  rw [v51_eq]
  unfold runU grpU
  rfl

/-- The reference's pooled rows. -/
theorem v125_eq : res_main_v125 V0 = poolD (iotaInDim S8192 32 0) (grpU (seqU (res_main_v23 V0))) (runU (grpU (seqU (res_main_v23 V0)))) (cutU (runU (grpU (seqU (res_main_v23 V0))))) := by
  unfold res_main_v125 res_main_v56 res_main_v52 res_main_v0
  rw [v55_eq, v51_eq]
  unfold poolD cutU grpU
  rfl

/-- The reference's output projection. -/
theorem v133_eq : res_main_v133 V0 = outV (rowsV (res_main_v23 V0) (V0 (Proc.devRef .tc main_arg8)) (V0 (Proc.devRef .tc main_arg9)) (V0 (Proc.devRef .tc main_arg10))) (V0 (Proc.devRef .tc main_arg11)) := by
  unfold res_main_v133 res_main_v19
  rw [v125_eq, v29_eq]
  unfold outV rowsV catV convV poolV
  rfl

/-- The reference's residual after the mixer. -/
theorem v151_eq : res_main_v151 V0 = resV (V0 (Proc.devRef .tc main_arg0)) (V0 (Proc.devRef .tc main_arg1)) (V0 (Proc.devRef .tc main_arg7)) (V0 (Proc.devRef .tc main_arg8))
    (V0 (Proc.devRef .tc main_arg9)) (V0 (Proc.devRef .tc main_arg10)) (V0 (Proc.devRef .tc main_arg11)) (V0 (Proc.devRef .tc main_arg2)) := by
  unfold res_main_v151
  rw [v133_eq, v23_eq]
  unfold resV normV gainV
  rfl

/-- The reference's block. -/
theorem v174_eq : res_main_v174 V0 = mlpV (normV (res_main_v151 V0) (gainV (V0 (Proc.devRef .tc main_arg3)))) (V0 (Proc.devRef .tc main_arg5)) (V0 (Proc.devRef .tc main_arg6)) := by
  unfold res_main_v174 res_main_v172 mlpV normV gainV
  rfl

/-- The reference's first result as the composition of its steps. -/
theorem v190_eq : addf (res_main_v151 V0) (mulf (mulf (res_main_v174 V0) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v174 V0) (res_main_v174 V0)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![0, 0] (V0 (Proc.devRef .tc main_arg4)) slices_S2x1024_S1x1024_0_0) shapeCasts_S1x1024_S1024))))
    = layerV (V0 (Proc.devRef .tc main_arg0)) (V0 (Proc.devRef .tc main_arg1)) (V0 (Proc.devRef .tc main_arg7)) (V0 (Proc.devRef .tc main_arg8))
    (V0 (Proc.devRef .tc main_arg9)) (V0 (Proc.devRef .tc main_arg10)) (V0 (Proc.devRef .tc main_arg11)) (V0 (Proc.devRef .tc main_arg2)) (V0 (Proc.devRef .tc main_arg3)) (V0 (Proc.devRef .tc main_arg4))
    (V0 (Proc.devRef .tc main_arg5)) (V0 (Proc.devRef .tc main_arg6)) := by
  rw [v174_eq, v151_eq]
  unfold layerV
  generalize resV _ _ _ _ _ _ _ _ = x
  unfold normV gainV
  rfl

end steps

theorem tailC_apply (x : FVec Ideal S4x8194x512 .f32) (b : Fin 4) (j : Fin 2) (ch : Fin 512) :
    extractStridedSlice S4x2x512 ![0, 8192, 0] x slices_S4x8194x512_S4x2x512_0_8192_0 (ix3 b j ch) = x (ix3 b ⟨8192 + j.val, by omega⟩ ch) := by
  pointwise

theorem tailU_apply (x : FVec Ideal S4x8207x512 .f32) (b : Fin 4) (j : Fin 15) (ch : Fin 512) :
    extractStridedSlice S4x15x512 ![0, 8192, 0] x slices_S4x8207x512_S4x15x512_0_8192_0 (ix3 b j ch) = x (ix3 b ⟨8192 + j.val, by omega⟩ ch) := by
  pointwise

/-- The reference's carried convolution rows. -/
theorem v134_apply (b : Fin 4) (j : Fin 2) (ch : Fin 512) :
    extractStridedSlice S4x2x512 ![0, 8192, 0] (res_main_v29 V0) slices_S4x8194x512_S4x2x512_0_8192_0 (ix3 b j ch)
      = cvp (projOf (V0 (Proc.devRef .tc main_arg0)) (V0 (Proc.devRef .tc main_arg1)) (V0 (Proc.devRef .tc main_arg7)) b) (8198 + j.val) ch := by
  rw [tailC_apply, v29_eq, seqC_apply, v23_eq, proj_steps]
  congr 1
  show 8192 + j.val + 6 = 8198 + j.val
  omega

/-- The reference's carried pool rows. -/
theorem v135_apply (b : Fin 4) (j : Fin 15) (ch : Fin 512) :
    extractStridedSlice S4x15x512 ![0, 8192, 0] (res_main_v51 V0) slices_S4x8207x512_S4x15x512_0_8192_0 (ix3 b j ch)
      = up (projOf (V0 (Proc.devRef .tc main_arg0)) (V0 (Proc.devRef .tc main_arg1)) (V0 (Proc.devRef .tc main_arg7)) b) (8193 + j.val) ch := by
  rw [tailU_apply, v51_eq, seqU_apply, v23_eq, proj_steps]
  congr 1
  show 8192 + j.val + 1 = 8193 + j.val
  omega

end Cert.MixRefIdeal.RefValue

namespace Cert.Pre_mix_finite.RefValue

open Idealize.ShloMosaic Cert.Pre_mix_finite Cert.Pre_mix_finite.Facts Cert.Pre_mix_finite.Gen
open Cert.Pre_inputs_finite.RefValue

/-- The precondition makes the rows, the first gains and the input projection's matrix real. -/
theorem real_args (a0 : FVec Ideal S4x8192x1024 .f32) (a1 a2 a3 a4 : FVec Ideal S2x1024 .f32) (a5 : FVec Ideal S2x1024x4096 .f32) (a6 : FVec Ideal S2x4096x1024 .f32)
    (a7 : FVec Ideal S1x1024x2048 .f32) (a8 : FVec Ideal S1x3x512 .f32) (a9 : FVec Ideal S1x4x128x128 .f32) (a10 : FVec Ideal S1x512 .f32) (a11 : FVec Ideal S1x1024x1024 .f32)
    (h : fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ ∀ i, ∃ r : ℝ, a7 i = (r : EReal) := by
  unfold fn at h
  obtain ⟨h, h7⟩ := and_ones _ _ h
  obtain ⟨h0, h1⟩ := and_ones _ _ h
  exact ⟨real_all a0 _ _ h0, real_all a1 _ _ h1, real_all a7 _ _ h7⟩

end Cert.Pre_mix_finite.RefValue

namespace Cert.Proof

open Idealize.ShloMosaic Idealize.ShloMosaic.TcCoe Idealize.SL.Sem

/-- The mixer program and its reference end with equal results. -/
theorem algebraic_mix : Cert.algebraic_MixIdeal_MixRefIdeal_pre_mix_finite := by
  intro m ρ m' ρ' hpre hagree
  have hreal := fun c => Cert.Pre_mix_finite.RefValue.real_args _ _ _ _ _ _ _ _ _ _ _ _ (hpre c)
  refine ⟨fun c => Cert.MixIdeal.RefValue.G0 m c, fun c => Cert.MixIdeal.RefValue.G1 m c, fun c => Cert.MixIdeal.RefValue.G2 m c, ?_, ?_⟩
  · refine (θ_run Cert.MixIdeal.defs _ _).mono ?_ (θ_run_and (Cert.MixIdeal.Gen.run_main (F := Ideal) m ρ) (Cert.MixIdeal.Gen.unchanged (F := Ideal) m ρ))
    exact fun _ h c => ⟨((h.1 c).1 12).trans (Cert.MixIdeal.RefValue.final0 m c), ((h.1 c).1 13).trans (Cert.MixIdeal.RefValue.final1 m c),
      ((h.1 c).1 14).trans (Cert.MixIdeal.RefValue.final2 m c), h.2 c⟩
  · refine (θ_run Cert.MixRefIdeal.defs _ _).mono (fun _ h c => ⟨(h c).1.trans ?_, (h c).2.1.trans ?_, (h c).2.2.1.trans ?_, (h c).2.2.2⟩) (Cert.MixRefIdeal.Value.run (F := Ideal) m' ρ')
    · obtain ⟨h0, h1, h2, h3, h4, h5, h6, h7, h8, h9, h10, h11⟩ := hagree c
      obtain ⟨r0, r1, r7⟩ := hreal c
      rw [Cert.MixRefIdeal.RefValue.v190_eq]
      funext i
      obtain ⟨b, s, n, rfl⟩ : ∃ (b : Fin 4) (s : Fin 8192) (n : Fin 1024), i = ix3 b s n := ⟨i 0, i 1, i 2, eq_ix3 i⟩
      refine Eq.trans ?_ (Cert.MixIdeal.RefValue.Grow_eq m c b s n).symm
      show Cert.MixRefIdeal.RefValue.layerV (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg7)) (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg9)) (m' ((c.tc : Thread Cert.MixRefIdeal.nD Cert.MixRefIdeal.τ).loc Cert.MixRefIdeal.main_arg10)) (m' ((c.tc : Thread Cert.MixRefIdeal.nD Cert.MixRefIdeal.τ).loc Cert.MixRefIdeal.main_arg11)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6)) (ix3 b s n) = _
      rw [h0, h1, h2, h3, h4, h5, h6, h7, h8, h9, h10, h11]
      exact Cert.MixRefIdeal.RefValue.layerV_apply _ _ _ _ _ _ _ _ _ _ _ _ r0 r1 r7 b s n
    · obtain ⟨h0, h1, _, _, _, _, _, h7, _⟩ := hagree c
      funext i
      obtain ⟨b, j, ch, rfl⟩ : ∃ (b : Fin 4) (j : Fin 2) (ch : Fin 512), i = ix3 b j ch := ⟨i 0, i 1, i 2, eq_ix3 i⟩
      refine (Cert.MixRefIdeal.RefValue.v134_apply _ b j ch).trans ?_
      show _ = Cert.MixMath.cvp (Cert.MixIdeal.RefValue.Pb m c b) (8198 + j.val) ch
      rw [Cert.MixIdeal.RefValue.Pb_eq]
      show Cert.MixMath.cvp (Cert.MixRefIdeal.RefValue.projOf (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg7)) b) _ _ = _
      rw [h0, h1, h7]
    · obtain ⟨h0, h1, _, _, _, _, _, h7, _⟩ := hagree c
      funext i
      obtain ⟨b, j, ch, rfl⟩ : ∃ (b : Fin 4) (j : Fin 15) (ch : Fin 512), i = ix3 b j ch := ⟨i 0, i 1, i 2, eq_ix3 i⟩
      refine (Cert.MixRefIdeal.RefValue.v135_apply _ b j ch).trans ?_
      show _ = Cert.MixMath.up (Cert.MixIdeal.RefValue.Pb m c b) (8193 + j.val) ch
      rw [Cert.MixIdeal.RefValue.Pb_eq]
      show Cert.MixMath.up (Cert.MixRefIdeal.RefValue.projOf (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg7)) b) _ _ = _
      rw [h0, h1, h7]

end Cert.Proof

end
-- ==== Proof.QkvMath.lean ====
/- The rotary positions, over the extended reals. -/
module

public import proofs.«01_k».proof.Proof.OutMath

@[expose] public section

noncomputable section

namespace Cert.QkvMath

open Idealize.ShloMosaic Cert.OutMath

/-- A projected row, each pair of halves of a head's map turned by the angles whose cosines and sines are given. -/
def rowRot (p : Fin 1024 → EReal) (c s : Fin 32 → EReal) (n : Fin 1024) : EReal :=
  if n.val % 64 < 32 then p n * c ⟨n.val % 32, by omega⟩ - p ⟨(n.val + 32) % 1024, by omega⟩ * s ⟨n.val % 32, by omega⟩
  else p n * c ⟨n.val % 32, by omega⟩ + p ⟨n.val - 32, by omega⟩ * s ⟨n.val % 32, by omega⟩

/-- A turned row in a first half. -/
theorem rowRot_lo (p : Fin 1024 → EReal) (c s : Fin 32 → EReal) (n : Fin 1024) (i : Fin 32) (n' : Fin 1024) (h : n.val % 64 = i.val) (hn : n'.val = n.val + 32) :
    rowRot p c s n = p n * c i - p n' * s i := by
  unfold rowRot
  rw [if_pos (by omega), show (⟨n.val % 32, by omega⟩ : Fin 32) = i from Fin.ext (by show n.val % 32 = i.val; omega),
    show (⟨(n.val + 32) % 1024, by omega⟩ : Fin 1024) = n' from Fin.ext (by show (n.val + 32) % 1024 = n'.val; have := n'.isLt; omega)]

/-- A turned row in a second half. -/
theorem rowRot_hi (p : Fin 1024 → EReal) (c s : Fin 32 → EReal) (n : Fin 1024) (i : Fin 32) (n' : Fin 1024) (h : n.val % 64 = 32 + i.val) (hn : n'.val + 32 = n.val) :
    rowRot p c s n = p n * c i + p n' * s i := by
  unfold rowRot
  rw [if_neg (by omega), show (⟨n.val % 32, by omega⟩ : Fin 32) = i from Fin.ext (by show n.val % 32 = i.val; omega),
    show (⟨n.val - 32, by omega⟩ : Fin 1024) = n' from Fin.ext (by show n.val - 32 = n'.val; omega)]

/-- The angle per position of a half's entry. -/
def freq (i : Fin 32) : ℝ := Real.exp (-((i.val : ℝ) / 32) * Real.log 10000)

/-- The cosine of an entry's angle at a position. -/
def cs (pos : ℕ) (i : Fin 32) : EReal := ((Real.cos ((pos : ℝ) * freq i) : ℝ) : EReal)

/-- The sine of an entry's angle at a position. -/
def sn (pos : ℕ) (i : Fin 32) : EReal := ((Real.sin ((pos : ℝ) * freq i) : ℝ) : EReal)

/-- The cosine of a sum of angles. -/
theorem cs_add (a b : ℕ) (i : Fin 32) : cs a i * cs b i - sn a i * sn b i = cs (a + b) i := by
  unfold cs sn
  rw [Nat.cast_add, add_mul, Real.cos_add]
  push_cast
  rfl

/-- The sine of a sum of angles. -/
theorem sn_add (a b : ℕ) (i : Fin 32) : sn a i * cs b i + cs a i * sn b i = sn (a + b) i := by
  unfold cs sn
  rw [Nat.cast_add, add_mul, Real.sin_add]
  push_cast
  rfl

/-- The reference's angle per position is the kernel's. -/
theorem freq_pow (i : Fin 32) : 1 / (10000 : ℝ) ^ ((i.val : ℝ) / 32) = freq i := by
  unfold freq
  rw [Real.rpow_def_of_pos (by norm_num), one_div, ← Real.exp_neg]
  congr 1
  ring

/-- A row of the queries', the keys' or the values' projection, from the arguments. -/
def pr (y : (⟨3, ![4, 8192, 1024]⟩ : Shape).Idx → EReal) (g : (⟨2, ![2, 1024]⟩ : Shape).Idx → EReal) (w : (⟨3, ![1, 1024, 3072]⟩ : Shape).Idx → EReal)
    (o : Fin 3) (b : Fin 4) (s : Fin 8192) (n : Fin 1024) : EReal :=
  lin (rms (fun n => y (ix3 b s n)) (fun n => g (ix2 1 n))) (fun k n => w (ix3 0 k ⟨1024 * o.val + n.val, by omega⟩)) n

/-- The turned row of the queries' or the keys' projection. -/
def turned (y : (⟨3, ![4, 8192, 1024]⟩ : Shape).Idx → EReal) (g : (⟨2, ![2, 1024]⟩ : Shape).Idx → EReal) (w : (⟨3, ![1, 1024, 3072]⟩ : Shape).Idx → EReal)
    (o : Fin 3) (b : Fin 4) (s : Fin 8192) (n : Fin 1024) : EReal :=
  rowRot (pr y g w o b s) (cs s.val) (sn s.val) n

/-- A head's, a map's and an entry's place in a row. -/
def at3 (h : Fin 8) (q : Fin 2) (d : Fin 64) : Fin 1024 := ⟨h.val * 128 + q.val * 64 + d.val, by omega⟩

end Cert.QkvMath

end
-- ==== Proof.QkvPay.lean ====
/- The projection program's tiles, entry by entry. -/
module

public import proofs.«01_k».proof.Proof.QkvMath
public import proofs.«01_k».proof.Proof.Gen.QkvIdeal.Frame
public import Idealize.ShloMosaic.Lib.Pipeline.Value
public import Idealize.ShloMosaic.Lib.Pipeline.ValueKit
public import Idealize.ShloMosaic.Lib.WritesUnit

@[expose] public section

set_option maxRecDepth 16384

noncomputable section

namespace Cert.QkvIdeal.RefValue

open Idealize.ShloMosaic Idealize.ShloMosaic.TcCoe Idealize.SL.Sem
open Cert.QkvIdeal Cert.QkvIdeal.Gen Cert.OutMath Cert.QkvMath

/-- Thirty-two pieces of thirty-two rows, stacked, at an index. -/
theorem cat32 (v0 v1 v2 v3 v4 v5 v6 v7 v8 v9 v10 v11 v12 v13 v14 v15 v16 v17 v18 v19 v20 v21 v22 v23 v24 v25 v26 v27 v28 v29 v30 v31 : FVec Ideal S32x512 .f32) (h) (P i : Fin 32) (n : Fin 1024) (x : Fin 512) (hn : n.val = 32 * P.val + i.val) :
    concatenate (α := EReal) S1024x512 0 [⟨S32x512, v0⟩, ⟨S32x512, v1⟩, ⟨S32x512, v2⟩, ⟨S32x512, v3⟩, ⟨S32x512, v4⟩, ⟨S32x512, v5⟩, ⟨S32x512, v6⟩, ⟨S32x512, v7⟩, ⟨S32x512, v8⟩, ⟨S32x512, v9⟩, ⟨S32x512, v10⟩, ⟨S32x512, v11⟩, ⟨S32x512, v12⟩, ⟨S32x512, v13⟩, ⟨S32x512, v14⟩, ⟨S32x512, v15⟩, ⟨S32x512, v16⟩, ⟨S32x512, v17⟩, ⟨S32x512, v18⟩, ⟨S32x512, v19⟩, ⟨S32x512, v20⟩, ⟨S32x512, v21⟩, ⟨S32x512, v22⟩, ⟨S32x512, v23⟩, ⟨S32x512, v24⟩, ⟨S32x512, v25⟩, ⟨S32x512, v26⟩, ⟨S32x512, v27⟩, ⟨S32x512, v28⟩, ⟨S32x512, v29⟩, ⟨S32x512, v30⟩, ⟨S32x512, v31⟩] h (ix2 n x) = (![v0, v1, v2, v3, v4, v5, v6, v7, v8, v9, v10, v11, v12, v13, v14, v15, v16, v17, v18, v19, v20, v21, v22, v23, v24, v25, v26, v27, v28, v29, v30, v31] : Fin 32 → FVec Ideal S32x512 .f32) P (ix2 i x) := by
  refine concatenate_ofFn_apply (t := S1024x512) (s₁ := S32x512) 0 (![v0, v1, v2, v3, v4, v5, v6, v7, v8, v9, v10, v11, v12, v13, v14, v15, v16, v17, v18, v19, v20, v21, v22, v23, v24, v25, v26, v27, v28, v29, v30, v31] : Fin 32 → FVec Ideal S32x512 .f32) h rfl 32 rfl (ix2 n x) P ?_ (ix2 i x) ?_ ?_
  · show n.val / 32 = P.val
    omega
  · show i.val = n.val % 32
    omega
  · intro b hb
    fin_cases b
    · exact absurd rfl hb
    · rfl

/-- A piece of a pair's first half. -/
theorem lo_piece (M : FVec Ideal S1024x512 .f32) (C D : FVec Ideal S32x512 .f32) (o : ℕ) (h h') (ho : o % 64 = 0) (i : Fin 32) (n : Fin 1024) (x : Fin 512) (hn : n.val = o + i.val) :
    subf (mulf (extractStridedSlice S32x512 ![o, 0] M h) C) (mulf (extractStridedSlice S32x512 ![o + 32, 0] M h') D) (ix2 i x)
      = rowRot (fun n => M (ix2 n x)) (fun i => C (ix2 i x)) (fun i => D (ix2 i x)) n := by
  rw [rowRot_lo _ _ _ n i ⟨(n.val + 32) % 1024, by omega⟩ (by omega) (by show (n.val + 32) % 1024 = n.val + 32; have := n.isLt; omega)]
  show M _ * _ - M _ * _ = _
  congr 3
  · exact (funext fun k => by
      fin_cases k
      · exact Fin.ext hn.symm
      · exact Fin.ext (by show 0 + x.val = x.val; omega))
  · exact (funext fun k => by
      fin_cases k
      · exact Fin.ext (by show o + 32 + i.val = (n.val + 32) % 1024; have := n.isLt; omega)
      · exact Fin.ext (by show 0 + x.val = x.val; omega))

/-- A piece of a pair's second half. -/
theorem hi_piece (M : FVec Ideal S1024x512 .f32) (C D : FVec Ideal S32x512 .f32) (o : ℕ) (h h') (ho : o % 64 = 0) (i : Fin 32) (n : Fin 1024) (x : Fin 512) (hn : n.val = o + 32 + i.val) :
    addf (mulf (extractStridedSlice S32x512 ![o + 32, 0] M h') C) (mulf (extractStridedSlice S32x512 ![o, 0] M h) D) (ix2 i x)
      = rowRot (fun n => M (ix2 n x)) (fun i => C (ix2 i x)) (fun i => D (ix2 i x)) n := by
  rw [rowRot_hi _ _ _ n i ⟨n.val - 32, by omega⟩ (by omega) (by show n.val - 32 + 32 = n.val; omega)]
  show M _ * _ + M _ * _ = _
  congr 3
  · exact (funext fun k => by
      fin_cases k
      · exact Fin.ext hn.symm
      · exact Fin.ext (by show 0 + x.val = x.val; omega))
  · exact (funext fun k => by
      fin_cases k
      · exact Fin.ext (by show o + i.val = n.val - 32; omega)
      · exact Fin.ext (by show 0 + x.val = x.val; omega))

/-- A tile with a leading axis of one, at an index. -/
theorem tile_apply (w : FVec Ideal S1024x512 .f32) (n : Fin 1024) (x : Fin 512) : shapeCast S1x1024x512 w shapeCasts_S1024x512_S1x1024x512 (ix3 0 n x) = w (ix2 n x) := by
  pointwise

/-- The same of the narrowed tile. -/
theorem pay52_apply (w : FVec Ideal S1024x512 .f32) (n : Fin 1024) (x : Fin 512) : k0_pay52 w (ix3 0 n x) = w (ix2 n x) := by
  unfold k0_pay52
  pointwise

/-- The norm, at an index. -/
theorem pay11_apply (x0 : Vec Ideal S1x512x1024 .f32) (x1 : Vec Ideal S1x1024 .f32) (r : Fin 512) (n : Fin 1024) :
    k0_pay11 x0 x1 (ix2 r n) = rms (fun n => x0 (ix3 0 r n)) (fun n => x1 (ix2 0 n)) n := by
  unfold k0_pay11 rms
  pointwise

/-- The projection to queries, at an index. -/
theorem pay12_apply (x0 : Vec Ideal S1x512x1024 .f32) (x1 : Vec Ideal S1x1024 .f32) (x2 : Vec Ideal S1024x1024 .bf16) (n : Fin 1024) (r : Fin 512) :
    k0_pay12 x0 x1 x2 (ix2 n r) = ∑ k, x2 (ix2 n k) * k0_pay11 x0 x1 (ix2 r k) := by
  unfold k0_pay12
  pointwise

/-- The projection to keys, at an index. -/
theorem pay53_apply (h : FVec Ideal S512x1024 .bf16) (x3 : Vec Ideal S1024x1024 .bf16) (n : Fin 1024) (r : Fin 512) :
    k0_pay53 h x3 (ix2 n r) = ∑ k, x3 (ix2 n k) * h (ix2 r k) := by
  unfold k0_pay53
  pointwise

/-- The values' tile, at an index. -/
theorem v_apply (h : FVec Ideal S512x1024 .bf16) (x4 : Vec Ideal S1024x1024 .bf16) (r : Fin 512) (n : Fin 1024) :
    k0_pay113 h x4 (ix3 0 r n) = lin (fun k => h (ix2 r k)) (fun k n => x4 (ix2 k n)) n := by
  unfold k0_pay113 k0_pay112 lin
  pointwise

/-- The queries' tile, at an index. -/
theorem q_apply (i : grid0.Coords) (S0 S1 : Vec Ideal S32x512 .f32) (x0 : Vec Ideal S1x512x1024 .f32) (x1 : Vec Ideal S1x1024 .f32) (x2 : Vec Ideal S1024x1024 .bf16) (n : Fin 1024) (x : Fin 512) :
    k0_pay52 (k0_pay51 (k0_pay9 (k0_pay7 i) (k0_pay8 i S0) S1) (k0_pay10 (k0_pay6 i) (k0_pay7 i) S0 S1) (k0_pay12 x0 x1 x2) (k0_pay15 (k0_pay6 i) (k0_pay7 i) (k0_pay8 i S0) S1 S0 S1 x0 x1 x2)
        (k0_pay16 (k0_pay6 i) (k0_pay7 i) (k0_pay8 i S0) S1 S0 S1 x0 x1 x2)
        (k0_pay21 (k0_pay19 (k0_pay7 i) (k0_pay8 i S0) S1 x0 x1 x2) (k0_pay20 (k0_pay6 i) (k0_pay7 i) S0 S1 x0 x1 x2))
        (k0_pay22 (k0_pay9 (k0_pay7 i) (k0_pay8 i S0) S1) (k0_pay10 (k0_pay6 i) (k0_pay7 i) S0 S1) (k0_pay17 x0 x1 x2) (k0_pay18 x0 x1 x2)) (k0_pay25 (k0_pay9 (k0_pay7 i) (k0_pay8 i S0) S1) (k0_pay10 (k0_pay6 i) (k0_pay7 i) S0 S1) (k0_pay12 x0 x1 x2)) (k0_pay26 (k0_pay9 (k0_pay7 i) (k0_pay8 i S0) S1) (k0_pay10 (k0_pay6 i) (k0_pay7 i) S0 S1) (k0_pay12 x0 x1 x2)) (k0_pay29 (k0_pay9 (k0_pay7 i) (k0_pay8 i S0) S1) (k0_pay10 (k0_pay6 i) (k0_pay7 i) S0 S1) (k0_pay12 x0 x1 x2)) (k0_pay30 (k0_pay9 (k0_pay7 i) (k0_pay8 i S0) S1) (k0_pay10 (k0_pay6 i) (k0_pay7 i) S0 S1) (k0_pay12 x0 x1 x2)) (k0_pay33 (k0_pay9 (k0_pay7 i) (k0_pay8 i S0) S1) (k0_pay10 (k0_pay6 i) (k0_pay7 i) S0 S1) (k0_pay12 x0 x1 x2)) (k0_pay34 (k0_pay9 (k0_pay7 i) (k0_pay8 i S0) S1) (k0_pay10 (k0_pay6 i) (k0_pay7 i) S0 S1) (k0_pay12 x0 x1 x2)) (k0_pay37 (k0_pay9 (k0_pay7 i) (k0_pay8 i S0) S1) (k0_pay10 (k0_pay6 i) (k0_pay7 i) S0 S1) (k0_pay12 x0 x1 x2)) (k0_pay38 (k0_pay9 (k0_pay7 i) (k0_pay8 i S0) S1) (k0_pay10 (k0_pay6 i) (k0_pay7 i) S0 S1) (k0_pay12 x0 x1 x2)) (k0_pay41 (k0_pay9 (k0_pay7 i) (k0_pay8 i S0) S1) (k0_pay10 (k0_pay6 i) (k0_pay7 i) S0 S1) (k0_pay12 x0 x1 x2)) (k0_pay42 (k0_pay9 (k0_pay7 i) (k0_pay8 i S0) S1) (k0_pay10 (k0_pay6 i) (k0_pay7 i) S0 S1) (k0_pay12 x0 x1 x2)) (k0_pay45 (k0_pay9 (k0_pay7 i) (k0_pay8 i S0) S1) (k0_pay10 (k0_pay6 i) (k0_pay7 i) S0 S1) (k0_pay12 x0 x1 x2)) (k0_pay46 (k0_pay9 (k0_pay7 i) (k0_pay8 i S0) S1) (k0_pay10 (k0_pay6 i) (k0_pay7 i) S0 S1) (k0_pay12 x0 x1 x2)) (k0_pay49 (k0_pay9 (k0_pay7 i) (k0_pay8 i S0) S1) (k0_pay10 (k0_pay6 i) (k0_pay7 i) S0 S1) (k0_pay12 x0 x1 x2)) (k0_pay50 (k0_pay9 (k0_pay7 i) (k0_pay8 i S0) S1) (k0_pay10 (k0_pay6 i) (k0_pay7 i) S0 S1) (k0_pay12 x0 x1 x2))) (ix3 0 n x)
      = rowRot (fun n => k0_pay12 x0 x1 x2 (ix2 n x)) (fun j => k0_pay9 (k0_pay7 i) (k0_pay8 i S0) S1 (ix2 j x)) (fun j => k0_pay10 (k0_pay6 i) (k0_pay7 i) S0 S1 (ix2 j x)) n * (((8 * (Real.log 2))⁻¹ : ℝ) : EReal) := by
  obtain ⟨P, j, hn⟩ : ∃ P j : Fin 32, n.val = 32 * P.val + j.val := ⟨⟨n.val / 32, by omega⟩, ⟨n.val % 32, by omega⟩, by show n.val = 32 * (n.val / 32) + n.val % 32; omega⟩
  rw [pay52_apply]
  dsimp only [k0_pay51]
  refine congrArg₂ (· * ·) ((cat32 _ _ _ _ _ _ _ _ _ _ _ _ _ _ _ _ _ _ _ _ _ _ _ _ _ _ _ _ _ _ _ _ _ P j n x hn).trans ?_) ?_
  · have L := lo_piece (k0_pay12 x0 x1 x2) (k0_pay9 (k0_pay7 i) (k0_pay8 i S0) S1) (k0_pay10 (k0_pay6 i) (k0_pay7 i) S0 S1)
    have H := hi_piece (k0_pay12 x0 x1 x2) (k0_pay9 (k0_pay7 i) (k0_pay8 i S0) S1) (k0_pay10 (k0_pay6 i) (k0_pay7 i) S0 S1)
    fin_cases P
    · exact L 0 (by decide) (by decide) rfl j n x hn
    · exact H 0 (by decide) (by decide) rfl j n x hn
    · exact L 64 (by decide) (by decide) rfl j n x hn
    · exact H 64 (by decide) (by decide) rfl j n x hn
    · exact L 128 (by decide) (by decide) rfl j n x hn
    · exact H 128 (by decide) (by decide) rfl j n x hn
    · exact L 192 (by decide) (by decide) rfl j n x hn
    · exact H 192 (by decide) (by decide) rfl j n x hn
    · exact L 256 (by decide) (by decide) rfl j n x hn
    · exact H 256 (by decide) (by decide) rfl j n x hn
    · exact L 320 (by decide) (by decide) rfl j n x hn
    · exact H 320 (by decide) (by decide) rfl j n x hn
    · exact L 384 (by decide) (by decide) rfl j n x hn
    · exact H 384 (by decide) (by decide) rfl j n x hn
    · exact L 448 (by decide) (by decide) rfl j n x hn
    · exact H 448 (by decide) (by decide) rfl j n x hn
    · exact L 512 (by decide) (by decide) rfl j n x hn
    · exact H 512 (by decide) (by decide) rfl j n x hn
    · exact L 576 (by decide) (by decide) rfl j n x hn
    · exact H 576 (by decide) (by decide) rfl j n x hn
    · exact L 640 (by decide) (by decide) rfl j n x hn
    · exact H 640 (by decide) (by decide) rfl j n x hn
    · exact L 704 (by decide) (by decide) rfl j n x hn
    · exact H 704 (by decide) (by decide) rfl j n x hn
    · exact L 768 (by decide) (by decide) rfl j n x hn
    · exact H 768 (by decide) (by decide) rfl j n x hn
    · exact L 832 (by decide) (by decide) rfl j n x hn
    · exact H 832 (by decide) (by decide) rfl j n x hn
    · exact L 896 (by decide) (by decide) rfl j n x hn
    · exact H 896 (by decide) (by decide) rfl j n x hn
    · exact L 960 (by decide) (by decide) rfl j n x hn
    · exact H 960 (by decide) (by decide) rfl j n x hn
  · rfl

/-- The keys' tile, at an index. -/
theorem k_apply (C D : FVec Ideal S32x512 .f32) (h : FVec Ideal S512x1024 .bf16) (x3 : Vec Ideal S1024x1024 .bf16) (n : Fin 1024) (x : Fin 512) :
    k0_pay110 C D (k0_pay53 h x3) (k0_pay56 C D h x3) (k0_pay57 C D h x3) (k0_pay60 C D h x3) (k0_pay61 C D h x3) (k0_pay64 C D h x3) (k0_pay65 C D h x3) (k0_pay68 C D h x3) (k0_pay69 C D h x3) (k0_pay72 C D h x3) (k0_pay73 C D h x3) (k0_pay76 C D h x3) (k0_pay78 D (k0_pay74 h x3) (k0_pay77 C h x3)) (k0_pay81 C D (k0_pay53 h x3)) (k0_pay82 C D (k0_pay53 h x3)) (k0_pay85 C D (k0_pay53 h x3)) (k0_pay86 C D (k0_pay53 h x3)) (k0_pay89 C D (k0_pay53 h x3)) (k0_pay90 C D (k0_pay53 h x3)) (k0_pay93 C D (k0_pay53 h x3)) (k0_pay94 C D (k0_pay53 h x3)) (k0_pay97 C D (k0_pay53 h x3)) (k0_pay98 C D (k0_pay53 h x3)) (k0_pay101 C D (k0_pay53 h x3)) (k0_pay102 C D (k0_pay53 h x3)) (k0_pay105 C D (k0_pay53 h x3)) (k0_pay106 C D (k0_pay53 h x3)) (k0_pay107 (k0_pay53 h x3)) (k0_pay108 (k0_pay53 h x3)) (ix3 0 n x)
      = rowRot (fun n => k0_pay53 h x3 (ix2 n x)) (fun j => C (ix2 j x)) (fun j => D (ix2 j x)) n := by
  obtain ⟨P, j, hn⟩ : ∃ P j : Fin 32, n.val = 32 * P.val + j.val := ⟨⟨n.val / 32, by omega⟩, ⟨n.val % 32, by omega⟩, by show n.val = 32 * (n.val / 32) + n.val % 32; omega⟩
  unfold k0_pay110
  rw [tile_apply]
  dsimp only [k0_pay109]
  refine (cat32 _ _ _ _ _ _ _ _ _ _ _ _ _ _ _ _ _ _ _ _ _ _ _ _ _ _ _ _ _ _ _ _ _ P j n x hn).trans ?_
  · have L := lo_piece (k0_pay53 h x3) C D
    have H := hi_piece (k0_pay53 h x3) C D
    fin_cases P
    · exact L 0 (by decide) (by decide) rfl j n x hn
    · exact H 0 (by decide) (by decide) rfl j n x hn
    · exact L 64 (by decide) (by decide) rfl j n x hn
    · exact H 64 (by decide) (by decide) rfl j n x hn
    · exact L 128 (by decide) (by decide) rfl j n x hn
    · exact H 128 (by decide) (by decide) rfl j n x hn
    · exact L 192 (by decide) (by decide) rfl j n x hn
    · exact H 192 (by decide) (by decide) rfl j n x hn
    · exact L 256 (by decide) (by decide) rfl j n x hn
    · exact H 256 (by decide) (by decide) rfl j n x hn
    · exact L 320 (by decide) (by decide) rfl j n x hn
    · exact H 320 (by decide) (by decide) rfl j n x hn
    · exact L 384 (by decide) (by decide) rfl j n x hn
    · exact H 384 (by decide) (by decide) rfl j n x hn
    · exact L 448 (by decide) (by decide) rfl j n x hn
    · exact H 448 (by decide) (by decide) rfl j n x hn
    · exact L 512 (by decide) (by decide) rfl j n x hn
    · exact H 512 (by decide) (by decide) rfl j n x hn
    · exact L 576 (by decide) (by decide) rfl j n x hn
    · exact H 576 (by decide) (by decide) rfl j n x hn
    · exact L 640 (by decide) (by decide) rfl j n x hn
    · exact H 640 (by decide) (by decide) rfl j n x hn
    · exact L 704 (by decide) (by decide) rfl j n x hn
    · exact H 704 (by decide) (by decide) rfl j n x hn
    · exact L 768 (by decide) (by decide) rfl j n x hn
    · exact H 768 (by decide) (by decide) rfl j n x hn
    · exact L 832 (by decide) (by decide) rfl j n x hn
    · exact H 832 (by decide) (by decide) rfl j n x hn
    · exact L 896 (by decide) (by decide) rfl j n x hn
    · exact H 896 (by decide) (by decide) rfl j n x hn
    · exact L 960 (by decide) (by decide) rfl j n x hn
    · exact H 960 (by decide) (by decide) rfl j n x hn

end Cert.QkvIdeal.RefValue

end
-- ==== Proof.QkvTrig.lean ====
/- The projection program's cosines and sines. -/
module

public import proofs.«01_k».proof.Proof.QkvMath
public import proofs.«01_k».proof.Proof.Gen.QkvIdeal.Frame
public import Idealize.ShloMosaic.Lib.Pipeline.Value
public import Idealize.ShloMosaic.Lib.Pipeline.ValueKit

@[expose] public section

set_option maxRecDepth 16384

noncomputable section

namespace Cert.QkvIdeal.RefValue

open Idealize.ShloMosaic Idealize.ShloMosaic.TcCoe Idealize.SL.Sem
open Cert.QkvIdeal Cert.QkvIdeal.Gen Cert.OutMath Cert.QkvMath

/-- The base of the angles. -/
theorem word_base : Ideal.ofBits FTy.f32 0x461C4000#32 = ((10000 : ℝ) : EReal) := by
  rw [show (10000 : ℝ) = 10240000 * (2 ^ 10)⁻¹ by norm_num]; simp [Ideal.ofBits, Ideal.ieee]

/-- The step of the exponents. -/
theorem word_step : Ideal.ofBits FTy.f32 0x3D000000#32 = ((1 / 32 : ℝ) : EReal) := by
  rw [show (1 / 32 : ℝ) = 8388608 * (2 ^ 28)⁻¹ by norm_num]; simp [Ideal.ofBits, Ideal.ieee]

/-- Zero. -/
theorem word_zero : Ideal.ofBits FTy.f32 0x00000000#32 = ((0 : ℝ) : EReal) := by
  simp [Ideal.ofBits, Ideal.ieee]

/-- The integer of a row of a pair's half. -/
theorem row_word (i : Fin 32) :
    Scalar.select (IntOp.andi (IntOp.xori (IntOp.cmpi .slt (IntOp.remsi .vector (BitVec.ofNat 32 i.val) 32#32) 0#32) (Scalar.cmpi .slt 32#32 0#32)) (IntOp.cmpi .ne (IntOp.remsi .vector (BitVec.ofNat 32 i.val) 32#32) 0#32))
      (IntOp.addi (IntOp.remsi .vector (BitVec.ofNat 32 i.val) 32#32) 32#32) (IntOp.remsi .vector (BitVec.ofNat 32 i.val) 32#32) = BitVec.ofNat 32 i.val := by
  revert i; decide

/-- A small integer's float. -/
theorem toInt_small (n : ℕ) (h : n < 8192) : FloatOps.sitofp (F := Ideal) FTy.f32 (BitVec.ofNat 32 n) = ((n : ℝ) : EReal) := by
  show (((BitVec.ofNat 32 n).toInt : ℝ) : EReal) = _
  rw [BitVec.toInt_eq_toNat_of_lt (by rw [BitVec.toNat_ofNat, Nat.mod_eq_of_lt (by omega)]; omega), BitVec.toNat_ofNat, Nat.mod_eq_of_lt (by omega)]
  rfl

attribute [local irreducible] Ideal.ofBits

/-- The angles per position. -/
theorem pay1_apply (i : Fin 32) : k0_pay1 (F := Ideal) (ix2 i 0) = ((freq i : ℝ) : EReal) := by
  have e : k0_pay1 (F := Ideal) (ix2 i 0) = Ideal.exp ((Ideal.ofBits FTy.f32 0x00000000#32 - FloatOps.sitofp (F := Ideal) FTy.f32 (Scalar.select (IntOp.andi (IntOp.xori (IntOp.cmpi .slt (IntOp.remsi .vector (BitVec.ofNat 32 i.val) 32#32) 0#32) (Scalar.cmpi .slt 32#32 0#32)) (IntOp.cmpi .ne (IntOp.remsi .vector (BitVec.ofNat 32 i.val) 32#32) 0#32))
      (IntOp.addi (IntOp.remsi .vector (BitVec.ofNat 32 i.val) 32#32) 32#32) (IntOp.remsi .vector (BitVec.ofNat 32 i.val) 32#32)) * Ideal.ofBits FTy.f32 0x3D000000#32) * Ideal.log (Ideal.ofBits FTy.f32 0x461C4000#32)) := by
    unfold k0_pay1
    pointwise
    rw [show Scalar.select (Scalar.cmpi .eq (32#32) (0#32)) (1#32) (32#32) = 32#32 from by decide]
  rw [e, row_word, toInt_small _ (by have := i.isLt; omega), word_zero, word_step, word_base]
  rw [← EReal.coe_mul, ← EReal.coe_sub, show Ideal.log ((10000 : ℝ) : EReal) = ((Real.log 10000 : ℝ) : EReal) from if_neg (by norm_num), ← EReal.coe_mul]
  show ((Real.exp _ : ℝ) : EReal) = _
  unfold freq
  congr 2
  ring

/-- The columns' numbers. -/
theorem pay2_apply (i : Fin 32) (x : Fin 512) : k0_pay2 (F := Ideal) (ix2 i x) = ((x.val : ℝ) : EReal) := by
  rw [← toInt_small x.val (by have := x.isLt; omega)]
  unfold k0_pay2
  pointwise

/-- The cosines of the columns' angles. -/
theorem pay3_apply (i : Fin 32) (x : Fin 512) : k0_pay3 (F := Ideal) (ix2 i x) = cs x.val i := by
  have e : k0_pay3 (F := Ideal) (ix2 i x) = Ideal.cos (k0_pay2 (F := Ideal) (ix2 i x) * k0_pay1 (F := Ideal) (ix2 i 0)) := by
    unfold k0_pay3
    pointwise
  rw [e, pay2_apply, pay1_apply, ← EReal.coe_mul]
  rfl

/-- The sines of the columns' angles. -/
theorem pay4_apply (i : Fin 32) (x : Fin 512) : k0_pay4 (F := Ideal) (ix2 i x) = sn x.val i := by
  have e : k0_pay4 (F := Ideal) (ix2 i x) = Ideal.sin (k0_pay2 (F := Ideal) (ix2 i x) * k0_pay1 (F := Ideal) (ix2 i 0)) := by
    unfold k0_pay4
    pointwise
  rw [e, pay2_apply, pay1_apply, ← EReal.coe_mul]
  rfl

/-- A tile's first position. -/
theorem pay5_apply (i : grid0.Coords) : k0_pay5 (F := Ideal) i = (((512 * (i 1).val : ℕ) : ℝ) : EReal) := by
  have h : (i 1).val < 16 := (i 1).isLt
  rw [← toInt_small (512 * (i 1).val) (by omega)]
  show FloatOps.sitofp (F := Ideal) FTy.f32 (BitVec.ofNat 32 (i 1).val * 512#32) = _
  congr 1
  rw [mul_comm]
  exact (BitVec.ofNat_mul _ _).symm

/-- The cosines of a tile's first angles. -/
theorem pay6_apply (i : grid0.Coords) (j : Fin 32) : k0_pay6 (F := Ideal) i (ix2 j 0) = cs (512 * (i 1).val) j := by
  have e : k0_pay6 (F := Ideal) i (ix2 j 0) = Ideal.cos (k0_pay5 (F := Ideal) i * k0_pay1 (F := Ideal) (ix2 j 0)) := by
    unfold k0_pay6
    pointwise
  rw [e, pay5_apply, pay1_apply, ← EReal.coe_mul]
  rfl

/-- The sines of a tile's first angles. -/
theorem pay7_apply (i : grid0.Coords) (j : Fin 32) : k0_pay7 (F := Ideal) i (ix2 j 0) = sn (512 * (i 1).val) j := by
  have e : k0_pay7 (F := Ideal) i (ix2 j 0) = Ideal.sin (k0_pay5 (F := Ideal) i * k0_pay1 (F := Ideal) (ix2 j 0)) := by
    unfold k0_pay7
    pointwise
  rw [e, pay5_apply, pay1_apply, ← EReal.coe_mul]
  rfl

/-- The tile's cosines, by the addition of angles. -/
theorem cos_apply (i : grid0.Coords) (j : Fin 32) (x : Fin 512) :
    k0_pay9 (F := Ideal) (k0_pay7 i) (k0_pay8 i (k0_pay3 (F := Ideal))) (k0_pay4 (F := Ideal)) (ix2 j x) = cs (512 * (i 1).val + x.val) j := by
  have e : k0_pay9 (F := Ideal) (k0_pay7 i) (k0_pay8 i (k0_pay3 (F := Ideal))) (k0_pay4 (F := Ideal)) (ix2 j x)
      = k0_pay6 (F := Ideal) i (ix2 j 0) * k0_pay3 (F := Ideal) (ix2 j x) - k0_pay7 (F := Ideal) i (ix2 j 0) * k0_pay4 (F := Ideal) (ix2 j x) := by
    unfold k0_pay9 k0_pay8
    pointwise
  rw [e, pay6_apply, pay7_apply, pay3_apply, pay4_apply, cs_add]

/-- The tile's sines, by the addition of angles. -/
theorem sin_apply (i : grid0.Coords) (j : Fin 32) (x : Fin 512) :
    k0_pay10 (F := Ideal) (k0_pay6 i) (k0_pay7 i) (k0_pay3 (F := Ideal)) (k0_pay4 (F := Ideal)) (ix2 j x) = sn (512 * (i 1).val + x.val) j := by
  have e : k0_pay10 (F := Ideal) (k0_pay6 i) (k0_pay7 i) (k0_pay3 (F := Ideal)) (k0_pay4 (F := Ideal)) (ix2 j x)
      = k0_pay7 (F := Ideal) i (ix2 j 0) * k0_pay3 (F := Ideal) (ix2 j x) + k0_pay6 (F := Ideal) i (ix2 j 0) * k0_pay4 (F := Ideal) (ix2 j x) := by
    unfold k0_pay10
    pointwise
  rw [e, pay6_apply, pay7_apply, pay3_apply, pay4_apply, sn_add]

end Cert.QkvIdeal.RefValue

end
-- ==== Proof.QkvKernel.lean ====
/- The projection program's results. -/
module

public import proofs.«01_k».proof.Proof.QkvPay
public import proofs.«01_k».proof.Proof.QkvTrig
public import proofs.«01_k».proof.Proof.Gen.QkvIdeal.Frame
public import Idealize.ShloMosaic.Lib.Pipeline.Value
public import Idealize.ShloMosaic.Lib.Pipeline.ValueKit
public import Idealize.ShloMosaic.Lib.WritesUnit

@[expose] public section

set_option maxRecDepth 16384

noncomputable section

namespace Cert.QkvIdeal.RefValue

open Idealize.ShloMosaic Idealize.ShloMosaic.TcCoe Idealize.SL.Sem
open Cert.QkvIdeal Cert.QkvIdeal.Gen Cert.OutMath Cert.QkvMath

variable (m : (ℓ : Loc nD τ sig) → Buf (Elt Ideal) ℓ) (ρ : Dev nD → PrngReg)

/-- Where each window sits. -/
theorem idx : ∀ t : Fin cfg0.N, win0_0.index t = ![t.val / 16, t.val % 16, 0] ∧ win0_1.index t = ![0, 0] ∧ win0_2.index t = ![0, 0] ∧ win0_3.index t = ![0, 0] ∧ win0_4.index t = ![0, 0]
    ∧ win0_5.index t = ![t.val / 16, 0, t.val % 16] ∧ win0_6.index t = ![t.val / 16, 0, t.val % 16] ∧ win0_8.index t = ![t.val / 16, t.val % 16, 0] := by
  decide +kernel

/-- A point's second coordinate. -/
theorem coord1 : ∀ t : Fin cfg0.N, (grid0.coords t 1).val = t.val % 16 := by
  decide +kernel

/-- A point's batch. -/
def bt (t : Fin cfg0.N) : Fin 4 := ⟨t.val / 16, by have := t.isLt; have : cfg0.N = 64 := N_0; omega⟩

/-- A row of a point's block, as a position. -/
def post (t : Fin cfg0.N) (r : Fin 512) : Fin 8192 := ⟨t.val % 16 * 512 + r.val, by omega⟩

/-- The rows' block. -/
theorem iblk0_apply (c : Dev nD) (t : Fin cfg0.N) (r : Fin 512) (n : Fin 1024) : iblk m c 0 t (ix3 0 r n) = m ((c : Thread nD τ).loc main_arg0) (ix3 (bt t) (post t r) n) := by
  obtain ⟨e0, _⟩ := idx t
  refine Eq.trans (b := V m c main_arg0 (ix3 (bt t) (post t r) n)) ?_ (by entry_read; rfl)
  unfold iblk
  blk_ext [e0, bt, post]

/-- The gain's block. -/
theorem iblk1_apply (c : Dev nD) (t : Fin cfg0.N) (n : Fin 1024) : iblk m c 1 t (ix2 0 n) = m ((c : Thread nD τ).loc main_arg1) (ix2 1 n) := by
  obtain ⟨_, e1, _⟩ := idx t
  refine Eq.trans (b := V m c main_v7 (ix2 0 n)) ?_ ?_
  · unfold iblk
    blk_ext [e1]
  · change StableHlo.after hostOps0 (fun b => m (c, b)) (Proc.devRef .tc main_v7) (ix2 0 n) = _
    entry_read
    try dsimp only
    pointwise

/-- The queries' weights' block. -/
theorem iblk2_apply (c : Dev nD) (t : Fin cfg0.N) (n k : Fin 1024) : iblk m c 2 t (ix2 n k) = m ((c : Thread nD τ).loc main_arg2) (ix3 0 k ⟨1024 * (0 : Fin 3).val + n.val, by show 1024 * 0 + n.val < 3072; omega⟩) := by
  obtain ⟨_, _, e2, _⟩ := idx t
  refine Eq.trans (b := V m c main_v8 (ix2 n k)) ?_ ?_
  · unfold iblk
    blk_ext [e2]
  · change StableHlo.after hostOps0 (fun b => m (c, b)) (Proc.devRef .tc main_v8) (ix2 n k) = _
    entry_read
    try dsimp only
    pointwise

/-- The keys' weights' block. -/
theorem iblk3_apply (c : Dev nD) (t : Fin cfg0.N) (n k : Fin 1024) : iblk m c 3 t (ix2 n k) = m ((c : Thread nD τ).loc main_arg2) (ix3 0 k ⟨1024 * (1 : Fin 3).val + n.val, by show 1024 * 1 + n.val < 3072; omega⟩) := by
  obtain ⟨_, _, _, e3, _⟩ := idx t
  refine Eq.trans (b := V m c main_v9 (ix2 n k)) ?_ ?_
  · unfold iblk
    blk_ext [e3]
  · change StableHlo.after hostOps0 (fun b => m (c, b)) (Proc.devRef .tc main_v9) (ix2 n k) = _
    entry_read
    try dsimp only
    pointwise

/-- The values' weights' block. -/
theorem iblk4_apply (c : Dev nD) (t : Fin cfg0.N) (k n : Fin 1024) : iblk m c 4 t (ix2 k n) = m ((c : Thread nD τ).loc main_arg2) (ix3 0 k ⟨1024 * (2 : Fin 3).val + n.val, by show 1024 * 2 + n.val < 3072; omega⟩) := by
  obtain ⟨_, _, _, _, e4, _⟩ := idx t
  refine Eq.trans (b := V m c main_v4 (ix2 k n)) ?_ ?_
  · unfold iblk
    blk_ext [e4]
  · change StableHlo.after hostOps0 (fun b => m (c, b)) (Proc.devRef .tc main_v4) (ix2 k n) = _
    entry_read
    try dsimp only
    pointwise

/-- The carried tables at every point: the columns' cosines and sines. -/
theorem scr (c : Dev nD) : ∀ (n : ℕ) (h : n < cfg0.N), (outsAt0 m c n h).2.2.2.2.2.1 = k0_pay3 (F := Ideal) ∧ (outsAt0 m c n h).2.2.2.2.2.2 = k0_pay4 (F := Ideal)
  | 0, h => by
    have e := outsAt0_A m c ⟨0, h⟩ rfl
    dsimp only at e
    rw [e]
    constructor
    · funext y
      frame_out
    · funext y
      frame_out
  | n + 1, h => by
    have ih := scr c n (Nat.lt_of_succ_lt h)
    have e := outsAt0_B m c ⟨n + 1, h⟩ (by have : cfg0.N = 64 := N_0; show ¬ (n + 1) % 64 = 0; omega)
    dsimp only at e
    rw [e]
    constructor
    · exact ih.1
    · exact ih.2

/-- The point's turned projections, from the arguments. -/
abbrev T (c : Dev nD) (o : Fin 3) := turned (m ((c : Thread nD τ).loc main_arg0)) (m ((c : Thread nD τ).loc main_arg1)) (m ((c : Thread nD τ).loc main_arg2)) o

/-- The norm's rows at a point. -/
theorem norm_eq (c : Dev nD) (t : Fin cfg0.N) (r : Fin 512) : (fun k => k0_pay11 (iblk m c 0 t) (iblk m c 1 t) (ix2 r k))
    = rms (fun n => m ((c : Thread nD τ).loc main_arg0) (ix3 (bt t) (post t r) n)) (fun n => m ((c : Thread nD τ).loc main_arg1) (ix2 1 n)) := by
  funext k
  rw [pay11_apply]
  simp only [iblk0_apply, iblk1_apply]

/-- The queries' projection at a point. -/
theorem qproj_eq (c : Dev nD) (t : Fin cfg0.N) (r : Fin 512) (n : Fin 1024) : k0_pay12 (iblk m c 0 t) (iblk m c 1 t) (iblk m c 2 t) (ix2 n r)
    = pr (m ((c : Thread nD τ).loc main_arg0)) (m ((c : Thread nD τ).loc main_arg1)) (m ((c : Thread nD τ).loc main_arg2)) 0 (bt t) (post t r) n := by
  rw [pay12_apply]
  unfold pr lin
  refine Finset.sum_congr rfl fun k _ => ?_
  rw [← norm_eq, iblk2_apply, mul_comm]

/-- The keys' projection at a point. -/
theorem kproj_eq (c : Dev nD) (t : Fin cfg0.N) (r : Fin 512) (n : Fin 1024) : k0_pay53 (k0_pay11 (iblk m c 0 t) (iblk m c 1 t)) (iblk m c 3 t) (ix2 n r)
    = pr (m ((c : Thread nD τ).loc main_arg0)) (m ((c : Thread nD τ).loc main_arg1)) (m ((c : Thread nD τ).loc main_arg2)) 1 (bt t) (post t r) n := by
  rw [pay53_apply]
  unfold pr lin
  refine Finset.sum_congr rfl fun k _ => ?_
  rw [← norm_eq, iblk3_apply, mul_comm]

/-- The values' projection at a point. -/
theorem vproj_eq (c : Dev nD) (t : Fin cfg0.N) (r : Fin 512) (n : Fin 1024) : k0_pay113 (k0_pay11 (iblk m c 0 t) (iblk m c 1 t)) (iblk m c 4 t) (ix3 0 r n)
    = pr (m ((c : Thread nD τ).loc main_arg0)) (m ((c : Thread nD τ).loc main_arg1)) (m ((c : Thread nD τ).loc main_arg2)) 2 (bt t) (post t r) n := by
  rw [v_apply, norm_eq]
  simp only [iblk4_apply]
  rfl

/-- The point's cosines. -/
theorem cos_eq (t : Fin cfg0.N) (x : Fin 512) : (fun j => k0_pay9 (F := Ideal) (k0_pay7 (grid0.coords t)) (k0_pay8 (grid0.coords t) (k0_pay3 (F := Ideal))) (k0_pay4 (F := Ideal)) (ix2 j x)) = cs (post t x).val := by
  funext j
  rw [cos_apply, coord1, mul_comm]
  rfl

/-- The point's sines. -/
theorem sin_eq (t : Fin cfg0.N) (x : Fin 512) : (fun j => k0_pay10 (F := Ideal) (k0_pay6 (grid0.coords t)) (k0_pay7 (grid0.coords t)) (k0_pay3 (F := Ideal)) (k0_pay4 (F := Ideal)) (ix2 j x)) = sn (post t x).val := by
  funext j
  rw [sin_apply, coord1, mul_comm]
  rfl

/-- The values' array. -/
def G8 (c : Dev nD) : Buf (Elt Ideal) ((c : Thread nD τ).loc main_v10_3) := fun (i : S4x8192x1024.Idx) =>
  pr (m ((c : Thread nD τ).loc main_arg0)) (m ((c : Thread nD τ).loc main_arg1)) (m ((c : Thread nD τ).loc main_arg2)) 2 (i 0) (i 1) (i 2)

/-- The queries' array. -/
def G5 (c : Dev nD) : Buf (Elt Ideal) ((c : Thread nD τ).loc main_v10_0) := fun (i : S4x1024x8192.Idx) =>
  T m c 0 (i 0) (i 2) (i 1) * (((8 * (Real.log 2))⁻¹ : ℝ) : EReal)

/-- The keys' array. -/
def G6 (c : Dev nD) : Buf (Elt Ideal) ((c : Thread nD τ).loc main_v10_1) := fun (i : S4x1024x8192.Idx) => T m c 1 (i 0) (i 2) (i 1)

/-- The launch leaves the values in their array. -/
theorem final8 (c : Dev nD) : (dats m 0 c).arrAt 8 cfg0.N = G8 m c := by
  refine (dats m 0 c).arrAt_eq_of_covers 8 _ (by decide +kernel) fun t hf y => ?_
  obtain ⟨e0, e1, e2, e3, e4, e5, e6, e8⟩ := idx t
  blk_simp
  rw [after0_8]
  obtain ⟨r, n, rfl⟩ : ∃ (r : Fin 512) (n : Fin 1024), y = ix3 0 r n := ⟨y 1, y 2, by rw [eq_ix3 y]; congr 1; exact Fin.ext (by have := (y 0).isLt; show (y 0).val = 0; have h : (y 0).val < 1 := this; omega)⟩
  rw [show ((View.whole main_v10_3).slice (win0_8.rect t)).emb (ix3 0 r n) = ix3 (bt t) (post t r) n from by blk_ext [e8, bt, post]]
  by_cases h0 : t.val % 64 = 0
  · rw [outsAt0_A m c t h0]
    frame_out
    exact vproj_eq m c t r n
  · rw [outsAt0_B m c t h0]
    frame_out
    exact vproj_eq m c t r n

/-- The launch leaves the queries in their array. -/
theorem final5 (c : Dev nD) : (dats m 0 c).arrAt 5 cfg0.N = G5 m c := by
  refine (dats m 0 c).arrAt_eq_of_covers 5 _ (by decide +kernel) fun t hf y => ?_
  obtain ⟨e0, e1, e2, e3, e4, e5, e6, e8⟩ := idx t
  blk_simp
  rw [after0_5]
  obtain ⟨n, r, rfl⟩ : ∃ (n : Fin 1024) (r : Fin 512), y = ix3 0 n r := ⟨y 1, y 2, by rw [eq_ix3 y]; congr 1; exact Fin.ext (by have := (y 0).isLt; show (y 0).val = 0; have h : (y 0).val < 1 := this; omega)⟩
  rw [show ((View.whole main_v10_0).slice (win0_5.rect t)).emb (ix3 0 n r) = ix3 (bt t) n (post t r) from by blk_ext [e5, bt, post]]
  have key : rowRot (fun n => k0_pay12 (iblk m c 0 t) (iblk m c 1 t) (iblk m c 2 t) (ix2 n r)) (fun j => k0_pay9 (F := Ideal) (k0_pay7 (grid0.coords t)) (k0_pay8 (grid0.coords t) (k0_pay3 (F := Ideal))) (k0_pay4 (F := Ideal)) (ix2 j r))
      (fun j => k0_pay10 (F := Ideal) (k0_pay6 (grid0.coords t)) (k0_pay7 (grid0.coords t)) (k0_pay3 (F := Ideal)) (k0_pay4 (F := Ideal)) (ix2 j r)) n * (((8 * (Real.log 2))⁻¹ : ℝ) : EReal) = G5 m c (ix3 (bt t) n (post t r)) := by
    rw [cos_eq, sin_eq]
    simp only [qproj_eq]
    rfl
  refine Eq.trans ?_ key
  by_cases h0 : t.val % 64 = 0
  · rw [outsAt0_A m c t h0]
    frame_out
    exact q_apply _ _ _ _ _ _ n r
  · rw [outsAt0_B m c t h0]
    frame_out
    have e := scr m c (t.val - 1) (Nat.lt_of_le_of_lt (Nat.sub_le _ _) t.isLt)
    simp only [e.1, e.2]
    rw [show View.read (Elt Ideal) (View.whole cc0_scratch0) (_ : (View.whole cc0_scratch0).ty.Contents (Elt Ideal)) = k0_pay3 (F := Ideal) from Memref.IsWhole.read_unread _ _, show View.read (Elt Ideal) (View.whole cc0_scratch1) (_ : (View.whole cc0_scratch1).ty.Contents (Elt Ideal)) = k0_pay4 (F := Ideal) from Memref.IsWhole.read_unread _ _]
    exact q_apply _ _ _ _ _ _ n r

/-- The launch leaves the keys in their array. -/
theorem final6 (c : Dev nD) : (dats m 0 c).arrAt 6 cfg0.N = G6 m c := by
  refine (dats m 0 c).arrAt_eq_of_covers 6 _ (by decide +kernel) fun t hf y => ?_
  obtain ⟨e0, e1, e2, e3, e4, e5, e6, e8⟩ := idx t
  blk_simp
  rw [after0_6]
  obtain ⟨n, r, rfl⟩ : ∃ (n : Fin 1024) (r : Fin 512), y = ix3 0 n r := ⟨y 1, y 2, by rw [eq_ix3 y]; congr 1; exact Fin.ext (by have := (y 0).isLt; show (y 0).val = 0; have h : (y 0).val < 1 := this; omega)⟩
  rw [show ((View.whole main_v10_1).slice (win0_6.rect t)).emb (ix3 0 n r) = ix3 (bt t) n (post t r) from by blk_ext [e6, bt, post]]
  have key : rowRot (fun n => k0_pay53 (k0_pay11 (iblk m c 0 t) (iblk m c 1 t)) (iblk m c 3 t) (ix2 n r)) (fun j => k0_pay9 (F := Ideal) (k0_pay7 (grid0.coords t)) (k0_pay8 (grid0.coords t) (k0_pay3 (F := Ideal))) (k0_pay4 (F := Ideal)) (ix2 j r))
      (fun j => k0_pay10 (F := Ideal) (k0_pay6 (grid0.coords t)) (k0_pay7 (grid0.coords t)) (k0_pay3 (F := Ideal)) (k0_pay4 (F := Ideal)) (ix2 j r)) n = G6 m c (ix3 (bt t) n (post t r)) := by
    rw [cos_eq, sin_eq]
    simp only [kproj_eq]
    rfl
  refine Eq.trans ?_ key
  by_cases h0 : t.val % 64 = 0
  · rw [outsAt0_A m c t h0]
    frame_out
    exact k_apply _ _ _ _ n r
  · rw [outsAt0_B m c t h0]
    frame_out
    have e := scr m c (t.val - 1) (Nat.lt_of_le_of_lt (Nat.sub_le _ _) t.isLt)
    simp only [e.1, e.2]
    rw [show View.read (Elt Ideal) (View.whole cc0_scratch0) (_ : (View.whole cc0_scratch0).ty.Contents (Elt Ideal)) = k0_pay3 (F := Ideal) from Memref.IsWhole.read_unread _ _, show View.read (Elt Ideal) (View.whole cc0_scratch1) (_ : (View.whole cc0_scratch1).ty.Contents (Elt Ideal)) = k0_pay4 (F := Ideal) from Memref.IsWhole.read_unread _ _]
    exact k_apply _ _ _ _ n r

end Cert.QkvIdeal.RefValue

end
-- ==== Proof.QkvClaim.lean ====
/- The projection program and its reference end with equal results. -/
module

public import proofs.«01_k».proof.Proof.QkvKernel
public import proofs.«01_k».proof.Proof.Frames

@[expose] public section

set_option maxRecDepth 16384

noncomputable section

namespace Cert.QkvIdeal.RefValue

open Idealize.ShloMosaic Idealize.ShloMosaic.TcCoe Idealize.SL.Sem
open Cert.QkvIdeal Cert.QkvIdeal.Gen Cert.OutMath Cert.QkvMath

variable (m : (ℓ : Loc nD τ sig) → Buf (Elt Ideal) ℓ)

/-- The host lines after the launch: the queries' result. -/
theorem tail12 (W : Valuation τ sig (Elt Ideal)) (b : Fin 4) (s : Fin 8192) (h : Fin 8) (q : Fin 2) (d : Fin 64) :
    StableHlo.after hostOps1 W (Proc.devRef .tc main_v12) (ix5 b s h q d) = W (Proc.devRef .tc main_v10_0) (ix3 b (at3 h q d) s) := by
  after_results_simp
  unfold at3
  pointwise

/-- The host lines after the launch: the keys' result. -/
theorem tail14 (W : Valuation τ sig (Elt Ideal)) (b : Fin 4) (s : Fin 8192) (h : Fin 8) (q : Fin 2) (d : Fin 64) :
    StableHlo.after hostOps1 W (Proc.devRef .tc main_v14) (ix5 b s h q d) = W (Proc.devRef .tc main_v10_1) (ix3 b (at3 h q d) s) := by
  after_results_simp
  unfold at3
  pointwise

/-- The host lines after the launch: the values' result. -/
theorem tail15 (W : Valuation τ sig (Elt Ideal)) (b : Fin 4) (s : Fin 8192) (h : Fin 8) (d : Fin 128) :
    StableHlo.after hostOps1 W (Proc.devRef .tc main_v15) (ix4 b s h d) = W (Proc.devRef .tc main_v10_3) (ix3 b s ⟨h.val * 128 + d.val, by omega⟩) := by
  after_results_simp
  pointwise

/-- Distinct windows, distinct arrays. -/
theorem arr_inj : Function.Injective (Pipeline.arrRef spec0) := by decide

/-- The queries' result. -/
theorem v12_apply (c : Dev nD) (b : Fin 4) (s : Fin 8192) (h : Fin 8) (q : Fin 2) (d : Fin 64) :
    Pipeline.afterTail₀ cfgs (dats m) 0 (V0 m) [hostOps1] c main_v12 (ix5 b s h q d) = T m c 0 b s (at3 h q d) * (((8 * (Real.log 2))⁻¹ : ℝ) : EReal) := by
  refine (tail12 _ b s h q d).trans ?_
  exact congrFun ((Pipeline.withArrays_arr spec0 arr_inj c (V0 m c) (fun w => (dats m 0 c).arrAt w cfg0.N) 5).trans (final5 m c)) (ix3 b (at3 h q d) s)

/-- The keys' result. -/
theorem v14_apply (c : Dev nD) (b : Fin 4) (s : Fin 8192) (h : Fin 8) (q : Fin 2) (d : Fin 64) :
    Pipeline.afterTail₀ cfgs (dats m) 0 (V0 m) [hostOps1] c main_v14 (ix5 b s h q d) = T m c 1 b s (at3 h q d) := by
  refine (tail14 _ b s h q d).trans ?_
  exact congrFun ((Pipeline.withArrays_arr spec0 arr_inj c (V0 m c) (fun w => (dats m 0 c).arrAt w cfg0.N) 6).trans (final6 m c)) (ix3 b (at3 h q d) s)

/-- The values' result. -/
theorem v15_apply (c : Dev nD) (b : Fin 4) (s : Fin 8192) (h : Fin 8) (d : Fin 128) :
    Pipeline.afterTail₀ cfgs (dats m) 0 (V0 m) [hostOps1] c main_v15 (ix4 b s h d)
      = pr (m ((c : Thread nD τ).loc main_arg0)) (m ((c : Thread nD τ).loc main_arg1)) (m ((c : Thread nD τ).loc main_arg2)) 2 b s ⟨h.val * 128 + d.val, by omega⟩ := by
  refine (tail15 _ b s h d).trans ?_
  exact congrFun ((Pipeline.withArrays_arr spec0 arr_inj c (V0 m c) (fun w => (dats m 0 c).arrAt w cfg0.N) 8).trans (final8 m c)) (ix3 b s ⟨h.val * 128 + d.val, by omega⟩)

end Cert.QkvIdeal.RefValue

namespace Cert.QkvRefIdeal.RefValue

open Idealize.ShloMosaic Idealize.ShloMosaic.TcCoe Idealize.SL.Sem
open Cert.QkvRefIdeal Cert.QkvRefIdeal.Gen Cert.OutMath Cert.QkvMath

/-- A quotient of reals. -/
theorem div_real (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- Thirty-two. -/
theorem word_32 : Ideal.ofBits FTy.f32 0x42000000#32 = ((32 : ℝ) : EReal) := by
  rw [show (32 : ℝ) = 8388608 * (2 ^ 18)⁻¹ by norm_num]; simp [Ideal.ofBits, Ideal.ieee]

/-- Two. -/
theorem word_2 : Ideal.ofBits FTy.f32 0x40000000#32 = ((2 : ℝ) : EReal) := by
  rw [show (2 : ℝ) = 8388608 * (2 ^ 22)⁻¹ by norm_num]; simp [Ideal.ofBits, Ideal.ieee]

/-- An eighth. -/
theorem word_8th : Ideal.ofBits FTy.f32 0x3E000000#32 = ((1 / 8 : ℝ) : EReal) := by
  rw [show (1 / 8 : ℝ) = 8388608 * (2 ^ 26)⁻¹ by norm_num]; simp [Ideal.ofBits, Ideal.ieee]

/-- One. -/
theorem word_1 : Ideal.ofBits FTy.f32 0x3F800000#32 = ((1 : ℝ) : EReal) := by
  rw [show (1 : ℝ) = 8388608 * (2 ^ 23)⁻¹ by norm_num]; simp [Ideal.ofBits, Ideal.ieee]

attribute [local irreducible] Ideal.ofBits

/-- The reference's angles per position. -/
def freqV : FVec Ideal S32 .f32 := Host.divf (broadcastInDim S32 ![] bcast_S_S32 (constant S_ .f32 0x3F800000#32)) (Host.powf (broadcastInDim S32 ![] bcast_S_S32 (constant S_ .f32 0x461C4000#32)) (Host.divf (sitofp .f32 (iotaInDim S32 32 0)) (broadcastInDim S32 ![] bcast_S_S32 (constant S_ .f32 0x42000000#32))))

/-- They are the kernel's. -/
theorem freqV_apply (i : Fin 32) : freqV (ix1 i) = ((freq i : ℝ) : EReal) := by
  have e : freqV (ix1 i) = Ideal.div (Ideal.ofBits FTy.f32 0x3F800000#32) (Ideal.pow (Ideal.ofBits FTy.f32 0x461C4000#32) (Ideal.div (FloatOps.sitofp (F := Ideal) FTy.f32 (BitVec.ofNat 32 i.val)) (Ideal.ofBits FTy.f32 0x42000000#32))) := by
    unfold freqV
    rfl
  rw [e, Cert.QkvIdeal.RefValue.toInt_small _ (by have := i.isLt; omega), Cert.QkvIdeal.RefValue.word_base, word_32, word_1, div_real _ _ (by norm_num)]
  rw [show Ideal.pow ((10000 : ℝ) : EReal) (((i.val : ℝ) / 32 : ℝ) : EReal) = (((10000 : ℝ) ^ ((i.val : ℝ) / 32) : ℝ) : EReal) from rfl,
    div_real _ _ (by positivity), freq_pow]

/-- The reference's angles. -/
def angV : FVec Ideal S8192x32 .f32 := mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 freqV))

/-- They are products of positions and angles per position. -/
theorem angV_apply (s : Fin 8192) (i : Fin 32) : angV (ix2 s i) = (((s.val : ℝ) * freq i : ℝ) : EReal) := by
  have e : angV (ix2 s i) = FloatOps.sitofp (F := Ideal) FTy.f32 (BitVec.ofNat 32 s.val) * freqV (ix1 i) := by
    unfold angV
    pointwise
  rw [e, Cert.QkvIdeal.RefValue.toInt_small _ s.isLt, freqV_apply, ← EReal.coe_mul]

/-- The reference's cosines. -/
def cosV : FVec Ideal S4x8192x8x2x32 .f32 := broadcastInDim S4x8192x8x2x32 ![0, 1, 2, 3, 4] bcast_S1x8192x1x1x32_S4x8192x8x2x32_0_1_2_3_4 (broadcastInDim S1x8192x1x1x32 ![1, 2, 3, 4] bcast_S8192x1x1x32_S1x8192x1x1x32_1_2_3_4 (broadcastInDim S8192x1x1x32 ![0, 3] bcast_S8192x32_S8192x1x1x32_0_3 (Host.cos angV)))

/-- The reference's sines. -/
def sinV : FVec Ideal S4x8192x8x2x32 .f32 := broadcastInDim S4x8192x8x2x32 ![0, 1, 2, 3, 4] bcast_S1x8192x1x1x32_S4x8192x8x2x32_0_1_2_3_4 (broadcastInDim S1x8192x1x1x32 ![1, 2, 3, 4] bcast_S8192x1x1x32_S1x8192x1x1x32_1_2_3_4 (broadcastInDim S8192x1x1x32 ![0, 3] bcast_S8192x32_S8192x1x1x32_0_3 (Host.sin angV)))

theorem cosV_apply (b : Fin 4) (s : Fin 8192) (h : Fin 8) (q : Fin 2) (i : Fin 32) : cosV (ix5 b s h q i) = cs s.val i := by
  have e : cosV (ix5 b s h q i) = Ideal.cos (angV (ix2 s i)) := by
    unfold cosV
    pointwise
  rw [e, angV_apply]
  rfl

theorem sinV_apply (b : Fin 4) (s : Fin 8192) (h : Fin 8) (q : Fin 2) (i : Fin 32) : sinV (ix5 b s h q i) = sn s.val i := by
  have e : sinV (ix5 b s h q i) = Ideal.sin (angV (ix2 s i)) := by
    unfold sinV
    pointwise
  rw [e, angV_apply]
  rfl

/-- The reference's norm. -/
def normV (x : FVec Ideal S4x8192x1024 .f32) (g : FVec Ideal S2x1024 .f32) : FVec Ideal S4x8192x1024 .f32 := mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![1, 0] g slices_S2x1024_S1x1024_1_0) shapeCasts_S1x1024_S1024)))

theorem normV_apply (x : FVec Ideal S4x8192x1024 .f32) (g : FVec Ideal S2x1024 .f32) (b : Fin 4) (s : Fin 8192) (n : Fin 1024) :
    normV x g (ix3 b s n) = rms (fun n => x (ix3 b s n)) (fun n => g (ix2 1 n)) n := by
  unfold normV rms
  pointwise

/-- The reference's projection. -/
def projV (x : FVec Ideal S4x8192x1024 .f32) (g : FVec Ideal S2x1024 .f32) (w : FVec Ideal S1x1024x3072 .f32) : FVec Ideal S4x8192x3072 .f32 :=
  Host.dotGeneral dot_S4x8192x1024_S1024x3072_S4x8192x3072_2_0_01_1_n_n none (normV x g) (shapeCast _ w shapeCasts_S1x1024x3072_S1024x3072)

theorem projV_apply (x : FVec Ideal S4x8192x1024 .f32) (g : FVec Ideal S2x1024 .f32) (w : FVec Ideal S1x1024x3072 .f32) (b : Fin 4) (s : Fin 8192) (n : Fin 3072) :
    projV x g w (ix3 b s n) = ∑ k, rms (fun n => x (ix3 b s n)) (fun n => g (ix2 1 n)) k * w (ix3 0 k n) := by
  have e : projV x g w (ix3 b s n) = ∑ k, normV x g (ix3 b s k) * w (ix3 0 k n) := by
    unfold projV
    pointwise
  rw [e]
  simp only [normV_apply]

/-- The reference's turned heads. -/
def turnV (X : FVec Ideal S4x8192x8x2x64 .f32) (C S : FVec Ideal S4x8192x8x2x32 .f32) : FVec Ideal S4x8192x8x2x64 .f32 :=
  concatenate S4x8192x8x2x64 4 [⟨S4x8192x8x2x32, (subf (mulf (extractStridedSlice S4x8192x8x2x32 ![0, 0, 0, 0, 0] X slices_S4x8192x8x2x64_S4x8192x8x2x32_0_0_0_0_0) C) (mulf (extractStridedSlice S4x8192x8x2x32 ![0, 0, 0, 0, 32] X slices_S4x8192x8x2x64_S4x8192x8x2x32_0_0_0_0_32) S))⟩, ⟨S4x8192x8x2x32, (addf (mulf (extractStridedSlice S4x8192x8x2x32 ![0, 0, 0, 0, 32] X slices_S4x8192x8x2x64_S4x8192x8x2x32_0_0_0_0_32) C) (mulf (extractStridedSlice S4x8192x8x2x32 ![0, 0, 0, 0, 0] X slices_S4x8192x8x2x64_S4x8192x8x2x32_0_0_0_0_0) S))⟩] concatenates_S4x8192x8x2x32_S4x8192x8x2x32_S4x8192x8x2x64_d4

/-- They are turned rows. -/
theorem turnV_apply (X : FVec Ideal S4x8192x8x2x64 .f32) (p : Fin 1024 → EReal) (b : Fin 4) (s : Fin 8192) (h : Fin 8) (q : Fin 2) (d : Fin 64)
    (hX : ∀ d, X (ix5 b s h q d) = p (at3 h q d)) : turnV X cosV sinV (ix5 b s h q d) = rowRot p (cs s.val) (sn s.val) (at3 h q d) := by
  by_cases hd : d.val < 32
  · rw [rowRot_lo p _ _ (at3 h q d) ⟨d.val, hd⟩ (at3 h q ⟨32 + d.val, by omega⟩) (by show (h.val * 128 + q.val * 64 + d.val) % 64 = d.val; omega)
      (by show h.val * 128 + q.val * 64 + (32 + d.val) = h.val * 128 + q.val * 64 + d.val + 32; omega), ← hX, ← hX, ← cosV_apply b s h q, ← sinV_apply b s h q]
    unfold turnV
    pointwise
    rw [dif_pos hd]
  · rw [rowRot_hi p _ _ (at3 h q d) ⟨d.val - 32, by omega⟩ (at3 h q ⟨d.val - 32, by omega⟩) (by show (h.val * 128 + q.val * 64 + d.val) % 64 = 32 + (d.val - 32); omega)
      (by show h.val * 128 + q.val * 64 + (d.val - 32) + 32 = h.val * 128 + q.val * 64 + d.val; omega), ← hX, ← hX, ← cosV_apply b s h q, ← sinV_apply b s h q]
    unfold turnV
    pointwise
    rw [dif_neg hd, show (⟨32 + (d.val - 32), by omega⟩ : Fin 64) = d from Fin.ext (by show 32 + (d.val - 32) = d.val; omega)]

/-- The reference's queries before they turn. -/
def qV (P : FVec Ideal S4x8192x3072 .f32) : FVec Ideal S4x8192x8x2x64 .f32 := shapeCast _ (extractStridedSlice S4x8192x1024 ![0, 0, 0] P slices_S4x8192x3072_S4x8192x1024_0_0_0) shapeCasts_S4x8192x1024_S4x8192x8x2x64

/-- The reference's keys before they turn. -/
def kV (P : FVec Ideal S4x8192x3072 .f32) : FVec Ideal S4x8192x8x2x64 .f32 := shapeCast _ (extractStridedSlice S4x8192x1024 ![0, 0, 1024] P slices_S4x8192x3072_S4x8192x1024_0_0_1024) shapeCasts_S4x8192x1024_S4x8192x8x2x64

theorem qV_apply (P : FVec Ideal S4x8192x3072 .f32) (b : Fin 4) (s : Fin 8192) (h : Fin 8) (q : Fin 2) (d : Fin 64) :
    qV P (ix5 b s h q d) = P (ix3 b s ⟨(at3 h q d).val, by omega⟩) := by
  unfold qV at3
  pointwise

theorem kV_apply (P : FVec Ideal S4x8192x3072 .f32) (b : Fin 4) (s : Fin 8192) (h : Fin 8) (q : Fin 2) (d : Fin 64) :
    kV P (ix5 b s h q d) = P (ix3 b s ⟨1024 + (at3 h q d).val, by omega⟩) := by
  unfold kV at3
  pointwise

/-- The scale of the scores, with the logarithm of two. -/
theorem scale_eq : Ideal.div (Ideal.ofBits FTy.f32 0x3E000000#32) (Ideal.log (Ideal.ofBits FTy.f32 0x40000000#32)) = (((8 * (Real.log 2))⁻¹ : ℝ) : EReal) := by
  have h2 : Real.log 2 ≠ 0 := (Real.log_pos (by norm_num)).ne'
  rw [word_8th, word_2, show Ideal.log ((2 : ℝ) : EReal) = ((Real.log 2 : ℝ) : EReal) from if_neg (by norm_num), div_real _ _ h2]
  congr 1
  field_simp

/-- The reference's queries. -/
theorem q_apply (x : FVec Ideal S4x8192x1024 .f32) (g : FVec Ideal S2x1024 .f32) (w : FVec Ideal S1x1024x3072 .f32) (b : Fin 4) (s : Fin 8192) (h : Fin 8) (q : Fin 2) (d : Fin 64) :
    truncf .bf16 (mulf (turnV (qV (projV x g w)) cosV sinV) (broadcastInDim S4x8192x8x2x64 ![] bcast_S_S4x8192x8x2x64 (Host.divf (constant S_ .f32 0x3E000000#32) (Host.log (constant S_ .f32 0x40000000#32))))) bitsLt_bf16_f32 (ix5 b s h q d)
      = turned x g w 0 b s (at3 h q d) * (((8 * (Real.log 2))⁻¹ : ℝ) : EReal) := by
  rw [← scale_eq]
  refine Eq.trans (b := turnV (qV (projV x g w)) cosV sinV (ix5 b s h q d) * Ideal.div (Ideal.ofBits FTy.f32 0x3E000000#32) (Ideal.log (Ideal.ofBits FTy.f32 0x40000000#32))) rfl ?_
  rw [turnV_apply _ (pr x g w 0 b s) b s h q d fun d => by
    rw [qV_apply, projV_apply]
    unfold pr lin
    refine Finset.sum_congr rfl fun k _ => ?_
    congr 3
    exact Fin.ext (by show (at3 h q d).val = 1024 * 0 + (at3 h q d).val; omega)]
  rfl

/-- The reference's keys. -/
theorem k_apply (x : FVec Ideal S4x8192x1024 .f32) (g : FVec Ideal S2x1024 .f32) (w : FVec Ideal S1x1024x3072 .f32) (b : Fin 4) (s : Fin 8192) (h : Fin 8) (q : Fin 2) (d : Fin 64) :
    turnV (kV (projV x g w)) cosV sinV (ix5 b s h q d) = turned x g w 1 b s (at3 h q d) := by
  rw [turnV_apply _ (pr x g w 1 b s) b s h q d fun d => by
    rw [kV_apply, projV_apply]
    rfl]
  rfl

/-- The reference's values. -/
theorem v_apply (x : FVec Ideal S4x8192x1024 .f32) (g : FVec Ideal S2x1024 .f32) (w : FVec Ideal S1x1024x3072 .f32) (b : Fin 4) (s : Fin 8192) (h : Fin 8) (d : Fin 128) :
    shapeCast S4x8192x8x128 (extractStridedSlice S4x8192x1024 ![0, 0, 2048] (projV x g w) slices_S4x8192x3072_S4x8192x1024_0_0_2048) shapeCasts_S4x8192x1024_S4x8192x8x128 (ix4 b s h d)
      = pr x g w 2 b s ⟨h.val * 128 + d.val, by omega⟩ := by
  refine Eq.trans (b := projV x g w (ix3 b s ⟨2048 + (h.val * 128 + d.val), by omega⟩)) (by pointwise) ?_
  rw [projV_apply]
  rfl

end Cert.QkvRefIdeal.RefValue

namespace Cert.Proof

open Idealize.ShloMosaic Idealize.ShloMosaic.TcCoe Idealize.SL.Sem

/-- The projection program and its reference end with equal results. -/
theorem algebraic_qkv : Cert.algebraic_QkvIdeal_QkvRefIdeal := by
  intro m ρ m' ρ' _ hagree
  refine ⟨fun c => Pipeline.afterTail₀ Cert.QkvIdeal.cfgs (Cert.QkvIdeal.Gen.dats m) 0 (Cert.QkvIdeal.Gen.V0 m) [Cert.QkvIdeal.Gen.hostOps1] c Cert.QkvIdeal.main_v12,
    fun c => Pipeline.afterTail₀ Cert.QkvIdeal.cfgs (Cert.QkvIdeal.Gen.dats m) 0 (Cert.QkvIdeal.Gen.V0 m) [Cert.QkvIdeal.Gen.hostOps1] c Cert.QkvIdeal.main_v14,
    fun c => Pipeline.afterTail₀ Cert.QkvIdeal.cfgs (Cert.QkvIdeal.Gen.dats m) 0 (Cert.QkvIdeal.Gen.V0 m) [Cert.QkvIdeal.Gen.hostOps1] c Cert.QkvIdeal.main_v15, ?_, ?_⟩
  · refine (θ_run Cert.QkvIdeal.defs _ _).mono ?_ (θ_run_and (Cert.QkvIdeal.Gen.run_main (F := Ideal) m ρ) (Cert.QkvIdeal.Gen.unchanged (F := Ideal) m ρ))
    exact fun _ h c => ⟨(h.1 c).2 Cert.QkvIdeal.main_v12 (Pipeline.mem_restRefs_of Cert.QkvIdeal.main_v12 (by decide) (by decide)),
      (h.1 c).2 Cert.QkvIdeal.main_v14 (Pipeline.mem_restRefs_of Cert.QkvIdeal.main_v14 (by decide) (by decide)),
      (h.1 c).2 Cert.QkvIdeal.main_v15 (Pipeline.mem_restRefs_of Cert.QkvIdeal.main_v15 (by decide) (by decide)), h.2 c⟩
  · refine (θ_run Cert.QkvRefIdeal.defs _ _).mono (fun _ h c => ⟨(h c).1.trans ?_, (h c).2.1.trans ?_, (h c).2.2.1.trans ?_, (h c).2.2.2⟩) (Cert.QkvRefIdeal.Value.run (F := Ideal) m' ρ')
    · obtain ⟨h0, h1, h2⟩ := hagree c
      funext i
      obtain ⟨b, s, h, q, d, rfl⟩ : ∃ (b : Fin 4) (s : Fin 8192) (h : Fin 8) (q : Fin 2) (d : Fin 64), i = ix5 b s h q d := ⟨i 0, i 1, i 2, i 3, i 4, eq_ix5 i⟩
      refine Eq.trans ?_ (Cert.QkvIdeal.RefValue.v12_apply m c b s h q d).symm
      refine (Cert.QkvRefIdeal.RefValue.q_apply (m' ((c.tc : Thread Cert.QkvRefIdeal.nD Cert.QkvRefIdeal.τ).loc Cert.QkvRefIdeal.main_arg0)) (m' ((c.tc : Thread Cert.QkvRefIdeal.nD Cert.QkvRefIdeal.τ).loc Cert.QkvRefIdeal.main_arg1)) (m' ((c.tc : Thread Cert.QkvRefIdeal.nD Cert.QkvRefIdeal.τ).loc Cert.QkvRefIdeal.main_arg2)) b s h q d).trans ?_
      rw [h0, h1, h2]
    · obtain ⟨h0, h1, h2⟩ := hagree c
      funext i
      obtain ⟨b, s, h, q, d, rfl⟩ : ∃ (b : Fin 4) (s : Fin 8192) (h : Fin 8) (q : Fin 2) (d : Fin 64), i = ix5 b s h q d := ⟨i 0, i 1, i 2, i 3, i 4, eq_ix5 i⟩
      refine Eq.trans ?_ (Cert.QkvIdeal.RefValue.v14_apply m c b s h q d).symm
      refine (Cert.QkvRefIdeal.RefValue.k_apply (m' ((c.tc : Thread Cert.QkvRefIdeal.nD Cert.QkvRefIdeal.τ).loc Cert.QkvRefIdeal.main_arg0)) (m' ((c.tc : Thread Cert.QkvRefIdeal.nD Cert.QkvRefIdeal.τ).loc Cert.QkvRefIdeal.main_arg1)) (m' ((c.tc : Thread Cert.QkvRefIdeal.nD Cert.QkvRefIdeal.τ).loc Cert.QkvRefIdeal.main_arg2)) b s h q d).trans ?_
      rw [h0, h1, h2]
    · obtain ⟨h0, h1, h2⟩ := hagree c
      funext i
      obtain ⟨b, s, h, d, rfl⟩ : ∃ (b : Fin 4) (s : Fin 8192) (h : Fin 8) (d : Fin 128), i = ix4 b s h d := ⟨i 0, i 1, i 2, i 3, eq_ix4 i⟩
      refine Eq.trans ?_ (Cert.QkvIdeal.RefValue.v15_apply m c b s h d).symm
      refine (Cert.QkvRefIdeal.RefValue.v_apply (m' ((c.tc : Thread Cert.QkvRefIdeal.nD Cert.QkvRefIdeal.τ).loc Cert.QkvRefIdeal.main_arg0)) (m' ((c.tc : Thread Cert.QkvRefIdeal.nD Cert.QkvRefIdeal.τ).loc Cert.QkvRefIdeal.main_arg1)) (m' ((c.tc : Thread Cert.QkvRefIdeal.nD Cert.QkvRefIdeal.τ).loc Cert.QkvRefIdeal.main_arg2)) b s h d).trans ?_
      rw [h0, h1, h2]

end Cert.Proof

end
-- ==== Proof.lean ====
/- The claim of this directory's test, assembled from the modules under Proof/. -/
module

public import proofs.«01_k».proof.Proof.Frames
public import proofs.«01_k».proof.Proof.OutClaim
public import proofs.«01_k».proof.Proof.MixClaim
public import proofs.«01_k».proof.Proof.QkvClaim
public import proofs.«01_k».proof.Proof.AttnClaim

@[expose] public section

noncomputable section

namespace Cert.Proof

open Idealize.ShloMosaic Idealize.SL.Sem

/-- The claim. -/
theorem claim : Cert.Claim :=
  ⟨Cert.Kernel.Gen.facts, Cert.KernelIdeal.Gen.facts, Cert.ReferenceIdeal.Gen.facts, Cert.Out.Gen.facts, Cert.OutIdeal.Gen.facts, Cert.OutRefIdeal.Gen.facts, Cert.Mix.Gen.facts, Cert.MixIdeal.Gen.facts, Cert.MixRefIdeal.Gen.facts, Cert.Qkv.Gen.facts, Cert.QkvIdeal.Gen.facts, Cert.QkvRefIdeal.Gen.facts, Cert.Pre_inputs_finite.Gen.facts, Cert.Pre_mix_finite.Gen.facts,
    frame_kernel, frame_kernelIdeal, frame_kernelIdeal_pre, frame_reference, frame_reference_pre, frame_out, frame_outIdeal, frame_outRef, frame_mix, frame_mixIdeal, frame_mixIdeal_pre, frame_mixRef, frame_mixRef_pre, frame_qkv, frame_qkvIdeal, frame_qkvRef,
    preserves_kernel, algebraic_attn, trivial, algebraic_out, trivial, algebraic_mix, preserves_qkv, algebraic_qkv⟩

end Cert.Proof

end
